-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite [hPre_gains_finite : Cert.Pre_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite [hPre_gains_finite : Cert.Pre_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gains_finite [hKernelIdeal : Cert.KernelIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gains_finite [hReferenceIdeal : Cert.ReferenceIdeal.Facts] [hPre_gains_finite : Cert.Pre_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  IdealRules.named_const.Statement Cert.KernelIdeal.κ "score_scale" .f32 0x3E0293EE#32 (((11863283 / 134217728) * (Real.log 2)⁻¹ : ℝ) : EReal)

def algebraic_KernelIdeal_ReferenceIdeal_pre_gains_finite [hKernelIdeal : Cert.KernelIdeal.Facts] [hReferenceIdeal : Cert.ReferenceIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "inv_alpha" .f32 0x3F3504F3#32 ((8388608 / 11863283 : ℝ) : EReal)
  ∧ IdealRules.named_const.Statement Cert.Kernel2Ideal.κ "eps_alpha" .f32 0x350637BD#32 ((70368744 / 140737483538089 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "inv_alpha" .f32 0x3F3504F3#32 ((8388608 / 11863283 : ℝ) : EReal)
  ∧ IdealRules.named_const.Statement Cert.Kernel4Ideal.κ "eps_alpha" .f32 0x350637BD#32 ((70368744 / 140737483538089 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "inv_alpha" .f32 0x3F3504F3#32 ((8388608 / 11863283 : ℝ) : EReal)
  ∧ IdealRules.named_const.Statement Cert.Kernel6Ideal.κ "eps_alpha" .f32 0x350637BD#32 ((70368744 / 140737483538089 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v77) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "inv_alpha" .f32 0x3F3504F3#32 ((8388608 / 11863283 : ℝ) : EReal)
  ∧ IdealRules.named_const.Statement Cert.Kernel8Ideal.κ "eps_alpha" .f32 0x350637BD#32 ((70368744 / 140737483538089 : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v62) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_gains_finite : Cert.Pre_gains_finite.Facts),
    quiescent_Kernel (hKernel := hKernel)
    ∧ quiescent_KernelIdeal (hKernelIdeal := hKernelIdeal)
    ∧ quiescent_KernelIdeal_pre_gains_finite (hKernelIdeal := hKernelIdeal) (hPre_gains_finite := hPre_gains_finite)
    ∧ quiescent_ReferenceIdeal (hReferenceIdeal := hReferenceIdeal)
    ∧ quiescent_ReferenceIdeal_pre_gains_finite (hReferenceIdeal := hReferenceIdeal) (hPre_gains_finite := hPre_gains_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_gains_finite (hKernelIdeal := hKernelIdeal) (hReferenceIdeal := hReferenceIdeal) (hPre_gains_finite := hPre_gains_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_gains_finite.lean ====
abbrev S32768x13824 : Shape := ⟨2, ![32768, 13824]⟩
abbrev S4096x13824 : Shape := ⟨2, ![4096, 13824]⟩
abbrev S2x128 : Shape := ⟨2, ![2, 128]⟩
abbrev S1x128 : Shape := ⟨2, ![1, 128]⟩
abbrev S128 : Shape := ⟨1, ![128]⟩
abbrev S_ : Shape := ⟨0, ![]⟩

class Facts : Prop where
  slices_S2x128_S1x128_0_0 : S2x128.Slices ![0, 0] S1x128
  shapeCasts_S1x128_S128 : S1x128.ShapeCasts S128
  bcast_S_S128 : S_.BroadcastsInDim S128 (![] : Fin 0 → Fin S128.rank)

variable [Facts]

def fn {F : FTy → Type} [FloatOps F] (main_arg0 : FVec F S32768x13824 .bf16) (main_arg1 : FVec F S4096x13824 .bf16) (main_arg2 : FVec F S2x128 .f32) (main_arg3 : FVec F S2x128 .f32) : IVec S128 1 × IVec S128 1 :=
  let main_v0 : FVec F S1x128 .f32 := (extractStridedSlice S1x128 ![0, 0] · slices_S2x128_S1x128_0_0) main_arg2
  let main_v1 : FVec F S128 .f32 := shapeCast S128 main_v0 shapeCasts_S1x128_S128
  let main_v2 : FVec F S128 .f32 := Host.absf main_v1
  let main_cst : FVec F S_ .f32 := constant S_ .f32 0x7F800000#32
  let main_v3 : FVec F S128 .f32 := broadcastInDim S128 ![] bcast_S_S128 main_cst
  let main_v4 : IVec S128 1 := cmpf .olt main_v2 main_v3
  let main_v5 : FVec F S1x128 .f32 := (extractStridedSlice S1x128 ![0, 0] · slices_S2x128_S1x128_0_0) main_arg3
  let main_v6 : FVec F S128 .f32 := shapeCast S128 main_v5 shapeCasts_S1x128_S128
  let main_v7 : FVec F S128 .f32 := Host.absf main_v6
  let main_cst_0 : FVec F S_ .f32 := constant S_ .f32 0x7F800000#32
  let main_v8 : FVec F S128 .f32 := broadcastInDim S128 ![] bcast_S_S128 main_cst_0
  let main_v9 : IVec S128 1 := cmpf .olt main_v7 main_v8
  (main_v4, main_v9)
-- ==== Kernel.lean ====
abbrev S32768x13824 : Shape := ⟨2, ![32768, 13824]⟩
abbrev S4096x13824 : Shape := ⟨2, ![4096, 13824]⟩
abbrev S2x128 : Shape := ⟨2, ![2, 128]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2x1x128 : Shape := ⟨3, ![2, 1, 128]⟩
abbrev S32768x1024 : Shape := ⟨2, ![32768, 1024]⟩
abbrev S2048x512 : Shape := ⟨2, ![2048, 512]⟩
abbrev S256x128 : Shape := ⟨2, ![256, 128]⟩
abbrev S1x1x128 : Shape := ⟨3, ![1, 1, 128]⟩
abbrev S2304x128 : Shape := ⟨2, ![2304, 128]⟩
abbrev S2304x256 : Shape := ⟨2, ![2304, 256]⟩
abbrev S1x128 : Shape := ⟨2, ![1, 128]⟩
abbrev S256 : Shape := ⟨1, ![256]⟩
abbrev S256x1 : Shape := ⟨2, ![256, 1]⟩
abbrev S256x2304 : Shape := ⟨2, ![256, 2304]⟩
abbrev S256x256 : Shape := ⟨2, ![256, 256]⟩

abbrev nBuf : Space → Nat
  | .hbm => 86
  | .vmem => 18
  | .smem => 0
  | _ => 0

abbrev bufTy : (tb : Table) → Fin (tcTables nBuf tb) → BufTy
  | .hbm, ⟨0, _⟩ => ⟨S32768x13824, .bf16⟩
  | .hbm, ⟨1, _⟩ => ⟨S4096x13824, .bf16⟩
  | .hbm, ⟨2, _⟩ => ⟨S2x128, .f32⟩
  | .hbm, ⟨3, _⟩ => ⟨S2x128, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S_, .i1⟩
  | .hbm, ⟨40, _⟩ => ⟨S2048, .i1⟩
  | .hbm, ⟨41, _⟩ => ⟨S2048, .i1⟩
  | .hbm, ⟨42, _⟩ => ⟨S2048, .i1⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S2048x1, .f32⟩
  | .hbm, ⟨62, _⟩ => ⟨S1x32, .f32⟩
  | .hbm, ⟨63, _⟩ => ⟨S2048x32, .f32⟩
  | .hbm, ⟨64, _⟩ => ⟨S2048x32, .f32⟩
  | .hbm, ⟨65, _⟩ => ⟨S2048x32, .f32⟩
  | .hbm, ⟨66, _⟩ => ⟨S2048x1, .f32⟩
  | .hbm, ⟨67, _⟩ => ⟨S1x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x32, .f32⟩
  | .hbm, ⟨75, _⟩ => ⟨S2048x128, .f32⟩
  | .hbm, ⟨76, _⟩ => ⟨S2048x32, .f32⟩
  | .hbm, ⟨77, _⟩ => ⟨S2048x32, .f32⟩
  | .hbm, ⟨78, _⟩ => ⟨S2048x32, .f32⟩
  | .hbm, ⟨79, _⟩ => ⟨S2048x32, .f32⟩
  | .hbm, ⟨80, _⟩ => ⟨S2048x32, .f32⟩
  | .hbm, ⟨81, _⟩ => ⟨S2048x32, .f32⟩
  | .hbm, ⟨82, _⟩ => ⟨S2048x128, .f32⟩
  | .hbm, ⟨83, _⟩ => ⟨S2x1x128, .f32⟩
  | .hbm, ⟨84, _⟩ => ⟨S2x1x128, .f32⟩
  | .hbm, ⟨85, _⟩ => ⟨S32768x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x1x128, .f32⟩
  | .local _ .vmem, ⟨11, _⟩ => ⟨S1x1x128, .f32⟩
  | .local _ .vmem, ⟨12, _⟩ => ⟨S2048x128, .f32⟩
  | .local _ .vmem, ⟨13, _⟩ => ⟨S2048x128, .f32⟩
  | .local _ .vmem, ⟨14, _⟩ => ⟨S2048x512, .bf16⟩
  | .local _ .vmem, ⟨15, _⟩ => ⟨S2048x512, .bf16⟩
  | .local _ .vmem, ⟨16, _⟩ => ⟨S2304x128, .bf16⟩
  | .local _ .vmem, ⟨17, _⟩ => ⟨S2304x256, .bf16⟩
  | _, _ => ⟨S32768x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_cst_1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_2 : Ref sig .tc := ⟨.hbm, 55, rfl⟩
abbrev main_v11 : Ref sig .tc := ⟨.hbm, 56, rfl⟩
abbrev main_v12 : Ref sig .tc := ⟨.hbm, 57, rfl⟩
abbrev main_cst_3 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![16, 2, 1], ![false, false, false]⟩

def k0_mult1 (i : grid0.Coords) : BitVec 32 :=
  let arg2 : BitVec 32 := BitVec.ofNat 32 (i 2).val
  let c2048_i32 : BitVec 32 := 2048#32
  let v5 : BitVec 32 := Scalar.muli arg2 c2048_i32
  let c0_i32_3 : BitVec 32 := 0#32
  let v6 : BitVec 32 := Scalar.addi v5 c0_i32_3
  v6
def k0_off1 (i : grid0.Coords) (c0_i32_3 : BitVec 32) : Fin 2 → Nat :=
  let arg2 : BitVec 32 := BitVec.ofNat 32 (i 2).val
  let c2048_i32 : BitVec 32 := 2048#32
  let v5 : BitVec 32 := Scalar.muli arg2 c2048_i32
  let v6 : BitVec 32 := Scalar.addi v5 c0_i32_3
  let v7 : BitVec 32 := v6
  let v8 : Index := Scalar.indexCast v7
  let c0_4 : Index := 0#32
  ![v8.toNat, 0]
def k0_mult2 (i : grid0.Coords) : BitVec 32 :=
  let arg2 : BitVec 32 := BitVec.ofNat 32 (i 2).val
  let c2048_i32_76 : BitVec 32 := 2048#32
  let v186 : BitVec 32 := Scalar.muli arg2 c2048_i32_76
  let c256_i32 : BitVec 32 := 256#32
  let v187 : BitVec 32 := Scalar.addi v186 c256_i32
  v187
def k0_mult3 (i : grid0.Coords) : BitVec 32 :=
  let arg2 : BitVec 32 := BitVec.ofNat 32 (i 2).val
  let c2048_i32_155 : BitVec 32 := 2048#32
  let v367 : BitVec 32 := Scalar.muli arg2 c2048_i32_155
  let c512_i32 : BitVec 32 := 512#32
  let v368 : BitVec 32 := Scalar.addi v367 c512_i32
  v368
def k0_mult4 (i : grid0.Coords) : BitVec 32 :=
  let arg2 : BitVec 32 := BitVec.ofNat 32 (i 2).val
  let c2048_i32_233 : BitVec 32 := 2048#32
  let v548 : BitVec 32 := Scalar.muli arg2 c2048_i32_233
  let c768_i32 : BitVec 32 := 768#32
  let v549 : BitVec 32 := Scalar.addi v548 c768_i32
  v549
def k0_mult5 (i : grid0.Coords) : BitVec 32 :=
  let arg2 : BitVec 32 := BitVec.ofNat 32 (i 2).val
  let c2048_i32_311 : BitVec 32 := 2048#32
  let v729 : BitVec 32 := Scalar.muli arg2 c2048_i32_311
  let c1024_i32 : BitVec 32 := 1024#32
  let v730 : BitVec 32 := Scalar.addi v729 c1024_i32
  v730
def k0_mult6 (i : grid0.Coords) : BitVec 32 :=
  let arg2 : BitVec 32 := BitVec.ofNat 32 (i 2).val
  let c2048_i32_389 : BitVec 32 := 2048#32
  let v910 : BitVec 32 := Scalar.muli arg2 c2048_i32_389
  let c1280_i32 : BitVec 32 := 1280#32
  let v911 : BitVec 32 := Scalar.addi v910 c1280_i32
  v911
def k0_mult7 (i : grid0.Coords) : BitVec 32 :=
  let arg2 : BitVec 32 := BitVec.ofNat 32 (i 2).val
  let c2048_i32_467 : BitVec 32 := 2048#32
  let v1091 : BitVec 32 := Scalar.muli arg2 c2048_i32_467
  let c1536_i32 : BitVec 32 := 1536#32
  let v1092 : BitVec 32 := Scalar.addi v1091 c1536_i32
  v1092
def k0_mult8 (i : grid0.Coords) : BitVec 32 :=
  let arg2 : BitVec 32 := BitVec.ofNat 32 (i 2).val
  let c2048_i32_545 : BitVec 32 := 2048#32
  let v1272 : BitVec 32 := Scalar.muli arg2 c2048_i32_545
  let c1792_i32 : BitVec 32 := 1792#32
  let v1273 : BitVec 32 := Scalar.addi v1272 c1792_i32
  v1273
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c26_i32 : BitVec 32 := 26#32
  let v2 : BitVec 32 := Scalar.addi c26_i32 arg1
  let c27_i32 : BitVec 32 := 27#32
  let c0_i32 : BitVec 32 := 0#32
  let v3 : BitVec 1 := Scalar.cmpi .eq c27_i32 c0_i32
  let c1_i32_0 : BitVec 32 := 1#32
  let v4 : BitVec 32 := Scalar.select v3 c1_i32_0 c27_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  ![v1.toNat, v12.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c108_i32 : BitVec 32 := 108#32
  let c0_i32 : BitVec 32 := 0#32
  let v1 : BitVec 1 := Scalar.cmpi .eq c108_i32 c0_i32
  let c1_i32 : BitVec 32 := 1#32
  let v2 : BitVec 32 := Scalar.select v1 c1_i32 c108_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c108_i32 : BitVec 32 := 108#32
  let c0_i32 : BitVec 32 := 0#32
  let v1 : BitVec 1 := Scalar.cmpi .eq c108_i32 c0_i32
  let c1_i32 : BitVec 32 := 1#32
  let v2 : BitVec 32 := Scalar.select v1 c1_i32 c108_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c108_i32 : BitVec 32 := 108#32
  let c0_i32 : BitVec 32 := 0#32
  let v1 : BitVec 1 := Scalar.cmpi .eq c108_i32 c0_i32
  let c1_i32 : BitVec 32 := 1#32
  let v2 : BitVec 32 := Scalar.select v1 c1_i32 c108_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg1
  let c108_i32 : BitVec 32 := 108#32
  let c0_i32 : BitVec 32 := 0#32
  let v1 : BitVec 1 := Scalar.cmpi .eq c108_i32 c0_i32
  let c1_i32 : BitVec 32 := 1#32
  let v2 : BitVec 32 := Scalar.select v1 c1_i32 c108_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  ![arg0.toNat, v10.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "score_scale" => some (((11863283 / 134217728) * (Real.log 2)⁻¹ : ℝ) : EReal)
  | _ => none
-- ==== ReferenceIdeal.lean ====
abbrev S32768x13824 : Shape := ⟨2, ![32768, 13824]⟩
abbrev S4096x13824 : Shape := ⟨2, ![4096, 13824]⟩
abbrev S2x128 : Shape := ⟨2, ![2, 128]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S32768x1536 : Shape := ⟨2, ![32768, 1536]⟩
abbrev S32768x12288 : Shape := ⟨2, ![32768, 12288]⟩
abbrev S16x2048x13824 : Shape := ⟨3, ![16, 2048, 13824]⟩
abbrev S4096x1536 : Shape := ⟨2, ![4096, 1536]⟩
abbrev S4096x12288 : Shape := ⟨2, ![4096, 12288]⟩
abbrev S16x256x13824 : Shape := ⟨3, ![16, 256, 13824]⟩
abbrev S1x128 : Shape := ⟨2, ![1, 128]⟩
abbrev S128 : Shape := ⟨1, ![128]⟩
abbrev S16x256x256 : Shape := ⟨3, ![16, 256, 256]⟩
abbrev S16x256x2x128 : Shape := ⟨4, ![16, 256, 2, 128]⟩
abbrev S16x2x256x128 : Shape := ⟨4, ![16, 2, 256, 128]⟩
abbrev S16x2x256 : Shape := ⟨3, ![16, 2, 256]⟩
abbrev S16x2x256x1 : Shape := ⟨4, ![16, 2, 256, 1]⟩
abbrev S1x1x1x128 : Shape := ⟨4, ![1, 1, 1, 128]⟩
abbrev S16x2048x1024 : Shape := ⟨3, ![16, 2048, 1024]⟩
abbrev S16x2048x8x128 : Shape := ⟨4, ![16, 2048, 8, 128]⟩
abbrev S16x8x2048x128 : Shape := ⟨4, ![16, 8, 2048, 128]⟩
abbrev S16x8x2048 : Shape := ⟨3, ![16, 8, 2048]⟩
abbrev S16x8x2048x1 : Shape := ⟨4, ![16, 8, 2048, 1]⟩
abbrev S16x8x2048x64 : Shape := ⟨4, ![16, 8, 2048, 64]⟩
abbrev S16x8x2048x32 : Shape := ⟨4, ![16, 8, 2048, 32]⟩
abbrev S1x1x2048x32 : Shape := ⟨4, ![1, 1, 2048, 32]⟩
abbrev S16x2048x256 : Shape := ⟨3, ![16, 2048, 256]⟩
abbrev S16x2048x2x128 : Shape := ⟨4, ![16, 2048, 2, 128]⟩
abbrev S16x2x2048x128 : Shape := ⟨4, ![16, 2, 2048, 128]⟩
abbrev S16x2x2048 : Shape := ⟨3, ![16, 2, 2048]⟩
abbrev S16x2x2048x1 : Shape := ⟨4, ![16, 2, 2048, 1]⟩
abbrev S16x2x2048x64 : Shape := ⟨4, ![16, 2, 2048, 64]⟩
abbrev S16x2x2048x32 : Shape := ⟨4, ![16, 2, 2048, 32]⟩
abbrev S16x2x2304x128 : Shape := ⟨4, ![16, 2, 2304, 128]⟩
abbrev S16x2x4x2048x128 : Shape := ⟨5, ![16, 2, 4, 2048, 128]⟩
abbrev S16x2x4x2048x2304 : Shape := ⟨5, ![16, 2, 4, 2048, 2304]⟩
abbrev S16x2x4x2048 : Shape := ⟨4, ![16, 2, 4, 2048]⟩
abbrev S16x2x4x2048x1 : Shape := ⟨5, ![16, 2, 4, 2048, 1]⟩
abbrev S32768x1024 : Shape := ⟨2, ![32768, 1024]⟩

abbrev nBuf : Space → Nat
  | .hbm => 257
  | .vmem => 0
  | .smem => 0
  | _ => 0

abbrev hbmTy0_0 (i : Nat) : BufTy := match i % 128 with
  | 0 => ⟨S32768x13824, .bf16⟩
  | 1 => ⟨S4096x13824, .bf16⟩
  | 2 => ⟨S2x128, .f32⟩
  | 3 => ⟨S2x128, .f32⟩
  | 4 => ⟨S2048, .i32⟩
  | 5 => ⟨S_, .i32⟩
  | 6 => ⟨S_, .i32⟩
  | 7 => ⟨S2048, .i32⟩
  | 8 => ⟨S2048, .i32⟩
  | 9 => ⟨S2048, .i32⟩
  | 10 => ⟨S_, .i32⟩
  | 11 => ⟨S2048, .i32⟩
  | 12 => ⟨S2048, .i1⟩
  | 13 => ⟨S2048, .i32⟩
  | 14 => ⟨S2048, .i32⟩
  | 15 => ⟨S_, .i32⟩
  | 16 => ⟨S2048, .i32⟩
  | 17 => ⟨S2048, .i1⟩
  | 18 => ⟨S2048, .i1⟩
  | 19 => ⟨S_, .i32⟩
  | 20 => ⟨S2048, .i32⟩
  | 21 => ⟨S2048, .i32⟩
  | 22 => ⟨S2048, .i32⟩
  | 23 => ⟨S2048, .f32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S2048, .i32⟩
  | 31 => ⟨S2048, .i32⟩
  | 32 => ⟨S_, .i32⟩
  | 33 => ⟨S2048, .i32⟩
  | 34 => ⟨S2048, .i1⟩
  | 35 => ⟨S_, .i32⟩
  | 36 => ⟨S2048, .i32⟩
  | 37 => ⟨S2048, .i1⟩
  | 38 => ⟨S_, .i32⟩
  | 39 => ⟨S_, .i1⟩
  | 40 => ⟨S2048, .i1⟩
  | 41 => ⟨S2048, .i1⟩
  | 42 => ⟨S2048, .i1⟩
  | 43 => ⟨S2048, .i32⟩
  | 44 => ⟨S2048, .i32⟩
  | 45 => ⟨S2048, .i32⟩
  | 46 => ⟨S2048, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S2048x1, .f32⟩
  | 62 => ⟨S1x32, .f32⟩
  | 63 => ⟨S2048x32, .f32⟩
  | 64 => ⟨S2048x32, .f32⟩
  | 65 => ⟨S2048x32, .f32⟩
  | 66 => ⟨S2048x1, .f32⟩
  | 67 => ⟨S1x32, .f32⟩
  | 68 => ⟨S2048x32, .f32⟩
  | 69 => ⟨S2048x32, .f32⟩
  | 70 => ⟨S2048x32, .f32⟩
  | 71 => ⟨S32768x13824, .f32⟩
  | 72 => ⟨S32768x1536, .f32⟩
  | 73 => ⟨S32768x12288, .f32⟩
  | 74 => ⟨S32768x13824, .f32⟩
  | 75 => ⟨S16x2048x13824, .f32⟩
  | 76 => ⟨S4096x13824, .f32⟩
  | 77 => ⟨S4096x1536, .f32⟩
  | 78 => ⟨S4096x12288, .f32⟩
  | 79 => ⟨S4096x13824, .f32⟩
  | 80 => ⟨S16x256x13824, .f32⟩
  | 81 => ⟨S1x128, .f32⟩
  | 82 => ⟨S128, .f32⟩
  | 83 => ⟨S1x128, .f32⟩
  | 84 => ⟨S128, .f32⟩
  | 85 => ⟨S16x256x256, .f32⟩
  | 86 => ⟨S16x256x2x128, .f32⟩
  | 87 => ⟨S16x2x256x128, .f32⟩
  | 88 => ⟨S16x2x256x128, .f32⟩
  | 89 => ⟨S_, .f32⟩
  | 90 => ⟨S16x2x256, .f32⟩
  | 91 => ⟨S16x2x256x1, .f32⟩
  | 92 => ⟨S_, .f32⟩
  | 93 => ⟨S16x2x256x1, .f32⟩
  | 94 => ⟨S16x2x256x1, .f32⟩
  | 95 => ⟨S_, .f32⟩
  | 96 => ⟨S16x2x256x1, .f32⟩
  | 97 => ⟨S16x2x256x1, .f32⟩
  | 98 => ⟨S16x2x256x1, .f32⟩
  | 99 => ⟨S16x2x256x128, .f32⟩
  | 100 => ⟨S16x2x256x128, .f32⟩
  | 101 => ⟨S1x1x1x128, .f32⟩
  | 102 => ⟨S16x2x256x128, .f32⟩
  | 103 => ⟨S16x2x256x128, .f32⟩
  | 104 => ⟨S16x256x256, .f32⟩
  | 105 => ⟨S16x256x2x128, .f32⟩
  | 106 => ⟨S16x2x256x128, .f32⟩
  | 107 => ⟨S16x2048x1024, .f32⟩
  | 108 => ⟨S16x2048x8x128, .f32⟩
  | 109 => ⟨S16x8x2048x128, .f32⟩
  | 110 => ⟨S16x8x2048x128, .f32⟩
  | 111 => ⟨S_, .f32⟩
  | 112 => ⟨S16x8x2048, .f32⟩
  | 113 => ⟨S16x8x2048x1, .f32⟩
  | 114 => ⟨S_, .f32⟩
  | 115 => ⟨S16x8x2048x1, .f32⟩
  | 116 => ⟨S16x8x2048x1, .f32⟩
  | 117 => ⟨S_, .f32⟩
  | 118 => ⟨S16x8x2048x1, .f32⟩
  | 119 => ⟨S16x8x2048x1, .f32⟩
  | 120 => ⟨S16x8x2048x1, .f32⟩
  | 121 => ⟨S16x8x2048x128, .f32⟩
  | 122 => ⟨S16x8x2048x128, .f32⟩
  | 123 => ⟨S1x1x1x128, .f32⟩
  | 124 => ⟨S16x8x2048x128, .f32⟩
  | 125 => ⟨S16x8x2048x128, .f32⟩
  | 126 => ⟨S16x8x2048x64, .f32⟩
  | 127 => ⟨S16x8x2048x32, .f32⟩
  | _ => ⟨S32768x13824, .bf16⟩

abbrev hbmTy0_1 (i : Nat) : BufTy := match i % 128 with
  | 0 => ⟨S16x8x2048x32, .f32⟩
  | 1 => ⟨S2048x32, .f32⟩
  | 2 => ⟨S2048x32, .f32⟩
  | 3 => ⟨S1x1x2048x32, .f32⟩
  | 4 => ⟨S16x8x2048x32, .f32⟩
  | 5 => ⟨S16x8x2048x32, .f32⟩
  | 6 => ⟨S1x1x2048x32, .f32⟩
  | 7 => ⟨S16x8x2048x32, .f32⟩
  | 8 => ⟨S16x8x2048x32, .f32⟩
  | 9 => ⟨S16x8x2048x32, .f32⟩
  | 10 => ⟨S1x1x2048x32, .f32⟩
  | 11 => ⟨S16x8x2048x32, .f32⟩
  | 12 => ⟨S16x8x2048x32, .f32⟩
  | 13 => ⟨S1x1x2048x32, .f32⟩
  | 14 => ⟨S16x8x2048x32, .f32⟩
  | 15 => ⟨S16x8x2048x32, .f32⟩
  | 16 => ⟨S16x8x2048x32, .f32⟩
  | 17 => ⟨S16x8x2048x64, .f32⟩
  | 18 => ⟨S16x8x2048x64, .f32⟩
  | 19 => ⟨S16x8x2048x32, .f32⟩
  | 20 => ⟨S16x8x2048x32, .f32⟩
  | 21 => ⟨S2048x32, .f32⟩
  | 22 => ⟨S2048x32, .f32⟩
  | 23 => ⟨S1x1x2048x32, .f32⟩
  | 24 => ⟨S16x8x2048x32, .f32⟩
  | 25 => ⟨S16x8x2048x32, .f32⟩
  | 26 => ⟨S1x1x2048x32, .f32⟩
  | 27 => ⟨S16x8x2048x32, .f32⟩
  | 28 => ⟨S16x8x2048x32, .f32⟩
  | 29 => ⟨S16x8x2048x32, .f32⟩
  | 30 => ⟨S1x1x2048x32, .f32⟩
  | 31 => ⟨S16x8x2048x32, .f32⟩
  | 32 => ⟨S16x8x2048x32, .f32⟩
  | 33 => ⟨S1x1x2048x32, .f32⟩
  | 34 => ⟨S16x8x2048x32, .f32⟩
  | 35 => ⟨S16x8x2048x32, .f32⟩
  | 36 => ⟨S16x8x2048x32, .f32⟩
  | 37 => ⟨S16x8x2048x64, .f32⟩
  | 38 => ⟨S16x8x2048x128, .f32⟩
  | 39 => ⟨S16x2048x256, .f32⟩
  | 40 => ⟨S16x2048x2x128, .f32⟩
  | 41 => ⟨S16x2x2048x128, .f32⟩
  | 42 => ⟨S16x2x2048x128, .f32⟩
  | 43 => ⟨S_, .f32⟩
  | 44 => ⟨S16x2x2048, .f32⟩
  | 45 => ⟨S16x2x2048x1, .f32⟩
  | 46 => ⟨S_, .f32⟩
  | 47 => ⟨S16x2x2048x1, .f32⟩
  | 48 => ⟨S16x2x2048x1, .f32⟩
  | 49 => ⟨S_, .f32⟩
  | 50 => ⟨S16x2x2048x1, .f32⟩
  | 51 => ⟨S16x2x2048x1, .f32⟩
  | 52 => ⟨S16x2x2048x1, .f32⟩
  | 53 => ⟨S16x2x2048x128, .f32⟩
  | 54 => ⟨S16x2x2048x128, .f32⟩
  | 55 => ⟨S1x1x1x128, .f32⟩
  | 56 => ⟨S16x2x2048x128, .f32⟩
  | 57 => ⟨S16x2x2048x128, .f32⟩
  | 58 => ⟨S16x2x2048x64, .f32⟩
  | 59 => ⟨S16x2x2048x32, .f32⟩
  | 60 => ⟨S16x2x2048x32, .f32⟩
  | 61 => ⟨S2048x32, .f32⟩
  | 62 => ⟨S2048x32, .f32⟩
  | 63 => ⟨S1x1x2048x32, .f32⟩
  | 64 => ⟨S16x2x2048x32, .f32⟩
  | 65 => ⟨S16x2x2048x32, .f32⟩
  | 66 => ⟨S1x1x2048x32, .f32⟩
  | 67 => ⟨S16x2x2048x32, .f32⟩
  | 68 => ⟨S16x2x2048x32, .f32⟩
  | 69 => ⟨S16x2x2048x32, .f32⟩
  | 70 => ⟨S1x1x2048x32, .f32⟩
  | 71 => ⟨S16x2x2048x32, .f32⟩
  | 72 => ⟨S16x2x2048x32, .f32⟩
  | 73 => ⟨S1x1x2048x32, .f32⟩
  | 74 => ⟨S16x2x2048x32, .f32⟩
  | 75 => ⟨S16x2x2048x32, .f32⟩
  | 76 => ⟨S16x2x2048x32, .f32⟩
  | 77 => ⟨S16x2x2048x64, .f32⟩
  | 78 => ⟨S16x2x2048x64, .f32⟩
  | 79 => ⟨S16x2x2048x32, .f32⟩
  | 80 => ⟨S16x2x2048x32, .f32⟩
  | 81 => ⟨S2048x32, .f32⟩
  | 82 => ⟨S2048x32, .f32⟩
  | 83 => ⟨S1x1x2048x32, .f32⟩
  | 84 => ⟨S16x2x2048x32, .f32⟩
  | 85 => ⟨S16x2x2048x32, .f32⟩
  | 86 => ⟨S1x1x2048x32, .f32⟩
  | 87 => ⟨S16x2x2048x32, .f32⟩
  | 88 => ⟨S16x2x2048x32, .f32⟩
  | 89 => ⟨S16x2x2048x32, .f32⟩
  | 90 => ⟨S1x1x2048x32, .f32⟩
  | 91 => ⟨S16x2x2048x32, .f32⟩
  | 92 => ⟨S16x2x2048x32, .f32⟩
  | 93 => ⟨S1x1x2048x32, .f32⟩
  | 94 => ⟨S16x2x2048x32, .f32⟩
  | 95 => ⟨S16x2x2048x32, .f32⟩
  | 96 => ⟨S16x2x2048x32, .f32⟩
  | 97 => ⟨S16x2x2048x64, .f32⟩
  | 98 => ⟨S16x2x2048x128, .f32⟩
  | 99 => ⟨S16x2048x256, .f32⟩
  | 100 => ⟨S16x2048x2x128, .f32⟩
  | 101 => ⟨S16x2x2048x128, .f32⟩
  | 102 => ⟨S16x2x2304x128, .f32⟩
  | 103 => ⟨S16x2x2304x128, .f32⟩
  | 104 => ⟨S16x2x4x2048x128, .f32⟩
  | 105 => ⟨S16x2x4x2048x2304, .f32⟩
  | 106 => ⟨S_, .f32⟩
  | 107 => ⟨S16x2x4x2048x2304, .f32⟩
  | 108 => ⟨S16x2x4x2048x2304, .f32⟩
  | 109 => ⟨S_, .f32⟩
  | 110 => ⟨S16x2x4x2048, .f32⟩
  | 111 => ⟨S_, .f32⟩
  | 112 => ⟨S16x2x4x2048, .f32⟩
  | 113 => ⟨S16x2x4x2048, .f32⟩
  | 114 => ⟨S16x2x4x2048x1, .f32⟩
  | 115 => ⟨S16x2x4x2048x2304, .f32⟩
  | 116 => ⟨S16x2x4x2048x2304, .f32⟩
  | 117 => ⟨S16x2x4x2048x2304, .f32⟩
  | 118 => ⟨S_, .f32⟩
  | 119 => ⟨S16x2x4x2048, .f32⟩
  | 120 => ⟨S16x2x4x2048x1, .f32⟩
  | 121 => ⟨S16x2x4x2048x2304, .f32⟩
  | 122 => ⟨S16x2x4x2048x2304, .f32⟩
  | 123 => ⟨S16x2x4x2048x128, .f32⟩
  | 124 => ⟨S16x8x2048x128, .f32⟩
  | 125 => ⟨S16x2048x8x128, .f32⟩
  | 126 => ⟨S16x2048x1024, .f32⟩
  | 127 => ⟨S32768x1024, .f32⟩
  | _ => ⟨S32768x13824, .bf16⟩

abbrev hbmTy0_2 (i : Nat) : BufTy := match i % 128 with
  | 0 => ⟨S32768x1024, .bf16⟩
  | _ => ⟨S32768x13824, .bf16⟩

abbrev hbmTy (i : Nat) : BufTy := match i / 128 with
  | 0 => hbmTy0_0 i
  | 1 => hbmTy0_1 i
  | 2 => hbmTy0_2 i
  | _ => ⟨S32768x13824, .bf16⟩

abbrev bufTy : (tb : Table) → Fin (tcTables nBuf tb) → BufTy
  | .hbm, ⟨i, _⟩ => hbmTy i
  | _, _ => ⟨S32768x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_v7 : Ref sig .tc := ⟨.hbm, 50, rfl⟩
abbrev main_cst_1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_2 : Ref sig .tc := ⟨.hbm, 55, rfl⟩
abbrev main_v11 : Ref sig .tc := ⟨.hbm, 56, rfl⟩
abbrev main_v12 : Ref sig .tc := ⟨.hbm, 57, rfl⟩
abbrev main_cst_3 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_call2_v0 : Ref sig .tc := ⟨.hbm, 72, rfl⟩
abbrev main_call2_v1 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_call3_v0 : Ref sig .tc := ⟨.hbm, 77, rfl⟩
abbrev main_call3_v1 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_cst_4 : Ref sig .tc := ⟨.hbm, 89, rfl⟩
abbrev main_v39 : Ref sig .tc := ⟨.hbm, 90, rfl⟩
abbrev main_v40 : Ref sig .tc := ⟨.hbm, 91, rfl⟩
abbrev main_cst_5 : Ref sig .tc := ⟨.hbm, 92, rfl⟩
abbrev main_v41 : Ref sig .tc := ⟨.hbm, 93, rfl⟩
abbrev main_v42 : Ref sig .tc := ⟨.hbm, 94, rfl⟩
abbrev main_cst_6 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_7 : Ref sig .tc := ⟨.hbm, 111, rfl⟩
abbrev main_v58 : Ref sig .tc := ⟨.hbm, 112, rfl⟩
abbrev main_v59 : Ref sig .tc := ⟨.hbm, 113, rfl⟩
abbrev main_cst_8 : Ref sig .tc := ⟨.hbm, 114, rfl⟩
abbrev main_v60 : Ref sig .tc := ⟨.hbm, 115, rfl⟩
abbrev main_v61 : Ref sig .tc := ⟨.hbm, 116, rfl⟩
abbrev main_cst_9 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_10 : Ref sig .tc := ⟨.hbm, 171, rfl⟩
abbrev main_v115 : Ref sig .tc := ⟨.hbm, 172, rfl⟩
abbrev main_v116 : Ref sig .tc := ⟨.hbm, 173, rfl⟩
abbrev main_cst_11 : Ref sig .tc := ⟨.hbm, 174, rfl⟩
abbrev main_v117 : Ref sig .tc := ⟨.hbm, 175, rfl⟩
abbrev main_v118 : Ref sig .tc := ⟨.hbm, 176, rfl⟩
abbrev main_cst_12 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_cst_13 : Ref sig .tc := ⟨.hbm, 234, rfl⟩
abbrev main_v175 : Ref sig .tc := ⟨.hbm, 235, rfl⟩
abbrev main_v176 : Ref sig .tc := ⟨.hbm, 236, rfl⟩
abbrev main_cst_14 : Ref sig .tc := ⟨.hbm, 237, rfl⟩
abbrev main_v177 : Ref sig .tc := ⟨.hbm, 238, rfl⟩
abbrev main_cst_15 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_cst_16 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩

abbrev nD : Nat := 1
abbrev τ : Topo := Topo.v7x

variable {F : FTy → Type} [FloatOps F]
-- ==== Kernel2.lean ====
abbrev S32768x2048 : Shape := ⟨2, ![32768, 2048]⟩
abbrev S2x32x12288 : Shape := ⟨3, ![2, 32, 12288]⟩
abbrev S2x2048x8192 : Shape := ⟨3, ![2, 2048, 8192]⟩
abbrev S2x8192x2048 : Shape := ⟨3, ![2, 8192, 2048]⟩
abbrev S2x2x2048 : Shape := ⟨3, ![2, 2, 2048]⟩
abbrev S64x1x12288 : Shape := ⟨3, ![64, 1, 12288]⟩
abbrev S4x1x2048 : Shape := ⟨3, ![4, 1, 2048]⟩
abbrev S512x2048 : Shape := ⟨2, ![512, 2048]⟩
abbrev S1x1x2048 : Shape := ⟨3, ![1, 1, 2048]⟩
abbrev S1x2048x1024 : Shape := ⟨3, ![1, 2048, 1024]⟩
abbrev S1x1024x2048 : Shape := ⟨3, ![1, 1024, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩
abbrev S512x1024 : Shape := ⟨2, ![512, 1024]⟩

abbrev nBuf : Space → Nat
  | .hbm => 12
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2x32x12288, .f32⟩
  | .hbm, ⟨2, _⟩ => ⟨S2x2048x8192, .f32⟩
  | .hbm, ⟨3, _⟩ => ⟨S2x8192x2048, .f32⟩
  | .hbm, ⟨4, _⟩ => ⟨S2x2x2048, .f32⟩
  | .hbm, ⟨5, _⟩ => ⟨S2x2x2048, .f32⟩
  | .hbm, ⟨6, _⟩ => ⟨S64x1x12288, .f32⟩
  | .hbm, ⟨7, _⟩ => ⟨S2x2048x8192, .bf16⟩
  | .hbm, ⟨8, _⟩ => ⟨S2x8192x2048, .bf16⟩
  | .hbm, ⟨9, _⟩ => ⟨S4x1x2048, .f32⟩
  | .hbm, ⟨10, _⟩ => ⟨S4x1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048x1024, .bf16⟩
  | .local _ .vmem, ⟨11, _⟩ => ⟨S1x2048x1024, .bf16⟩
  | .local _ .vmem, ⟨12, _⟩ => ⟨S1x1024x2048, .bf16⟩
  | .local _ .vmem, ⟨13, _⟩ => ⟨S1x1024x2048, .bf16⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c3_i32 : BitVec 32 := 3#32
  let c0_i32_6 : BitVec 32 := 0#32
  ![v18.toNat, c0_i32_5.toNat, c3_i32.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c4_i32 : BitVec 32 := 4#32
  let c0_i32_6 : BitVec 32 := 0#32
  ![v18.toNat, c0_i32_5.toNat, c4_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c5_i32 : BitVec 32 := 5#32
  let c0_i32_6 : BitVec 32 := 0#32
  ![v18.toNat, c0_i32_5.toNat, c5_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel2Ideal.lean ====
variable {F : FTy → Type} [FloatOps F] [Named F]
def κ : String → Option EReal := fun
  | "eps_alpha" => some ((70368744 / 140737483538089 : ℝ) : EReal)
  | "inv_alpha" => some ((8388608 / 11863283 : ℝ) : EReal)
  | _ => none
-- ==== Reference2Ideal.lean ====
abbrev S32768x2048 : Shape := ⟨2, ![32768, 2048]⟩
abbrev S2x32x12288 : Shape := ⟨3, ![2, 32, 12288]⟩
abbrev S2x2048x8192 : Shape := ⟨3, ![2, 2048, 8192]⟩
abbrev S2x8192x2048 : Shape := ⟨3, ![2, 8192, 2048]⟩
abbrev S2x2x2048 : Shape := ⟨3, ![2, 2, 2048]⟩
abbrev S16x2048x2048 : Shape := ⟨3, ![16, 2048, 2048]⟩
abbrev S1x16x12288 : Shape := ⟨3, ![1, 16, 12288]⟩
abbrev S16x12288 : Shape := ⟨2, ![16, 12288]⟩
abbrev S16x1x12288 : Shape := ⟨3, ![16, 1, 12288]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S16x2048x8192 : Shape := ⟨3, ![16, 2048, 8192]⟩
abbrev S1x1x2048 : Shape := ⟨3, ![1, 1, 2048]⟩
abbrev S2048 : Shape := ⟨1, ![2048]⟩

abbrev nBuf : Space → Nat
  | .hbm => 96
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x32x12288, .f32⟩
  | .hbm, ⟨2, _⟩ => ⟨S2x2048x8192, .f32⟩
  | .hbm, ⟨3, _⟩ => ⟨S2x8192x2048, .f32⟩
  | .hbm, ⟨4, _⟩ => ⟨S2x2x2048, .f32⟩
  | .hbm, ⟨5, _⟩ => ⟨S2x2x2048, .f32⟩
  | .hbm, ⟨6, _⟩ => ⟨S16x2048x2048, .f32⟩
  | .hbm, ⟨7, _⟩ => ⟨S1x16x12288, .f32⟩
  | .hbm, ⟨8, _⟩ => ⟨S16x12288, .f32⟩
  | .hbm, ⟨9, _⟩ => ⟨S16x1x12288, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S16x2048x1, .f32⟩
  | .hbm, ⟨37, _⟩ => ⟨S16x2048x2048, .f32⟩
  | .hbm, ⟨38, _⟩ => ⟨S16x2048x2048, .f32⟩
  | .hbm, ⟨39, _⟩ => ⟨S_, .f32⟩
  | .hbm, ⟨40, _⟩ => ⟨S16x1x2048, .f32⟩
  | .hbm, ⟨41, _⟩ => ⟨S16x1x2048, .f32⟩
  | .hbm, ⟨42, _⟩ => ⟨S16x2048x2048, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S_, .f32⟩
  | .hbm, ⟨47, _⟩ => ⟨S16x2048x2048, .f32⟩
  | .hbm, ⟨48, _⟩ => ⟨S16x2048x2048, .f32⟩
  | .hbm, ⟨49, _⟩ => ⟨S1x2048x8192, .f32⟩
  | .hbm, ⟨50, _⟩ => ⟨S2048x8192, .f32⟩
  | .hbm, ⟨51, _⟩ => ⟨S1x8192x2048, .f32⟩
  | .hbm, ⟨52, _⟩ => ⟨S8192x2048, .f32⟩
  | .hbm, ⟨53, _⟩ => ⟨S16x2048x8192, .f32⟩
  | .hbm, ⟨54, _⟩ => ⟨S_, .f32⟩
  | .hbm, ⟨55, _⟩ => ⟨S16x2048x8192, .f32⟩
  | .hbm, ⟨56, _⟩ => ⟨S16x2048x8192, .f32⟩
  | .hbm, ⟨57, _⟩ => ⟨S16x2048x8192, .f32⟩
  | .hbm, ⟨58, _⟩ => ⟨S16x2048x2048, .f32⟩
  | .hbm, ⟨59, _⟩ => ⟨S16x2048x2048, .f32⟩
  | .hbm, ⟨60, _⟩ => ⟨S16x2048x2048, .f32⟩
  | .hbm, ⟨61, _⟩ => ⟨S16x2048x2048, .f32⟩
  | .hbm, ⟨62, _⟩ => ⟨S_, .f32⟩
  | .hbm, ⟨63, _⟩ => ⟨S16x2048, .f32⟩
  | .hbm, ⟨64, _⟩ => ⟨S16x2048x1, .f32⟩
  | .hbm, ⟨65, _⟩ => ⟨S_, .f32⟩
  | .hbm, ⟨66, _⟩ => ⟨S16x2048x1, .f32⟩
  | .hbm, ⟨67, _⟩ => ⟨S16x2048x1, .f32⟩
  | .hbm, ⟨68, _⟩ => ⟨S16x2048x2048, .f32⟩
  | .hbm, ⟨69, _⟩ => ⟨S16x2048x2048, .f32⟩
  | .hbm, ⟨70, _⟩ => ⟨S16x2048x2048, .f32⟩
  | .hbm, ⟨71, _⟩ => ⟨S_, .f32⟩
  | .hbm, ⟨72, _⟩ => ⟨S16x2048, .f32⟩
  | .hbm, ⟨73, _⟩ => ⟨S16x2048x1, .f32⟩
  | .hbm, ⟨74, _⟩ => ⟨S_, .f32⟩
  | .hbm, ⟨75, _⟩ => ⟨S16x2048x1, .f32⟩
  | .hbm, ⟨76, _⟩ => ⟨S16x2048x1, .f32⟩
  | .hbm, ⟨77, _⟩ => ⟨S16x2048x2048, .f32⟩
  | .hbm, ⟨78, _⟩ => ⟨S16x2048x2048, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1, .f32⟩
  | .hbm, ⟨83, _⟩ => ⟨S16x2048x2048, .f32⟩
  | .hbm, ⟨84, _⟩ => ⟨S16x2048x2048, .f32⟩
  | .hbm, ⟨85, _⟩ => ⟨S1x1x2048, .f32⟩
  | .hbm, ⟨86, _⟩ => ⟨S2048, .f32⟩
  | .hbm, ⟨87, _⟩ => ⟨S1x1x2048, .f32⟩
  | .hbm, ⟨88, _⟩ => ⟨S16x2048x2048, .f32⟩
  | .hbm, ⟨89, _⟩ => ⟨S16x2048x2048, .f32⟩
  | .hbm, ⟨90, _⟩ => ⟨S1x1x2048, .f32⟩
  | .hbm, ⟨91, _⟩ => ⟨S2048, .f32⟩
  | .hbm, ⟨92, _⟩ => ⟨S1x1x2048, .f32⟩
  | .hbm, ⟨93, _⟩ => ⟨S16x2048x2048, .f32⟩
  | .hbm, ⟨94, _⟩ => ⟨S16x2048x2048, .f32⟩
  | .hbm, ⟨95, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call0_cst : Ref sig .tc := ⟨.hbm, 54, rfl⟩
abbrev main_call0_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Kernel3.lean ====
abbrev S32768x2048 : Shape := ⟨2, ![32768, 2048]⟩
abbrev S2x32x12288 : Shape := ⟨3, ![2, 32, 12288]⟩
abbrev S2x2048x13824 : Shape := ⟨3, ![2, 2048, 13824]⟩
abbrev S64x1x12288 : Shape := ⟨3, ![64, 1, 12288]⟩
abbrev S32768x13824 : Shape := ⟨2, ![32768, 13824]⟩
abbrev S1024x2048 : Shape := ⟨2, ![1024, 2048]⟩
abbrev S1x1x2048 : Shape := ⟨3, ![1, 1, 2048]⟩
abbrev S1x2048x1536 : Shape := ⟨3, ![1, 2048, 1536]⟩
abbrev S1024x1536 : Shape := ⟨2, ![1024, 1536]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S256x2048 : Shape := ⟨2, ![256, 2048]⟩
abbrev S2048x1536 : Shape := ⟨2, ![2048, 1536]⟩
abbrev S256x1536 : Shape := ⟨2, ![256, 1536]⟩

abbrev nBuf : Space → Nat
  | .hbm => 6
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S2x32x12288, .f32⟩
  | .hbm, ⟨2, _⟩ => ⟨S2x2048x13824, .f32⟩
  | .hbm, ⟨3, _⟩ => ⟨S64x1x12288, .f32⟩
  | .hbm, ⟨4, _⟩ => ⟨S2x2048x13824, .bf16⟩
  | .hbm, ⟨5, _⟩ => ⟨S32768x13824, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x1536, .bf16⟩
  | .local _ .vmem, ⟨7, _⟩ => ⟨S1x2048x1536, .bf16⟩
  | .local _ .vmem, ⟨8, _⟩ => ⟨S1024x1536, .bf16⟩
  | .local _ .vmem, ⟨9, _⟩ => ⟨S1024x1536, .bf16⟩
  | .local _ .vmem, ⟨10, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c1_i32_6 : BitVec 32 := 1#32
  let c0_i32_7 : BitVec 32 := 0#32
  ![v18.toNat, c0_i32_5.toNat, c1_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c9_i32 : BitVec 32 := 9#32
  let c0_i32 : BitVec 32 := 0#32
  let v1 : BitVec 1 := Scalar.cmpi .eq c9_i32 c0_i32
  let c1_i32_0 : BitVec 32 := 1#32
  let v2 : BitVec 32 := Scalar.select v1 c1_i32_0 c9_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  ![c0_i32_4.toNat, c0_i32_5.toNat, v10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S32768x2048 : Shape := ⟨2, ![32768, 2048]⟩
abbrev S2x32x12288 : Shape := ⟨3, ![2, 32, 12288]⟩
abbrev S2x2048x13824 : Shape := ⟨3, ![2, 2048, 13824]⟩
abbrev S16x2048x2048 : Shape := ⟨3, ![16, 2048, 2048]⟩
abbrev S1x16x12288 : Shape := ⟨3, ![1, 16, 12288]⟩
abbrev S16x12288 : Shape := ⟨2, ![16, 12288]⟩
abbrev S16x1x12288 : Shape := ⟨3, ![16, 1, 12288]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S1x2048x13824 : Shape := ⟨3, ![1, 2048, 13824]⟩
abbrev S2048x13824 : Shape := ⟨2, ![2048, 13824]⟩
abbrev S16x2048x13824 : Shape := ⟨3, ![16, 2048, 13824]⟩
abbrev S32768x13824 : Shape := ⟨2, ![32768, 13824]⟩
abbrev S32768x12288 : Shape := ⟨2, ![32768, 12288]⟩
abbrev S32768x1536 : Shape := ⟨2, ![32768, 1536]⟩

abbrev nBuf : Space → Nat
  | .hbm => 51
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x32x12288, .f32⟩
  | .hbm, ⟨2, _⟩ => ⟨S2x2048x13824, .f32⟩
  | .hbm, ⟨3, _⟩ => ⟨S16x2048x2048, .f32⟩
  | .hbm, ⟨4, _⟩ => ⟨S1x16x12288, .f32⟩
  | .hbm, ⟨5, _⟩ => ⟨S16x12288, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x1x2048, .f32⟩
  | .hbm, ⟨38, _⟩ => ⟨S16x1x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S1x2048x13824, .f32⟩
  | .hbm, ⟨44, _⟩ => ⟨S2048x13824, .f32⟩
  | .hbm, ⟨45, _⟩ => ⟨S16x2048x13824, .f32⟩
  | .hbm, ⟨46, _⟩ => ⟨S32768x13824, .f32⟩
  | .hbm, ⟨47, _⟩ => ⟨S32768x12288, .f32⟩
  | .hbm, ⟨48, _⟩ => ⟨S32768x1536, .f32⟩
  | .hbm, ⟨49, _⟩ => ⟨S32768x13824, .f32⟩
  | .hbm, ⟨50, _⟩ => ⟨S32768x13824, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel4.lean ====
abbrev S32768x2048 : Shape := ⟨2, ![32768, 2048]⟩
abbrev S2x2048x2048 : Shape := ⟨3, ![2, 2048, 2048]⟩
abbrev S2x32x12288 : Shape := ⟨3, ![2, 32, 12288]⟩
abbrev S2x2x2048 : Shape := ⟨3, ![2, 2, 2048]⟩
abbrev S64x1x12288 : Shape := ⟨3, ![64, 1, 12288]⟩
abbrev S4x1x2048 : Shape := ⟨3, ![4, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S1x2048 : Shape := ⟨2, ![1, 2048]⟩
abbrev S256x2048 : Shape := ⟨2, ![256, 2048]⟩
abbrev S2048x2048 : Shape := ⟨2, ![2048, 2048]⟩
abbrev S128x2048 : Shape := ⟨2, ![128, 2048]⟩
abbrev S128 : Shape := ⟨1, ![128]⟩
abbrev S128x1 : Shape := ⟨2, ![128, 1]⟩

abbrev nBuf : Space → Nat
  | .hbm => 11
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .f32⟩
  | .hbm, ⟨2, _⟩ => ⟨S32768x2048, .f32⟩
  | .hbm, ⟨3, _⟩ => ⟨S2x32x12288, .f32⟩
  | .hbm, ⟨4, _⟩ => ⟨S2x2x2048, .f32⟩
  | .hbm, ⟨5, _⟩ => ⟨S2x2x2048, .f32⟩
  | .hbm, ⟨6, _⟩ => ⟨S64x1x12288, .f32⟩
  | .hbm, ⟨7, _⟩ => ⟨S4x1x2048, .f32⟩
  | .hbm, ⟨8, _⟩ => ⟨S4x1x2048, .f32⟩
  | .hbm, ⟨9, _⟩ => ⟨S2x2048x2048, .bf16⟩
  | .hbm, ⟨10, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S512x2048, .f32⟩
  | .local _ .vmem, ⟨10, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c2_i32 : BitVec 32 := 2#32
  let c0_i32_6 : BitVec 32 := 0#32
  ![v18.toNat, c0_i32_5.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel4Ideal.lean ====
variable {F : FTy → Type} [FloatOps F] [Named F]
def κ : String → Option EReal := fun
  | "eps_alpha" => some ((70368744 / 140737483538089 : ℝ) : EReal)
  | "inv_alpha" => some ((8388608 / 11863283 : ℝ) : EReal)
  | _ => none
-- ==== Reference4Ideal.lean ====
abbrev S32768x2048 : Shape := ⟨2, ![32768, 2048]⟩
abbrev S2x2048x2048 : Shape := ⟨3, ![2, 2048, 2048]⟩
abbrev S2x32x12288 : Shape := ⟨3, ![2, 32, 12288]⟩
abbrev S2x2x2048 : Shape := ⟨3, ![2, 2, 2048]⟩
abbrev S16x2048x2048 : Shape := ⟨3, ![16, 2048, 2048]⟩
abbrev S1x16x12288 : Shape := ⟨3, ![1, 16, 12288]⟩
abbrev S16x12288 : Shape := ⟨2, ![16, 12288]⟩
abbrev S16x1x12288 : Shape := ⟨3, ![16, 1, 12288]⟩
abbrev S16x1x2048 : Shape := ⟨3, ![16, 1, 2048]⟩
abbrev S1x2048x2048 : Shape := ⟨3, ![1, 2048, 2048]⟩
abbrev S2048x2048 : Shape := ⟨2, ![2048, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048 : Shape := ⟨1, ![2048]⟩

abbrev nBuf : Space → Nat
  | .hbm => 61
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .f32⟩
  | .hbm, ⟨2, _⟩ => ⟨S32768x2048, .f32⟩
  | .hbm, ⟨3, _⟩ => ⟨S2x32x12288, .f32⟩
  | .hbm, ⟨4, _⟩ => ⟨S2x2x2048, .f32⟩
  | .hbm, ⟨5, _⟩ => ⟨S2x2x2048, .f32⟩
  | .hbm, ⟨6, _⟩ => ⟨S16x2048x2048, .f32⟩
  | .hbm, ⟨7, _⟩ => ⟨S32768x2048, .f32⟩
  | .hbm, ⟨8, _⟩ => ⟨S16x2048x2048, .f32⟩
  | .hbm, ⟨9, _⟩ => ⟨S1x16x12288, .f32⟩
  | .hbm, ⟨10, _⟩ => ⟨S16x12288, .f32⟩
  | .hbm, ⟨11, _⟩ => ⟨S16x1x12288, .f32⟩
  | .hbm, ⟨12, _⟩ => ⟨S16x1x2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S16x1x2048, .f32⟩
  | .hbm, ⟨17, _⟩ => ⟨S16x1x2048, .f32⟩
  | .hbm, ⟨18, _⟩ => ⟨S1x2048x2048, .f32⟩
  | .hbm, ⟨19, _⟩ => ⟨S2048x2048, .f32⟩
  | .hbm, ⟨20, _⟩ => ⟨S16x2048x2048, .f32⟩
  | .hbm, ⟨21, _⟩ => ⟨S_, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S_, .f32⟩
  | .hbm, ⟨28, _⟩ => ⟨S16x2048, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x2048, .f32⟩
  | .hbm, ⟨49, _⟩ => ⟨S16x2048x2048, .f32⟩
  | .hbm, ⟨50, _⟩ => ⟨S1x1x2048, .f32⟩
  | .hbm, ⟨51, _⟩ => ⟨S2048, .f32⟩
  | .hbm, ⟨52, _⟩ => ⟨S1x1x2048, .f32⟩
  | .hbm, ⟨53, _⟩ => ⟨S16x2048x2048, .f32⟩
  | .hbm, ⟨54, _⟩ => ⟨S16x2048x2048, .f32⟩
  | .hbm, ⟨55, _⟩ => ⟨S1x1x2048, .f32⟩
  | .hbm, ⟨56, _⟩ => ⟨S2048, .f32⟩
  | .hbm, ⟨57, _⟩ => ⟨S1x1x2048, .f32⟩
  | .hbm, ⟨58, _⟩ => ⟨S16x2048x2048, .f32⟩
  | .hbm, ⟨59, _⟩ => ⟨S16x2048x2048, .f32⟩
  | .hbm, ⟨60, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Kernel5.lean ====
abbrev S32768x1024 : Shape := ⟨2, ![32768, 1024]⟩
abbrev S32768x13824 : Shape := ⟨2, ![32768, 13824]⟩
abbrev S2x3x1024 : Shape := ⟨3, ![2, 3, 1024]⟩
abbrev S2x3x1024x2048 : Shape := ⟨4, ![2, 3, 1024, 2048]⟩
abbrev S32768x2048 : Shape := ⟨2, ![32768, 2048]⟩
abbrev S512x1024 : Shape := ⟨2, ![512, 1024]⟩
abbrev S512x3072 : Shape := ⟨2, ![512, 3072]⟩
abbrev S8x3072 : Shape := ⟨2, ![8, 3072]⟩
abbrev S1x3x1024 : Shape := ⟨3, ![1, 3, 1024]⟩
abbrev S512x6144 : Shape := ⟨2, ![512, 6144]⟩
abbrev S1x3x1024x2048 : Shape := ⟨4, ![1, 3, 1024, 2048]⟩
abbrev S512x2048 : Shape := ⟨2, ![512, 2048]⟩
abbrev S512x1 : Shape := ⟨2, ![512, 1]⟩
abbrev S3x1024 : Shape := ⟨2, ![3, 1024]⟩
abbrev S512x256 : Shape := ⟨2, ![512, 256]⟩
abbrev S1x256 : Shape := ⟨2, ![1, 256]⟩
abbrev S1x1x1024x256 : Shape := ⟨4, ![1, 1, 1024, 256]⟩
abbrev S1024x256 : Shape := ⟨2, ![1024, 256]⟩

abbrev nBuf : Space → Nat
  | .hbm => 7
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x13824, .bf16⟩
  | .hbm, ⟨3, _⟩ => ⟨S2x3x1024, .f32⟩
  | .hbm, ⟨4, _⟩ => ⟨S2x3x1024x2048, .f32⟩
  | .hbm, ⟨5, _⟩ => ⟨S2x3x1024x2048, .bf16⟩
  | .hbm, ⟨6, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x3072, .bf16⟩
  | .local _ .vmem, ⟨5, _⟩ => ⟨S512x3072, .bf16⟩
  | .local _ .vmem, ⟨6, _⟩ => ⟨S8x3072, .bf16⟩
  | .local _ .vmem, ⟨7, _⟩ => ⟨S8x3072, .bf16⟩
  | .local _ .vmem, ⟨8, _⟩ => ⟨S8x3072, .bf16⟩
  | .local _ .vmem, ⟨9, _⟩ => ⟨S8x3072, .bf16⟩
  | .local _ .vmem, ⟨10, _⟩ => ⟨S1x3x1024, .f32⟩
  | .local _ .vmem, ⟨11, _⟩ => ⟨S512x6144, .bf16⟩
  | .local _ .vmem, ⟨12, _⟩ => ⟨S512x6144, .bf16⟩
  | .local _ .vmem, ⟨13, _⟩ => ⟨S1x3x1024x2048, .bf16⟩
  | .local _ .vmem, ⟨14, _⟩ => ⟨S512x2048, .bf16⟩
  | .local _ .vmem, ⟨15, _⟩ => ⟨S512x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c1_i32_0 : BitVec 32 := 1#32
  let c0_i32 : BitVec 32 := 0#32
  ![v2.toNat, c1_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S32768x1024 : Shape := ⟨2, ![32768, 1024]⟩
abbrev S32768x13824 : Shape := ⟨2, ![32768, 13824]⟩
abbrev S2x3x1024 : Shape := ⟨3, ![2, 3, 1024]⟩
abbrev S2x3x1024x2048 : Shape := ⟨4, ![2, 3, 1024, 2048]⟩
abbrev S32768x1536 : Shape := ⟨2, ![32768, 1536]⟩
abbrev S32768x12288 : Shape := ⟨2, ![32768, 12288]⟩
abbrev S16x2048x13824 : Shape := ⟨3, ![16, 2048, 13824]⟩
abbrev S16x2048x1024 : Shape := ⟨3, ![16, 2048, 1024]⟩
abbrev S1x3x1024 : Shape := ⟨3, ![1, 3, 1024]⟩
abbrev S3x1024 : Shape := ⟨2, ![3, 1024]⟩
abbrev S_ : Shape := ⟨0, ![]⟩
abbrev S16x2050x1024 : Shape := ⟨3, ![16, 2050, 1024]⟩
abbrev S1x1024 : Shape := ⟨2, ![1, 1024]⟩
abbrev S1024 : Shape := ⟨1, ![1024]⟩
abbrev S1x1x1024 : Shape := ⟨3, ![1, 1, 1024]⟩
abbrev S1x3x1024x2048 : Shape := ⟨4, ![1, 3, 1024, 2048]⟩
abbrev S3x1024x2048 : Shape := ⟨3, ![3, 1024, 2048]⟩
abbrev S16x2048x6144 : Shape := ⟨3, ![16, 2048, 6144]⟩
abbrev S16x2048x2048 : Shape := ⟨3, ![16, 2048, 2048]⟩
abbrev S1x1024x2048 : Shape := ⟨3, ![1, 1024, 2048]⟩
abbrev S1024x2048 : Shape := ⟨2, ![1024, 2048]⟩
abbrev S32768x2048 : Shape := ⟨2, ![32768, 2048]⟩

abbrev nBuf : Space → Nat
  | .hbm => 74
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x13824, .bf16⟩
  | .hbm, ⟨3, _⟩ => ⟨S2x3x1024, .f32⟩
  | .hbm, ⟨4, _⟩ => ⟨S2x3x1024x2048, .f32⟩
  | .hbm, ⟨5, _⟩ => ⟨S32768x13824, .f32⟩
  | .hbm, ⟨6, _⟩ => ⟨S32768x1536, .f32⟩
  | .hbm, ⟨7, _⟩ => ⟨S32768x12288, .f32⟩
  | .hbm, ⟨8, _⟩ => ⟨S32768x13824, .f32⟩
  | .hbm, ⟨9, _⟩ => ⟨S16x2048x13824, .f32⟩
  | .hbm, ⟨10, _⟩ => ⟨S32768x1024, .f32⟩
  | .hbm, ⟨11, _⟩ => ⟨S16x2048x1024, .f32⟩
  | .hbm, ⟨12, _⟩ => ⟨S32768x1024, .f32⟩
  | .hbm, ⟨13, _⟩ => ⟨S16x2048x1024, .f32⟩
  | .hbm, ⟨14, _⟩ => ⟨S1x3x1024, .f32⟩
  | .hbm, ⟨15, _⟩ => ⟨S3x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .i32⟩
  | .hbm, ⟨21, _⟩ => ⟨S_, .f32⟩
  | .hbm, ⟨22, _⟩ => ⟨S16x2050x1024, .f32⟩
  | .hbm, ⟨23, _⟩ => ⟨S1x1024, .f32⟩
  | .hbm, ⟨24, _⟩ => ⟨S1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S1x1024, .f32⟩
  | .hbm, ⟨30, _⟩ => ⟨S1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S1x1024, .f32⟩
  | .hbm, ⟨37, _⟩ => ⟨S1024, .f32⟩
  | .hbm, ⟨38, _⟩ => ⟨S16x2048x1024, .f32⟩
  | .hbm, ⟨39, _⟩ => ⟨S1x1x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S1x3x1024x2048, .f32⟩
  | .hbm, ⟨45, _⟩ => ⟨S3x1024x2048, .f32⟩
  | .hbm, ⟨46, _⟩ => ⟨S16x2048x6144, .f32⟩
  | .hbm, ⟨47, _⟩ => ⟨S16x2048x6144, .f32⟩
  | .hbm, ⟨48, _⟩ => ⟨S16x2048x6144, .f32⟩
  | .hbm, ⟨49, _⟩ => ⟨S_, .f32⟩
  | .hbm, ⟨50, _⟩ => ⟨S16x2048x6144, .f32⟩
  | .hbm, ⟨51, _⟩ => ⟨S16x2048x6144, .f32⟩
  | .hbm, ⟨52, _⟩ => ⟨S_, .f32⟩
  | .hbm, ⟨53, _⟩ => ⟨S16x2048x6144, .f32⟩
  | .hbm, ⟨54, _⟩ => ⟨S16x2048x6144, .f32⟩
  | .hbm, ⟨55, _⟩ => ⟨S16x2048x2048, .f32⟩
  | .hbm, ⟨56, _⟩ => ⟨S16x2048x2048, .f32⟩
  | .hbm, ⟨57, _⟩ => ⟨S16x2048x2048, .f32⟩
  | .hbm, ⟨58, _⟩ => ⟨S1x1024x2048, .f32⟩
  | .hbm, ⟨59, _⟩ => ⟨S1024x2048, .f32⟩
  | .hbm, ⟨60, _⟩ => ⟨S16x2048x2048, .f32⟩
  | .hbm, ⟨61, _⟩ => ⟨S16x2048x2048, .f32⟩
  | .hbm, ⟨62, _⟩ => ⟨S1x1024x2048, .f32⟩
  | .hbm, ⟨63, _⟩ => ⟨S1024x2048, .f32⟩
  | .hbm, ⟨64, _⟩ => ⟨S16x2048x2048, .f32⟩
  | .hbm, ⟨65, _⟩ => ⟨S16x2048x2048, .f32⟩
  | .hbm, ⟨66, _⟩ => ⟨S16x2048x2048, .f32⟩
  | .hbm, ⟨67, _⟩ => ⟨S1x1024x2048, .f32⟩
  | .hbm, ⟨68, _⟩ => ⟨S1024x2048, .f32⟩
  | .hbm, ⟨69, _⟩ => ⟨S16x2048x2048, .f32⟩
  | .hbm, ⟨70, _⟩ => ⟨S16x2048x2048, .f32⟩
  | .hbm, ⟨71, _⟩ => ⟨S16x2048x2048, .f32⟩
  | .hbm, ⟨72, _⟩ => ⟨S32768x2048, .f32⟩
  | .hbm, ⟨73, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst : Ref sig .tc := ⟨.hbm, 49, rfl⟩
abbrev main_v40 : Ref sig .tc := ⟨.hbm, 50, rfl⟩
abbrev main_v41 : Ref sig .tc := ⟨.hbm, 51, rfl⟩
abbrev main_cst_0 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩

abbrev nD : Nat := 1
abbrev τ : Topo := Topo.v7x

variable {F : FTy → Type} [FloatOps F]
-- ==== Kernel6.lean ====
abbrev S4096x2048 : Shape := ⟨2, ![4096, 2048]⟩
abbrev S2x32x12288 : Shape := ⟨3, ![2, 32, 12288]⟩
abbrev S2x2048x8192 : Shape := ⟨3, ![2, 2048, 8192]⟩
abbrev S2x8192x2048 : Shape := ⟨3, ![2, 8192, 2048]⟩
abbrev S2x2x2048 : Shape := ⟨3, ![2, 2, 2048]⟩
abbrev S64x1x12288 : Shape := ⟨3, ![64, 1, 12288]⟩
abbrev S4x1x2048 : Shape := ⟨3, ![4, 1, 2048]⟩
abbrev S512x2048 : Shape := ⟨2, ![512, 2048]⟩
abbrev S1x1x2048 : Shape := ⟨3, ![1, 1, 2048]⟩
abbrev S1x2048x1024 : Shape := ⟨3, ![1, 2048, 1024]⟩
abbrev S1x1024x2048 : Shape := ⟨3, ![1, 1024, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S256x2048 : Shape := ⟨2, ![256, 2048]⟩
abbrev S2048x1024 : Shape := ⟨2, ![2048, 1024]⟩
abbrev S256x1024 : Shape := ⟨2, ![256, 1024]⟩
abbrev S1024x2048 : Shape := ⟨2, ![1024, 2048]⟩
abbrev S512x1024 : Shape := ⟨2, ![512, 1024]⟩

abbrev nBuf : Space → Nat
  | .hbm => 12
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2x32x12288, .f32⟩
  | .hbm, ⟨2, _⟩ => ⟨S2x2048x8192, .f32⟩
  | .hbm, ⟨3, _⟩ => ⟨S2x8192x2048, .f32⟩
  | .hbm, ⟨4, _⟩ => ⟨S2x2x2048, .f32⟩
  | .hbm, ⟨5, _⟩ => ⟨S2x2x2048, .f32⟩
  | .hbm, ⟨6, _⟩ => ⟨S64x1x12288, .f32⟩
  | .hbm, ⟨7, _⟩ => ⟨S2x2048x8192, .bf16⟩
  | .hbm, ⟨8, _⟩ => ⟨S2x8192x2048, .bf16⟩
  | .hbm, ⟨9, _⟩ => ⟨S4x1x2048, .f32⟩
  | .hbm, ⟨10, _⟩ => ⟨S4x1x2048, .f32⟩
  | .hbm, ⟨11, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x1024, .bf16⟩
  | .local _ .vmem, ⟨8, _⟩ => ⟨S1x2048x1024, .bf16⟩
  | .local _ .vmem, ⟨9, _⟩ => ⟨S1x1024x2048, .bf16⟩
  | .local _ .vmem, ⟨10, _⟩ => ⟨S1x1024x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c3_i32 : BitVec 32 := 3#32
  let c0_i32_0 : BitVec 32 := 0#32
  ![c16_i32.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c4_i32 : BitVec 32 := 4#32
  let c0_i32_0 : BitVec 32 := 0#32
  ![c16_i32.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c5_i32 : BitVec 32 := 5#32
  let c0_i32_0 : BitVec 32 := 0#32
  ![c16_i32.toNat, c0_i32.toNat, c5_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel6Ideal.lean ====
variable {F : FTy → Type} [FloatOps F] [Named F]
def κ : String → Option EReal := fun
  | "eps_alpha" => some ((70368744 / 140737483538089 : ℝ) : EReal)
  | "inv_alpha" => some ((8388608 / 11863283 : ℝ) : EReal)
  | _ => none
-- ==== Reference6Ideal.lean ====
abbrev S4096x2048 : Shape := ⟨2, ![4096, 2048]⟩
abbrev S2x32x12288 : Shape := ⟨3, ![2, 32, 12288]⟩
abbrev S2x2048x8192 : Shape := ⟨3, ![2, 2048, 8192]⟩
abbrev S2x8192x2048 : Shape := ⟨3, ![2, 8192, 2048]⟩
abbrev S2x2x2048 : Shape := ⟨3, ![2, 2, 2048]⟩
abbrev S16x256x2048 : Shape := ⟨3, ![16, 256, 2048]⟩
abbrev S1x1x12288 : Shape := ⟨3, ![1, 1, 12288]⟩
abbrev S12288 : Shape := ⟨1, ![12288]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S16x256x8192 : Shape := ⟨3, ![16, 256, 8192]⟩

abbrev nBuf : Space → Nat
  | .hbm => 98
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x32x12288, .f32⟩
  | .hbm, ⟨2, _⟩ => ⟨S2x2048x8192, .f32⟩
  | .hbm, ⟨3, _⟩ => ⟨S2x8192x2048, .f32⟩
  | .hbm, ⟨4, _⟩ => ⟨S2x2x2048, .f32⟩
  | .hbm, ⟨5, _⟩ => ⟨S2x2x2048, .f32⟩
  | .hbm, ⟨6, _⟩ => ⟨S16x256x2048, .f32⟩
  | .hbm, ⟨7, _⟩ => ⟨S1x1x12288, .f32⟩
  | .hbm, ⟨8, _⟩ => ⟨S12288, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S16x256, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S16x256x2048, .f32⟩
  | .hbm, ⟨22, _⟩ => ⟨S16x256x2048, .f32⟩
  | .hbm, ⟨23, _⟩ => ⟨S16x256x2048, .f32⟩
  | .hbm, ⟨24, _⟩ => ⟨S_, .f32⟩
  | .hbm, ⟨25, _⟩ => ⟨S16x256, .f32⟩
  | .hbm, ⟨26, _⟩ => ⟨S16x256x1, .f32⟩
  | .hbm, ⟨27, _⟩ => ⟨S_, .f32⟩
  | .hbm, ⟨28, _⟩ => ⟨S16x256x1, .f32⟩
  | .hbm, ⟨29, _⟩ => ⟨S16x256x1, .f32⟩
  | .hbm, ⟨30, _⟩ => ⟨S16x256x2048, .f32⟩
  | .hbm, ⟨31, _⟩ => ⟨S16x256x2048, .f32⟩
  | .hbm, ⟨32, _⟩ => ⟨S_, .f32⟩
  | .hbm, ⟨33, _⟩ => ⟨S16x256x1, .f32⟩
  | .hbm, ⟨34, _⟩ => ⟨S16x256x1, .f32⟩
  | .hbm, ⟨35, _⟩ => ⟨S16x256x1, .f32⟩
  | .hbm, ⟨36, _⟩ => ⟨S16x256x2048, .f32⟩
  | .hbm, ⟨37, _⟩ => ⟨S16x256x2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S1x1x2048, .f32⟩
  | .hbm, ⟨42, _⟩ => ⟨S16x256x2048, .f32⟩
  | .hbm, ⟨43, _⟩ => ⟨S16x256x2048, .f32⟩
  | .hbm, ⟨44, _⟩ => ⟨S1x1x2048, .f32⟩
  | .hbm, ⟨45, _⟩ => ⟨S16x256x2048, .f32⟩
  | .hbm, ⟨46, _⟩ => ⟨S16x256x2048, .f32⟩
  | .hbm, ⟨47, _⟩ => ⟨S_, .f32⟩
  | .hbm, ⟨48, _⟩ => ⟨S16x256x2048, .f32⟩
  | .hbm, ⟨49, _⟩ => ⟨S16x256x2048, .f32⟩
  | .hbm, ⟨50, _⟩ => ⟨S1x2048x8192, .f32⟩
  | .hbm, ⟨51, _⟩ => ⟨S2048x8192, .f32⟩
  | .hbm, ⟨52, _⟩ => ⟨S1x8192x2048, .f32⟩
  | .hbm, ⟨53, _⟩ => ⟨S8192x2048, .f32⟩
  | .hbm, ⟨54, _⟩ => ⟨S16x256x8192, .f32⟩
  | .hbm, ⟨55, _⟩ => ⟨S_, .f32⟩
  | .hbm, ⟨56, _⟩ => ⟨S16x256x8192, .f32⟩
  | .hbm, ⟨57, _⟩ => ⟨S16x256x8192, .f32⟩
  | .hbm, ⟨58, _⟩ => ⟨S16x256x8192, .f32⟩
  | .hbm, ⟨59, _⟩ => ⟨S16x256x2048, .f32⟩
  | .hbm, ⟨60, _⟩ => ⟨S1x1x2048, .f32⟩
  | .hbm, ⟨61, _⟩ => ⟨S16x256x2048, .f32⟩
  | .hbm, ⟨62, _⟩ => ⟨S16x256x2048, .f32⟩
  | .hbm, ⟨63, _⟩ => ⟨S16x256x2048, .f32⟩
  | .hbm, ⟨64, _⟩ => ⟨S_, .f32⟩
  | .hbm, ⟨65, _⟩ => ⟨S16x256, .f32⟩
  | .hbm, ⟨66, _⟩ => ⟨S16x256x1, .f32⟩
  | .hbm, ⟨67, _⟩ => ⟨S_, .f32⟩
  | .hbm, ⟨68, _⟩ => ⟨S16x256x1, .f32⟩
  | .hbm, ⟨69, _⟩ => ⟨S16x256x1, .f32⟩
  | .hbm, ⟨70, _⟩ => ⟨S16x256x2048, .f32⟩
  | .hbm, ⟨71, _⟩ => ⟨S16x256x2048, .f32⟩
  | .hbm, ⟨72, _⟩ => ⟨S16x256x2048, .f32⟩
  | .hbm, ⟨73, _⟩ => ⟨S_, .f32⟩
  | .hbm, ⟨74, _⟩ => ⟨S16x256, .f32⟩
  | .hbm, ⟨75, _⟩ => ⟨S16x256x1, .f32⟩
  | .hbm, ⟨76, _⟩ => ⟨S_, .f32⟩
  | .hbm, ⟨77, _⟩ => ⟨S16x256x1, .f32⟩
  | .hbm, ⟨78, _⟩ => ⟨S16x256x1, .f32⟩
  | .hbm, ⟨79, _⟩ => ⟨S16x256x2048, .f32⟩
  | .hbm, ⟨80, _⟩ => ⟨S16x256x2048, .f32⟩
  | .hbm, ⟨81, _⟩ => ⟨S_, .f32⟩
  | .hbm, ⟨82, _⟩ => ⟨S16x256x1, .f32⟩
  | .hbm, ⟨83, _⟩ => ⟨S16x256x1, .f32⟩
  | .hbm, ⟨84, _⟩ => ⟨S16x256x1, .f32⟩
  | .hbm, ⟨85, _⟩ => ⟨S16x256x2048, .f32⟩
  | .hbm, ⟨86, _⟩ => ⟨S16x256x2048, .f32⟩
  | .hbm, ⟨87, _⟩ => ⟨S1x1x2048, .f32⟩
  | .hbm, ⟨88, _⟩ => ⟨S2048, .f32⟩
  | .hbm, ⟨89, _⟩ => ⟨S1x1x2048, .f32⟩
  | .hbm, ⟨90, _⟩ => ⟨S16x256x2048, .f32⟩
  | .hbm, ⟨91, _⟩ => ⟨S16x256x2048, .f32⟩
  | .hbm, ⟨92, _⟩ => ⟨S1x1x2048, .f32⟩
  | .hbm, ⟨93, _⟩ => ⟨S2048, .f32⟩
  | .hbm, ⟨94, _⟩ => ⟨S1x1x2048, .f32⟩
  | .hbm, ⟨95, _⟩ => ⟨S16x256x2048, .f32⟩
  | .hbm, ⟨96, _⟩ => ⟨S16x256x2048, .f32⟩
  | .hbm, ⟨97, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call0_cst : Ref sig .tc := ⟨.hbm, 55, rfl⟩
abbrev main_call0_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Kernel7.lean ====
abbrev S4096x2048 : Shape := ⟨2, ![4096, 2048]⟩
abbrev S2x32x12288 : Shape := ⟨3, ![2, 32, 12288]⟩
abbrev S2x2048x13824 : Shape := ⟨3, ![2, 2048, 13824]⟩
abbrev S64x1x12288 : Shape := ⟨3, ![64, 1, 12288]⟩
abbrev S4096x13824 : Shape := ⟨2, ![4096, 13824]⟩
abbrev S512x2048 : Shape := ⟨2, ![512, 2048]⟩
abbrev S1x1x2048 : Shape := ⟨3, ![1, 1, 2048]⟩
abbrev S1x2048x1536 : Shape := ⟨3, ![1, 2048, 1536]⟩
abbrev S512x1536 : Shape := ⟨2, ![512, 1536]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S256x2048 : Shape := ⟨2, ![256, 2048]⟩
abbrev S2048x1536 : Shape := ⟨2, ![2048, 1536]⟩
abbrev S256x1536 : Shape := ⟨2, ![256, 1536]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2x32x12288, .f32⟩
  | .hbm, ⟨2, _⟩ => ⟨S2x2048x13824, .f32⟩
  | .hbm, ⟨3, _⟩ => ⟨S64x1x12288, .f32⟩
  | .hbm, ⟨4, _⟩ => ⟨S2x2048x13824, .bf16⟩
  | .hbm, ⟨5, _⟩ => ⟨S4096x13824, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x1536, .bf16⟩
  | .local _ .vmem, ⟨5, _⟩ => ⟨S1x2048x1536, .bf16⟩
  | .local _ .vmem, ⟨6, _⟩ => ⟨S512x1536, .bf16⟩
  | .local _ .vmem, ⟨7, _⟩ => ⟨S512x1536, .bf16⟩
  | .local _ .vmem, ⟨8, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c1_i32 : BitVec 32 := 1#32
  let c0_i32_0 : BitVec 32 := 0#32
  ![c16_i32.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c9_i32 : BitVec 32 := 9#32
  let c0_i32 : BitVec 32 := 0#32
  let v1 : BitVec 1 := Scalar.cmpi .eq c9_i32 c0_i32
  let c1_i32_0 : BitVec 32 := 1#32
  let v2 : BitVec 32 := Scalar.select v1 c1_i32_0 c9_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  ![c0_i32_4.toNat, c0_i32_5.toNat, v10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S4096x2048 : Shape := ⟨2, ![4096, 2048]⟩
abbrev S2x32x12288 : Shape := ⟨3, ![2, 32, 12288]⟩
abbrev S2x2048x13824 : Shape := ⟨3, ![2, 2048, 13824]⟩
abbrev S16x256x2048 : Shape := ⟨3, ![16, 256, 2048]⟩
abbrev S1x1x12288 : Shape := ⟨3, ![1, 1, 12288]⟩
abbrev S12288 : Shape := ⟨1, ![12288]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S1x2048x13824 : Shape := ⟨3, ![1, 2048, 13824]⟩
abbrev S2048x13824 : Shape := ⟨2, ![2048, 13824]⟩
abbrev S16x256x13824 : Shape := ⟨3, ![16, 256, 13824]⟩
abbrev S4096x13824 : Shape := ⟨2, ![4096, 13824]⟩
abbrev S4096x12288 : Shape := ⟨2, ![4096, 12288]⟩
abbrev S4096x1536 : Shape := ⟨2, ![4096, 1536]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x32x12288, .f32⟩
  | .hbm, ⟨2, _⟩ => ⟨S2x2048x13824, .f32⟩
  | .hbm, ⟨3, _⟩ => ⟨S16x256x2048, .f32⟩
  | .hbm, ⟨4, _⟩ => ⟨S1x1x12288, .f32⟩
  | .hbm, ⟨5, _⟩ => ⟨S12288, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S16x256x2048, .f32⟩
  | .hbm, ⟨19, _⟩ => ⟨S16x256x2048, .f32⟩
  | .hbm, ⟨20, _⟩ => ⟨S16x256x2048, .f32⟩
  | .hbm, ⟨21, _⟩ => ⟨S_, .f32⟩
  | .hbm, ⟨22, _⟩ => ⟨S16x256, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x2048, .f32⟩
  | .hbm, ⟨28, _⟩ => ⟨S16x256x2048, .f32⟩
  | .hbm, ⟨29, _⟩ => ⟨S_, .f32⟩
  | .hbm, ⟨30, _⟩ => ⟨S16x256x1, .f32⟩
  | .hbm, ⟨31, _⟩ => ⟨S16x256x1, .f32⟩
  | .hbm, ⟨32, _⟩ => ⟨S16x256x1, .f32⟩
  | .hbm, ⟨33, _⟩ => ⟨S16x256x2048, .f32⟩
  | .hbm, ⟨34, _⟩ => ⟨S16x256x2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S1x1x2048, .f32⟩
  | .hbm, ⟨39, _⟩ => ⟨S16x256x2048, .f32⟩
  | .hbm, ⟨40, _⟩ => ⟨S16x256x2048, .f32⟩
  | .hbm, ⟨41, _⟩ => ⟨S1x1x2048, .f32⟩
  | .hbm, ⟨42, _⟩ => ⟨S16x256x2048, .f32⟩
  | .hbm, ⟨43, _⟩ => ⟨S16x256x2048, .f32⟩
  | .hbm, ⟨44, _⟩ => ⟨S1x2048x13824, .f32⟩
  | .hbm, ⟨45, _⟩ => ⟨S2048x13824, .f32⟩
  | .hbm, ⟨46, _⟩ => ⟨S16x256x13824, .f32⟩
  | .hbm, ⟨47, _⟩ => ⟨S4096x13824, .f32⟩
  | .hbm, ⟨48, _⟩ => ⟨S4096x12288, .f32⟩
  | .hbm, ⟨49, _⟩ => ⟨S4096x1536, .f32⟩
  | .hbm, ⟨50, _⟩ => ⟨S4096x13824, .f32⟩
  | .hbm, ⟨51, _⟩ => ⟨S4096x13824, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_v0 : Ref sig .tc := ⟨.hbm, 48, rfl⟩
abbrev main_call0_v1 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel8.lean ====
abbrev S4096x2048 : Shape := ⟨2, ![4096, 2048]⟩
abbrev S2x2048x2048 : Shape := ⟨3, ![2, 2048, 2048]⟩
abbrev S2x32x12288 : Shape := ⟨3, ![2, 32, 12288]⟩
abbrev S2x2x2048 : Shape := ⟨3, ![2, 2, 2048]⟩
abbrev S64x1x12288 : Shape := ⟨3, ![64, 1, 12288]⟩
abbrev S4x1x2048 : Shape := ⟨3, ![4, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S1x2048 : Shape := ⟨2, ![1, 2048]⟩
abbrev S256x2048 : Shape := ⟨2, ![256, 2048]⟩
abbrev S2048x2048 : Shape := ⟨2, ![2048, 2048]⟩
abbrev S128x2048 : Shape := ⟨2, ![128, 2048]⟩
abbrev S128 : Shape := ⟨1, ![128]⟩
abbrev S128x1 : Shape := ⟨2, ![128, 1]⟩

abbrev nBuf : Space → Nat
  | .hbm => 11
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2x2048x2048, .f32⟩
  | .hbm, ⟨2, _⟩ => ⟨S4096x2048, .f32⟩
  | .hbm, ⟨3, _⟩ => ⟨S2x32x12288, .f32⟩
  | .hbm, ⟨4, _⟩ => ⟨S2x2x2048, .f32⟩
  | .hbm, ⟨5, _⟩ => ⟨S2x2x2048, .f32⟩
  | .hbm, ⟨6, _⟩ => ⟨S64x1x12288, .f32⟩
  | .hbm, ⟨7, _⟩ => ⟨S4x1x2048, .f32⟩
  | .hbm, ⟨8, _⟩ => ⟨S4x1x2048, .f32⟩
  | .hbm, ⟨9, _⟩ => ⟨S2x2048x2048, .bf16⟩
  | .hbm, ⟨10, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S512x2048, .f32⟩
  | .local _ .vmem, ⟨9, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let c0_i32 : BitVec 32 := 0#32
  let c2_i32 : BitVec 32 := 2#32
  let c0_i32_0 : BitVec 32 := 0#32
  ![c16_i32.toNat, c0_i32.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
variable {F : FTy → Type} [FloatOps F] [Named F]
def κ : String → Option EReal := fun
  | "eps_alpha" => some ((70368744 / 140737483538089 : ℝ) : EReal)
  | "inv_alpha" => some ((8388608 / 11863283 : ℝ) : EReal)
  | _ => none
-- ==== Reference8Ideal.lean ====
abbrev S4096x2048 : Shape := ⟨2, ![4096, 2048]⟩
abbrev S2x2048x2048 : Shape := ⟨3, ![2, 2048, 2048]⟩
abbrev S2x32x12288 : Shape := ⟨3, ![2, 32, 12288]⟩
abbrev S2x2x2048 : Shape := ⟨3, ![2, 2, 2048]⟩
abbrev S16x256x2048 : Shape := ⟨3, ![16, 256, 2048]⟩
abbrev S1x1x12288 : Shape := ⟨3, ![1, 1, 12288]⟩
abbrev S12288 : Shape := ⟨1, ![12288]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S1x1x2048 : Shape := ⟨3, ![1, 1, 2048]⟩
abbrev S16x256 : Shape := ⟨2, ![16, 256]⟩
abbrev S16x256x1 : Shape := ⟨3, ![16, 256, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x2048, .f32⟩
  | .hbm, ⟨2, _⟩ => ⟨S4096x2048, .f32⟩
  | .hbm, ⟨3, _⟩ => ⟨S2x32x12288, .f32⟩
  | .hbm, ⟨4, _⟩ => ⟨S2x2x2048, .f32⟩
  | .hbm, ⟨5, _⟩ => ⟨S2x2x2048, .f32⟩
  | .hbm, ⟨6, _⟩ => ⟨S16x256x2048, .f32⟩
  | .hbm, ⟨7, _⟩ => ⟨S4096x2048, .f32⟩
  | .hbm, ⟨8, _⟩ => ⟨S16x256x2048, .f32⟩
  | .hbm, ⟨9, _⟩ => ⟨S1x1x12288, .f32⟩
  | .hbm, ⟨10, _⟩ => ⟨S12288, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S1x2048x2048, .f32⟩
  | .hbm, ⟨18, _⟩ => ⟨S2048x2048, .f32⟩
  | .hbm, ⟨19, _⟩ => ⟨S16x256x2048, .f32⟩
  | .hbm, ⟨20, _⟩ => ⟨S_, .f32⟩
  | .hbm, ⟨21, _⟩ => ⟨S16x256x2048, .f32⟩
  | .hbm, ⟨22, _⟩ => ⟨S16x256x2048, .f32⟩
  | .hbm, ⟨23, _⟩ => ⟨S1x1x2048, .f32⟩
  | .hbm, ⟨24, _⟩ => ⟨S16x256x2048, .f32⟩
  | .hbm, ⟨25, _⟩ => ⟨S16x256x2048, .f32⟩
  | .hbm, ⟨26, _⟩ => ⟨S16x256x2048, .f32⟩
  | .hbm, ⟨27, _⟩ => ⟨S_, .f32⟩
  | .hbm, ⟨28, _⟩ => ⟨S16x256, .f32⟩
  | .hbm, ⟨29, _⟩ => ⟨S16x256x1, .f32⟩
  | .hbm, ⟨30, _⟩ => ⟨S_, .f32⟩
  | .hbm, ⟨31, _⟩ => ⟨S16x256x1, .f32⟩
  | .hbm, ⟨32, _⟩ => ⟨S16x256x1, .f32⟩
  | .hbm, ⟨33, _⟩ => ⟨S16x256x2048, .f32⟩
  | .hbm, ⟨34, _⟩ => ⟨S16x256x2048, .f32⟩
  | .hbm, ⟨35, _⟩ => ⟨S16x256x2048, .f32⟩
  | .hbm, ⟨36, _⟩ => ⟨S_, .f32⟩
  | .hbm, ⟨37, _⟩ => ⟨S16x256, .f32⟩
  | .hbm, ⟨38, _⟩ => ⟨S16x256x1, .f32⟩
  | .hbm, ⟨39, _⟩ => ⟨S_, .f32⟩
  | .hbm, ⟨40, _⟩ => ⟨S16x256x1, .f32⟩
  | .hbm, ⟨41, _⟩ => ⟨S16x256x1, .f32⟩
  | .hbm, ⟨42, _⟩ => ⟨S16x256x2048, .f32⟩
  | .hbm, ⟨43, _⟩ => ⟨S16x256x2048, .f32⟩
  | .hbm, ⟨44, _⟩ => ⟨S_, .f32⟩
  | .hbm, ⟨45, _⟩ => ⟨S16x256x1, .f32⟩
  | .hbm, ⟨46, _⟩ => ⟨S16x256x1, .f32⟩
  | .hbm, ⟨47, _⟩ => ⟨S16x256x1, .f32⟩
  | .hbm, ⟨48, _⟩ => ⟨S16x256x2048, .f32⟩
  | .hbm, ⟨49, _⟩ => ⟨S16x256x2048, .f32⟩
  | .hbm, ⟨50, _⟩ => ⟨S1x1x2048, .f32⟩
  | .hbm, ⟨51, _⟩ => ⟨S2048, .f32⟩
  | .hbm, ⟨52, _⟩ => ⟨S1x1x2048, .f32⟩
  | .hbm, ⟨53, _⟩ => ⟨S16x256x2048, .f32⟩
  | .hbm, ⟨54, _⟩ => ⟨S16x256x2048, .f32⟩
  | .hbm, ⟨55, _⟩ => ⟨S1x1x2048, .f32⟩
  | .hbm, ⟨56, _⟩ => ⟨S2048, .f32⟩
  | .hbm, ⟨57, _⟩ => ⟨S1x1x2048, .f32⟩
  | .hbm, ⟨58, _⟩ => ⟨S16x256x2048, .f32⟩
  | .hbm, ⟨59, _⟩ => ⟨S16x256x2048, .f32⟩
  | .hbm, ⟨60, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Kernel9.lean ====
abbrev S4096x1024 : Shape := ⟨2, ![4096, 1024]⟩
abbrev S4096x13824 : Shape := ⟨2, ![4096, 13824]⟩
abbrev S2x3x1024 : Shape := ⟨3, ![2, 3, 1024]⟩
abbrev S2x3x1024x2048 : Shape := ⟨4, ![2, 3, 1024, 2048]⟩
abbrev S4096x2048 : Shape := ⟨2, ![4096, 2048]⟩
abbrev S512x1024 : Shape := ⟨2, ![512, 1024]⟩
abbrev S512x3072 : Shape := ⟨2, ![512, 3072]⟩
abbrev S8x3072 : Shape := ⟨2, ![8, 3072]⟩
abbrev S1x3x1024 : Shape := ⟨3, ![1, 3, 1024]⟩
abbrev S512x6144 : Shape := ⟨2, ![512, 6144]⟩
abbrev S1x3x1024x2048 : Shape := ⟨4, ![1, 3, 1024, 2048]⟩
abbrev S512x2048 : Shape := ⟨2, ![512, 2048]⟩
abbrev S512x1 : Shape := ⟨2, ![512, 1]⟩
abbrev S3x1024 : Shape := ⟨2, ![3, 1024]⟩
abbrev S512x256 : Shape := ⟨2, ![512, 256]⟩
abbrev S1x256 : Shape := ⟨2, ![1, 256]⟩
abbrev S1x1x1024x256 : Shape := ⟨4, ![1, 1, 1024, 256]⟩
abbrev S1024x256 : Shape := ⟨2, ![1024, 256]⟩

abbrev nBuf : Space → Nat
  | .hbm => 7
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x13824, .bf16⟩
  | .hbm, ⟨3, _⟩ => ⟨S2x3x1024, .f32⟩
  | .hbm, ⟨4, _⟩ => ⟨S2x3x1024x2048, .f32⟩
  | .hbm, ⟨5, _⟩ => ⟨S2x3x1024x2048, .bf16⟩
  | .hbm, ⟨6, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x3072, .bf16⟩
  | .local _ .vmem, ⟨5, _⟩ => ⟨S512x3072, .bf16⟩
  | .local _ .vmem, ⟨6, _⟩ => ⟨S8x3072, .bf16⟩
  | .local _ .vmem, ⟨7, _⟩ => ⟨S8x3072, .bf16⟩
  | .local _ .vmem, ⟨8, _⟩ => ⟨S8x3072, .bf16⟩
  | .local _ .vmem, ⟨9, _⟩ => ⟨S8x3072, .bf16⟩
  | .local _ .vmem, ⟨10, _⟩ => ⟨S1x3x1024, .f32⟩
  | .local _ .vmem, ⟨11, _⟩ => ⟨S512x6144, .bf16⟩
  | .local _ .vmem, ⟨12, _⟩ => ⟨S512x6144, .bf16⟩
  | .local _ .vmem, ⟨13, _⟩ => ⟨S1x3x1024x2048, .bf16⟩
  | .local _ .vmem, ⟨14, _⟩ => ⟨S512x2048, .bf16⟩
  | .local _ .vmem, ⟨15, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S4096x1024 : Shape := ⟨2, ![4096, 1024]⟩
abbrev S4096x13824 : Shape := ⟨2, ![4096, 13824]⟩
abbrev S2x3x1024 : Shape := ⟨3, ![2, 3, 1024]⟩
abbrev S2x3x1024x2048 : Shape := ⟨4, ![2, 3, 1024, 2048]⟩
abbrev S4096x1536 : Shape := ⟨2, ![4096, 1536]⟩
abbrev S4096x12288 : Shape := ⟨2, ![4096, 12288]⟩
abbrev S16x256x13824 : Shape := ⟨3, ![16, 256, 13824]⟩
abbrev S16x256x1024 : Shape := ⟨3, ![16, 256, 1024]⟩
abbrev S1x3x1024 : Shape := ⟨3, ![1, 3, 1024]⟩
abbrev S3x1024 : Shape := ⟨2, ![3, 1024]⟩
abbrev S_ : Shape := ⟨0, ![]⟩
abbrev S16x258x1024 : Shape := ⟨3, ![16, 258, 1024]⟩
abbrev S1x1024 : Shape := ⟨2, ![1, 1024]⟩
abbrev S1024 : Shape := ⟨1, ![1024]⟩
abbrev S1x1x1024 : Shape := ⟨3, ![1, 1, 1024]⟩
abbrev S1x3x1024x2048 : Shape := ⟨4, ![1, 3, 1024, 2048]⟩
abbrev S3x1024x2048 : Shape := ⟨3, ![3, 1024, 2048]⟩
abbrev S16x256x6144 : Shape := ⟨3, ![16, 256, 6144]⟩
abbrev S16x256x2048 : Shape := ⟨3, ![16, 256, 2048]⟩
abbrev S1x1024x2048 : Shape := ⟨3, ![1, 1024, 2048]⟩
abbrev S1024x2048 : Shape := ⟨2, ![1024, 2048]⟩
abbrev S4096x2048 : Shape := ⟨2, ![4096, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x13824, .bf16⟩
  | .hbm, ⟨3, _⟩ => ⟨S2x3x1024, .f32⟩
  | .hbm, ⟨4, _⟩ => ⟨S2x3x1024x2048, .f32⟩
  | .hbm, ⟨5, _⟩ => ⟨S4096x13824, .f32⟩
  | .hbm, ⟨6, _⟩ => ⟨S4096x1536, .f32⟩
  | .hbm, ⟨7, _⟩ => ⟨S4096x12288, .f32⟩
  | .hbm, ⟨8, _⟩ => ⟨S4096x13824, .f32⟩
  | .hbm, ⟨9, _⟩ => ⟨S16x256x13824, .f32⟩
  | .hbm, ⟨10, _⟩ => ⟨S4096x1024, .f32⟩
  | .hbm, ⟨11, _⟩ => ⟨S16x256x1024, .f32⟩
  | .hbm, ⟨12, _⟩ => ⟨S4096x1024, .f32⟩
  | .hbm, ⟨13, _⟩ => ⟨S16x256x1024, .f32⟩
  | .hbm, ⟨14, _⟩ => ⟨S1x3x1024, .f32⟩
  | .hbm, ⟨15, _⟩ => ⟨S3x1024, .f32⟩
  | .hbm, ⟨16, _⟩ => ⟨S16x256x1024, .f32⟩
  | .hbm, ⟨17, _⟩ => ⟨S16x256x1024, .f32⟩
  | .hbm, ⟨18, _⟩ => ⟨S16x256x1024, .f32⟩
  | .hbm, ⟨19, _⟩ => ⟨S16x256x1024, .f32⟩
  | .hbm, ⟨20, _⟩ => ⟨S_, .i32⟩
  | .hbm, ⟨21, _⟩ => ⟨S_, .f32⟩
  | .hbm, ⟨22, _⟩ => ⟨S16x258x1024, .f32⟩
  | .hbm, ⟨23, _⟩ => ⟨S1x1024, .f32⟩
  | .hbm, ⟨24, _⟩ => ⟨S1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S1x1024, .f32⟩
  | .hbm, ⟨30, _⟩ => ⟨S1024, .f32⟩
  | .hbm, ⟨31, _⟩ => ⟨S16x256x1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S1x1024, .f32⟩
  | .hbm, ⟨37, _⟩ => ⟨S1024, .f32⟩
  | .hbm, ⟨38, _⟩ => ⟨S16x256x1024, .f32⟩
  | .hbm, ⟨39, _⟩ => ⟨S1x1x1024, .f32⟩
  | .hbm, ⟨40, _⟩ => ⟨S16x256x1024, .f32⟩
  | .hbm, ⟨41, _⟩ => ⟨S16x256x1024, .f32⟩
  | .hbm, ⟨42, _⟩ => ⟨S16x256x1024, .f32⟩
  | .hbm, ⟨43, _⟩ => ⟨S16x256x1024, .f32⟩
  | .hbm, ⟨44, _⟩ => ⟨S1x3x1024x2048, .f32⟩
  | .hbm, ⟨45, _⟩ => ⟨S3x1024x2048, .f32⟩
  | .hbm, ⟨46, _⟩ => ⟨S16x256x6144, .f32⟩
  | .hbm, ⟨47, _⟩ => ⟨S16x256x6144, .f32⟩
  | .hbm, ⟨48, _⟩ => ⟨S16x256x6144, .f32⟩
  | .hbm, ⟨49, _⟩ => ⟨S_, .f32⟩
  | .hbm, ⟨50, _⟩ => ⟨S16x256x6144, .f32⟩
  | .hbm, ⟨51, _⟩ => ⟨S16x256x6144, .f32⟩
  | .hbm, ⟨52, _⟩ => ⟨S_, .f32⟩
  | .hbm, ⟨53, _⟩ => ⟨S16x256x6144, .f32⟩
  | .hbm, ⟨54, _⟩ => ⟨S16x256x6144, .f32⟩
  | .hbm, ⟨55, _⟩ => ⟨S16x256x2048, .f32⟩
  | .hbm, ⟨56, _⟩ => ⟨S16x256x2048, .f32⟩
  | .hbm, ⟨57, _⟩ => ⟨S16x256x2048, .f32⟩
  | .hbm, ⟨58, _⟩ => ⟨S1x1024x2048, .f32⟩
  | .hbm, ⟨59, _⟩ => ⟨S1024x2048, .f32⟩
  | .hbm, ⟨60, _⟩ => ⟨S16x256x2048, .f32⟩
  | .hbm, ⟨61, _⟩ => ⟨S16x256x2048, .f32⟩
  | .hbm, ⟨62, _⟩ => ⟨S1x1024x2048, .f32⟩
  | .hbm, ⟨63, _⟩ => ⟨S1024x2048, .f32⟩
  | .hbm, ⟨64, _⟩ => ⟨S16x256x2048, .f32⟩
  | .hbm, ⟨65, _⟩ => ⟨S16x256x2048, .f32⟩
  | .hbm, ⟨66, _⟩ => ⟨S16x256x2048, .f32⟩
  | .hbm, ⟨67, _⟩ => ⟨S1x1024x2048, .f32⟩
  | .hbm, ⟨68, _⟩ => ⟨S1024x2048, .f32⟩
  | .hbm, ⟨69, _⟩ => ⟨S16x256x2048, .f32⟩
  | .hbm, ⟨70, _⟩ => ⟨S16x256x2048, .f32⟩
  | .hbm, ⟨71, _⟩ => ⟨S16x256x2048, .f32⟩
  | .hbm, ⟨72, _⟩ => ⟨S4096x2048, .f32⟩
  | .hbm, ⟨73, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst : Ref sig .tc := ⟨.hbm, 49, rfl⟩
abbrev main_v40 : Ref sig .tc := ⟨.hbm, 50, rfl⟩
abbrev main_v41 : Ref sig .tc := ⟨.hbm, 51, rfl⟩
abbrev main_cst_0 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩

abbrev nD : Nat := 1
abbrev τ : Topo := Topo.v7x

variable {F : FTy → Type} [FloatOps F]
-- ==== Kernel10.lean ====
abbrev S4096x2048 : Shape := ⟨2, ![4096, 2048]⟩
abbrev S2x32x12288 : Shape := ⟨3, ![2, 32, 12288]⟩
abbrev S2x2048x13824 : Shape := ⟨3, ![2, 2048, 13824]⟩
abbrev S64x1x12288 : Shape := ⟨3, ![64, 1, 12288]⟩
abbrev S4096x2560 : Shape := ⟨2, ![4096, 2560]⟩
abbrev S512x2048 : Shape := ⟨2, ![512, 2048]⟩
abbrev S1x1x2048 : Shape := ⟨3, ![1, 1, 2048]⟩
abbrev S1x2048x512 : Shape := ⟨3, ![1, 2048, 512]⟩
abbrev S512x512 : Shape := ⟨2, ![512, 512]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2x32x12288, .f32⟩
  | .hbm, ⟨2, _⟩ => ⟨S2x2048x13824, .f32⟩
  | .hbm, ⟨3, _⟩ => ⟨S64x1x12288, .f32⟩
  | .hbm, ⟨4, _⟩ => ⟨S2x2048x13824, .bf16⟩
  | .hbm, ⟨5, _⟩ => ⟨S4096x2560, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  let c0_i32_0 : BitVec 32 := 0#32
  let c0_i32_1 : BitVec 32 := 0#32
  ![c48_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c48_i32 : BitVec 32 := 48#32
  let c0_i32 : BitVec 32 := 0#32
  let c1_i32 : BitVec 32 := 1#32
  let c0_i32_0 : BitVec 32 := 0#32
  ![c48_i32.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c27_i32 : BitVec 32 := 27#32
  let c0_i32 : BitVec 32 := 0#32
  let v1 : BitVec 1 := Scalar.cmpi .eq c27_i32 c0_i32
  let c1_i32 : BitVec 32 := 1#32
  let v2 : BitVec 32 := Scalar.select v1 c1_i32 c27_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c1_i32_3 : BitVec 32 := 1#32
  let c0_i32_4 : BitVec 32 := 0#32
  let c0_i32_5 : BitVec 32 := 0#32
  ![c1_i32_3.toNat, c0_i32_4.toNat, v10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S4096x2048 : Shape := ⟨2, ![4096, 2048]⟩
abbrev S2x32x12288 : Shape := ⟨3, ![2, 32, 12288]⟩
abbrev S2x2048x13824 : Shape := ⟨3, ![2, 2048, 13824]⟩
abbrev S16x256x2048 : Shape := ⟨3, ![16, 256, 2048]⟩
abbrev S1x1x12288 : Shape := ⟨3, ![1, 1, 12288]⟩
abbrev S12288 : Shape := ⟨1, ![12288]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S1x2048x13824 : Shape := ⟨3, ![1, 2048, 13824]⟩
abbrev S2048x13824 : Shape := ⟨2, ![2048, 13824]⟩
abbrev S2048x2560 : Shape := ⟨2, ![2048, 2560]⟩
abbrev S16x256x2560 : Shape := ⟨3, ![16, 256, 2560]⟩
abbrev S4096x2560 : Shape := ⟨2, ![4096, 2560]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x32x12288, .f32⟩
  | .hbm, ⟨2, _⟩ => ⟨S2x2048x13824, .f32⟩
  | .hbm, ⟨3, _⟩ => ⟨S16x256x2048, .f32⟩
  | .hbm, ⟨4, _⟩ => ⟨S1x1x12288, .f32⟩
  | .hbm, ⟨5, _⟩ => ⟨S12288, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S16x256x2048, .f32⟩
  | .hbm, ⟨19, _⟩ => ⟨S16x256x2048, .f32⟩
  | .hbm, ⟨20, _⟩ => ⟨S16x256x2048, .f32⟩
  | .hbm, ⟨21, _⟩ => ⟨S_, .f32⟩
  | .hbm, ⟨22, _⟩ => ⟨S16x256, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x2048, .f32⟩
  | .hbm, ⟨28, _⟩ => ⟨S16x256x2048, .f32⟩
  | .hbm, ⟨29, _⟩ => ⟨S_, .f32⟩
  | .hbm, ⟨30, _⟩ => ⟨S16x256x1, .f32⟩
  | .hbm, ⟨31, _⟩ => ⟨S16x256x1, .f32⟩
  | .hbm, ⟨32, _⟩ => ⟨S16x256x1, .f32⟩
  | .hbm, ⟨33, _⟩ => ⟨S16x256x2048, .f32⟩
  | .hbm, ⟨34, _⟩ => ⟨S16x256x2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S1x1x2048, .f32⟩
  | .hbm, ⟨39, _⟩ => ⟨S16x256x2048, .f32⟩
  | .hbm, ⟨40, _⟩ => ⟨S16x256x2048, .f32⟩
  | .hbm, ⟨41, _⟩ => ⟨S1x1x2048, .f32⟩
  | .hbm, ⟨42, _⟩ => ⟨S16x256x2048, .f32⟩
  | .hbm, ⟨43, _⟩ => ⟨S16x256x2048, .f32⟩
  | .hbm, ⟨44, _⟩ => ⟨S1x2048x13824, .f32⟩
  | .hbm, ⟨45, _⟩ => ⟨S2048x13824, .f32⟩
  | .hbm, ⟨46, _⟩ => ⟨S2048x2560, .f32⟩
  | .hbm, ⟨47, _⟩ => ⟨S16x256x2560, .f32⟩
  | .hbm, ⟨48, _⟩ => ⟨S4096x2560, .f32⟩
  | .hbm, ⟨49, _⟩ => ⟨S4096x2560, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Proof.Attn.lean ====
/-
Softmax attention at one query row and one result column, over the extended reals.

The kernel takes powers of two of scores that carry a factor 1 / log 2, sums the weighted values and the weights, and
divides once at the end. The reference takes exponentials, divides every weight by the sum of the weights, and sums the
weighted values. `base_two_eq_softmax` says that the two agree, whatever the values are.
-/
module
public import Idealize.ShloMosaic.Lib.Pipeline.ValueKit
public import Idealize.ShloMosaic.Lib.Pointwise

@[expose] public section
noncomputable section
namespace Cert.Attn
open Idealize.ShloMosaic

variable {n : ℕ}

/-- A row of scores that has a greatest entry has that entry as its maximum from minus infinity. -/
theorem fold_max_eq (S : Fin n → EReal) (k₀ : Fin n) (h : ∀ k, S k ≤ S k₀) :
    Finset.univ.fold max ⊥ S = S k₀ :=
  le_antisymm (Finset.fold_max_le (S k₀) |>.mpr ⟨bot_le, fun k _ => h k⟩)
    (Finset.le_fold_max (S k₀) |>.mpr (Or.inr ⟨k₀, Finset.mem_univ _, le_rfl⟩))

/-- Sums of reals are the same in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real factor may be taken into a sum of extended reals. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- One attention result as the kernel computes it: weights in base two, one division at the end. -/
def baseTwo (S V : Fin n → EReal) : EReal :=
  Ideal.div (∑ k, Ideal.exp2 (S k - Finset.univ.fold max ⊥ S) * V k)
    (∑ k, Ideal.exp2 (S k - Finset.univ.fold max ⊥ S) * 1)

/-- One attention result as the reference computes it: every weight is divided by the sum of the weights. -/
def softmax (A V : Fin n → EReal) : EReal :=
  ∑ k, Ideal.div (Ideal.exp (A k - Finset.univ.fold max ⊥ A))
    (∑ k', Ideal.exp (A k' - Finset.univ.fold max ⊥ A)) * V k

theorem exp2_coe_sub (a b : ℝ) :
    Ideal.exp2 (((a * (Real.log 2)⁻¹ : ℝ) : EReal) - ((b * (Real.log 2)⁻¹ : ℝ) : EReal)) = ((Real.exp (a - b) : ℝ) : EReal) := by
  rw [← EReal.coe_sub]
  show ((Real.rpow 2 _ : ℝ) : EReal) = _
  congr 1
  show (2 : ℝ) ^ (_ : ℝ) = _
  rw [Real.rpow_def_of_pos (by norm_num)]
  congr 1
  have : Real.log 2 ≠ 0 := (Real.log_pos (by norm_num)).ne'
  field_simp

theorem exp_coe_sub (a b : ℝ) : Ideal.exp ((a : EReal) - (b : EReal)) = ((Real.exp (a - b) : ℝ) : EReal) := by
  rw [← EReal.coe_sub]; rfl

/-- With real scores the two forms of one attention result agree for any values. -/
theorem base_two_eq_softmax (hn : 0 < n) (s : Fin n → ℝ) (S A V : Fin n → EReal)
    (hS : ∀ k, S k = ((s k * (Real.log 2)⁻¹ : ℝ) : EReal)) (hA : ∀ k, A k = (s k : EReal)) :
    baseTwo S V = softmax A V := by
  haveI : Nonempty (Fin n) := ⟨⟨0, hn⟩⟩
  obtain ⟨k₀, -, hk⟩ := Finset.exists_max_image Finset.univ s Finset.univ_nonempty
  have hl : 0 ≤ (Real.log 2)⁻¹ := inv_nonneg.mpr (Real.log_nonneg (by norm_num))
  have hMS : Finset.univ.fold max ⊥ S = S k₀ := fold_max_eq S k₀ fun k => by
    rw [hS, hS]; exact EReal.coe_le_coe_iff.mpr (mul_le_mul_of_nonneg_right (hk k (Finset.mem_univ _)) hl)
  have hMA : Finset.univ.fold max ⊥ A = A k₀ := fold_max_eq A k₀ fun k => by
    rw [hA, hA]; exact EReal.coe_le_coe_iff.mpr (hk k (Finset.mem_univ _))
  unfold baseTwo softmax
  rw [hMS, hMA]
  simp only [hS, hA, exp2_coe_sub, exp_coe_sub, mul_one]
  rw [← coe_sum]
  have hpos : 0 < ∑ k, Real.exp (s k - s k₀) := Finset.sum_pos (fun k _ => Real.exp_pos _) Finset.univ_nonempty
  rw [Ideal.div_coe hpos.ne', sum_mul_coe _ _ _ (by positivity)]
  refine Finset.sum_congr rfl fun k _ => ?_
  rw [Ideal.div_coe hpos.ne', mul_assoc, mul_assoc, mul_comm (V k)]

end Cert.Attn
end
-- ==== Proof.Rows.lean ====
/-
One head's row arithmetic of the grouped-query attention, as functions of a row's 128 lanes.

`normed` is the RMS normalisation with its gain, `roped` the kernel's rotary embedding (every lane takes its partner, 32
lanes off, times a signed sine), and `rowOut` what the kernel leaves of one query row against all keys and values.
-/
module
public import proofs.«01_k».proof.Proof.Attn

@[expose] public section
noncomputable section
namespace Cert.Attn
open Idealize.ShloMosaic

/-- A row of 128 lanes divided by its root mean square, times the gain. -/
def normed (g q : Fin 128 → EReal) (d : Fin 128) : EReal :=
  q d * Ideal.rsqrt (Ideal.div (∑ e, q e * q e) (Ideal.ofBits .f32 0x43000000#32) + Ideal.ofBits .f32 0x358637BD#32) * g d

/-- The rotary embedding as the kernel computes it: a lane whose bit 5 is clear takes the lane 32 above, any other the
lane 32 below. -/
def roped (C S x : Fin 128 → EReal) (d : Fin 128) : EReal :=
  x d * C d + Scalar.select (IntOp.cmpi CmpIPredicate.eq (IntOp.andi (BitVec.ofNat 32 ↑d) 32#32) 0#32)
    (x ⟨(↑d + 128 - 96) % 128, Nat.mod_lt _ (by norm_num)⟩) (x ⟨(↑d + 128 - 32) % 128, Nat.mod_lt _ (by norm_num)⟩) * S d

/-- The scores of one query row against all keys, with the factor `ss` on the query. -/
def scores (ss : EReal) (g C S q : Fin 128 → EReal) (K : Fin 2304 → Fin 128 → EReal) (s : Fin 2304) : EReal :=
  ∑ d, roped C S (normed g q) d * ss * K s d

/-- One result of the kernel: the weighted sum of a value column over the weighted sum of a second column `W`. -/
def rowOut (ss : EReal) (g C S q : Fin 128 → EReal) (K : Fin 2304 → Fin 128 → EReal) (V W : Fin 2304 → EReal) : EReal :=
  Ideal.div
    (∑ s, Ideal.exp2 (scores ss g C S q K s
      - Finset.univ.fold max (Ideal.ofBits .f32 0xFF800000#32) (scores ss g C S q K)) * V s)
    (∑ s, Ideal.exp2 (scores ss g C S q K s
      - Finset.univ.fold max (Ideal.ofBits .f32 0xFF800000#32) (scores ss g C S q K)) * W s)

end Cert.Attn
end
-- ==== Proof.Pieces.lean ====
/-
Stores and loads of rectangles of a matrix.
-/
module
public import Idealize.ShloMosaic.Lib.Pipeline.ValueKit
public import Idealize.ShloMosaic.Lib.Pipeline.ReadBack
public import Idealize.ShloMosaic.Lib.Pointwise

@[expose] public section
noncomputable section
namespace Cert.Pieces
open Idealize.ShloMosaic Idealize.ShloMosaic.TcCoe Idealize.SL.Sem

/-- Stores that are blocks of `G` leave `G` at every index one of them covers. -/
theorem canon_of_piecesOf {s : Shape} {e : EltTy} (G : s.Idx → Elt Ideal e) {L : List (View.Piece (Elt Ideal) s e)} {y : s.Idx}
    (h : View.PiecesOf G L) (hc : ∃ p ∈ L, y ∈ p.1.set) : View.canon L y = G y := by
  rw [← List.append_nil L]
  exact View.canon_append_of_piecesOf G [] L h y hc

/-- A rectangle of a matrix embeds its row `a` and column `b` at its own offsets. -/
theorem emb2 {s0 s1 o0 o1 n0 n1 : ℕ} (h) (a : Fin n0) (b : Fin n1) :
    (Rect.unit (s := ⟨2, ![s0, s1]⟩) ![o0, o1] ![n0, n1] h).emb (ix2 a b)
      = ix2 ⟨o0 + a, by have := h 0; have := a.isLt; simp at *; omega⟩ ⟨o1 + b, by have := h 1; have := b.isLt; simp at *; omega⟩ := by
  blk_ext

/-- A rectangle of a matrix holds the indices between its bounds. -/
theorem mem2 {s0 s1 o0 o1 n0 n1 : ℕ} (h) (y : (⟨2, ![s0, s1]⟩ : Shape).Idx)
    (h0 : o0 ≤ (y 0 : ℕ) ∧ (y 0 : ℕ) < o0 + n0) (h1 : o1 ≤ (y 1 : ℕ) ∧ (y 1 : ℕ) < o1 + n1) :
    y ∈ (Rect.unit (s := ⟨2, ![s0, s1]⟩) ![o0, o1] ![n0, n1] h).set := by
  mem_blk
  exact Fin.forall_fin_two.mpr ⟨h0, h1⟩

/-- Loading a whole matrix loads every index in its place. -/
theorem idx2 {s0 s1 : ℕ} (h) (a : Fin s0) (b : Fin s1) :
    (Rect.unit (s := ⟨2, ![s0, s1]⟩) ![0, 0] ![s0, s1] h).toLoadRect.idx (ix2 a b) = ix2 a b := by
  refine (emb2 h a b).trans ?_
  simp only [Nat.zero_add]

/-- Loading a rectangle reads the block at the rectangle's offsets. -/
theorem ld_unit {s : Shape} {e : EltTy} {size : Fin s.rank → ℕ} (X : s.Idx → Elt Ideal e) (off off' : Fin s.rank → ℕ) (ho : off = off') (h) (h')
    (x : (Rect.unit (s := s) off size h).shape.Idx) :
    View.ld X (Rect.unit off size h) x = X ((Rect.unit (s := s) off' size h').emb x) := by
  subst ho; rfl

/-- Rows from `o` on embed at their own offset. -/
theorem emb_row {N C o n : ℕ} (h) (a : Fin n) (b : Fin C) :
    (Rect.unit (s := ⟨2, ![N, C]⟩) ![o, 0] ![n, C] h).emb (ix2 a b) = ix2 ⟨o + a, by have := h 0; have := a.isLt; simp at *; omega⟩ b := by
  refine (emb2 h a b).trans ?_
  simp only [Nat.zero_add]

/-- Rows from `o` on are loaded from their own offset. -/
theorem ld_row {N C : ℕ} {e : EltTy} (X : (⟨2, ![N, C]⟩ : Shape).Idx → Elt Ideal e) {o n : ℕ} (h) (a : Fin n) (b : Fin C) :
    View.ld X (Rect.unit (s := ⟨2, ![N, C]⟩) ![o, 0] ![n, C] h) (ix2 a b)
      = X (ix2 ⟨o + a, by have := h 0; have := a.isLt; simp at *; omega⟩ b) := by
  rw [ld_unit X _ _ rfl h h]
  exact congrArg X (emb_row h a b)

theorem mem_row {N C o n : ℕ} (h) (a : Fin N) (b : Fin C) (ho : o ≤ (a : ℕ)) (hn : (a : ℕ) < o + n) :
    ix2 a b ∈ (Rect.unit (s := ⟨2, ![N, C]⟩) ![o, 0] ![n, C] h).set :=
  mem2 h _ ⟨ho, hn⟩ ⟨Nat.zero_le _, by simpa using b.isLt⟩

end Cert.Pieces
end
-- ==== Proof.Block.lean ====
/-
What one grid point of the attention kernel leaves in its output block.

The 32 stores of a point (8 chunks of 256 query rows by 4 heads) are all the same function of the point's blocks and of
the two scratch buffers, which the point fills before it reads them: the keys, normalised and for the latent rows
rotated, and the values with 128 columns of ones beside them.
-/
module
public import proofs.«01_k».proof.Proof.Gen.KernelIdeal.Value
public import proofs.«01_k».proof.Proof.Rows
public import proofs.«01_k».proof.Proof.Pieces
public import Idealize.ShloMosaic.Lib.Pipeline.ValueKit
public import Idealize.ShloMosaic.Lib.Pipeline.ReadBack
public import Idealize.ShloMosaic.Lib.Pointwise

@[expose] public section
set_option maxRecDepth 16384
noncomputable section
namespace Cert.KernelIdeal.Gen
open Idealize.ShloMosaic Idealize.ShloMosaic.TcCoe Idealize.SL.Sem Cert.Attn Cert.Pieces

/-- The factor on the query. -/
abbrev ss : EReal := Named.named (F := Ideal) (φ := .f32) κ "score_scale" 0x3E0293EE#32

/-- One chunk of 256 query rows of one head. -/
def chunk (g : Vec Ideal S1x1x128 .f32) (C S : Vec Ideal S256x128 .f32) (q : Vec Ideal S256x128 .bf16)
    (K : Vec Ideal S2304x128 .bf16) (V : Vec Ideal S2304x256 .bf16) : FVec Ideal S256x128 .bf16 :=
  k0_pay16 (k0_pay14 g C q) (k0_pay15 g S q) K V

/-- A chunk at a row and a lane is the row arithmetic of that row. -/
theorem chunk_at (g : Vec Ideal S1x1x128 .f32) (C S : Vec Ideal S256x128 .f32) (q : Vec Ideal S256x128 .bf16)
    (K : Vec Ideal S2304x128 .bf16) (V : Vec Ideal S2304x256 .bf16) (a : Fin 256) (b : Fin 128) :
    chunk g C S q K V (ix2 a b) = rowOut ss (fun d => g (ix3 0 0 d)) (fun d => C (ix2 a d)) (fun d => S (ix2 a d))
      (fun d => q (ix2 a d)) (fun s d => K (ix2 s d)) (fun s => V (ix2 s ⟨b, by omega⟩)) (fun s => V (ix2 s ⟨128 + b, by omega⟩)) := by
  pointwise [chunk, k0_pay16, k0_pay15, k0_pay14, k0_pay13, k0_pay12, k0_pay11, k0_pay10]
  rfl

/-- The keys of one point: the latent rows normalised and rotated, then the context rows normalised. -/
def keys (g : Vec Ideal S1x1x128 .f32) (C S : Vec Ideal S2048x128 .f32) (k : Vec Ideal S2048x128 .bf16)
    (kc : Vec Ideal S256x128 .bf16) : Vec Ideal S2304x128 .bf16 := fun i =>
  if h : (i 0 : ℕ) < 2048 then
    roped (fun d => C (ix2 ⟨i 0, h⟩ d)) (fun d => S (ix2 ⟨i 0, h⟩ d)) (normed (fun d => g (ix3 0 0 d)) (fun d => k (ix2 ⟨i 0, h⟩ d))) (i 1)
  else
    have h' : (i 0 : ℕ) < 2304 := (i 0).isLt
    normed (fun d => g (ix3 0 0 d)) (fun d => kc (ix2 ⟨i 0 - 2048, by omega⟩ d)) (i 1)

/-- The values of one point: the latent rows, then the context rows; to their right 128 columns of ones. -/
def vals (v : Vec Ideal S2048x128 .bf16) (vc : Vec Ideal S256x128 .bf16) : Vec Ideal S2304x256 .bf16 := fun i =>
  if h1 : (i 1 : ℕ) < 128 then
    if h : (i 0 : ℕ) < 2048 then v (ix2 ⟨i 0, h⟩ ⟨i 1, h1⟩)
    else
      have h' : (i 0 : ℕ) < 2304 := (i 0).isLt
      vc (ix2 ⟨i 0 - 2048, by omega⟩ ⟨i 1, h1⟩)
  else Ideal.ofBits .bf16 0x3F80#16

/-- The key scratch read back whole after its two stores. -/
theorem keys_read (g : Vec Ideal S1x1x128 .f32) (C S : Vec Ideal S2048x128 .f32) (k : Vec Ideal S2048x128 .bf16)
    (kc : Vec Ideal S256x128 .bf16) (h₁ h₂ h₃) :
    (View.whole cc0_scratch0).readCov (Val := Elt Ideal)
      [⟨Rect.unit ![2048, 0] ![256, 128] h₁, k0_pay6 (k0_pay2 g) (k0_pay4 kc) (k0_pay5 kc)⟩,
       ⟨Rect.unit ![0, 0] ![2048, 128] h₂, k0_pay3 g k C S⟩]
      (Rect.unit ![0, 0] ![2304, 128] h₃).toLoadRect = keys g C S k kc := by
  rw [View.readCov_eq_canon']
  funext y
  obtain ⟨a, b, rfl⟩ : ∃ (a : Fin 2304) (b : Fin 128), y = ix2 a b := ⟨y 0, y 1, by idx_ext⟩
  rw [canon_of_piecesOf (keys g C S k kc)]
  · exact congrArg _ (idx2 _ a b)
  · refine ⟨fun x => ?_, fun x => ?_, trivial⟩
    · idx_vars x
      refine Eq.trans ?_ (congrArg _ (emb2 h₁ x0 x1)).symm
      pointwise [k0_pay6, k0_pay2, k0_pay4, k0_pay5, keys, normed]
    · idx_vars x
      refine Eq.trans ?_ (congrArg _ (emb2 h₂ x0 x1)).symm
      pointwise [k0_pay3, k0_pay2, keys, normed, roped]
  · have hi : (Rect.unit (s := S2304x128) ![0, 0] ![2304, 128] h₃).toLoadRect.idx (ix2 a b) = ix2 a b := idx2 _ a b
    rw [hi]
    rcases lt_or_ge (a : ℕ) 2048 with h | h
    · exact ⟨_, List.mem_cons_of_mem _ (List.mem_cons_self ..), mem2 h₂ _ ⟨Nat.zero_le _, by simpa using h⟩ ⟨Nat.zero_le _, by simpa using b.isLt⟩⟩
    · exact ⟨_, List.mem_cons_self .., mem2 h₁ _ ⟨h, by simpa using a.isLt⟩ ⟨Nat.zero_le _, by simpa using b.isLt⟩⟩

/-- The value scratch read back whole after its three stores. -/
theorem vals_read (v : Vec Ideal S2048x128 .bf16) (vc : Vec Ideal S256x128 .bf16) (h₁ h₂ h₃ h₄) :
    (View.whole cc0_scratch1).readCov (Val := Elt Ideal)
      [⟨Rect.unit ![0, 128] ![2304, 128] h₁, k0_pay9 (F := Ideal)⟩,
       ⟨Rect.unit ![2048, 0] ![256, 128] h₂, k0_pay8 vc⟩,
       ⟨Rect.unit ![0, 0] ![2048, 128] h₃, k0_pay7 v⟩]
      (Rect.unit ![0, 0] ![2304, 256] h₄).toLoadRect = vals v vc := by
  rw [View.readCov_eq_canon']
  funext y
  obtain ⟨a, b, rfl⟩ : ∃ (a : Fin 2304) (b : Fin 256), y = ix2 a b := ⟨y 0, y 1, by idx_ext⟩
  rw [canon_of_piecesOf (vals v vc)]
  · exact congrArg _ (idx2 _ a b)
  · refine ⟨fun x => ?_, fun x => ?_, fun x => ?_, trivial⟩
    · idx_vars x
      refine Eq.trans ?_ (congrArg _ (emb2 h₁ x0 x1)).symm
      pointwise [k0_pay9, vals]
    · idx_vars x
      refine Eq.trans ?_ (congrArg _ (emb2 h₂ x0 x1)).symm
      pointwise [k0_pay8, vals]
    · idx_vars x
      refine Eq.trans ?_ (congrArg _ (emb2 h₃ x0 x1)).symm
      pointwise [k0_pay7, vals]
  · have hi : (Rect.unit (s := S2304x256) ![0, 0] ![2304, 256] h₄).toLoadRect.idx (ix2 a b) = ix2 a b := idx2 _ a b
    rw [hi]
    rcases lt_or_ge (b : ℕ) 128 with hb | hb
    · rcases lt_or_ge (a : ℕ) 2048 with h | h
      · exact ⟨_, List.mem_cons_of_mem _ (List.mem_cons_of_mem _ (List.mem_cons_self ..)),
          mem2 h₃ _ ⟨Nat.zero_le _, by simpa using h⟩ ⟨Nat.zero_le _, by simpa using hb⟩⟩
      · exact ⟨_, List.mem_cons_of_mem _ (List.mem_cons_self ..), mem2 h₂ _ ⟨h, by simpa using a.isLt⟩ ⟨Nat.zero_le _, by simpa using hb⟩⟩
    · exact ⟨_, List.mem_cons_self .., mem2 h₁ _ ⟨Nat.zero_le _, by simpa using a.isLt⟩ ⟨hb, by simpa using b.isLt⟩⟩

/-- The whole block a point leaves: every entry is the row arithmetic of its row and head. The cosines and sines are read
at the row's place in the sequence, the same as its place in the block. -/
def blockOut (q : Vec Ideal S2048x512 .bf16) (k v : Vec Ideal S2048x128 .bf16) (kc vc : Vec Ideal S256x128 .bf16)
    (qg kg : Vec Ideal S1x1x128 .f32) (C S : Vec Ideal S2048x128 .f32) : Vec Ideal S2048x512 .bf16 := fun y =>
  have h1 : (y 1 : ℕ) < 512 := (y 1).isLt
  rowOut ss (fun d => qg (ix3 0 0 d)) (fun d => C (ix2 (y 0) d)) (fun d => S (ix2 (y 0) d))
    (fun d => q (ix2 (y 0) ⟨(y 1 : ℕ) / 128 * 128 + d, by omega⟩))
    (fun s d => keys kg C S k kc (ix2 s d)) (fun s => vals v vc (ix2 s ⟨(y 1 : ℕ) % 128, by omega⟩))
    (fun s => vals v vc (ix2 s ⟨128 + (y 1 : ℕ) % 128, by omega⟩))

variable (m : (ℓ : Loc nD τ sig) → Buf (Elt Ideal) ℓ)

/-- A point reads the cosines and sines of its chunk `j` at rows 256 j and up. -/
theorem off_eq : ∀ (t : Fin cfg0.N) (j : Fin 8), k0_off1 (grid0.coords t) (BitVec.ofNat 32 (256 * j.val)) = ![256 * j.val, 0] :=
  (by decide +kernel : ∀ (t : Fin grid0.N) (j : Fin 8), k0_off1 (grid0.coords t) (BitVec.ofNat 32 (256 * j.val)) = ![256 * j.val, 0])

/-- The piece that stores chunk `j` of head `h`, at the scratch buffers as the point finds them, is that part of the
point's whole block. -/
theorem piece_eq (t : Fin cfg0.N) (q : Vec Ideal S2048x512 .bf16) (k v : Vec Ideal S2048x128 .bf16) (kc vc : Vec Ideal S256x128 .bf16)
    (qg kg : Vec Ideal S1x1x128 .f32) (C S : Vec Ideal S2048x128 .f32) (j : Fin 8) (h : Fin 4) (hc hs hq hk₁ hk₂ hk₃ hv₁ hv₂ hv₃ hv₄)
    (x : S256x128.Idx) :
    chunk qg (View.ld C (Rect.unit (k0_off1 (grid0.coords t) (BitVec.ofNat 32 (256 * j.val))) ![256, 128] hc))
      (View.ld S (Rect.unit (k0_off1 (grid0.coords t) (BitVec.ofNat 32 (256 * j.val))) ![256, 128] hs))
      (View.ld q (Rect.unit ![256 * j.val, 128 * h.val] ![256, 128] hq))
      ((View.whole cc0_scratch0).readCov (Val := Elt Ideal)
        [⟨Rect.unit ![2048, 0] ![256, 128] hk₁, k0_pay6 (k0_pay2 kg) (k0_pay4 kc) (k0_pay5 kc)⟩,
         ⟨Rect.unit ![0, 0] ![2048, 128] hk₂, k0_pay3 kg k C S⟩]
        (Rect.unit (s := S2304x128) ![0, 0] ![2304, 128] hk₃).toLoadRect)
      ((View.whole cc0_scratch1).readCov (Val := Elt Ideal)
        [⟨Rect.unit ![0, 128] ![2304, 128] hv₁, k0_pay9 (F := Ideal)⟩,
         ⟨Rect.unit ![2048, 0] ![256, 128] hv₂, k0_pay8 vc⟩,
         ⟨Rect.unit ![0, 0] ![2048, 128] hv₃, k0_pay7 v⟩]
        (Rect.unit (s := S2304x256) ![0, 0] ![2304, 256] hv₄).toLoadRect) x
      = blockOut q k v kc vc qg kg C S ((Rect.unit (s := S2048x512) ![256 * j.val, 128 * h.val] ![256, 128] hq).emb x) := by
  rw [keys_read, vals_read]
  obtain ⟨a, b, rfl⟩ : ∃ (a : Fin 256) (b : Fin 128), x = ix2 a b := ⟨x 0, x 1, by idx_ext⟩
  have hj := j.isLt
  have hh := h.isLt
  have hC : ∀ (X : Vec Ideal S2048x128 .f32) (hx) (d : Fin 128),
      View.ld X (Rect.unit (k0_off1 (grid0.coords t) (BitVec.ofNat 32 (256 * j.val))) ![256, 128] hx) (ix2 a d)
        = X (ix2 ⟨256 * j.val + a, by omega⟩ d) := fun X hx d => by
    rw [ld_unit X _ _ (off_eq t j) hx (by rw [← off_eq t j]; exact hx)]
    exact congrArg X ((emb2 _ a d).trans (by simp))
  have hQ : ∀ d : Fin 128, View.ld q (Rect.unit ![256 * j.val, 128 * h.val] ![256, 128] hq) (ix2 a d)
        = q (ix2 ⟨256 * j.val + a, by omega⟩ ⟨128 * h.val + d, by omega⟩) := fun d => by
    rw [ld_unit q _ _ rfl hq hq]
    exact congrArg q (emb2 _ a d)
  rw [chunk_at]
  refine Eq.trans ?_ (congrArg _ (emb2 hq a b)).symm
  have e1 : (128 * h.val + b.val) / 128 * 128 = 128 * h.val := by omega
  have e2 : (128 * h.val + b.val) % 128 = b.val := by omega
  simp only [hC, hQ, blockOut]
  simp only [ix2_0, ix2_1, e1, e2]
  exact congrArg₂ (fun A B => rowOut ss _ A B _ _ _ _) (funext (hC C hc)) (funext (hC S hs))

/-- A grid point leaves the whole block `blockOut` of the blocks it was given. -/
theorem outs_eq (c : Dev nD) (t : Fin cfg0.N) (y : S2048x512.Idx) : outsAt0 m c t y
    = blockOut (iblk m c 0 t) (iblk m c 1 t) (iblk m c 2 t) (iblk m c 3 t) (iblk m c 4 t) (iblk m c 5 t) (iblk m c 6 t)
      (iblk m c 7 t) (iblk m c 8 t) y := by
  unfold outsAt0
  frame_out
  refine canon_of_piecesOf (blockOut (iblk m c 0 t) (iblk m c 1 t) (iblk m c 2 t) (iblk m c 3 t) (iblk m c 4 t) (iblk m c 5 t) (iblk m c 6 t)
      (iblk m c 7 t) (iblk m c 8 t)) ?_ (View.cover_of_tiledL (s := S2048x512) _ S256x128.size (by sl_kernel_rfl) y)
  have P (j : Fin 8) (h : Fin 4) := piece_eq t (iblk m c 0 t) (iblk m c 1 t) (iblk m c 2 t) (iblk m c 3 t) (iblk m c 4 t)
    (iblk m c 5 t) (iblk m c 6 t) (iblk m c 7 t) (iblk m c 8 t) j h
  exact ⟨P 7 3 _ _ _ _ _ _ _ _ _ _, P 7 2 _ _ _ _ _ _ _ _ _ _, P 7 1 _ _ _ _ _ _ _ _ _ _, P 7 0 _ _ _ _ _ _ _ _ _ _,
    P 6 3 _ _ _ _ _ _ _ _ _ _, P 6 2 _ _ _ _ _ _ _ _ _ _, P 6 1 _ _ _ _ _ _ _ _ _ _, P 6 0 _ _ _ _ _ _ _ _ _ _,
    P 5 3 _ _ _ _ _ _ _ _ _ _, P 5 2 _ _ _ _ _ _ _ _ _ _, P 5 1 _ _ _ _ _ _ _ _ _ _, P 5 0 _ _ _ _ _ _ _ _ _ _,
    P 4 3 _ _ _ _ _ _ _ _ _ _, P 4 2 _ _ _ _ _ _ _ _ _ _, P 4 1 _ _ _ _ _ _ _ _ _ _, P 4 0 _ _ _ _ _ _ _ _ _ _,
    P 3 3 _ _ _ _ _ _ _ _ _ _, P 3 2 _ _ _ _ _ _ _ _ _ _, P 3 1 _ _ _ _ _ _ _ _ _ _, P 3 0 _ _ _ _ _ _ _ _ _ _,
    P 2 3 _ _ _ _ _ _ _ _ _ _, P 2 2 _ _ _ _ _ _ _ _ _ _, P 2 1 _ _ _ _ _ _ _ _ _ _, P 2 0 _ _ _ _ _ _ _ _ _ _,
    P 1 3 _ _ _ _ _ _ _ _ _ _, P 1 2 _ _ _ _ _ _ _ _ _ _, P 1 1 _ _ _ _ _ _ _ _ _ _, P 1 0 _ _ _ _ _ _ _ _ _ _,
    P 0 3 _ _ _ _ _ _ _ _ _ _, P 0 2 _ _ _ _ _ _ _ _ _ _, P 0 1 _ _ _ _ _ _ _ _ _ _, P 0 0 _ _ _ _ _ _ _ _ _ _, trivial⟩

end Cert.KernelIdeal.Gen
end
-- ==== Proof.Array.lean ====
/-
The kernel's whole result array: every entry is the row arithmetic of its row, its head and its batch.
-/
module
public import proofs.«01_k».proof.Proof.Block
public import Idealize.ShloMosaic.Lib.Claim

@[expose] public section
set_option maxRecDepth 16384
noncomputable section
namespace Cert.KernelIdeal.Gen
open Idealize.ShloMosaic Idealize.ShloMosaic.TcCoe Idealize.SL.Sem Cert.Attn

/-- The block of batch `b` and key-value head `g` that starts at the column `o` of a projection with `n` rows per batch. -/
def part {R n w : ℕ} (z : Vec Ideal ⟨2, ![R, 13824]⟩ .bf16) (b o : ℕ) (hb : (b + 1) * n ≤ R) (ho : o + w ≤ 13824) :
    Vec Ideal ⟨2, ![n, w]⟩ .bf16 := fun y =>
  have h0 : (y 0 : ℕ) < n := (y 0).isLt
  have h1 : (y 1 : ℕ) < w := (y 1).isLt
  z (ix2 ⟨b * n + y 0, by rw [Nat.add_mul, Nat.one_mul] at hb; omega⟩ ⟨o + y 1, by omega⟩)

/-- The block that one batch `b` and one key-value head `g` leave. -/
def headOut (z : Vec Ideal S32768x13824 .bf16) (zc : Vec Ideal S4096x13824 .bf16) (qg kg : Vec Ideal S2x128 .f32)
    (C S : Vec Ideal S2048x128 .f32) (b g : ℕ) (hb : b < 16) (hg : g < 2) : Vec Ideal S2048x512 .bf16 :=
  blockOut (part z b ((26 + g) % 27 * 512) (by omega) (by omega)) (part z b ((20 + g) * 128) (by omega) (by omega))
    (part z b ((22 + g) * 128) (by omega) (by omega)) (part zc b ((20 + g) * 128) (by omega) (by omega))
    (part zc b ((22 + g) * 128) (by omega) (by omega)) (fun i => qg (ix2 0 (i 2))) (fun i => kg (ix2 0 (i 2))) C S

/-- The whole result array. -/
def arrOut (z : Vec Ideal S32768x13824 .bf16) (zc : Vec Ideal S4096x13824 .bf16) (qg kg : Vec Ideal S2x128 .f32)
    (C S : Vec Ideal S2048x128 .f32) : Vec Ideal S32768x1024 .bf16 := fun i =>
  have h0 : (i 0 : ℕ) < 32768 := (i 0).isLt
  have h1 : (i 1 : ℕ) < 1024 := (i 1).isLt
  headOut z zc qg kg C S (i 0 / 2048) (i 1 / 512) (by omega) (by omega)
    (ix2 ⟨i 0 % 2048, Nat.mod_lt _ (by norm_num)⟩ ⟨i 1 % 512, Nat.mod_lt _ (by norm_num)⟩)

variable (m : (ℓ : Loc nD τ sig) → Buf (Elt Ideal) ℓ)

/-- The block indices of the ten windows at a grid point. -/
theorem idx : ∀ t : Fin cfg0.N, win0_0.index t = ![t.val / 2, (26 + t.val % 2) % 27] ∧ win0_1.index t = ![t.val / 2, 20 + t.val % 2]
    ∧ win0_2.index t = ![t.val / 2, 22 + t.val % 2] ∧ win0_3.index t = ![t.val / 2, 20 + t.val % 2]
    ∧ win0_4.index t = ![t.val / 2, 22 + t.val % 2] ∧ win0_5.index t = ![0, 0, 0] ∧ win0_6.index t = ![0, 0, 0]
    ∧ win0_7.index t = ![0, 0] ∧ win0_8.index t = ![0, 0] ∧ win0_9.index t = ![t.val / 2, t.val % 2] :=
  (by decide +kernel : ∀ t : Fin grid0.N, _)

theorem lt32 (t : Fin cfg0.N) : t.val < 32 := t.isLt

theorem V37 (c : Dev nD) : (V m c main_v37 : Vec Ideal S2x1x128 .f32) = shapeCast S2x1x128 (V m c main_arg2 : Vec Ideal S2x128 .f32) shapeCasts_S2x128_S2x1x128 := rfl
theorem V38 (c : Dev nD) : (V m c main_v38 : Vec Ideal S2x1x128 .f32) = shapeCast S2x1x128 (V m c main_arg3 : Vec Ideal S2x128 .f32) shapeCasts_S2x128_S2x1x128 := rfl

theorem blk0 (c : Dev nD) (t : Fin cfg0.N) : iblk m c 0 t
    = part (V m c main_arg0 : Vec Ideal S32768x13824 .bf16) (t.val / 2) ((26 + t.val % 2) % 27 * 512) (by have := lt32 t; omega) (by omega) := by
  funext y
  blk_ext [iblk, part, idx t]
theorem blk1 (c : Dev nD) (t : Fin cfg0.N) : iblk m c 1 t
    = part (V m c main_arg0 : Vec Ideal S32768x13824 .bf16) (t.val / 2) ((20 + t.val % 2) * 128) (by have := lt32 t; omega) (by omega) := by
  funext y
  blk_ext [iblk, part, idx t]
theorem blk2 (c : Dev nD) (t : Fin cfg0.N) : iblk m c 2 t
    = part (V m c main_arg0 : Vec Ideal S32768x13824 .bf16) (t.val / 2) ((22 + t.val % 2) * 128) (by have := lt32 t; omega) (by omega) := by
  funext y
  blk_ext [iblk, part, idx t]
theorem blk3 (c : Dev nD) (t : Fin cfg0.N) : iblk m c 3 t
    = part (V m c main_arg1 : Vec Ideal S4096x13824 .bf16) (t.val / 2) ((20 + t.val % 2) * 128) (by have := lt32 t; omega) (by omega) := by
  funext y
  blk_ext [iblk, part, idx t]
theorem blk4 (c : Dev nD) (t : Fin cfg0.N) : iblk m c 4 t
    = part (V m c main_arg1 : Vec Ideal S4096x13824 .bf16) (t.val / 2) ((22 + t.val % 2) * 128) (by have := lt32 t; omega) (by omega) := by
  funext y
  blk_ext [iblk, part, idx t]
theorem blk7 (c : Dev nD) (t : Fin cfg0.N) : iblk m c 7 t = V m c main_v29 := by
  funext y
  blk_ext [iblk, idx t]
theorem blk8 (c : Dev nD) (t : Fin cfg0.N) : iblk m c 8 t = V m c main_v36 := by
  funext y
  blk_ext [iblk, idx t]

/-- A gain of two layers reshaped to three axes reads, in its first plane, the first layer's gain. -/
theorem first_plane (v : Vec Ideal S2x128 .f32) (y0 y1 : Fin 1) (y2 : Fin 128) :
    shapeCast S2x1x128 v shapeCasts_S2x128_S2x1x128 (ix3 0 0 y2) = v (ix2 0 y2) := by
  pointwise

theorem blk5 (c : Dev nD) (t : Fin cfg0.N) : iblk m c 5 t
    = fun i => (V m c main_arg2 : Vec Ideal S2x128 .f32) (ix2 0 (i 2)) := by
  funext y
  idx_vars y
  blk_simp [iblk, idx t]
  have he : (win0_5.blk t).view.emb (ix3 y0 y1 y2) = (ix3 0 0 y2 : S2x1x128.Idx) := by
    blk_ext [idx t]
  exact (congrArg _ he).trans ((congrFun (V37 m c) _).trans (first_plane _ y0 y1 y2))
theorem blk6 (c : Dev nD) (t : Fin cfg0.N) : iblk m c 6 t
    = fun i => (V m c main_arg3 : Vec Ideal S2x128 .f32) (ix2 0 (i 2)) := by
  funext y
  idx_vars y
  blk_simp [iblk, idx t]
  have he : (win0_6.blk t).view.emb (ix3 y0 y1 y2) = (ix3 0 0 y2 : S2x1x128.Idx) := by
    blk_ext [idx t]
  exact (congrArg _ he).trans ((congrFun (V38 m c) _).trans (first_plane _ y0 y1 y2))

theorem headOut_congr (z : Vec Ideal S32768x13824 .bf16) (zc : Vec Ideal S4096x13824 .bf16) (qg kg : Vec Ideal S2x128 .f32)
    (C S : Vec Ideal S2048x128 .f32) {b b' g g' : ℕ} (eb : b = b') (eg : g = g') {y y' : S2048x512.Idx} (ey : y = y')
    (hb : b < 16) (hg : g < 2) (hb' : b' < 16) (hg' : g' < 2) :
    headOut z zc qg kg C S b g hb hg y = headOut z zc qg kg C S b' g' hb' hg' y' := by
  subst eb eg ey; rfl

/-- Every grid point writes its own block of the array, so the array is `arrOut` of the arguments. -/
theorem final (c : Dev nD) : (dats m 0 c).arrAt 9 cfg0.N
    = arrOut (V m c main_arg0) (V m c main_arg1) (V m c main_arg2) (V m c main_arg3) (V m c main_v29) (V m c main_v36) := by
  refine (dats m 0 c).arrAt_eq_of_covers 9 _ (by decide +kernel) fun t hf y => ?_
  blk_simp
  rw [after0_9, outs_eq, blk0, blk1, blk2, blk3, blk4, blk5, blk6, blk7, blk8]
  have ht : t.val < 32 := t.isLt
  have y0 : ((y 0 : Fin _) : ℕ) < 2048 := (y 0).isLt
  have y1 : ((y 1 : Fin _) : ℕ) < 512 := (y 1).isLt
  have e0 : (((win0_9.blk t).view.emb y 0 : Fin _) : ℕ) = t.val / 2 * 2048 + y 0 := by
    blk_simp [idx t]
  have e1 : (((win0_9.blk t).view.emb y 1 : Fin _) : ℕ) = t.val % 2 * 512 + y 1 := by
    blk_simp [idx t]
  have e2 : y = (ix2 ⟨(win0_9.blk t).view.emb y 0 % 2048, Nat.mod_lt _ (by norm_num)⟩
      ⟨(win0_9.blk t).view.emb y 1 % 512, Nat.mod_lt _ (by norm_num)⟩ : S2048x512.Idx) := by
    funext a
    fin_cases a
    · exact Fin.ext (by show (y 0 : ℕ) = _ % 2048; rw [e0]; omega)
    · exact Fin.ext (by show (y 1 : ℕ) = _ % 512; rw [e1]; omega)
  exact headOut_congr _ _ _ _ _ _ (by rw [e0]; omega : t.val / 2 = (win0_9.blk t).view.emb y 0 / 2048)
    (by rw [e1]; omega : t.val % 2 = (win0_9.blk t).view.emb y 1 / 512) e2 (by omega) (by omega)
    (by rw [e0]; omega) (by rw [e1]; omega)
end Cert.KernelIdeal.Gen
end
-- ==== Proof.RefParts.lean ====
module
public import proofs.«01_k».proof.Proof.Gen.ReferenceIdeal.Run
public import proofs.«01_k».proof.Proof.Rows
public import Idealize.ShloMosaic.Lib.Pipeline.ValueKit
public import Idealize.ShloMosaic.Lib.Pointwise

@[expose] public section
set_option maxRecDepth 16384
noncomputable section
namespace Cert.ReferenceIdeal.Value
open Cert.ReferenceIdeal Cert.ReferenceIdeal.Gen Idealize.ShloMosaic Idealize.ShloMosaic.TcCoe Idealize.SL.Sem Idealize.ShloMosaic.StableHlo Cert.Attn

/-- The latent's projection in f32, its columns rotated by 1536, its rows split into batches. -/
def rolled (z : FVec Ideal S32768x13824 .bf16) : FVec Ideal S16x2048x13824 .f32 :=
  shapeCast S16x2048x13824 (concatenate S32768x13824 1 [⟨S32768x1536, (extractStridedSlice S32768x1536 ![0, 12288] (extf .f32 z bitsLt_bf16_f32) slices_S32768x13824_S32768x1536_0_12288)⟩, ⟨S32768x12288, (extractStridedSlice S32768x12288 ![0, 0] (extf .f32 z bitsLt_bf16_f32) slices_S32768x13824_S32768x12288_0_0)⟩] concatenates_S32768x1536_S32768x12288_S32768x13824_d1) shapeCasts_S32768x13824_S16x2048x13824
/-- The context's projection in f32, its columns rotated by 1536, its rows split into batches. -/
def rolledC (z : FVec Ideal S4096x13824 .bf16) : FVec Ideal S16x256x13824 .f32 :=
  shapeCast S16x256x13824 (concatenate S4096x13824 1 [⟨S4096x1536, (extractStridedSlice S4096x1536 ![0, 12288] (extf .f32 z bitsLt_bf16_f32) slices_S4096x13824_S4096x1536_0_12288)⟩, ⟨S4096x12288, (extractStridedSlice S4096x12288 ![0, 0] (extf .f32 z bitsLt_bf16_f32) slices_S4096x13824_S4096x12288_0_0)⟩] concatenates_S4096x1536_S4096x12288_S4096x13824_d1) shapeCasts_S4096x13824_S16x256x13824
/-- The first layer's gain. -/
def gain (v : FVec Ideal S2x128 .f32) : FVec Ideal S128 .f32 :=
  shapeCast S128 (extractStridedSlice S1x128 ![0, 0] v slices_S2x128_S1x128_0_0) shapeCasts_S1x128_S128
/-- The query heads. -/
def qHeads (y : FVec Ideal S16x2048x13824 .f32) : FVec Ideal S16x8x2048x128 .f32 :=
  transpose S16x8x2048x128 [0, 2, 1, 3] (shapeCast S16x2048x8x128 (extractStridedSlice S16x2048x1024 ![0, 0, 1024] y slices_S16x2048x13824_S16x2048x1024_0_0_1024) shapeCasts_S16x2048x1024_S16x2048x8x128) transposes_S16x2048x8x128_S16x8x2048x128_0_2_1_3
/-- The latent's key heads. -/
def kHeads (y : FVec Ideal S16x2048x13824 .f32) : FVec Ideal S16x2x2048x128 .f32 :=
  transpose S16x2x2048x128 [0, 2, 1, 3] (shapeCast S16x2048x2x128 (extractStridedSlice S16x2048x256 ![0, 0, 4096] y slices_S16x2048x13824_S16x2048x256_0_0_4096) shapeCasts_S16x2048x256_S16x2048x2x128) transposes_S16x2048x2x128_S16x2x2048x128_0_2_1_3
/-- The latent's value heads. -/
def vHeads (y : FVec Ideal S16x2048x13824 .f32) : FVec Ideal S16x2x2048x128 .f32 :=
  transpose S16x2x2048x128 [0, 2, 1, 3] (shapeCast S16x2048x2x128 (extractStridedSlice S16x2048x256 ![0, 0, 4352] y slices_S16x2048x13824_S16x2048x256_0_0_4352) shapeCasts_S16x2048x256_S16x2048x2x128) transposes_S16x2048x2x128_S16x2x2048x128_0_2_1_3
/-- The context's key heads. -/
def kcHeads (y : FVec Ideal S16x256x13824 .f32) : FVec Ideal S16x2x256x128 .f32 :=
  transpose S16x2x256x128 [0, 2, 1, 3] (shapeCast S16x256x2x128 (extractStridedSlice S16x256x256 ![0, 0, 4096] y slices_S16x256x13824_S16x256x256_0_0_4096) shapeCasts_S16x256x256_S16x256x2x128) transposes_S16x256x2x128_S16x2x256x128_0_2_1_3
/-- The context's value heads. -/
def vcHeads (y : FVec Ideal S16x256x13824 .f32) : FVec Ideal S16x2x256x128 .f32 :=
  transpose S16x2x256x128 [0, 2, 1, 3] (shapeCast S16x256x2x128 (extractStridedSlice S16x256x256 ![0, 0, 4352] y slices_S16x256x13824_S16x256x256_0_0_4352) shapeCasts_S16x256x256_S16x256x2x128) transposes_S16x256x2x128_S16x2x256x128_0_2_1_3
/-- Every query row over its root mean square, times the gain. -/
def norm8 (x : FVec Ideal S16x8x2048x128 .f32) (g : FVec Ideal S128 .f32) : FVec Ideal S16x8x2048x128 .f32 :=
  mulf (mulf x (broadcastInDim S16x8x2048x128 ![0, 1, 2, 3] bcast_S16x8x2048x1_S16x8x2048x128_0_1_2_3 (Host.rsqrt (addf (Host.divf (broadcastInDim S16x8x2048x1 ![0, 1, 2] bcast_S16x8x2048_S16x8x2048x1_0_1_2 (Host.reduceAdd (mulf x x) (constant S_ .f32 0x00000000#32) reducesTo_S16x8x2048x128_S16x8x2048_d3 h_S_)) (broadcastInDim S16x8x2048x1 ![] bcast_S_S16x8x2048x1 (constant S_ .f32 0x43000000#32))) (broadcastInDim S16x8x2048x1 ![] bcast_S_S16x8x2048x1 (constant S_ .f32 0x358637BD#32)))))) (broadcastInDim S16x8x2048x128 ![0, 1, 2, 3] bcast_S1x1x1x128_S16x8x2048x128_0_1_2_3 (broadcastInDim S1x1x1x128 ![3] bcast_S128_S1x1x1x128_3 g))
/-- Every latent key row over its root mean square, times the gain. -/
def norm2 (x : FVec Ideal S16x2x2048x128 .f32) (g : FVec Ideal S128 .f32) : FVec Ideal S16x2x2048x128 .f32 :=
  mulf (mulf x (broadcastInDim S16x2x2048x128 ![0, 1, 2, 3] bcast_S16x2x2048x1_S16x2x2048x128_0_1_2_3 (Host.rsqrt (addf (Host.divf (broadcastInDim S16x2x2048x1 ![0, 1, 2] bcast_S16x2x2048_S16x2x2048x1_0_1_2 (Host.reduceAdd (mulf x x) (constant S_ .f32 0x00000000#32) reducesTo_S16x2x2048x128_S16x2x2048_d3 h_S_)) (broadcastInDim S16x2x2048x1 ![] bcast_S_S16x2x2048x1 (constant S_ .f32 0x43000000#32))) (broadcastInDim S16x2x2048x1 ![] bcast_S_S16x2x2048x1 (constant S_ .f32 0x358637BD#32)))))) (broadcastInDim S16x2x2048x128 ![0, 1, 2, 3] bcast_S1x1x1x128_S16x2x2048x128_0_1_2_3 (broadcastInDim S1x1x1x128 ![3] bcast_S128_S1x1x1x128_3 g))
/-- Every context key row over its root mean square, times the gain. -/
def normC (x : FVec Ideal S16x2x256x128 .f32) (g : FVec Ideal S128 .f32) : FVec Ideal S16x2x256x128 .f32 :=
  mulf (mulf x (broadcastInDim S16x2x256x128 ![0, 1, 2, 3] bcast_S16x2x256x1_S16x2x256x128_0_1_2_3 (Host.rsqrt (addf (Host.divf (broadcastInDim S16x2x256x1 ![0, 1, 2] bcast_S16x2x256_S16x2x256x1_0_1_2 (Host.reduceAdd (mulf x x) (constant S_ .f32 0x00000000#32) reducesTo_S16x2x256x128_S16x2x256_d3 h_S_)) (broadcastInDim S16x2x256x1 ![] bcast_S_S16x2x256x1 (constant S_ .f32 0x43000000#32))) (broadcastInDim S16x2x256x1 ![] bcast_S_S16x2x256x1 (constant S_ .f32 0x358637BD#32)))))) (broadcastInDim S16x2x256x128 ![0, 1, 2, 3] bcast_S1x1x1x128_S16x2x256x128_0_1_2_3 (broadcastInDim S1x1x1x128 ![3] bcast_S128_S1x1x1x128_3 g))
/-- The rotary embedding of the query heads. -/
def rope8 (x : FVec Ideal S16x8x2048x128 .f32) (a a2 : FVec Ideal S2048x32 .f32) : FVec Ideal S16x8x2048x128 .f32 :=
  concatenate S16x8x2048x128 3 [⟨S16x8x2048x64, (concatenate S16x8x2048x64 3 [⟨S16x8x2048x32, (subf (mulf (extractStridedSlice S16x8x2048x32 ![0, 0, 0, 0] (extractStridedSlice S16x8x2048x64 ![0, 0, 0, 0] x slices_S16x8x2048x128_S16x8x2048x64_0_0_0_0) slices_S16x8x2048x64_S16x8x2048x32_0_0_0_0) (broadcastInDim S16x8x2048x32 ![0, 1, 2, 3] bcast_S1x1x2048x32_S16x8x2048x32_0_1_2_3 (broadcastInDim S1x1x2048x32 ![2, 3] bcast_S2048x32_S1x1x2048x32_2_3 (Host.cos a)))) (mulf (extractStridedSlice S16x8x2048x32 ![0, 0, 0, 32] (extractStridedSlice S16x8x2048x64 ![0, 0, 0, 0] x slices_S16x8x2048x128_S16x8x2048x64_0_0_0_0) slices_S16x8x2048x64_S16x8x2048x32_0_0_0_32) (broadcastInDim S16x8x2048x32 ![0, 1, 2, 3] bcast_S1x1x2048x32_S16x8x2048x32_0_1_2_3 (broadcastInDim S1x1x2048x32 ![2, 3] bcast_S2048x32_S1x1x2048x32_2_3 (Host.sin a)))))⟩, ⟨S16x8x2048x32, (addf (mulf (extractStridedSlice S16x8x2048x32 ![0, 0, 0, 0] (extractStridedSlice S16x8x2048x64 ![0, 0, 0, 0] x slices_S16x8x2048x128_S16x8x2048x64_0_0_0_0) slices_S16x8x2048x64_S16x8x2048x32_0_0_0_0) (broadcastInDim S16x8x2048x32 ![0, 1, 2, 3] bcast_S1x1x2048x32_S16x8x2048x32_0_1_2_3 (broadcastInDim S1x1x2048x32 ![2, 3] bcast_S2048x32_S1x1x2048x32_2_3 (Host.sin a)))) (mulf (extractStridedSlice S16x8x2048x32 ![0, 0, 0, 32] (extractStridedSlice S16x8x2048x64 ![0, 0, 0, 0] x slices_S16x8x2048x128_S16x8x2048x64_0_0_0_0) slices_S16x8x2048x64_S16x8x2048x32_0_0_0_32) (broadcastInDim S16x8x2048x32 ![0, 1, 2, 3] bcast_S1x1x2048x32_S16x8x2048x32_0_1_2_3 (broadcastInDim S1x1x2048x32 ![2, 3] bcast_S2048x32_S1x1x2048x32_2_3 (Host.cos a)))))⟩] concatenates_S16x8x2048x32_S16x8x2048x32_S16x8x2048x64_d3)⟩, ⟨S16x8x2048x64, (concatenate S16x8x2048x64 3 [⟨S16x8x2048x32, (subf (mulf (extractStridedSlice S16x8x2048x32 ![0, 0, 0, 0] (extractStridedSlice S16x8x2048x64 ![0, 0, 0, 64] x slices_S16x8x2048x128_S16x8x2048x64_0_0_0_64) slices_S16x8x2048x64_S16x8x2048x32_0_0_0_0) (broadcastInDim S16x8x2048x32 ![0, 1, 2, 3] bcast_S1x1x2048x32_S16x8x2048x32_0_1_2_3 (broadcastInDim S1x1x2048x32 ![2, 3] bcast_S2048x32_S1x1x2048x32_2_3 (Host.cos a2)))) (mulf (extractStridedSlice S16x8x2048x32 ![0, 0, 0, 32] (extractStridedSlice S16x8x2048x64 ![0, 0, 0, 64] x slices_S16x8x2048x128_S16x8x2048x64_0_0_0_64) slices_S16x8x2048x64_S16x8x2048x32_0_0_0_32) (broadcastInDim S16x8x2048x32 ![0, 1, 2, 3] bcast_S1x1x2048x32_S16x8x2048x32_0_1_2_3 (broadcastInDim S1x1x2048x32 ![2, 3] bcast_S2048x32_S1x1x2048x32_2_3 (Host.sin a2)))))⟩, ⟨S16x8x2048x32, (addf (mulf (extractStridedSlice S16x8x2048x32 ![0, 0, 0, 0] (extractStridedSlice S16x8x2048x64 ![0, 0, 0, 64] x slices_S16x8x2048x128_S16x8x2048x64_0_0_0_64) slices_S16x8x2048x64_S16x8x2048x32_0_0_0_0) (broadcastInDim S16x8x2048x32 ![0, 1, 2, 3] bcast_S1x1x2048x32_S16x8x2048x32_0_1_2_3 (broadcastInDim S1x1x2048x32 ![2, 3] bcast_S2048x32_S1x1x2048x32_2_3 (Host.sin a2)))) (mulf (extractStridedSlice S16x8x2048x32 ![0, 0, 0, 32] (extractStridedSlice S16x8x2048x64 ![0, 0, 0, 64] x slices_S16x8x2048x128_S16x8x2048x64_0_0_0_64) slices_S16x8x2048x64_S16x8x2048x32_0_0_0_32) (broadcastInDim S16x8x2048x32 ![0, 1, 2, 3] bcast_S1x1x2048x32_S16x8x2048x32_0_1_2_3 (broadcastInDim S1x1x2048x32 ![2, 3] bcast_S2048x32_S1x1x2048x32_2_3 (Host.cos a2)))))⟩] concatenates_S16x8x2048x32_S16x8x2048x32_S16x8x2048x64_d3)⟩] concatenates_S16x8x2048x64_S16x8x2048x64_S16x8x2048x128_d3
/-- The rotary embedding of the latent's key heads. -/
def rope2 (x : FVec Ideal S16x2x2048x128 .f32) (a a2 : FVec Ideal S2048x32 .f32) : FVec Ideal S16x2x2048x128 .f32 :=
  concatenate S16x2x2048x128 3 [⟨S16x2x2048x64, (concatenate S16x2x2048x64 3 [⟨S16x2x2048x32, (subf (mulf (extractStridedSlice S16x2x2048x32 ![0, 0, 0, 0] (extractStridedSlice S16x2x2048x64 ![0, 0, 0, 0] x slices_S16x2x2048x128_S16x2x2048x64_0_0_0_0) slices_S16x2x2048x64_S16x2x2048x32_0_0_0_0) (broadcastInDim S16x2x2048x32 ![0, 1, 2, 3] bcast_S1x1x2048x32_S16x2x2048x32_0_1_2_3 (broadcastInDim S1x1x2048x32 ![2, 3] bcast_S2048x32_S1x1x2048x32_2_3 (Host.cos a)))) (mulf (extractStridedSlice S16x2x2048x32 ![0, 0, 0, 32] (extractStridedSlice S16x2x2048x64 ![0, 0, 0, 0] x slices_S16x2x2048x128_S16x2x2048x64_0_0_0_0) slices_S16x2x2048x64_S16x2x2048x32_0_0_0_32) (broadcastInDim S16x2x2048x32 ![0, 1, 2, 3] bcast_S1x1x2048x32_S16x2x2048x32_0_1_2_3 (broadcastInDim S1x1x2048x32 ![2, 3] bcast_S2048x32_S1x1x2048x32_2_3 (Host.sin a)))))⟩, ⟨S16x2x2048x32, (addf (mulf (extractStridedSlice S16x2x2048x32 ![0, 0, 0, 0] (extractStridedSlice S16x2x2048x64 ![0, 0, 0, 0] x slices_S16x2x2048x128_S16x2x2048x64_0_0_0_0) slices_S16x2x2048x64_S16x2x2048x32_0_0_0_0) (broadcastInDim S16x2x2048x32 ![0, 1, 2, 3] bcast_S1x1x2048x32_S16x2x2048x32_0_1_2_3 (broadcastInDim S1x1x2048x32 ![2, 3] bcast_S2048x32_S1x1x2048x32_2_3 (Host.sin a)))) (mulf (extractStridedSlice S16x2x2048x32 ![0, 0, 0, 32] (extractStridedSlice S16x2x2048x64 ![0, 0, 0, 0] x slices_S16x2x2048x128_S16x2x2048x64_0_0_0_0) slices_S16x2x2048x64_S16x2x2048x32_0_0_0_32) (broadcastInDim S16x2x2048x32 ![0, 1, 2, 3] bcast_S1x1x2048x32_S16x2x2048x32_0_1_2_3 (broadcastInDim S1x1x2048x32 ![2, 3] bcast_S2048x32_S1x1x2048x32_2_3 (Host.cos a)))))⟩] concatenates_S16x2x2048x32_S16x2x2048x32_S16x2x2048x64_d3)⟩, ⟨S16x2x2048x64, (concatenate S16x2x2048x64 3 [⟨S16x2x2048x32, (subf (mulf (extractStridedSlice S16x2x2048x32 ![0, 0, 0, 0] (extractStridedSlice S16x2x2048x64 ![0, 0, 0, 64] x slices_S16x2x2048x128_S16x2x2048x64_0_0_0_64) slices_S16x2x2048x64_S16x2x2048x32_0_0_0_0) (broadcastInDim S16x2x2048x32 ![0, 1, 2, 3] bcast_S1x1x2048x32_S16x2x2048x32_0_1_2_3 (broadcastInDim S1x1x2048x32 ![2, 3] bcast_S2048x32_S1x1x2048x32_2_3 (Host.cos a2)))) (mulf (extractStridedSlice S16x2x2048x32 ![0, 0, 0, 32] (extractStridedSlice S16x2x2048x64 ![0, 0, 0, 64] x slices_S16x2x2048x128_S16x2x2048x64_0_0_0_64) slices_S16x2x2048x64_S16x2x2048x32_0_0_0_32) (broadcastInDim S16x2x2048x32 ![0, 1, 2, 3] bcast_S1x1x2048x32_S16x2x2048x32_0_1_2_3 (broadcastInDim S1x1x2048x32 ![2, 3] bcast_S2048x32_S1x1x2048x32_2_3 (Host.sin a2)))))⟩, ⟨S16x2x2048x32, (addf (mulf (extractStridedSlice S16x2x2048x32 ![0, 0, 0, 0] (extractStridedSlice S16x2x2048x64 ![0, 0, 0, 64] x slices_S16x2x2048x128_S16x2x2048x64_0_0_0_64) slices_S16x2x2048x64_S16x2x2048x32_0_0_0_0) (broadcastInDim S16x2x2048x32 ![0, 1, 2, 3] bcast_S1x1x2048x32_S16x2x2048x32_0_1_2_3 (broadcastInDim S1x1x2048x32 ![2, 3] bcast_S2048x32_S1x1x2048x32_2_3 (Host.sin a2)))) (mulf (extractStridedSlice S16x2x2048x32 ![0, 0, 0, 32] (extractStridedSlice S16x2x2048x64 ![0, 0, 0, 64] x slices_S16x2x2048x128_S16x2x2048x64_0_0_0_64) slices_S16x2x2048x64_S16x2x2048x32_0_0_0_32) (broadcastInDim S16x2x2048x32 ![0, 1, 2, 3] bcast_S1x1x2048x32_S16x2x2048x32_0_1_2_3 (broadcastInDim S1x1x2048x32 ![2, 3] bcast_S2048x32_S1x1x2048x32_2_3 (Host.cos a2)))))⟩] concatenates_S16x2x2048x32_S16x2x2048x32_S16x2x2048x64_d3)⟩] concatenates_S16x2x2048x64_S16x2x2048x64_S16x2x2048x128_d3
/-- The scaled scores of all query heads against the latent's and the context's keys. -/
def scoreArr (q : FVec Ideal S16x8x2048x128 .f32) (k : FVec Ideal S16x2x2048x128 .f32) (kc : FVec Ideal S16x2x256x128 .f32) :
    FVec Ideal S16x2x4x2048x2304 .f32 :=
  mulf (Host.dotGeneral dot_S16x2x4x2048x128_S16x2x2304x128_S16x2x4x2048x2304_4_3_23_2_01_01 none (shapeCast S16x2x4x2048x128 q shapeCasts_S16x8x2048x128_S16x2x4x2048x128) (concatenate S16x2x2304x128 2 [⟨S16x2x2048x128, k⟩, ⟨S16x2x256x128, kc⟩] concatenates_S16x2x2048x128_S16x2x256x128_S16x2x2304x128_d2)) (broadcastInDim S16x2x4x2048x2304 ![] bcast_S_S16x2x4x2048x2304 (constant S_ .f32 0x3DB504F3#32))
/-- The greatest score of every row. -/
def rowMax (A : FVec Ideal S16x2x4x2048x2304 .f32) : FVec Ideal S16x2x4x2048 .f32 :=
  Host.reduce FloatOps.maximumf A (constant S_ .f32 0xFF800000#32) reducesTo_S16x2x4x2048x2304_S16x2x4x2048_d4 h_S_
/-- The exponentials of the scores less a value for every row. -/
def expArr (A : FVec Ideal S16x2x4x2048x2304 .f32) (M : FVec Ideal S16x2x4x2048 .f32) : FVec Ideal S16x2x4x2048x2304 .f32 :=
  Host.exp (subf A (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) M))))
/-- The exponentials of the scores less their row's maximum. -/
def weightArr (A : FVec Ideal S16x2x4x2048x2304 .f32) : FVec Ideal S16x2x4x2048x2304 .f32 := expArr A (rowMax A)
/-- The weighted means of the values. -/
def mixArr (W : FVec Ideal S16x2x4x2048x2304 .f32) (v : FVec Ideal S16x2x2048x128 .f32) (vc : FVec Ideal S16x2x256x128 .f32) :
    FVec Ideal S16x2x4x2048x128 .f32 :=
  Host.dotGeneral dot_S16x2x4x2048x2304_S16x2x2304x128_S16x2x4x2048x128_4_2_23_3_01_01 none (Host.divf W (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (Host.reduceAdd W (constant S_ .f32 0x00000000#32) reducesTo_S16x2x4x2048x2304_S16x2x4x2048_d4 h_S_)))) (concatenate S16x2x2304x128 2 [⟨S16x2x2048x128, v⟩, ⟨S16x2x256x128, vc⟩] concatenates_S16x2x2048x128_S16x2x256x128_S16x2x2304x128_d2)
/-- The heads laid side by side in every row. -/
def layArr (o : FVec Ideal S16x2x4x2048x128 .f32) : FVec Ideal S32768x1024 .bf16 :=
  truncf .bf16 (shapeCast S32768x1024 (shapeCast S16x2048x1024 (transpose S16x2048x8x128 [0, 2, 1, 3] (shapeCast S16x8x2048x128 o shapeCasts_S16x2x4x2048x128_S16x8x2048x128) transposes_S16x8x2048x128_S16x2048x8x128_0_2_1_3) shapeCasts_S16x2048x8x128_S16x2048x1024) shapeCasts_S16x2048x1024_S32768x1024) bitsLt_bf16_f32

/-- The reference's result as a function of its arguments and of the two arrays of angles. -/
def refOut (z : FVec Ideal S32768x13824 .bf16) (zc : FVec Ideal S4096x13824 .bf16) (qg kg : FVec Ideal S2x128 .f32)
    (a a2 : FVec Ideal S2048x32 .f32) : FVec Ideal S32768x1024 .bf16 :=
  layArr (mixArr (weightArr (scoreArr (rope8 (norm8 (qHeads (rolled z)) (gain qg)) a a2)
    (rope2 (norm2 (kHeads (rolled z)) (gain kg)) a a2) (normC (kcHeads (rolledC zc)) (gain kg))))
    (vHeads (rolled z)) (vcHeads (rolledC zc)))

theorem weights_eq (V0 : Valuation τ sig (Elt Ideal)) : res_main_v183 V0
    = weightArr (scoreArr (rope8 (norm8 (qHeads (res_main_v27 V0)) (gain (V0 (Proc.devRef .tc main_arg2)))) (res_main_v19 V0) (res_main_v24 V0))
    (rope2 (norm2 (kHeads (res_main_v27 V0)) (res_main_v34 V0)) (res_main_v19 V0) (res_main_v24 V0))
    (normC (kcHeads (res_main_v30 V0)) (res_main_v34 V0))) := rfl

theorem rolled_eq (V0 : Valuation τ sig (Elt Ideal)) : res_main_v27 V0 = rolled (V0 (Proc.devRef .tc main_arg0)) := rfl
theorem rolledC_eq (V0 : Valuation τ sig (Elt Ideal)) : res_main_v30 V0 = rolledC (V0 (Proc.devRef .tc main_arg1)) := rfl
theorem gain_eq (V0 : Valuation τ sig (Elt Ideal)) : res_main_v34 V0 = gain (V0 (Proc.devRef .tc main_arg3)) := rfl
theorem parts_eq (V0 : Valuation τ sig (Elt Ideal)) :
    layArr (mixArr (res_main_v183 V0) (vHeads (res_main_v27 V0)) (vcHeads (res_main_v30 V0)))
    = refOut (V0 (Proc.devRef .tc main_arg0)) (V0 (Proc.devRef .tc main_arg1)) (V0 (Proc.devRef .tc main_arg2))
      (V0 (Proc.devRef .tc main_arg3)) (res_main_v19 V0) (res_main_v24 V0) := by
  rw [weights_eq, rolled_eq, rolledC_eq, gain_eq]; rfl
theorem mix_eq (V0 : Valuation τ sig (Elt Ideal)) : (truncf (φ := .f32) .bf16 (shapeCast S32768x1024 (shapeCast S16x2048x1024 (transpose S16x2048x8x128 [0, 2, 1, 3] (shapeCast S16x8x2048x128 (Host.dotGeneral (φ₂ := .f32) dot_S16x2x4x2048x2304_S16x2x2304x128_S16x2x4x2048x128_4_2_23_3_01_01 none (Host.divf (res_main_v183 V0) (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (Host.reduceAdd (res_main_v183 V0) (constant S_ .f32 0x00000000#32) reducesTo_S16x2x4x2048x2304_S16x2x4x2048_d4 h_S_)))) (concatenate S16x2x2304x128 2 [⟨S16x2x2048x128, (transpose S16x2x2048x128 [0, 2, 1, 3] (shapeCast S16x2048x2x128 (extractStridedSlice S16x2048x256 ![0, 0, 4352] (res_main_v27 V0) slices_S16x2048x13824_S16x2048x256_0_0_4352) shapeCasts_S16x2048x256_S16x2048x2x128) transposes_S16x2048x2x128_S16x2x2048x128_0_2_1_3)⟩, ⟨S16x2x256x128, (transpose S16x2x256x128 [0, 2, 1, 3] (shapeCast S16x256x2x128 (extractStridedSlice S16x256x256 ![0, 0, 4352] (res_main_v30 V0) slices_S16x256x13824_S16x256x256_0_0_4352) shapeCasts_S16x256x256_S16x256x2x128) transposes_S16x256x2x128_S16x2x256x128_0_2_1_3)⟩] concatenates_S16x2x2048x128_S16x2x256x128_S16x2x2304x128_d2)) shapeCasts_S16x2x4x2048x128_S16x8x2048x128) transposes_S16x8x2048x128_S16x2048x8x128_0_2_1_3) shapeCasts_S16x2048x8x128_S16x2048x1024) shapeCasts_S16x2048x1024_S32768x1024) bitsLt_bf16_f32
      : FVec Ideal S32768x1024 .bf16) = layArr (mixArr (res_main_v183 V0) (vHeads (res_main_v27 V0)) (vcHeads (res_main_v30 V0))) := rfl

/-- The reference's run leaves `refOut` of the launch's arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v193)
        = refOut (m ((c.tc : Thread nD τ).loc main_arg0)) (m ((c.tc : Thread nD τ).loc main_arg1)) (m ((c.tc : Thread nD τ).loc main_arg2))
          (m ((c.tc : Thread nD τ).loc main_arg3)) (res_main_v19 (launchContents m c)) (res_main_v24 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨((h c).1.trans (mix_eq _)).trans (parts_eq _), (h c).2⟩) (run (F := Ideal) m ρ)

end Cert.ReferenceIdeal.Value
end
-- ==== Proof.RefRead.lean ====
module
public import proofs.«01_k».proof.Proof.RefParts

@[expose] public section
set_option maxRecDepth 16384
noncomputable section
namespace Cert.ReferenceIdeal.Value
open Cert.ReferenceIdeal Cert.ReferenceIdeal.Gen Idealize.ShloMosaic Idealize.ShloMosaic.TcCoe Idealize.SL.Sem Cert.Attn

theorem rolled_at (z : FVec Ideal S32768x13824 .bf16) (b : Fin 16) (r : Fin 2048) (j : Fin 13824) :
    rolled z (ix3 b r j) = if h : (j : ℕ) < 1536 then z (ix2 ⟨b * 2048 + r, by omega⟩ ⟨12288 + j, by omega⟩)
      else z (ix2 ⟨b * 2048 + r, by omega⟩ ⟨j - 1536, by omega⟩) := by
  pointwise [rolled]
theorem rolledC_at (z : FVec Ideal S4096x13824 .bf16) (b : Fin 16) (r : Fin 256) (j : Fin 13824) :
    rolledC z (ix3 b r j) = if h : (j : ℕ) < 1536 then z (ix2 ⟨b * 256 + r, by omega⟩ ⟨12288 + j, by omega⟩)
      else z (ix2 ⟨b * 256 + r, by omega⟩ ⟨j - 1536, by omega⟩) := by
  pointwise [rolledC]
theorem qHeads_at (y : FVec Ideal S16x2048x13824 .f32) (b : Fin 16) (h : Fin 8) (r : Fin 2048) (d : Fin 128) :
    qHeads y (ix4 b h r d) = y (ix3 b r ⟨1024 + (h * 128 + d), by omega⟩) := by
  pointwise [qHeads]
theorem kHeads_at (y : FVec Ideal S16x2048x13824 .f32) (b : Fin 16) (h : Fin 2) (r : Fin 2048) (d : Fin 128) :
    kHeads y (ix4 b h r d) = y (ix3 b r ⟨4096 + (h * 128 + d), by omega⟩) := by
  pointwise [kHeads]
theorem vHeads_at (y : FVec Ideal S16x2048x13824 .f32) (b : Fin 16) (h : Fin 2) (r : Fin 2048) (d : Fin 128) :
    vHeads y (ix4 b h r d) = y (ix3 b r ⟨4352 + (h * 128 + d), by omega⟩) := by
  pointwise [vHeads]
theorem kcHeads_at (y : FVec Ideal S16x256x13824 .f32) (b : Fin 16) (h : Fin 2) (r : Fin 256) (d : Fin 128) :
    kcHeads y (ix4 b h r d) = y (ix3 b r ⟨4096 + (h * 128 + d), by omega⟩) := by
  pointwise [kcHeads]
theorem vcHeads_at (y : FVec Ideal S16x256x13824 .f32) (b : Fin 16) (h : Fin 2) (r : Fin 256) (d : Fin 128) :
    vcHeads y (ix4 b h r d) = y (ix3 b r ⟨4352 + (h * 128 + d), by omega⟩) := by
  pointwise [vcHeads]
theorem gain_at (y : FVec Ideal S2x128 .f32) (d : Fin 128) : gain y (ix1 d) = y (ix2 0 d) := by
  pointwise [gain]
theorem norm8_at (y : FVec Ideal S16x8x2048x128 .f32) (g : FVec Ideal S128 .f32) (b : Fin 16) (h : Fin 8) (r : Fin 2048) (d : Fin 128) :
    norm8 y g (ix4 b h r d) = normed (fun d => g (ix1 d)) (fun d => y (ix4 b h r d)) d := by
  pointwise [norm8, normed]
theorem norm2_at (y : FVec Ideal S16x2x2048x128 .f32) (g : FVec Ideal S128 .f32) (b : Fin 16) (h : Fin 2) (r : Fin 2048) (d : Fin 128) :
    norm2 y g (ix4 b h r d) = normed (fun d => g (ix1 d)) (fun d => y (ix4 b h r d)) d := by
  pointwise [norm2, normed]
theorem normC_at (y : FVec Ideal S16x2x256x128 .f32) (g : FVec Ideal S128 .f32) (b : Fin 16) (h : Fin 2) (r : Fin 256) (d : Fin 128) :
    normC y g (ix4 b h r d) = normed (fun d => g (ix1 d)) (fun d => y (ix4 b h r d)) d := by
  pointwise [normC, normed]

/-- The rotary embedding of a row as the reference computes it: each half of the row is rotated by its own angles. -/
def rotated (a a2 : Fin 32 → EReal) (x : Fin 128 → EReal) (d : Fin 128) : EReal :=
  if h : (d : ℕ) < 64 then
    if h' : (d : ℕ) < 32 then
      x d * Ideal.cos (a ⟨d, h'⟩) - x ⟨32 + d, by omega⟩ * Ideal.sin (a ⟨d, h'⟩)
    else x ⟨d - 32, by omega⟩ * Ideal.sin (a ⟨d - 32, by omega⟩) + x ⟨32 + (d - 32), by omega⟩ * Ideal.cos (a ⟨d - 32, by omega⟩)
  else
    if h' : (d : ℕ) - 64 < 32 then
      x ⟨64 + (d - 64), by omega⟩ * Ideal.cos (a2 ⟨d - 64, h'⟩) - x ⟨64 + (32 + (d - 64)), by omega⟩ * Ideal.sin (a2 ⟨d - 64, h'⟩)
    else x ⟨64 + (d - 64 - 32), by omega⟩ * Ideal.sin (a2 ⟨d - 64 - 32, by omega⟩)
      + x ⟨64 + (32 + (d - 64 - 32)), by omega⟩ * Ideal.cos (a2 ⟨d - 64 - 32, by omega⟩)

theorem rope8_at (y : FVec Ideal S16x8x2048x128 .f32) (a a2 : FVec Ideal S2048x32 .f32) (b : Fin 16) (h : Fin 8) (r : Fin 2048) (d : Fin 128) :
    rope8 y a a2 (ix4 b h r d) = rotated (fun i => a (ix2 r i)) (fun i => a2 (ix2 r i)) (fun d => y (ix4 b h r d)) d := by
  pointwise [rope8, rotated]
theorem rope2_at (y : FVec Ideal S16x2x2048x128 .f32) (a a2 : FVec Ideal S2048x32 .f32) (b : Fin 16) (h : Fin 2) (r : Fin 2048) (d : Fin 128) :
    rope2 y a a2 (ix4 b h r d) = rotated (fun i => a (ix2 r i)) (fun i => a2 (ix2 r i)) (fun d => y (ix4 b h r d)) d := by
  pointwise [rope2, rotated]

theorem scoreArr_at (q : FVec Ideal S16x8x2048x128 .f32) (k : FVec Ideal S16x2x2048x128 .f32) (kc : FVec Ideal S16x2x256x128 .f32)
    (b : Fin 16) (g : Fin 2) (h : Fin 4) (r : Fin 2048) (s : Fin 2304) :
    (scoreArr q k kc (ix5 b g h r s) : EReal) = (∑ d, (q (ix4 b ⟨g * 4 + h, by omega⟩ r d) : EReal)
      * (if h : (s : ℕ) < 2048 then k (ix4 b g ⟨s, h⟩ d) else kc (ix4 b g ⟨s - 2048, by omega⟩ d)))
      * Ideal.ofBits .f32 0x3DB504F3#32 := by
  pointwise [scoreArr]

/-- A maximum over the last of five axes is the maximum over that axis's coordinates. -/
theorem max_last {n0 n1 n2 n3 n4 : ℕ} (A : FVec Ideal ⟨5, ![n0, n1, n2, n3, n4]⟩ .f32) (c : FVec Ideal S_ .f32)
    (h : (⟨5, ![n0, n1, n2, n3, n4]⟩ : Shape).ReducesTo [4] ⟨4, ![n0, n1, n2, n3]⟩) (hu : 0 < S_.numel)
    (a : Fin n0) (b : Fin n1) (k : Fin n2) (r : Fin n3) :
    Host.reduce FloatOps.maximumf A c h hu (ix4 a b k r)
      = Finset.univ.fold max (c (Shape.Idx.first hu)) (fun s => A (ix5 a b k r s)) := by
  rw [Host.reduce_eq_fold]
  exact h.fold_fiber_r5_a4 _ _ _ _

theorem rowMax_at (A : FVec Ideal S16x2x4x2048x2304 .f32) (b : Fin 16) (g : Fin 2) (h : Fin 4) (r : Fin 2048) :
    (rowMax A (ix4 b g h r) : EReal) = Finset.univ.fold max (Ideal.ofBits .f32 0xFF800000#32) fun s => A (ix5 b g h r s) :=
  max_last A (constant S_ .f32 0xFF800000#32) reducesTo_S16x2x4x2048x2304_S16x2x4x2048_d4 h_S_ b g h r

theorem expArr_at (A : FVec Ideal S16x2x4x2048x2304 .f32) (M : FVec Ideal S16x2x4x2048 .f32) (b : Fin 16) (g : Fin 2) (h : Fin 4)
    (r : Fin 2048) (s : Fin 2304) : (expArr A M (ix5 b g h r s) : EReal)
      = Ideal.exp (A (ix5 b g h r s) - max (Ideal.ofBits .f32 0xFF800000#32) (M (ix4 b g h r))) := by
  pointwise [expArr]

theorem weightArr_at (A : FVec Ideal S16x2x4x2048x2304 .f32) (b : Fin 16) (g : Fin 2) (h : Fin 4) (r : Fin 2048) (s : Fin 2304) :
    (weightArr A (ix5 b g h r s) : EReal) = Ideal.exp (A (ix5 b g h r s)
      - max (Ideal.ofBits .f32 0xFF800000#32) (Finset.univ.fold max (Ideal.ofBits .f32 0xFF800000#32) fun s => A (ix5 b g h r s))) :=
  (expArr_at A (rowMax A) b g h r s).trans (by rw [rowMax_at])

theorem mixArr_at (W : FVec Ideal S16x2x4x2048x2304 .f32) (v : FVec Ideal S16x2x2048x128 .f32) (vc : FVec Ideal S16x2x256x128 .f32)
    (b : Fin 16) (g : Fin 2) (h : Fin 4) (r : Fin 2048) (d : Fin 128) :
    (mixArr W v vc (ix5 b g h r d) : EReal)
      = ∑ x : Fin 2048, Ideal.div (W (ix5 b g h r ⟨x, by omega⟩)) (∑ x, W (ix5 b g h r x)) * v (ix4 b g x d)
        + ∑ x : Fin 256, Ideal.div (W (ix5 b g h r ⟨2048 + x, by omega⟩)) (∑ x, W (ix5 b g h r x)) * vc (ix4 b g x d) := by
  pointwise [mixArr]

theorem layArr_at (o : FVec Ideal S16x2x4x2048x128 .f32) (i : Fin 32768) (j : Fin 1024) :
    layArr o (ix2 i j) = o (ix5 ⟨i / 2048, by omega⟩ ⟨j / 128 / 4, by omega⟩ ⟨j / 128 % 4, by omega⟩ ⟨i % 2048, by omega⟩ ⟨j % 128, by omega⟩) := by
  pointwise [layArr]
end Cert.ReferenceIdeal.Value
end
-- ==== Proof.Reals.lean ====
/-
Where the numbers are real: a normalised row is real for any input row, the rotary embedding keeps real rows real, and
so the scores are real.
-/
module
public import proofs.«01_k».proof.Proof.RefRead
public import proofs.«01_k».proof.Proof.Attn
public import Idealize.ShloMosaic.Lib.IdealHost

@[expose] public section
noncomputable section
namespace Cert.Attn
open Idealize.ShloMosaic Cert.ReferenceIdeal.Value

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.cos {x : EReal} (hx : IsReal x) : IsReal (Ideal.cos x) := by
  obtain ⟨a, rfl⟩ := hx; exact ⟨Real.cos a, rfl⟩
theorem IsReal.sin {x : EReal} (hx : IsReal x) : IsReal (Ideal.sin x) := by
  obtain ⟨a, rfl⟩ := hx; exact ⟨Real.sin a, rfl⟩

theorem bits_128 : Ideal.ofBits .f32 0x43000000#32 = ((128 : ℝ) : EReal) := by
  simp [Ideal.ofBits, Ideal.ieee, -EReal.coe_mul]; norm_num
theorem bits_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num
theorem bits_scale : Ideal.ofBits .f32 0x3DB504F3#32 = ((11863283 / 134217728 : ℝ) : EReal) := by
  simp [Ideal.ofBits, Ideal.ieee, -EReal.coe_mul]; norm_num
theorem bits_bot : Ideal.ofBits .f32 0xFF800000#32 = ⊥ := by
  simp [Ideal.ofBits, Ideal.ieee]
theorem bits_64 : Ideal.ofBits .f32 0x42800000#32 = ((64 : ℝ) : EReal) := by
  simp [Ideal.ofBits, Ideal.ieee, -EReal.coe_mul]; norm_num
theorem bits_10000 : Ideal.ofBits .f32 0x461C4000#32 = ((10000 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_top : Ideal.ofBits .f32 0x7F800000#32 = ⊤ := by
  simp [Ideal.ofBits, Ideal.ieee]

/-- A square is not negative. -/
theorem sq_nonneg' (x : EReal) : 0 ≤ x * x := by
  induction x with
  | bot => simp
  | top => simp
  | coe r => rw [← EReal.coe_mul]; exact EReal.coe_nonneg.mpr (mul_self_nonneg r)

/-- A normalised row is real wherever the gain is, whatever the row holds. -/
theorem normed_real (g q : Fin 128 → EReal) (hg : ∀ d, IsReal (g d)) (d : Fin 128) : IsReal (normed g q d) := by
  obtain ⟨e, he, hE⟩ := bits_eps
  unfold normed
  rw [bits_128, hE, Ideal.div_coe (by norm_num)]
  have h0 : 0 ≤ ∑ e, q e * q e := Finset.sum_nonneg fun _ _ => sq_nonneg' _
  have hle : q d * q d ≤ ∑ e, q e * q e :=
    Finset.single_le_sum (f := fun e => q e * q e) (fun _ _ => sq_nonneg' _) (Finset.mem_univ d)
  refine IsReal.mul ?_ (hg d)
  generalize (∑ e, q e * q e) = S at h0 hle
  induction S with
  | bot => exact absurd h0 (by simp)
  | top =>
    rw [EReal.top_mul_of_pos (by exact_mod_cast (by norm_num : (0:ℝ) < 1 / 128)), EReal.top_add_coe]
    exact ⟨0, by show q d * 0 = _; simp⟩
  | coe s =>
    have hs : 0 ≤ s := EReal.coe_nonneg.mp h0
    rw [← EReal.coe_mul, ← EReal.coe_add]
    have hp : 0 < s * (1 / 128) + e := by positivity
    refine IsReal.mul ?_ ⟨(Real.sqrt (s * (1 / 128) + e))⁻¹, ?_⟩
    · generalize q d = x at hle
      induction x with
      | bot => simp at hle
      | top => simp at hle
      | coe r => exact ⟨r, rfl⟩
    · show (if _ then _ else if _ then _ else _ : EReal) = _
      rw [if_neg (not_lt.mpr hp.le), if_neg hp.ne']

/-- The rotary embedding of a real row by real angles is real. -/
theorem rotated_real (a a2 : Fin 32 → EReal) (x : Fin 128 → EReal) (ha : ∀ i, IsReal (a i)) (ha2 : ∀ i, IsReal (a2 i))
    (hx : ∀ d, IsReal (x d)) (d : Fin 128) : IsReal (rotated a a2 x d) := by
  unfold rotated
  split_ifs
  · exact ((hx _).mul (ha _).cos).sub ((hx _).mul (ha _).sin)
  · exact ((hx _).mul (ha _).sin).add ((hx _).mul (ha _).cos)
  · exact ((hx _).mul (ha2 _).cos).sub ((hx _).mul (ha2 _).sin)
  · exact ((hx _).mul (ha2 _).sin).add ((hx _).mul (ha2 _).cos)

/-- The table of cosines, a column at a time. -/
def cosTab (a a2 : Fin 32 → EReal) (d : Fin 128) : EReal :=
  if h : (d : ℕ) < 32 then Ideal.cos (a ⟨d, h⟩) else if h : (d : ℕ) - 32 < 32 then Ideal.cos (a ⟨d - 32, h⟩)
  else if h : (d : ℕ) - 32 - 32 < 32 then Ideal.cos (a2 ⟨d - 32 - 32, h⟩) else Ideal.cos (a2 ⟨d - 32 - 32 - 32, by omega⟩)
/-- The table of sines with their signs, a column at a time. -/
def sinTab (a a2 : Fin 32 → EReal) (d : Fin 128) : EReal :=
  if h : (d : ℕ) < 32 then -Ideal.sin (a ⟨d, h⟩) else if h : (d : ℕ) - 32 < 32 then Ideal.sin (a ⟨d - 32, h⟩)
  else if h : (d : ℕ) - 32 - 32 < 32 then -Ideal.sin (a2 ⟨d - 32 - 32, h⟩) else Ideal.sin (a2 ⟨d - 32 - 32 - 32, by omega⟩)

theorem bit5 : ∀ d : Fin 128, IntOp.cmpi CmpIPredicate.eq (IntOp.andi (BitVec.ofNat 32 ↑d) 32#32) 0#32
    = if (d : ℕ) % 64 < 32 then 1#1 else 0#1 := by decide +kernel

/-- The kernel's rotary embedding is the reference's. -/
theorem roped_eq (a a2 : Fin 32 → EReal) (x : Fin 128 → EReal) (d : Fin 128) :
    roped (cosTab a a2) (sinTab a a2) x d = rotated a a2 x d := by
  have hx : ∀ (i j : ℕ) (hi : i < 128) (hj : j < 128), i = j → x ⟨i, hi⟩ = x ⟨j, hj⟩ := by
    intro i j hi hj e; subst e; rfl
  have ha : ∀ (i j : ℕ) (hi : i < 32) (hj : j < 32), i = j → a2 ⟨i, hi⟩ = a2 ⟨j, hj⟩ := by
    intro i j hi hj e; subst e; rfl
  obtain ⟨n, hn⟩ := d
  unfold roped cosTab sinTab rotated
  rw [bit5]
  dsimp only
  by_cases h1 : n < 32
  · rw [if_pos (by omega), dif_pos h1, dif_pos h1, dif_pos (by omega), dif_pos h1]
    show x _ * _ + x _ * _ = _
    rw [hx ((n + 128 - 96) % 128) (32 + n) _ (by omega) (by omega), mul_neg, sub_eq_add_neg]
  by_cases h2 : n < 64
  · rw [if_neg (by omega), dif_neg h1, dif_neg h1, dif_pos (by omega), dif_pos (by omega), dif_pos h2, dif_neg h1]
    show x _ * _ + x _ * _ = _
    rw [hx ((n + 128 - 32) % 128) (n - 32) _ (by omega) (by omega), hx (32 + (n - 32)) n (by omega) hn (by omega), add_comm]
  by_cases h3 : n < 96
  · have e1 : ¬ n - 32 < 32 := by omega
    have e2 : n - 32 - 32 < 32 := by omega
    have e3 : n - 64 < 32 := by omega
    rw [if_pos (by omega)]
    simp only [h1, h2, e1, e2, e3, ↓reduceDIte]
    show x _ * _ + x _ * _ = _
    rw [hx ((n + 128 - 96) % 128) (64 + (32 + (n - 64))) _ (by omega) (by omega), hx (64 + (n - 64)) n (by omega) hn (by omega),
      ha (n - 32 - 32) (n - 64) (by omega) (by omega) (by omega), mul_neg, sub_eq_add_neg]
  · have e1 : ¬ n - 32 < 32 := by omega
    have e2 : ¬ n - 32 - 32 < 32 := by omega
    have e3 : ¬ n - 64 < 32 := by omega
    rw [if_neg (by omega)]
    simp only [h1, h2, e1, e2, e3, ↓reduceDIte]
    show x _ * _ + x _ * _ = _
    rw [hx ((n + 128 - 32) % 128) (64 + (n - 64 - 32)) _ (by omega) (by omega),
      hx (64 + (32 + (n - 64 - 32))) n (by omega) hn (by omega),
      ha (n - 32 - 32 - 32) (n - 64 - 32) (by omega) (by omega) (by omega), add_comm]

/-- The two forms of one attention result agree: the kernel's, with the scale on the query and weights in base two, and
the reference's, with the scale on the scores. -/
theorem row_eq (c : ℝ) (Q : Fin 128 → EReal) (K : Fin 2304 → Fin 128 → EReal) (V : Fin 2304 → EReal)
    (hQ : ∀ d, IsReal (Q d)) (hK : ∀ s d, IsReal (K s d)) :
    baseTwo (fun s => ∑ d, Q d * ((c * (Real.log 2)⁻¹ : ℝ) : EReal) * K s d) V
      = softmax (fun s => (∑ d, Q d * K s d) * (c : EReal)) V := by
  choose q hq using hQ
  choose k hk using hK
  refine base_two_eq_softmax (by norm_num) (fun s => (∑ d, q d * k s d) * c) _ _ _ (fun s => ?_) (fun s => ?_)
  · rw [Finset.sum_mul, Finset.sum_mul, coe_sum]
    refine Finset.sum_congr rfl fun d _ => ?_
    rw [hq, hk, ← EReal.coe_mul, ← EReal.coe_mul]
    congr 1; ring
  · rw [EReal.coe_mul, coe_sum]
    congr 1
    refine Finset.sum_congr rfl fun d _ => ?_
    rw [hq, hk, ← EReal.coe_mul]

end Cert.Attn
end
-- ==== Proof.Tables.lean ====
/-
The tables the kernel's host part makes: the cosines and the signed sines of the reference's angles; the angles are real.
-/
module
public import proofs.«01_k».proof.Proof.Array
public import proofs.«01_k».proof.Proof.Reals

@[expose] public section
set_option maxRecDepth 16384
noncomputable section
namespace Cert.KernelIdeal.Gen
open Idealize.ShloMosaic Idealize.ShloMosaic.TcCoe Idealize.SL.Sem Idealize.ShloMosaic.StableHlo Cert.Attn

/-- The concatenation the host makes of the cosines. -/
def cosArr (a a2 : Vec Ideal S2048x32 .f32) : Vec Ideal S2048x128 .f32 :=
  concatenate S2048x128 1 [⟨S2048x32, Host.cos (F := Ideal) (φ := .f32) a⟩, ⟨S2048x32, Host.cos (F := Ideal) (φ := .f32) a⟩,
    ⟨S2048x32, Host.cos (F := Ideal) (φ := .f32) a2⟩, ⟨S2048x32, Host.cos (F := Ideal) (φ := .f32) a2⟩]
    concatenates_S2048x32_S2048x32_S2048x32_S2048x32_S2048x128_d1
/-- The concatenation the host makes of the sines. -/
def sinArr (a a2 : Vec Ideal S2048x32 .f32) : Vec Ideal S2048x128 .f32 :=
  concatenate S2048x128 1 [⟨S2048x32, Host.negf (F := Ideal) (φ := .f32) (Host.sin (F := Ideal) (φ := .f32) a)⟩, ⟨S2048x32, Host.sin (F := Ideal) (φ := .f32) a⟩,
    ⟨S2048x32, Host.negf (F := Ideal) (φ := .f32) (Host.sin (F := Ideal) (φ := .f32) a2)⟩, ⟨S2048x32, Host.sin (F := Ideal) (φ := .f32) a2⟩]
    concatenates_S2048x32_S2048x32_S2048x32_S2048x32_S2048x128_d1

theorem cosArr_at (a a2 : Vec Ideal S2048x32 .f32) (r : Fin 2048) (d : Fin 128) :
    (cosArr a a2 (ix2 r d) : EReal) = cosTab (fun i => a (ix2 r i)) (fun i => a2 (ix2 r i)) d := by
  pointwise [cosArr, cosTab]
theorem sinArr_at (a a2 : Vec Ideal S2048x32 .f32) (r : Fin 2048) (d : Fin 128) :
    (sinArr a a2 (ix2 r d) : EReal) = sinTab (fun i => a (ix2 r i)) (fun i => a2 (ix2 r i)) d := by
  pointwise [sinArr, sinTab]

variable (m : (ℓ : Loc nD τ sig) → Buf (Elt Ideal) ℓ)

/-- The last host operations before the call, from the first cosine on. -/
abbrev tableOps {F : FTy → Type} [FloatOps F] : List (HloOp τ sig (Elt F)) :=
  ( StableHlo.unary main_v19 main_v25 (Host.cos : (⟨S2048x32, .f32⟩ : BufTy).Contents (Elt F) → (⟨S2048x32, .f32⟩ : BufTy).Contents (Elt F))
  :: StableHlo.unary main_v19 main_v26 (Host.cos : (⟨S2048x32, .f32⟩ : BufTy).Contents (Elt F) → (⟨S2048x32, .f32⟩ : BufTy).Contents (Elt F))
  :: StableHlo.unary main_v24 main_v27 (Host.cos : (⟨S2048x32, .f32⟩ : BufTy).Contents (Elt F) → (⟨S2048x32, .f32⟩ : BufTy).Contents (Elt F))
  :: StableHlo.unary main_v24 main_v28 (Host.cos : (⟨S2048x32, .f32⟩ : BufTy).Contents (Elt F) → (⟨S2048x32, .f32⟩ : BufTy).Contents (Elt F))
  :: StableHlo.nary ![main_v25, main_v26, main_v27, main_v28] main_v29 (fun u => (concatenate S2048x128 1 [⟨S2048x32, (u 0 : (⟨S2048x32, .f32⟩ : BufTy).Contents (Elt F))⟩, ⟨S2048x32, (u 1 : (⟨S2048x32, .f32⟩ : BufTy).Contents (Elt F))⟩, ⟨S2048x32, (u 2 : (⟨S2048x32, .f32⟩ : BufTy).Contents (Elt F))⟩, ⟨S2048x32, (u 3 : (⟨S2048x32, .f32⟩ : BufTy).Contents (Elt F))⟩] concatenates_S2048x32_S2048x32_S2048x32_S2048x32_S2048x128_d1 : (⟨S2048x128, .f32⟩ : BufTy).Contents (Elt F)))
  :: StableHlo.unary main_v19 main_v30 (Host.sin : (⟨S2048x32, .f32⟩ : BufTy).Contents (Elt F) → (⟨S2048x32, .f32⟩ : BufTy).Contents (Elt F))
  :: StableHlo.unary main_v30 main_v31 (Host.negf : (⟨S2048x32, .f32⟩ : BufTy).Contents (Elt F) → (⟨S2048x32, .f32⟩ : BufTy).Contents (Elt F))
  :: StableHlo.unary main_v19 main_v32 (Host.sin : (⟨S2048x32, .f32⟩ : BufTy).Contents (Elt F) → (⟨S2048x32, .f32⟩ : BufTy).Contents (Elt F))
  :: StableHlo.unary main_v24 main_v33 (Host.sin : (⟨S2048x32, .f32⟩ : BufTy).Contents (Elt F) → (⟨S2048x32, .f32⟩ : BufTy).Contents (Elt F))
  :: StableHlo.unary main_v33 main_v34 (Host.negf : (⟨S2048x32, .f32⟩ : BufTy).Contents (Elt F) → (⟨S2048x32, .f32⟩ : BufTy).Contents (Elt F))
  :: StableHlo.unary main_v24 main_v35 (Host.sin : (⟨S2048x32, .f32⟩ : BufTy).Contents (Elt F) → (⟨S2048x32, .f32⟩ : BufTy).Contents (Elt F))
  :: StableHlo.nary ![main_v31, main_v32, main_v34, main_v35] main_v36 (fun u => (concatenate S2048x128 1 [⟨S2048x32, (u 0 : (⟨S2048x32, .f32⟩ : BufTy).Contents (Elt F))⟩, ⟨S2048x32, (u 1 : (⟨S2048x32, .f32⟩ : BufTy).Contents (Elt F))⟩, ⟨S2048x32, (u 2 : (⟨S2048x32, .f32⟩ : BufTy).Contents (Elt F))⟩, ⟨S2048x32, (u 3 : (⟨S2048x32, .f32⟩ : BufTy).Contents (Elt F))⟩] concatenates_S2048x32_S2048x32_S2048x32_S2048x32_S2048x128_d1 : (⟨S2048x128, .f32⟩ : BufTy).Contents (Elt F)))
  :: StableHlo.reshape main_arg2 main_v37 (rfl : (.f32 : EltTy) = .f32) shapeCasts_S2x128_S2x1x128
  :: StableHlo.reshape main_arg3 main_v38 (rfl : (.f32 : EltTy) = .f32) shapeCasts_S2x128_S2x1x128
  :: [] )

/-- They leave the cosines' table. -/
theorem tab29 (V1 : Valuation τ sig (Elt Ideal)) : (StableHlo.after (tableOps (F := Ideal)) V1 (Proc.devRef .tc main_v29) : Vec Ideal S2048x128 .f32)
    = cosArr (V1 (Proc.devRef .tc main_v19)) (V1 (Proc.devRef .tc main_v24)) := by
  rfl
/-- They leave the sines' table. -/
theorem tab36 (V1 : Valuation τ sig (Elt Ideal)) : (StableHlo.after (tableOps (F := Ideal)) V1 (Proc.devRef .tc main_v36) : Vec Ideal S2048x128 .f32)
    = sinArr (V1 (Proc.devRef .tc main_v19)) (V1 (Proc.devRef .tc main_v24)) := by
  rfl
theorem tab19 (V1 : Valuation τ sig (Elt Ideal)) : StableHlo.after (tableOps (F := Ideal)) V1 (Proc.devRef .tc main_v19)
    = V1 (Proc.devRef .tc main_v19) := by
  rfl
theorem tab24 (V1 : Valuation τ sig (Elt Ideal)) : StableHlo.after (tableOps (F := Ideal)) V1 (Proc.devRef .tc main_v24)
    = V1 (Proc.devRef .tc main_v24) := by
  rfl
theorem ops_eq : [hostOps0 (F := Ideal), hostOps0_1, hostOps0_2, hostOps0_3, hostOps0_4 (F := Ideal)].flatten
   = ([hostOps0 (F := Ideal), hostOps0_1, hostOps0_2, hostOps0_3, hostOps0_4 (F := Ideal)].flatten.take ([hostOps0 (F := Ideal), hostOps0_1, hostOps0_2, hostOps0_3, hostOps0_4 (F := Ideal)].flatten.length - 14)) ++ tableOps (F := Ideal) := by
  rfl
/-- The call's operand of cosines. -/
theorem V29 (V0 : Valuation Cert.ReferenceIdeal.τ Cert.ReferenceIdeal.sig (Elt Ideal)) (c : Dev nD) :
    (V m c main_v29 : Vec Ideal S2048x128 .f32)
      = cosArr (Cert.ReferenceIdeal.Value.res_main_v19 V0) (Cert.ReferenceIdeal.Value.res_main_v24 V0) := by
  have h19 : V m c main_v19 = Cert.ReferenceIdeal.Value.res_main_v19 V0 := by
    entry_read
    rfl
  have h24 : V m c main_v24 = Cert.ReferenceIdeal.Value.res_main_v24 V0 := by
    entry_read
    rfl
  rw [← h19, ← h24]
  unfold V
  rw [ops_eq, StableHlo.after_append, tab29, tab19, tab24]
/-- The call's operand of signed sines. -/
theorem V36 (V0 : Valuation Cert.ReferenceIdeal.τ Cert.ReferenceIdeal.sig (Elt Ideal)) (c : Dev nD) :
    (V m c main_v36 : Vec Ideal S2048x128 .f32)
      = sinArr (Cert.ReferenceIdeal.Value.res_main_v19 V0) (Cert.ReferenceIdeal.Value.res_main_v24 V0) := by
  have h19 : V m c main_v19 = Cert.ReferenceIdeal.Value.res_main_v19 V0 := by
    entry_read
    rfl
  have h24 : V m c main_v24 = Cert.ReferenceIdeal.Value.res_main_v24 V0 := by
    entry_read
    rfl
  rw [← h19, ← h24]
  unfold V
  rw [ops_eq, StableHlo.after_append, tab36, tab19, tab24]
end Cert.KernelIdeal.Gen

namespace Cert.ReferenceIdeal.Value
open Cert.ReferenceIdeal Cert.ReferenceIdeal.Gen Idealize.ShloMosaic Idealize.ShloMosaic.TcCoe Idealize.SL.Sem Idealize.ShloMosaic.StableHlo Cert.Attn

theorem sitofp_real (w : BitVec 32) : IsReal (FloatOps.sitofp (F := Ideal) FTy.f32 w) := ⟨_, rfl⟩

/-- The frequencies are real. -/
theorem freq_real (V0 : Valuation τ sig (Elt Ideal)) (i : Fin 32) : IsReal (res_main_v14 V0 (ix1 i : S32.Idx)) := by
  pointwise [res_main_v14]
  obtain ⟨w, hw⟩ := sitofp_real (BitVec.ofNat 32 ↑i)
  rw [hw, bits_10000, bits_2, bits_64, Ideal.div_coe (by norm_num), ← EReal.coe_mul, ← EReal.coe_neg, ← EReal.coe_mul]
  exact ⟨_, rfl⟩
/-- The row angles are real. -/
theorem row_angle_real (V0 : Valuation τ sig (Elt Ideal)) (r : Fin 2048) (i : Fin 32) : IsReal (res_main_v19 V0 (ix2 r i : S2048x32.Idx)) := by
  have h := freq_real V0 i
  unfold res_main_v19
  generalize res_main_v14 V0 = f at h ⊢
  pointwise
  exact (sitofp_real _).mul h
/-- The column angles are real. -/
theorem col_angle_real (V0 : Valuation τ sig (Elt Ideal)) (r : Fin 2048) (i : Fin 32) : IsReal (res_main_v24 V0 (ix2 r i : S2048x32.Idx)) := by
  have h := freq_real V0 i
  unfold res_main_v24
  generalize res_main_v14 V0 = f at h ⊢
  pointwise
  exact (sitofp_real _).mul h
end Cert.ReferenceIdeal.Value
end
-- ==== Proof.Equal.lean ====
/-
The two results agree: the kernel's array and the reference's array hold, at every row and lane, the two forms of one
attention result over the same query row, keys and values.
-/
module
public import proofs.«01_k».proof.Proof.Tables

@[expose] public section
set_option maxRecDepth 16384
noncomputable section
namespace Cert.Attn
open Idealize.ShloMosaic Idealize.ShloMosaic.TcCoe Cert.ReferenceIdeal.Value

abbrev Latent := Vec Ideal ⟨2, ![32768, 13824]⟩ .bf16
abbrev Context := Vec Ideal ⟨2, ![4096, 13824]⟩ .bf16
abbrev Gain := Vec Ideal ⟨2, ![2, 128]⟩ .f32
abbrev Angles := Vec Ideal ⟨2, ![2048, 32]⟩ .f32

/-- The query of head `h` at batch `b` and place `r`: normalised and rotated. -/
def qAt (z : Latent) (qg : Gain) (a a2 : Angles) (b : Fin 16) (r : Fin 2048) (h : Fin 8) (d : Fin 128) : EReal :=
  rotated (fun i => a (ix2 r i)) (fun i => a2 (ix2 r i)) (normed (fun d => qg (ix2 0 d))
    (fun d => z (ix2 ⟨b * 2048 + r, by omega⟩ ⟨(13312 + h * 128 + d) % 13824, Nat.mod_lt _ (by norm_num)⟩))) d
/-- The keys of batch `b` and key-value head `g`: the latent's rows normalised and rotated, then the context's rows
normalised. -/
def kAt (z : Latent) (zc : Context) (kg : Gain) (a a2 : Angles) (b : Fin 16) (g : Fin 2) (s : Fin 2304) (d : Fin 128) : EReal :=
  if h : (s : ℕ) < 2048 then
    rotated (fun i => a (ix2 ⟨s, h⟩ i)) (fun i => a2 (ix2 ⟨s, h⟩ i)) (normed (fun d => kg (ix2 0 d))
      (fun d => z (ix2 ⟨b * 2048 + s, by omega⟩ ⟨2560 + g * 128 + d, by omega⟩))) d
  else normed (fun d => kg (ix2 0 d)) (fun d => zc (ix2 ⟨b * 256 + (s - 2048), by omega⟩ ⟨2560 + g * 128 + d, by omega⟩)) d
/-- A column of the values of batch `b` and key-value head `g`: the latent's rows, then the context's rows. -/
def vAt (z : Latent) (zc : Context) (b : Fin 16) (g : Fin 2) (d : Fin 128) (s : Fin 2304) : EReal :=
  if h : (s : ℕ) < 2048 then z (ix2 ⟨b * 2048 + s, by omega⟩ ⟨2816 + g * 128 + d, by omega⟩)
  else zc (ix2 ⟨b * 256 + (s - 2048), by omega⟩ ⟨2816 + g * 128 + d, by omega⟩)

/-- A sum over all keys is the sum over the latent's and the sum over the context's. -/
theorem sum_join (f : Fin 2304 → EReal) :
    ∑ x : Fin 2048, f ⟨x, by omega⟩ + ∑ x : Fin 256, f ⟨2048 + x, by omega⟩ = ∑ s, f s :=
  (Fin.sum_univ_add (a := 2048) (b := 256) f).symm

/-- Two entries of an array are equal when their coordinates are. -/
theorem entry_congr {n k : ℕ} {φ : FTy} (z : FVec Ideal ⟨2, ![n, k]⟩ φ) {i i' : ℕ} {j j' : ℕ} (hi : i < n) (hi' : i' < n) (hj : j < k) (hj' : j' < k)
    (ei : i = i') (ej : j = j') : (z (ix2 ⟨i, hi⟩ ⟨j, hj⟩) : EReal) = z (ix2 ⟨i', hi'⟩ ⟨j', hj'⟩) := by
  subst ei ej; rfl

/-- The reference's query heads, normalised and rotated, hold the queries. -/
theorem query_at (z : Latent) (qg : Gain) (a a2 : Angles) (b : Fin 16) (h : Fin 8) (r : Fin 2048) (d : Fin 128) :
    (rope8 (norm8 (qHeads (rolled z)) (gain qg)) a a2 (ix4 b h r d) : EReal) = qAt z qg a a2 b r h d := by
  rw [rope8_at]
  unfold qAt
  congr 1
  funext d
  rw [norm8_at]
  congr 1
  · funext d; exact gain_at qg d
  · funext d
    rw [qHeads_at, rolled_at]
    dsimp only
    split_ifs
    · exact entry_congr z _ _ _ _ rfl (by omega)
    · exact entry_congr z _ _ _ _ rfl (by omega)
/-- The reference's latent key heads, normalised and rotated, hold the first 2048 keys. -/
theorem key_at (z : Latent) (zc : Context) (kg : Gain) (a a2 : Angles) (b : Fin 16) (g : Fin 2) (s : Fin 2304) (d : Fin 128) :
    ((if h : (s : ℕ) < 2048 then rope2 (norm2 (kHeads (rolled z)) (gain kg)) a a2 (ix4 b g ⟨s, h⟩ d)
      else normC (kcHeads (rolledC zc)) (gain kg) (ix4 b g ⟨s - 2048, by omega⟩ d)) : EReal) = kAt z zc kg a a2 b g s d := by
  unfold kAt
  split_ifs with hs
  · rw [rope2_at]
    congr 1
    funext d
    rw [norm2_at]
    congr 1
    · funext d; exact gain_at kg d
    · funext d
      rw [kHeads_at, rolled_at]
      dsimp only
      rw [dif_neg (by omega)]
      exact entry_congr z _ _ _ _ rfl (by omega)
  · rw [normC_at]
    congr 1
    · funext d; exact gain_at kg d
    · funext d
      rw [kcHeads_at, rolledC_at]
      dsimp only
      rw [dif_neg (by omega)]
      exact entry_congr zc _ _ _ _ rfl (by omega)
/-- The reference's latent value heads hold the first 2048 values. -/
theorem value_at (z : Latent) (zc : Context) (b : Fin 16) (g : Fin 2) (x : Fin 2048) (d : Fin 128) :
    (vHeads (rolled z) (ix4 b g x d) : EReal) = vAt z zc b g d ⟨x, by omega⟩ := by
  unfold vAt
  rw [vHeads_at, rolled_at]
  dsimp only
  rw [dif_neg (by omega), dif_pos x.isLt]
  exact entry_congr z _ _ _ _ rfl (by omega)
/-- The reference's context value heads hold the last 256 values. -/
theorem valueC_at (z : Latent) (zc : Context) (b : Fin 16) (g : Fin 2) (x : Fin 256) (d : Fin 128) :
    (vcHeads (rolledC zc) (ix4 b g x d) : EReal) = vAt z zc b g d ⟨2048 + x, by omega⟩ := by
  unfold vAt
  rw [vcHeads_at, rolledC_at]
  dsimp only
  rw [dif_neg (by omega), dif_neg (by omega)]
  exact entry_congr zc _ _ _ _ (by omega) (by omega)

/-- The reference's scaled score of a query against a key. -/
theorem score_at (z : Latent) (zc : Context) (qg kg : Gain) (a a2 : Angles) (b : Fin 16) (g : Fin 2) (h : Fin 4) (r : Fin 2048) (s : Fin 2304) :
    (scoreArr (rope8 (norm8 (qHeads (rolled z)) (gain qg)) a a2) (rope2 (norm2 (kHeads (rolled z)) (gain kg)) a a2)
      (normC (kcHeads (rolledC zc)) (gain kg)) (ix5 b g h r s) : EReal)
    = (∑ d, qAt z qg a a2 b r ⟨g * 4 + h, by omega⟩ d * kAt z zc kg a a2 b g s d) * ((11863283 / 134217728 : ℝ) : EReal) := by
  rw [scoreArr_at, bits_scale]
  congr 1
  refine Finset.sum_congr rfl fun d _ => ?_
  rw [query_at, key_at]

/-- The reference's weighted mean, from what its scores and values hold. -/
theorem mix_softmax (A : FVec Ideal Cert.ReferenceIdeal.S16x2x4x2048x2304 .f32) (v : FVec Ideal Cert.ReferenceIdeal.S16x2x2048x128 .f32)
    (vc : FVec Ideal Cert.ReferenceIdeal.S16x2x256x128 .f32) (b : Fin 16) (g : Fin 2) (h : Fin 4) (r : Fin 2048) (d : Fin 128)
    (f V : Fin 2304 → EReal) (hf : ∀ s, (A (ix5 b g h r s) : EReal) = f s) (hv : ∀ x : Fin 2048, (v (ix4 b g x d) : EReal) = V ⟨x, by omega⟩)
    (hvc : ∀ x : Fin 256, (vc (ix4 b g x d) : EReal) = V ⟨2048 + x, by omega⟩) :
    (mixArr (weightArr A) v vc (ix5 b g h r d) : EReal) = softmax f V := by
  rw [mixArr_at]
  simp only [weightArr_at, hf, hv, hvc, bits_bot, bot_sup_eq]
  exact sum_join (fun s => Ideal.div (Ideal.exp (f s - Finset.univ.fold max ⊥ f)) (∑ k', Ideal.exp (f k' - Finset.univ.fold max ⊥ f)) * V s)

/-- The reference's array at a row and a lane. -/
theorem ref_at (z : Latent) (zc : Context) (qg kg : Gain) (a a2 : Angles) (i : Fin 32768) (j : Fin 1024) :
    (refOut z zc qg kg a a2 (ix2 i j) : EReal)
    = softmax (fun s => (∑ d, qAt z qg a a2 ⟨i / 2048, by omega⟩ ⟨i % 2048, by omega⟩ ⟨j / 128, by omega⟩ d
        * kAt z zc kg a a2 ⟨i / 2048, by omega⟩ ⟨j / 512, by omega⟩ s d) * ((11863283 / 134217728 : ℝ) : EReal))
      (vAt z zc ⟨i / 2048, by omega⟩ ⟨j / 512, by omega⟩ ⟨j % 128, by omega⟩) := by
  have eh : (⟨(j : ℕ) / 128 / 4 * 4 + j / 128 % 4, by omega⟩ : Fin 8) = ⟨j / 128, by omega⟩ := by
    simp only [Fin.mk.injEq]; omega
  have eg : (⟨(j : ℕ) / 128 / 4, by omega⟩ : Fin 2) = ⟨j / 512, by omega⟩ := by
    simp only [Fin.mk.injEq]; omega
  unfold refOut
  rw [layArr_at, ← eh, ← eg]
  exact mix_softmax _ _ _ _ _ _ _ _ _ _ (fun s => score_at z zc qg kg a a2 _ _ _ _ s) (fun x => value_at z zc _ _ x _)
    (fun x => valueC_at z zc _ _ x _)
end Cert.Attn

namespace Cert.KernelIdeal.Gen
open Idealize.ShloMosaic Idealize.ShloMosaic.TcCoe Idealize.SL.Sem Cert.Attn Cert.ReferenceIdeal.Value

/-- The kernel's factor on the query is the reference's scale over log 2. -/
theorem ss_eq : ss = (((11863283 / 134217728) * (Real.log 2)⁻¹ : ℝ) : EReal) :=
  IdealRules.named_const.ideal_named_scalar _ _ _ _ rfl

theorem vals_left (v : Vec Ideal S2048x128 .bf16) (vc : Vec Ideal S256x128 .bf16) (s : Fin 2304) (d : Fin 128) :
    (vals v vc (ix2 s ⟨d, by omega⟩) : EReal) = if h : (s : ℕ) < 2048 then v (ix2 ⟨s, h⟩ d) else vc (ix2 ⟨s - 2048, by omega⟩ d) := by
  show dite _ _ _ = _
  exact dif_pos d.isLt
theorem vals_right (v : Vec Ideal S2048x128 .bf16) (vc : Vec Ideal S256x128 .bf16) (s : Fin 2304) (d : Fin 128) :
    (vals v vc (ix2 s ⟨128 + d, by omega⟩) : EReal) = 1 := by
  show dite _ _ _ = _
  exact (dif_neg (by show ¬ 128 + (d : ℕ) < 128; omega)).trans Ideal.ofBits_one_bf16

theorem keys_at (g : Vec Ideal S1x1x128 .f32) (C S : Vec Ideal S2048x128 .f32) (k : Vec Ideal S2048x128 .bf16)
    (kc : Vec Ideal S256x128 .bf16) (s : Fin 2304) (d : Fin 128) : (keys g C S k kc (ix2 s d) : EReal)
    = if h : (s : ℕ) < 2048 then roped (fun d => C (ix2 ⟨s, h⟩ d)) (fun d => S (ix2 ⟨s, h⟩ d))
        (normed (fun d => g (ix3 0 0 d)) (fun d => k (ix2 ⟨s, h⟩ d))) d
      else normed (fun d => g (ix3 0 0 d)) (fun d => kc (ix2 ⟨s - 2048, by omega⟩ d)) d := rfl
theorem part_at {R n w : ℕ} (z : Vec Ideal ⟨2, ![R, 13824]⟩ .bf16) (b o : ℕ) (hb : (b + 1) * n ≤ R) (ho : o + w ≤ 13824)
    (r : Fin n) (l : Fin w) (i j : ℕ) (hi : i < R) (hj : j < 13824) (ei : b * n + r = i) (ej : o + l = j) :
    (part z b o hb ho (ix2 r l) : EReal) = z (ix2 ⟨i, hi⟩ ⟨j, hj⟩) := by
  subst ei ej; rfl

/-- A block at a row and a lane, from what its parts hold. -/
theorem block_baseTwo (q : Vec Ideal S2048x512 .bf16) (k v : Vec Ideal S2048x128 .bf16) (kc vc : Vec Ideal S256x128 .bf16)
    (qg kg : Vec Ideal S1x1x128 .f32) (C S : Vec Ideal S2048x128 .f32) (r : Fin 2048) (y : Fin 512) (Q V : Fin _ → EReal)
    (K : Fin 2304 → Fin 128 → EReal)
    (hQ : ∀ d, roped (fun d => C (ix2 r d)) (fun d => S (ix2 r d)) (normed (fun d => qg (ix3 0 0 d))
      (fun d => q (ix2 r ⟨(y : ℕ) / 128 * 128 + d, by omega⟩))) d = Q d)
    (hK : ∀ s d, (keys kg C S k kc (ix2 s d) : EReal) = K s d)
    (hV : ∀ s, (vals v vc (ix2 s ⟨(y : ℕ) % 128, by omega⟩) : EReal) = V s) :
    (blockOut q k v kc vc qg kg C S (ix2 r y) : EReal)
      = baseTwo (fun s => ∑ d, Q d * (((11863283 / 134217728) * (Real.log 2)⁻¹ : ℝ) : EReal) * K s d) V := by
  have hA : ∀ s, scores ss (fun d => qg (ix3 0 0 d)) (fun d => C (ix2 r d)) (fun d => S (ix2 r d))
      (fun d => q (ix2 r ⟨(y : ℕ) / 128 * 128 + d, by omega⟩)) (fun s d => keys kg C S k kc (ix2 s d)) s
      = ∑ d, Q d * (((11863283 / 134217728) * (Real.log 2)⁻¹ : ℝ) : EReal) * K s d := fun s =>
    Finset.sum_congr rfl fun d _ => by rw [hQ, ss_eq]; exact congrArg _ (hK s d)
  have h1 : ∀ s, (vals v vc (ix2 s ⟨128 + (y : ℕ) % 128, by omega⟩) : EReal) = 1 := fun s => vals_right v vc s ⟨y % 128, by omega⟩
  have e : (blockOut q k v kc vc qg kg C S (ix2 r y) : EReal) = rowOut ss (fun d => qg (ix3 0 0 d)) (fun d => C (ix2 r d)) (fun d => S (ix2 r d))
      (fun d => q (ix2 r ⟨(y : ℕ) / 128 * 128 + d, by omega⟩)) (fun s d => keys kg C S k kc (ix2 s d))
      (fun s => vals v vc (ix2 s ⟨(y : ℕ) % 128, by omega⟩)) (fun s => vals v vc (ix2 s ⟨128 + (y : ℕ) % 128, by omega⟩)) := rfl
  rw [e]
  unfold rowOut baseTwo
  rw [funext hA, funext hV, funext h1, bits_bot]

/-- The kernel's array at a row and a lane. -/
theorem arr_at (z : Latent) (zc : Context) (qg kg : Gain) (a a2 : Angles) (C S : Vec Ideal S2048x128 .f32)
    (hC : ∀ r, (fun d => (C (ix2 r d) : EReal)) = cosTab (fun i => a (ix2 r i)) (fun i => a2 (ix2 r i)))
    (hS : ∀ r, (fun d => (S (ix2 r d) : EReal)) = sinTab (fun i => a (ix2 r i)) (fun i => a2 (ix2 r i)))
    (i : Fin 32768) (j : Fin 1024) :
    (arrOut z zc qg kg C S (ix2 i j) : EReal)
    = baseTwo (fun s => ∑ d, qAt z qg a a2 ⟨i / 2048, by omega⟩ ⟨i % 2048, by omega⟩ ⟨j / 128, by omega⟩ d
        * (((11863283 / 134217728) * (Real.log 2)⁻¹ : ℝ) : EReal)
        * kAt z zc kg a a2 ⟨i / 2048, by omega⟩ ⟨j / 512, by omega⟩ s d)
      (vAt z zc ⟨i / 2048, by omega⟩ ⟨j / 512, by omega⟩ ⟨j % 128, by omega⟩) := by
  have e : (arrOut z zc qg kg C S (ix2 i j) : EReal) = blockOut
      (part (n := 2048) (w := 512) z (i / 2048) ((26 + j / 512) % 27 * 512) (by omega) (by omega))
      (part (n := 2048) (w := 128) z (i / 2048) ((20 + j / 512) * 128) (by omega) (by omega))
      (part (n := 2048) (w := 128) z (i / 2048) ((22 + j / 512) * 128) (by omega) (by omega))
      (part (n := 256) (w := 128) zc (i / 2048) ((20 + j / 512) * 128) (by omega) (by omega))
      (part (n := 256) (w := 128) zc (i / 2048) ((22 + j / 512) * 128) (by omega) (by omega))
      (fun i => qg (ix2 0 (i 2))) (fun i => kg (ix2 0 (i 2))) C S (ix2 ⟨i % 2048, by omega⟩ ⟨j % 512, by omega⟩) := rfl
  refine e.trans (block_baseTwo _ _ _ _ _ _ _ _ _ _ _ (qAt z qg a a2 ⟨i / 2048, by omega⟩ ⟨i % 2048, by omega⟩ ⟨j / 128, by omega⟩)
    (vAt z zc ⟨i / 2048, by omega⟩ ⟨j / 512, by omega⟩ ⟨j % 128, by omega⟩)
    (kAt z zc kg a a2 ⟨i / 2048, by omega⟩ ⟨j / 512, by omega⟩) (fun d => ?_) (fun s d => ?_) (fun s => ?_))
  · rw [hC, hS, roped_eq]
    exact congrArg (fun x => rotated _ _ (normed _ x) d) (funext fun d => part_at _ _ _ _ _ _ _ _ _ _ _ rfl (by dsimp only; omega))
  · rw [keys_at]
    unfold kAt
    by_cases h : (s : ℕ) < 2048
    · rw [dif_pos h, dif_pos h, hC, hS, roped_eq]
      exact congrArg (fun x => rotated _ _ (normed _ x) d) (funext fun d => part_at _ _ _ _ _ _ _ _ _ _ _ rfl (by dsimp only; omega))
    · rw [dif_neg h, dif_neg h]
      exact congrArg (fun x => normed _ x d) (funext fun d => part_at _ _ _ _ _ _ _ _ _ _ _ rfl (by dsimp only; omega))
  · refine (vals_left _ _ s ⟨j % 512 % 128, by omega⟩).trans ?_
    unfold vAt
    by_cases h : (s : ℕ) < 2048
    · rw [dif_pos h, dif_pos h]
      exact part_at _ _ _ _ _ _ _ _ _ _ _ rfl (by dsimp only; omega)
    · rw [dif_neg h, dif_neg h]
      exact part_at _ _ _ _ _ _ _ _ _ _ _ rfl (by dsimp only; omega)

/-- With finite gains and real angles the two results are equal. -/
theorem arr_eq_ref (z : Latent) (zc : Context) (qg kg : Gain) (a a2 : Angles)
    (hqg : ∀ d, IsReal (qg (ix2 0 d))) (hkg : ∀ d, IsReal (kg (ix2 0 d)))
    (ha : ∀ r i, IsReal (a (ix2 r i))) (ha2 : ∀ r i, IsReal (a2 (ix2 r i))) :
    (arrOut z zc qg kg (cosArr a a2) (sinArr a a2) : Vec Ideal ⟨2, ![32768, 1024]⟩ .bf16) = refOut z zc qg kg a a2 := by
  funext y
  obtain ⟨i, j, rfl⟩ : ∃ (i : Fin 32768) (j : Fin 1024), y = ix2 i j := ⟨y 0, y 1, by funext k; fin_cases k <;> rfl⟩
  refine ((arr_at z zc qg kg a a2 _ _ (fun r => funext fun d => cosArr_at a a2 r d) (fun r => funext fun d => sinArr_at a a2 r d) i j).trans
    ?_).trans (ref_at z zc qg kg a a2 i j).symm
  refine row_eq (11863283 / 134217728) _ _ _ (fun d => ?_) (fun s d => ?_)
  · exact rotated_real _ _ _ (ha _) (ha2 _) (normed_real _ _ hqg) d
  · unfold kAt
    split_ifs
    · exact rotated_real _ _ _ (ha _) (ha2 _) (normed_real _ _ hkg) d
    · exact normed_real _ _ hkg d
end Cert.KernelIdeal.Gen
end
-- ==== Proof.Final.lean ====
/-
The kernel's result array is the reference's result, for finite gains.
-/
module
public import proofs.«01_k».proof.Proof.Equal
public import proofs.«01_k».proof.Defs

@[expose] public section
set_option maxRecDepth 16384
noncomputable section
namespace Cert.Attn
open Idealize.ShloMosaic Idealize.ShloMosaic.TcCoe

/-- A number whose absolute value is below infinity is real. -/
theorem real_of_abs_lt (x : EReal) (h : Ideal.cmp .olt (max x (-x)) ⊤ = 1#1) : IsReal x := by
  induction x with
  | bot => simp [Ideal.cmp] at h
  | top => simp [Ideal.cmp] at h
  | coe r => exact ⟨r, rfl⟩

theorem precondition_facts : Cert.Pre_gains_finite.Facts := ⟨by decide, by decide, by decide⟩

theorem layer_row [hF : Cert.Pre_gains_finite.Facts] (g : Gain) (d : Fin 128) :
    shapeCast Cert.Pre_gains_finite.S128 (extractStridedSlice Cert.Pre_gains_finite.S1x128 ![0, 0] g hF.slices_S2x128_S1x128_0_0) hF.shapeCasts_S1x128_S128 (ix1 d)
      = g (ix2 0 d) := by
  pointwise

/-- The precondition makes every entry of the layer's query gain real. -/
theorem gain_real_q [hF : Cert.Pre_gains_finite.Facts] (z : Latent) (zc : Context) (qg kg : Gain)
    (h : (Cert.Pre_gains_finite.fn (F := Ideal) z zc qg kg).1 = fun _ => 1#1) (d : Fin 128) : IsReal (qg (ix2 0 d)) := by
  refine real_of_abs_lt _ ?_
  rw [← bits_top, ← layer_row qg d]
  exact congrFun h (ix1 d)
/-- The precondition makes every entry of the layer's key gain real. -/
theorem gain_real_k [hF : Cert.Pre_gains_finite.Facts] (z : Latent) (zc : Context) (qg kg : Gain)
    (h : (Cert.Pre_gains_finite.fn (F := Ideal) z zc qg kg).2 = fun _ => 1#1) (d : Fin 128) : IsReal (kg (ix2 0 d)) := by
  refine real_of_abs_lt _ ?_
  rw [← bits_top, ← layer_row kg d]
  exact congrFun h (ix1 d)
end Cert.Attn

namespace Cert.KernelIdeal.Gen
open Idealize.ShloMosaic Idealize.ShloMosaic.TcCoe Idealize.SL.Sem Cert.Attn Cert.ReferenceIdeal.Value

/-- The kernel's array after all grid points is the reference's result of the same arguments. -/
theorem result_eq [hF : Cert.Pre_gains_finite.Facts] (m : (ℓ : Loc nD τ sig) → Buf (Elt Ideal) ℓ) (hm : Pre_KernelIdeal_gains_finite m)
    (V0 : Valuation Cert.ReferenceIdeal.τ Cert.ReferenceIdeal.sig (Elt Ideal)) (c : Dev nD) :
    ((dats m 0 c).arrAt 9 cfg0.N : Vec Ideal S32768x1024 .bf16)
      = refOut (m ((c.tc : Thread nD τ).loc main_arg0)) (m ((c.tc : Thread nD τ).loc main_arg1)) (m ((c.tc : Thread nD τ).loc main_arg2))
        (m ((c.tc : Thread nD τ).loc main_arg3)) (res_main_v19 V0) (res_main_v24 V0) := by
  refine (final m c).trans ?_
  rw [V29 m V0 c, V36 m V0 c, V_main_arg0, V_main_arg1, V_main_arg2, V_main_arg3]
  exact arr_eq_ref _ _ _ _ _ _ (gain_real_q _ _ _ _ (hm c).1) (gain_real_k _ _ _ _ (hm c).2)
    (fun r i => row_angle_real V0 r i) (fun r i => col_angle_real V0 r i)
end Cert.KernelIdeal.Gen
end
-- ==== Proof.MlpRow.lean ====
/-
The MLP of one row, over the extended reals.

The kernel normalises `x + (gate / α) · f` with the small constant `ε / α²`; the reference normalises `α · x + gate · f`
with `ε`. `scaled_norm` says that the two agree, whatever the values are: a positive real factor goes through sums,
differences and the reciprocal square root. `partial_step` and `partial_all` put the sum over the hidden units, which the
kernel takes in eight tiles of 1024, back together.
-/
module
public import Idealize.ShloMosaic.Lib.Pipeline.ValueKit
public import Idealize.ShloMosaic.Lib.Pointwise
public import proofs.«01_k».proof.Proof.Attn

@[expose] public section
noncomputable section
namespace Cert.Mlp
open Idealize.ShloMosaic

/-- The mean of a row. -/
def mean (x : Fin 2048 → EReal) : EReal := Ideal.div (∑ d, x d) (Ideal.ofBits .f32 0x45000000#32)

/-- A row less its mean, over its standard deviation; `e` is added to the variance. -/
def norm (e : EReal) (x : Fin 2048 → EReal) (d : Fin 2048) : EReal :=
  (x d - mean x) * Ideal.rsqrt (mean (fun d' => (x d' - mean x) * (x d' - mean x)) + e)

/-- A row normalised, then scaled and shifted. -/
def modulated (sh sc x : Fin 2048 → EReal) (d : Fin 2048) : EReal :=
  norm (Ideal.ofBits .f32 0x358637BD#32) x d * (1 + sc d) + sh d

/-- One hidden unit: the larger of its input and zero, squared. -/
def unit (h w : Fin 2048 → EReal) : EReal :=
  max (∑ e, h e * w e) 0 * max (∑ e, h e * w e) 0

theorem word_2048 : Ideal.ofBits .f32 0x45000000#32 = ((2048 : ℝ) : EReal) := by
  simp [Ideal.ofBits, Ideal.ieee, -EReal.coe_mul]; norm_num

theorem mul_sub_pos {a : ℝ} (ha : 0 < a) (x y : EReal) : (a : EReal) * x - (a : EReal) * y = (a : EReal) * (x - y) := by
  rw [sub_eq_add_neg, sub_eq_add_neg, ← mul_neg,
    EReal.left_distrib_of_nonneg_of_ne_top (EReal.coe_nonneg.mpr ha.le) (EReal.coe_ne_top a)]

theorem mean_mul {a : ℝ} (ha : 0 < a) (x : Fin 2048 → EReal) : mean (fun d => (a : EReal) * x d) = (a : EReal) * mean x := by
  unfold mean
  rw [word_2048, Ideal.div_coe (by norm_num), Ideal.div_coe (by norm_num), ← mul_assoc, mul_comm (a : EReal) (∑ d, x d), Cert.Attn.sum_mul_coe _ _ a ha.le]
  simp only [mul_comm]

theorem rsqrt_mul {a : ℝ} (ha : 0 < a) (v : EReal) :
    Ideal.rsqrt (((a * a : ℝ) : EReal) * v) = ((a⁻¹ : ℝ) : EReal) * Ideal.rsqrt v := by
  have h2 : 0 < a * a := mul_pos ha ha
  have hi : 0 < a⁻¹ := inv_pos.mpr ha
  induction v with
  | bot => rw [EReal.coe_mul_bot_of_pos h2, Ideal.rsqrt_bot, EReal.coe_mul_bot_of_pos hi]
  | top => rw [EReal.coe_mul_top_of_pos h2, Ideal.rsqrt_top, mul_zero]
  | coe r =>
    rw [← EReal.coe_mul, Ideal.rsqrt_coe, Ideal.rsqrt_coe]
    rcases lt_trichotomy r 0 with h | h | h
    · rw [if_pos (mul_neg_of_pos_of_neg h2 h), if_pos h, EReal.coe_mul_bot_of_pos hi]
    · subst h
      simp [EReal.coe_mul_top_of_pos hi]
    · have h3 := mul_pos h2 h
      rw [if_neg h3.not_gt, if_neg h3.ne', if_neg h.not_gt, if_neg h.ne', ← EReal.coe_mul,
        Real.sqrt_mul h2.le, Real.sqrt_mul_self ha.le, mul_inv]

/-- Normalising a row times a positive factor, with the constant times its square, normalises the row. -/
theorem norm_mul {a : ℝ} (ha : 0 < a) (e : EReal) (x : Fin 2048 → EReal) :
    norm (((a * a : ℝ) : EReal) * e) (fun d => (a : EReal) * x d) = norm e x := by
  funext d
  unfold norm
  rw [mean_mul ha]
  have hv : (fun d' => ((a : EReal) * x d' - (a : EReal) * mean x) * ((a : EReal) * x d' - (a : EReal) * mean x))
      = fun d' => ((a * a : ℝ) : EReal) * ((x d' - mean x) * (x d' - mean x)) := by
    funext d'
    rw [mul_sub_pos ha, EReal.coe_mul, mul_mul_mul_comm]
  rw [hv, mean_mul (mul_pos ha ha), mul_sub_pos ha,
    ← EReal.left_distrib_of_nonneg_of_ne_top (EReal.coe_nonneg.mpr (mul_pos ha ha).le) (EReal.coe_ne_top _), rsqrt_mul ha,
    mul_mul_mul_comm, ← EReal.coe_mul, mul_inv_cancel₀ ha.ne', EReal.coe_one, one_mul]

/-- The residual in the kernel's scale and in the reference's. -/
theorem scaled_norm {a : ℝ} (ha : 0 < a) {e e' i : EReal} (he : e' = ((a * a : ℝ) : EReal) * e) (hi : i = ((a⁻¹ : ℝ) : EReal))
    (x g f : Fin 2048 → EReal) :
    norm e (fun d => x d + g d * i * f d) = norm e' (fun d => (a : EReal) * x d + g d * f d) := by
  rw [he, ← norm_mul ha]
  congr 1
  funext d
  rw [hi, EReal.left_distrib_of_nonneg_of_ne_top (EReal.coe_nonneg.mpr ha.le) (EReal.coe_ne_top _)]
  congr 1
  rw [mul_comm (g d), mul_assoc, ← mul_assoc, ← EReal.coe_mul, mul_inv_cancel₀ ha.ne', EReal.coe_one, one_mul]

/-- The sum of the first `n` terms. -/
def partialSum (T : Fin 8192 → EReal) (n : ℕ) : EReal := ∑ k ∈ Finset.range n, if h : k < 8192 then T ⟨k, h⟩ else 0

/-- One more tile of 1024 terms. -/
theorem partial_step (T : Fin 8192 → EReal) (j : ℕ) (hj : j < 8) :
    partialSum T (1024 * (j + 1)) = partialSum T (1024 * j) + ∑ k : Fin 1024, T ⟨1024 * j + k, by omega⟩ := by
  unfold partialSum
  rw [show 1024 * (j + 1) = 1024 * j + 1024 by ring, Finset.sum_range_add, Finset.sum_range (n := 1024)]
  congr 1
  refine Finset.sum_congr rfl fun k _ => ?_
  rw [dif_pos (by omega)]

/-- The first tile. -/
theorem partial_first (T : Fin 8192 → EReal) :
    partialSum T (1024 * (0 + 1)) = ∑ k : Fin 1024, T ⟨1024 * 0 + k, by omega⟩ := by
  rw [partial_step T 0 (by norm_num)]
  exact (congrArg (· + _) (Finset.sum_range_zero _)).trans (zero_add _)

/-- All terms. -/
theorem partial_all (T : Fin 8192 → EReal) : partialSum T 8192 = ∑ k, T k := by
  unfold partialSum
  rw [Finset.sum_range]
  exact Finset.sum_congr rfl fun k _ => by rw [dif_pos k.isLt]

end Cert.Mlp
-- ==== Proof.RowBlock.lean ====
/-
Blocks of rows of the latent stream, and the modulated rows that the kernels store from them in chunks of 128.
-/
module
public import proofs.«01_k».proof.Proof.Pieces
public import proofs.«01_k».proof.Proof.MlpRow

@[expose] public section
noncomputable section
namespace Cert.Mlp
open Idealize.ShloMosaic Idealize.ShloMosaic.TcCoe Idealize.SL.Sem Cert.Pieces

/-- A modulation row. -/
def vec (v : Vec Ideal ⟨3, ![1, 1, 2048]⟩ .f32) (d : Fin 2048) : EReal := v (ix3 0 0 d)

/-- The row of a block that an index lies in. -/
def rowAt {N : ℕ} {e : EltTy} (X : Vec Ideal ⟨2, ![N, 2048]⟩ e) (y : (⟨2, ![N, 2048]⟩ : Shape).Idx) (d : Fin 2048) : Elt Ideal e := X (ix2 (y 0) d)

/-- The modulated rows of a block. -/
def hiddenRows {N : ℕ} (sh sc : Vec Ideal ⟨3, ![1, 1, 2048]⟩ .f32) (x : Vec Ideal ⟨2, ![N, 2048]⟩ .f32) : Vec Ideal ⟨2, ![N, 2048]⟩ .bf16 := fun y =>
  modulated (vec sh) (vec sc) (rowAt x y) (y 1)

/-- A stored chunk of modulated rows is that part of the block's modulated rows. -/
theorem hid_piece {N : ℕ} (sh sc : Vec Ideal ⟨3, ![1, 1, 2048]⟩ .f32) (x : Vec Ideal ⟨2, ![N, 2048]⟩ .f32) {o : ℕ} (h)
    (P : Vec Ideal ⟨2, ![128, 2048]⟩ .f32 → FVec Ideal ⟨2, ![128, 2048]⟩ .bf16)
    (hP : ∀ v a d, P v (ix2 a d) = modulated (vec sh) (vec sc) (fun e => v (ix2 a e)) d) (z : (⟨2, ![128, 2048]⟩ : Shape).Idx) :
    P (View.ld x (Rect.unit (s := ⟨2, ![N, 2048]⟩) ![o, 0] ![128, 2048] h)) z
      = hiddenRows sh sc x ((Rect.unit (s := ⟨2, ![N, 2048]⟩) ![o, 0] ![128, 2048] h).emb z) := by
  obtain ⟨a, b, rfl⟩ : ∃ (a : Fin 128) (b : Fin 2048), z = ix2 a b := ⟨z 0, z 1, by idx_ext⟩
  rw [hP, emb_row h a b]
  exact congrFun (congrArg _ (funext fun e => ld_row x h a e)) b

end Cert.Mlp
end
-- ==== Proof.MlpPay.lean ====
/-
What each store of the MLP kernel writes, at a row and a column: the row arithmetic of that row.
-/
module
public import proofs.«01_k».proof.Proof.Gen.Kernel2Ideal.Skeleton
public import proofs.«01_k».proof.Proof.RowBlock

@[expose] public section
set_option maxRecDepth 16384
noncomputable section
namespace Cert.Kernel2Ideal.Gen
open Idealize.ShloMosaic Idealize.ShloMosaic.TcCoe Idealize.SL.Sem Cert.Mlp

/-- The factor on the gate. -/
abbrev invAlpha : EReal := Named.named (F := Ideal) (φ := .f32) κ "inv_alpha" 0x3F3504F3#32
/-- The number added to the variance of the residual. -/
abbrev epsAlpha : EReal := Named.named (F := Ideal) (φ := .f32) κ "eps_alpha" 0x350637BD#32

/-- One hidden tile's share of the MLP of one modulated row. -/
def tile (wu : Vec Ideal S1x2048x1024 .bf16) (wd : Vec Ideal S1x1024x2048 .bf16) (h : Fin 2048 → EReal) (d : Fin 2048) : EReal :=
  ∑ k : Fin 1024, unit h (fun e => wu (ix3 0 e k)) * wd (ix3 0 k d)

/-- The result of one row: the residual normalised, scaled and shifted. -/
def closed (x f : Fin 2048 → EReal) (g lg lb : Vec Ideal S1x1x2048 .f32) (d : Fin 2048) : EReal :=
  norm epsAlpha (fun d' => x d' + vec g d' * invAlpha * f d') d * vec lg d + vec lb d

/-! The modulated rows, in chunks of 128. -/

theorem pay6_at (sc sh : Vec Ideal S1x1x2048 .f32) (x : Vec Ideal S128x2048 .f32) (a : Fin 128) (d : Fin 2048) :
    k0_pay6 sc sh x (ix2 a d) = modulated (vec sh) (vec sc) (fun e => x (ix2 a e)) d := by
  pointwise [k0_pay6, k0_pay4, k0_pay5]
  rfl
theorem pay9_at (sc sh : Vec Ideal S1x1x2048 .f32) (x : Vec Ideal S128x2048 .f32) (a : Fin 128) (d : Fin 2048) :
    k0_pay9 (k0_pay4 sc) (k0_pay5 sh) (k0_pay7 x) (k0_pay8 x) (ix2 a d) = modulated (vec sh) (vec sc) (fun e => x (ix2 a e)) d := by
  pointwise [k0_pay9, k0_pay4, k0_pay5, k0_pay7, k0_pay8]
  rfl
theorem pay12_at (sc sh : Vec Ideal S1x1x2048 .f32) (x : Vec Ideal S128x2048 .f32) (a : Fin 128) (d : Fin 2048) :
    k0_pay12 (k0_pay4 sc) (k0_pay5 sh) (k0_pay11 x) (ix2 a d) = modulated (vec sh) (vec sc) (fun e => x (ix2 a e)) d := by
  pointwise [k0_pay12, k0_pay4, k0_pay5, k0_pay11]
  rfl
theorem pay13_at (sc sh : Vec Ideal S1x1x2048 .f32) (x : Vec Ideal S128x2048 .f32) (a : Fin 128) (d : Fin 2048) :
    k0_pay13 (k0_pay4 sc) (k0_pay5 sh) x (ix2 a d) = modulated (vec sh) (vec sc) (fun e => x (ix2 a e)) d := by
  pointwise [k0_pay13, k0_pay4, k0_pay5]
  rfl

/-! A tile's share, in chunks of 256 or 512 rows, alone or added to what the block holds. -/

theorem pay10_at (h : Vec Ideal S256x2048 .bf16) (wu : Vec Ideal S1x2048x1024 .bf16) (wd : Vec Ideal S1x1024x2048 .bf16)
    (a : Fin 256) (d : Fin 2048) : k0_pay10 h wu wd (ix2 a d) = tile wu wd (fun e => h (ix2 a e)) d := by
  pointwise [k0_pay10, tile, unit]
theorem pay1_at (h : Vec Ideal S256x2048 .bf16) (wu : Vec Ideal S1x2048x1024 .bf16) (wd : Vec Ideal S1x1024x2048 .bf16)
    (a : Fin 256) (d : Fin 2048) : k0_pay1 h wu wd (ix2 a d) = tile wu wd (fun e => h (ix2 a e)) d := by
  pointwise [k0_pay1, tile, unit]
theorem pay2_at (o : Vec Ideal S512x2048 .f32) (h : Vec Ideal S512x2048 .bf16) (wu : Vec Ideal S1x2048x1024 .bf16)
    (wd : Vec Ideal S1x1024x2048 .bf16) (a : Fin 512) (d : Fin 2048) :
    k0_pay2 o h wu wd (ix2 a d) = o (ix2 a d) + tile wu wd (fun e => h (ix2 a e)) d := by
  pointwise [k0_pay2, tile, unit]
theorem pay17_at (o : Vec Ideal S256x2048 .f32) (h : Vec Ideal S256x2048 .bf16) (wu : Vec Ideal S1x2048x1024 .bf16)
    (wd : Vec Ideal S1x1024x2048 .bf16) (a : Fin 256) (d : Fin 2048) :
    k0_pay17 o h wu wd (ix2 a d) = o (ix2 a d) + tile wu wd (fun e => h (ix2 a e)) d := by
  pointwise [k0_pay17, tile, unit]
theorem pay22_at (o : Vec Ideal S256x2048 .f32) (h : Vec Ideal S256x2048 .bf16) (wu : Vec Ideal S1x2048x1024 .bf16)
    (wd : Vec Ideal S1x1024x2048 .bf16) (a : Fin 256) (d : Fin 2048) :
    k0_pay22 o h wu wd (ix2 a d) = o (ix2 a d) + tile wu wd (fun e => h (ix2 a e)) d := by
  pointwise [k0_pay22, tile, unit]

theorem pay14_at (g : Vec Ideal S1x1x2048 .f32) (d : Fin 2048) : k0_pay14 g (ix2 0 d) = vec g d := by
  pointwise [k0_pay14]
  rfl

/-! The closing normalisation, in chunks of 128 rows. -/

theorem pay20_at (g lg lb : Vec Ideal S1x1x2048 .f32) (o : Vec Ideal S256x2048 .f32) (h : Vec Ideal S256x2048 .bf16)
    (wu : Vec Ideal S1x2048x1024 .bf16) (wd : Vec Ideal S1x1024x2048 .bf16) (x : Vec Ideal S128x2048 .f32) (a : Fin 128) (d : Fin 2048) :
    k0_pay20 (k0_pay15 lg) (k0_pay16 lb) (k0_pay19 g o h wu wd x) (ix2 a d)
      = closed (fun e => x (ix2 a e)) (fun e => k0_pay17 o h wu wd (ix2 ⟨a, by omega⟩ e)) g lg lb d := by
  unfold k0_pay19
  generalize k0_pay17 o h wu wd = p
  pointwise [k0_pay20, k0_pay15, k0_pay16, k0_pay18]
  simp only [pay14_at]
  rfl
theorem pay21_at (g lg lb : Vec Ideal S1x1x2048 .f32) (p : FVec Ideal S256x2048 .f32) (x : Vec Ideal S128x2048 .f32) (a : Fin 128) (d : Fin 2048) :
    k0_pay21 (k0_pay15 lg) (k0_pay16 lb) p (k0_pay18 g) x (ix2 a d)
      = closed (fun e => x (ix2 a e)) (fun e => p (ix2 ⟨128 + a, by omega⟩ e)) g lg lb d := by
  pointwise [k0_pay21, k0_pay15, k0_pay16, k0_pay18]
  simp only [pay14_at]
  rfl
theorem pay24_at (g lg lb : Vec Ideal S1x1x2048 .f32) (o : Vec Ideal S256x2048 .f32) (h : Vec Ideal S256x2048 .bf16)
    (wu : Vec Ideal S1x2048x1024 .bf16) (wd : Vec Ideal S1x1024x2048 .bf16) (x : Vec Ideal S128x2048 .f32) (a : Fin 128) (d : Fin 2048) :
    k0_pay24 (k0_pay14 g) (k0_pay15 lg) (k0_pay16 lb) o h wu wd x (ix2 a d)
      = closed (fun e => x (ix2 a e)) (fun e => k0_pay22 o h wu wd (ix2 ⟨a, by omega⟩ e)) g lg lb d := by
  unfold k0_pay24
  generalize k0_pay22 o h wu wd = p
  pointwise [k0_pay15, k0_pay16, k0_pay23]
  simp only [pay14_at]
  rfl
theorem pay3_at (g lg lb : Vec Ideal S1x1x2048 .f32) (p : FVec Ideal S256x2048 .f32) (x : Vec Ideal S128x2048 .f32) (a : Fin 128) (d : Fin 2048) :
    k0_pay3 (k0_pay15 lg) (k0_pay16 lb) p (k0_pay23 (k0_pay14 g)) x (ix2 a d)
      = closed (fun e => x (ix2 a e)) (fun e => p (ix2 ⟨128 + a, by omega⟩ e)) g lg lb d := by
  pointwise [k0_pay3, k0_pay15, k0_pay16, k0_pay23]
  simp only [pay14_at]
  rfl

end Cert.Kernel2Ideal.Gen
end
-- ==== Proof.MlpBlock.lean ====
/-
What one grid point of the MLP kernel leaves in its output block and in the scratch buffer of modulated rows.

The first point of a block of rows fills the scratch and stores the first tile's share; the next six points add their
tiles' shares; the last one adds its share and stores the normalised residual.
-/
module
public import proofs.«01_k».proof.Proof.Gen.Kernel2Ideal.Frame
public import proofs.«01_k».proof.Proof.MlpPay
public import proofs.«01_k».proof.Proof.RowBlock

@[expose] public section
set_option maxRecDepth 16384
noncomputable section
namespace Cert.Kernel2Ideal.Gen
open Idealize.ShloMosaic Idealize.ShloMosaic.TcCoe Idealize.SL.Sem Cert.Mlp Cert.Pieces

/-- A tile's share for every row of a block. -/
def share (wu : Vec Ideal S1x2048x1024 .bf16) (wd : Vec Ideal S1x1024x2048 .bf16) (h : Vec Ideal S512x2048 .bf16) :
    Vec Ideal S512x2048 .f32 := fun y => tile wu wd (rowAt h y) (y 1)

/-- The result rows of a block. -/
def result (x f : Vec Ideal S512x2048 .f32) (g lg lb : Vec Ideal S1x1x2048 .f32) : Vec Ideal S512x2048 .f32 := fun y =>
  closed (rowAt x y) (rowAt f y) g lg lb (y 1)

variable (sh sc : Vec Ideal S1x1x2048 .f32) (x : Vec Ideal S512x2048 .f32)

/-- The chunks stored by the first half of the filling point, and all four, latest first. -/
abbrev hidTwo : List (View.Piece (Elt Ideal) S512x2048 .bf16) :=
  [⟨Rect.unit ![128, 0] ![128, 2048] inb_S512x2048_S128x2048_128_0, k0_pay9 (k0_pay4 sc) (k0_pay5 sh) (k0_pay7 (View.ld x (Rect.unit ![128, 0] ![128, 2048] inb_S512x2048_S128x2048_128_0)))
      (k0_pay8 (View.ld x (Rect.unit ![128, 0] ![128, 2048] inb_S512x2048_S128x2048_128_0)))⟩,
    ⟨Rect.unit ![0, 0] ![128, 2048] inb_S512x2048_S128x2048_0_0, k0_pay6 sc sh (View.ld x (Rect.unit ![0, 0] ![128, 2048] inb_S512x2048_S128x2048_0_0))⟩]
abbrev hidFour : List (View.Piece (Elt Ideal) S512x2048 .bf16) :=
  ⟨Rect.unit ![384, 0] ![128, 2048] inb_S512x2048_S128x2048_384_0, k0_pay13 (k0_pay4 sc) (k0_pay5 sh) (View.ld x (Rect.unit ![384, 0] ![128, 2048] inb_S512x2048_S128x2048_384_0))⟩ ::
    ⟨Rect.unit ![256, 0] ![128, 2048] inb_S512x2048_S128x2048_256_0, k0_pay12 (k0_pay4 sc) (k0_pay5 sh) (k0_pay11 (View.ld x (Rect.unit ![256, 0] ![128, 2048] inb_S512x2048_S128x2048_256_0)))⟩ ::
    hidTwo sh sc x

theorem hidTwo_of : View.PiecesOf (hiddenRows sh sc x) (hidTwo sh sc x) :=
  ⟨hid_piece sh sc x inb_S512x2048_S128x2048_128_0 (fun v => k0_pay9 (k0_pay4 sc) (k0_pay5 sh) (k0_pay7 v) (k0_pay8 v)) (pay9_at sc sh),
    hid_piece sh sc x inb_S512x2048_S128x2048_0_0 (fun v => k0_pay6 sc sh v) (pay6_at sc sh), trivial⟩
theorem hidFour_of : View.PiecesOf (hiddenRows sh sc x) (hidFour sh sc x) :=
  ⟨hid_piece sh sc x inb_S512x2048_S128x2048_384_0 (fun v => k0_pay13 (k0_pay4 sc) (k0_pay5 sh) v) (pay13_at sc sh),
    hid_piece sh sc x inb_S512x2048_S128x2048_256_0 (fun v => k0_pay12 (k0_pay4 sc) (k0_pay5 sh) (k0_pay11 v)) (pay12_at sc sh), hidTwo_of sh sc x⟩

/-- The first 256 modulated rows stand there, and are read back, after two stores, and the last 256 after four. -/
theorem two_canon (h) (a : Fin 256) (b : Fin 2048) :
    View.canon (hidTwo sh sc x) ((Rect.unit (s := S512x2048) ![0, 0] ![256, 2048] h).emb (ix2 a b)) = hiddenRows sh sc x (ix2 ⟨0 + a, by omega⟩ b) := by
  rw [emb_row h a b]
  refine canon_of_piecesOf _ (hidTwo_of sh sc x) ?_
  rcases lt_or_ge (a : ℕ) 128 with ha | ha
  · exact ⟨_, List.mem_cons_of_mem _ (List.mem_cons_self ..), mem_row inb_S512x2048_S128x2048_0_0 _ _ (by simp) (by simpa using ha)⟩
  · exact ⟨_, List.mem_cons_self .., mem_row inb_S512x2048_S128x2048_128_0 _ _ (by simpa using ha) (by simp)⟩
theorem two_read (h) (a : Fin 256) (b : Fin 2048) :
    (View.whole cc0_scratch0).readCov (Val := Elt Ideal) (hidTwo sh sc x)
      (Rect.unit (s := S512x2048) ![0, 0] ![256, 2048] h).toLoadRect (ix2 a b) = hiddenRows sh sc x (ix2 ⟨0 + a, by omega⟩ b) := by
  rw [View.readCov_eq_canon']
  exact two_canon sh sc x h a b
theorem four_canon (h) (a : Fin 256) (b : Fin 2048) :
    View.canon (hidFour sh sc x) ((Rect.unit (s := S512x2048) ![256, 0] ![256, 2048] h).emb (ix2 a b)) = hiddenRows sh sc x (ix2 ⟨256 + a, by omega⟩ b) := by
  rw [emb_row h a b]
  refine canon_of_piecesOf _ (hidFour_of sh sc x) ?_
  rcases lt_or_ge (a : ℕ) 128 with ha | ha
  · exact ⟨_, List.mem_cons_of_mem _ (List.mem_cons_self ..), mem_row inb_S512x2048_S128x2048_256_0 _ _ (by simp) (by simp; omega)⟩
  · exact ⟨_, List.mem_cons_self .., mem_row inb_S512x2048_S128x2048_384_0 _ _ (by simp; omega) (by simp; omega)⟩
theorem four_read (h) (a : Fin 256) (b : Fin 2048) :
    (View.whole cc0_scratch0).readCov (Val := Elt Ideal) (hidFour sh sc x)
      (Rect.unit (s := S512x2048) ![256, 0] ![256, 2048] h).toLoadRect (ix2 a b) = hiddenRows sh sc x (ix2 ⟨256 + a, by omega⟩ b) := by
  rw [View.readCov_eq_canon']
  exact four_canon sh sc x h a b

/-- A stored chunk of a tile's share is that part of the block's share. -/
theorem share_piece (wu : Vec Ideal S1x2048x1024 .bf16) (wd : Vec Ideal S1x1024x2048 .bf16) (H : Vec Ideal S512x2048 .bf16) {o : ℕ} (h)
    (P : Vec Ideal S256x2048 .bf16 → FVec Ideal S256x2048 .f32)
    (hP : ∀ v a d, P v (ix2 a d) = tile wu wd (fun e => v (ix2 a e)) d)
    (v : Vec Ideal S256x2048 .bf16)
    (hv : ∀ a b, v (ix2 a b) = H ((Rect.unit (s := S512x2048) ![o, 0] ![256, 2048] h).emb (ix2 a b))) (z : S256x2048.Idx) :
    P v z = share wu wd H ((Rect.unit (s := S512x2048) ![o, 0] ![256, 2048] h).emb z) := by
  obtain ⟨a, b, rfl⟩ : ∃ (a : Fin 256) (b : Fin 2048), z = ix2 a b := ⟨z 0, z 1, by idx_ext⟩
  rw [hP, emb_row h a b]
  exact congrFun (congrArg _ (funext fun e => (hv a e).trans (congrArg H (emb_row h a e)))) b

variable (m : (ℓ : Loc nD τ sig) → Buf (Elt Ideal) ℓ)

/-- The first point of a block of rows fills the scratch with the modulated rows, -/
theorem first_scratch (c : Dev nD) (t : Fin cfg0.N) (h : t.val % 8 = 0) :
    (outsAt0 m c t.val t.isLt).2 = hiddenRows (iblk m c 1 t) (iblk m c 2 t) (iblk m c 0 t) := by
  rw [outsAt0_A m c t h (by omega) (by omega)]
  funext y
  dsimp only
  frame_out
  exact canon_of_piecesOf _ (hidFour_of _ _ _) (View.cover_of_tiledL (s := S512x2048) _ S128x2048.size (by sl_kernel_rfl) y)

/-- and leaves the first tile's share. -/
theorem first_out (c : Dev nD) (t : Fin cfg0.N) (h : t.val % 8 = 0) :
    (outsAt0 m c t.val t.isLt).1
      = share (iblk m c 6 t) (iblk m c 7 t) (hiddenRows (iblk m c 1 t) (iblk m c 2 t) (iblk m c 0 t)) := by
  rw [outsAt0_A m c t h (by omega) (by omega)]
  funext y
  dsimp only
  frame_out
  refine canon_of_piecesOf _ ⟨?_, ?_, trivial⟩ (View.cover_of_tiledL (s := S512x2048) _ S256x2048.size (by sl_kernel_rfl) y)
  · exact share_piece _ _ _ inb_S512x2048_S256x2048_256_0 (fun v => k0_pay1 v (iblk m c 6 t) (iblk m c 7 t)) (fun v => pay1_at v _ _) _
      fun a b => (four_read _ _ _ _ a b).trans (congrArg _ (emb_row inb_S512x2048_S256x2048_256_0 a b).symm)
  · exact share_piece _ _ _ inb_S512x2048_S256x2048_0_0 (fun v => k0_pay10 v (iblk m c 6 t) (iblk m c 7 t)) (fun v => pay10_at v _ _) _
      fun a b => (two_read _ _ _ _ a b).trans (congrArg _ (emb_row inb_S512x2048_S256x2048_0_0 a b).symm)

/-- A middle point keeps the scratch, -/
theorem middle_scratch (c : Dev nD) (t : Fin cfg0.N) (h : 1 ≤ t.val % 8 ∧ t.val % 8 ≤ 6) :
    (outsAt0 m c t.val t.isLt).2 = (outsAt0 m c (t.val - 1) (Nat.lt_of_le_of_lt (Nat.sub_le _ _) t.isLt)).2 := by
  rw [outsAt0_B m c t (by omega) h (by omega)]
  rfl

/-- and adds its tile's share. -/
theorem middle_out (c : Dev nD) (t : Fin cfg0.N) (h : 1 ≤ t.val % 8 ∧ t.val % 8 ≤ 6) (y : S512x2048.Idx) :
    (outsAt0 m c t.val t.isLt).1 y = (outsAt0 m c (t.val - 1) (Nat.lt_of_le_of_lt (Nat.sub_le _ _) t.isLt)).1 y
      + share (iblk m c 6 t) (iblk m c 7 t) (outsAt0 m c (t.val - 1) (Nat.lt_of_le_of_lt (Nat.sub_le _ _) t.isLt)).2 y := by
  rw [outsAt0_B m c t (by omega) h (by omega)]
  dsimp only
  frame_out
  rw [read_unread_whole]
  obtain ⟨a, b, rfl⟩ : ∃ (a : Fin 512) (b : Fin 2048), y = ix2 a b := ⟨y 0, y 1, by idx_ext⟩
  exact pay2_at _ _ _ _ a b

/-- What a row block holds after the last tile's share is added, in chunks of 256 rows. -/
theorem sum_row (P : Vec Ideal S256x2048 .f32 → Vec Ideal S256x2048 .bf16 → FVec Ideal S256x2048 .f32)
    (wu : Vec Ideal S1x2048x1024 .bf16) (wd : Vec Ideal S1x1024x2048 .bf16) (f : Vec Ideal S512x2048 .f32) (H : Vec Ideal S512x2048 .bf16)
    (hP : ∀ o h a d, P o h (ix2 a d) = o (ix2 a d) + tile wu wd (fun e => h (ix2 a e)) d) {o : ℕ} (h) (a : Fin 256) (b : Fin 2048) :
    P (View.ld f (Rect.unit (s := S512x2048) ![o, 0] ![256, 2048] h)) (View.ld H (Rect.unit (s := S512x2048) ![o, 0] ![256, 2048] h)) (ix2 a b)
      = (fun y => f y + share wu wd H y) (ix2 ⟨o + a, by have := h 0; have := a.isLt; simp at *; omega⟩ b) := by
  rw [hP, ld_row f h a b]
  exact congrArg _ (congrFun (congrArg _ (funext fun e => ld_row H h a e)) b)

theorem row_eq (f : Vec Ideal S512x2048 .f32) {i j : ℕ} (h : i = j) (hi : i < 512) (hj : j < 512) (b : Fin 2048) :
    f (ix2 ⟨i, hi⟩ b) = f (ix2 ⟨j, hj⟩ b) := by
  subst h; rfl

/-- A stored chunk of result rows is that part of the block's result. -/
theorem result_piece (x f : Vec Ideal S512x2048 .f32) (g lg lb : Vec Ideal S1x1x2048 .f32) {o : ℕ} (h)
    (P : Vec Ideal S128x2048 .f32 → FVec Ideal S128x2048 .f32) (q : Fin 128 → Fin 2048 → EReal)
    (hP : ∀ v a d, P v (ix2 a d) = closed (fun e => v (ix2 a e)) (q a) g lg lb d)
    (hq : ∀ a b, q a b = f (ix2 ⟨o + a, by have := h 0; have := a.isLt; simp at *; omega⟩ b)) (z : S128x2048.Idx) :
    P (View.ld x (Rect.unit (s := S512x2048) ![o, 0] ![128, 2048] h)) z
      = result x f g lg lb ((Rect.unit (s := S512x2048) ![o, 0] ![128, 2048] h).emb z) := by
  obtain ⟨a, b, rfl⟩ : ∃ (a : Fin 128) (b : Fin 2048), z = ix2 a b := ⟨z 0, z 1, by idx_ext⟩
  rw [hP, emb_row h a b]
  exact congrFun (congrArg₂ (fun A B => closed A B g lg lb) (funext fun e => ld_row x h a e) (funext fun e => hq a e)) b

/-- The last point adds its tile's share and leaves the normalised residual. -/
theorem last_out (c : Dev nD) (t : Fin cfg0.N) (h : t.val % 8 = 7) (f : Vec Ideal S512x2048 .f32) (H : Vec Ideal S512x2048 .bf16)
    (hf : (outsAt0 m c (t.val - 1) (Nat.lt_of_le_of_lt (Nat.sub_le _ _) t.isLt)).1 = f)
    (hH : (outsAt0 m c (t.val - 1) (Nat.lt_of_le_of_lt (Nat.sub_le _ _) t.isLt)).2 = H) :
    (outsAt0 m c t.val t.isLt).1 = result (iblk m c 0 t) (fun y => f y + share (iblk m c 6 t) (iblk m c 7 t) H y)
      (iblk m c 3 t) (iblk m c 4 t) (iblk m c 5 t) := by
  rw [outsAt0_C m c t (by omega) (by omega) h]
  funext y
  dsimp only
  frame_out
  rw [read_unread_whole, hf, hH]
  refine canon_of_piecesOf _ ⟨?_, ?_, ?_, ?_, trivial⟩ (View.cover_of_tiledL (s := S512x2048) _ S128x2048.size (by sl_kernel_rfl) y)
  · exact result_piece _ _ _ _ _ inb_S512x2048_S128x2048_384_0
      (fun v => k0_pay3 (k0_pay15 (iblk m c 4 t)) (k0_pay16 (iblk m c 5 t)) _ (k0_pay23 (k0_pay14 (iblk m c 3 t))) v) _
      (fun v => pay3_at _ _ _ _ v)
      fun a b => (sum_row _ _ _ f H (fun o h => pay22_at o h (iblk m c 6 t) (iblk m c 7 t)) inb_S512x2048_S256x2048_256_0 _ b).trans
        (row_eq (fun y => f y + share (iblk m c 6 t) (iblk m c 7 t) H y)
          (show 256 + (128 + a.val) = 384 + a.val by omega) _ _ b)
  · exact result_piece _ _ _ _ _ inb_S512x2048_S128x2048_256_0
      (fun v => k0_pay24 (k0_pay14 (iblk m c 3 t)) (k0_pay15 (iblk m c 4 t)) (k0_pay16 (iblk m c 5 t)) _ _ (iblk m c 6 t) (iblk m c 7 t) v) _
      (fun v => pay24_at _ _ _ _ _ _ _ v)
      fun a b => sum_row _ _ _ f H (fun o h => pay22_at o h (iblk m c 6 t) (iblk m c 7 t)) inb_S512x2048_S256x2048_256_0 _ b
  · exact result_piece _ _ _ _ _ inb_S512x2048_S128x2048_128_0
      (fun v => k0_pay21 (k0_pay15 (iblk m c 4 t)) (k0_pay16 (iblk m c 5 t)) _ (k0_pay18 (iblk m c 3 t)) v) _
      (fun v => pay21_at _ _ _ _ v)
      fun a b => (sum_row _ _ _ f H (fun o h => pay17_at o h (iblk m c 6 t) (iblk m c 7 t)) inb_S512x2048_S256x2048_0_0 _ b).trans
        (row_eq (fun y => f y + share (iblk m c 6 t) (iblk m c 7 t) H y)
          (show 0 + (128 + a.val) = 128 + a.val by omega) _ _ b)
  · exact result_piece _ _ _ _ _ inb_S512x2048_S128x2048_0_0
      (fun v => k0_pay20 (k0_pay15 (iblk m c 4 t)) (k0_pay16 (iblk m c 5 t)) (k0_pay19 (iblk m c 3 t) _ _ (iblk m c 6 t) (iblk m c 7 t) v)) _
      (fun v => pay20_at _ _ _ _ _ _ _ v)
      fun a b => sum_row _ _ _ f H (fun o h => pay17_at o h (iblk m c 6 t) (iblk m c 7 t)) inb_S512x2048_S256x2048_0_0 _ b

end Cert.Kernel2Ideal.Gen
end
-- ==== Proof.MlpArray.lean ====
/-
The MLP kernel's whole result array: every entry is the row arithmetic of its row and its batch.
-/
module
public import proofs.«01_k».proof.Proof.MlpBlock
public import Idealize.ShloMosaic.Lib.Claim

@[expose] public section
set_option maxRecDepth 16384
noncomputable section
namespace Cert.Kernel2Ideal.Gen
open Idealize.ShloMosaic Idealize.ShloMosaic.TcCoe Idealize.SL.Sem Cert.Mlp Cert.Pieces

/-! One row in terms of the arguments: the latent `X`, the modulation `M`, the two weights `U` and `D`. -/

/-- Row `r` of the latent. -/
def latent (X : Vec Ideal S32768x2048 .f32) (r : Fin 32768) (d : Fin 2048) : EReal := X (ix2 r d)
/-- The modulation row of the batch of row `r` that starts at column `o`. -/
def modu (M : Vec Ideal S2x32x12288 .f32) (r : Fin 32768) (o : ℕ) (ho : o + 2048 ≤ 12288) (d : Fin 2048) : EReal :=
  M (ix3 0 ⟨r.val / 2048, by omega⟩ ⟨o + d, by omega⟩)
/-- The modulated row. -/
def hrow (X : Vec Ideal S32768x2048 .f32) (M : Vec Ideal S2x32x12288 .f32) (r : Fin 32768) : Fin 2048 → EReal :=
  modulated (modu M r 6144 (by omega)) (modu M r 8192 (by omega)) (latent X r)
/-- Hidden unit `k`'s part of column `d`. -/
def term (U : Vec Ideal S2x2048x8192 .f32) (D : Vec Ideal S2x8192x2048 .f32) (h : Fin 2048 → EReal) (d : Fin 2048) (k : Fin 8192) : EReal :=
  unit h (fun e => U (ix3 0 e k)) * D (ix3 0 k d)

/-- The whole result array. -/
def arrOut (X : Vec Ideal S32768x2048 .f32) (M : Vec Ideal S2x32x12288 .f32) (U : Vec Ideal S2x2048x8192 .f32)
    (D : Vec Ideal S2x8192x2048 .f32) (lg lb : Vec Ideal S2x2x2048 .f32) : Vec Ideal S32768x2048 .f32 := fun i =>
  norm epsAlpha (fun d => latent X (i 0) d + modu M (i 0) 10240 (by omega) d * invAlpha * ∑ k, term U D (hrow X M (i 0)) d k) (i 1)
    * lg (ix3 0 1 (i 1)) + lb (ix3 0 1 (i 1))

variable (m : (ℓ : Loc nD τ sig) → Buf (Elt Ideal) ℓ)

/-- The block indices of the nine windows at a grid point. -/
theorem idx : ∀ t : Fin cfg0.N, win0_0.index t = ![t.val / 8, 0] ∧ win0_1.index t = ![t.val / 32, 0, 3]
    ∧ win0_2.index t = ![t.val / 32, 0, 4] ∧ win0_3.index t = ![t.val / 32, 0, 5] ∧ win0_4.index t = ![1, 0, 0]
    ∧ win0_5.index t = ![1, 0, 0] ∧ win0_6.index t = ![0, 0, t.val % 8] ∧ win0_7.index t = ![0, t.val % 8, 0]
    ∧ win0_8.index t = ![t.val / 8, 0] :=
  (by decide +kernel : ∀ t : Fin grid0.N, _)

theorem lt512 (t : Fin cfg0.N) : t.val < 512 := t.isLt

theorem V0 (c : Dev nD) : (V m c main_v0 : Vec Ideal S64x1x12288 .f32) = shapeCast S64x1x12288 (V m c main_arg1 : Vec Ideal S2x32x12288 .f32) shapeCasts_S2x32x12288_S64x1x12288 := rfl
theorem V1 (c : Dev nD) (i : S2x2048x8192.Idx) : (V m c main_v1 : Vec Ideal S2x2048x8192 .bf16) i = (V m c main_arg2 : Vec Ideal S2x2048x8192 .f32) i := rfl
theorem V2 (c : Dev nD) (i : S2x8192x2048.Idx) : (V m c main_v2 : Vec Ideal S2x8192x2048 .bf16) i = (V m c main_arg3 : Vec Ideal S2x8192x2048 .f32) i := rfl
theorem V3 (c : Dev nD) : (V m c main_v3 : Vec Ideal S4x1x2048 .f32) = shapeCast S4x1x2048 (V m c main_arg4 : Vec Ideal S2x2x2048 .f32) shapeCasts_S2x2x2048_S4x1x2048 := rfl
theorem V4 (c : Dev nD) : (V m c main_v4 : Vec Ideal S4x1x2048 .f32) = shapeCast S4x1x2048 (V m c main_arg5 : Vec Ideal S2x2x2048 .f32) shapeCasts_S2x2x2048_S4x1x2048 := rfl

/-- The modulation of two layers and 32 rows, as 64 rows: row `b` of the first 32 is the first layer's. -/
theorem mod_row (v : Vec Ideal S2x32x12288 .f32) (b : ℕ) (hb : b < 32) (e : Fin 12288) :
    shapeCast S64x1x12288 v shapeCasts_S2x32x12288_S64x1x12288 (ix3 ⟨b, by omega⟩ 0 e) = v (ix3 0 ⟨b, by omega⟩ e) := by
  have h1 : b / 32 = 0 := by omega
  have h2 : b % 32 = b := by omega
  pointwise
  simp only [h1, h2]
  rfl
/-- The scale or shift of two layers and two norms, as four rows: the second is the first layer's second. -/
theorem ln_row (v : Vec Ideal S2x2x2048 .f32) (d : Fin 2048) :
    shapeCast S4x1x2048 v shapeCasts_S2x2x2048_S4x1x2048 (ix3 1 0 d) = v (ix3 0 1 d) := by
  pointwise

theorem blk0 (c : Dev nD) (t : Fin cfg0.N) (a : Fin 512) (d : Fin 2048) : (iblk m c 0 t : Vec Ideal S512x2048 .f32) (ix2 a d)
    = latent (V m c main_arg0) ⟨t.val / 8 * 512 + a, by have := lt512 t; omega⟩ d := by
  blk_ext [iblk, latent, idx t]
theorem blk1 (c : Dev nD) (t : Fin cfg0.N) (a : Fin 512) : vec (iblk m c 1 t)
    = modu (V m c main_arg1) ⟨t.val / 8 * 512 + a, by have := lt512 t; omega⟩ 6144 (by omega) := by
  funext d
  have ht := lt512 t
  have he : (win0_1.blk t).view.emb (ix3 0 0 d) = (ix3 ⟨t.val / 32, by omega⟩ 0 ⟨6144 + d, by omega⟩ : S64x1x12288.Idx) := by
    blk_ext [idx t]
  refine (congrArg (V m c main_v0 : Vec Ideal S64x1x12288 .f32) he).trans ((congrFun (V0 m c) _).trans ((mod_row _ (t.val / 32) (by omega) _).trans ?_))
  unfold modu
  congr 2
  exact Fin.ext (by show t.val / 32 = (t.val / 8 * 512 + a.val) / 2048; omega)
theorem blk2 (c : Dev nD) (t : Fin cfg0.N) (a : Fin 512) : vec (iblk m c 2 t)
    = modu (V m c main_arg1) ⟨t.val / 8 * 512 + a, by have := lt512 t; omega⟩ 8192 (by omega) := by
  funext d
  have ht := lt512 t
  have he : (win0_2.blk t).view.emb (ix3 0 0 d) = (ix3 ⟨t.val / 32, by omega⟩ 0 ⟨8192 + d, by omega⟩ : S64x1x12288.Idx) := by
    blk_ext [idx t]
  refine (congrArg (V m c main_v0 : Vec Ideal S64x1x12288 .f32) he).trans ((congrFun (V0 m c) _).trans ((mod_row _ (t.val / 32) (by omega) _).trans ?_))
  unfold modu
  congr 2
  exact Fin.ext (by show t.val / 32 = (t.val / 8 * 512 + a.val) / 2048; omega)
theorem blk3 (c : Dev nD) (t : Fin cfg0.N) (a : Fin 512) : vec (iblk m c 3 t)
    = modu (V m c main_arg1) ⟨t.val / 8 * 512 + a, by have := lt512 t; omega⟩ 10240 (by omega) := by
  funext d
  have ht := lt512 t
  have he : (win0_3.blk t).view.emb (ix3 0 0 d) = (ix3 ⟨t.val / 32, by omega⟩ 0 ⟨10240 + d, by omega⟩ : S64x1x12288.Idx) := by
    blk_ext [idx t]
  refine (congrArg (V m c main_v0 : Vec Ideal S64x1x12288 .f32) he).trans ((congrFun (V0 m c) _).trans ((mod_row _ (t.val / 32) (by omega) _).trans ?_))
  unfold modu
  congr 2
  exact Fin.ext (by show t.val / 32 = (t.val / 8 * 512 + a.val) / 2048; omega)
theorem blk4 (c : Dev nD) (t : Fin cfg0.N) (d : Fin 2048) : vec (iblk m c 4 t) d = (V m c main_arg4 : Vec Ideal S2x2x2048 .f32) (ix3 0 1 d) := by
  have he : (win0_4.blk t).view.emb (ix3 0 0 d) = (ix3 1 0 d : S4x1x2048.Idx) := by
    blk_ext [idx t]
  exact (congrArg (V m c main_v3 : Vec Ideal S4x1x2048 .f32) he).trans ((congrFun (V3 m c) _).trans (ln_row _ d))
theorem blk5 (c : Dev nD) (t : Fin cfg0.N) (d : Fin 2048) : vec (iblk m c 5 t) d = (V m c main_arg5 : Vec Ideal S2x2x2048 .f32) (ix3 0 1 d) := by
  have he : (win0_5.blk t).view.emb (ix3 0 0 d) = (ix3 1 0 d : S4x1x2048.Idx) := by
    blk_ext [idx t]
  exact (congrArg (V m c main_v4 : Vec Ideal S4x1x2048 .f32) he).trans ((congrFun (V4 m c) _).trans (ln_row _ d))
theorem blk6 (c : Dev nD) (t : Fin cfg0.N) (e : Fin 2048) (k : Fin 1024) : (iblk m c 6 t : Vec Ideal S1x2048x1024 .bf16) (ix3 0 e k)
    = (V m c main_arg2 : Vec Ideal S2x2048x8192 .f32) (ix3 0 e ⟨1024 * (t.val % 8) + k, by omega⟩) := by
  have he : (win0_6.blk t).view.emb (ix3 0 e k) = (ix3 0 e ⟨1024 * (t.val % 8) + k, by omega⟩ : S2x2048x8192.Idx) := by
    blk_ext [idx t]
  exact (congrArg (V m c main_v1 : Vec Ideal S2x2048x8192 .bf16) he).trans (V1 m c _)
theorem blk7 (c : Dev nD) (t : Fin cfg0.N) (k : Fin 1024) (d : Fin 2048) : (iblk m c 7 t : Vec Ideal S1x1024x2048 .bf16) (ix3 0 k d)
    = (V m c main_arg3 : Vec Ideal S2x8192x2048 .f32) (ix3 0 ⟨1024 * (t.val % 8) + k, by omega⟩ d) := by
  have he : (win0_7.blk t).view.emb (ix3 0 k d) = (ix3 0 ⟨1024 * (t.val % 8) + k, by omega⟩ d : S2x8192x2048.Idx) := by
    blk_ext [idx t]
  exact (congrArg (V m c main_v2 : Vec Ideal S2x8192x2048 .bf16) he).trans (V2 m c _)

/-- A tile's share of a row is the tile's part of the sum over the hidden units. -/
theorem share_at (c : Dev nD) (t : Fin cfg0.N) (H : Vec Ideal S512x2048 .bf16) (y : S512x2048.Idx) :
    share (iblk m c 6 t) (iblk m c 7 t) H y
      = ∑ k : Fin 1024, term (V m c main_arg2) (V m c main_arg3) (rowAt H y) (y 1) ⟨1024 * (t.val % 8) + k, by omega⟩ := by
  unfold share tile
  refine Finset.sum_congr rfl fun k _ => ?_
  exact congrArg₂ (fun A B => unit (rowAt H y) A * B) (funext fun e => blk6 m c t e k) (blk7 m c t k (y 1))

/-- The modulated rows of row block `i`. -/
def hblock (X : Vec Ideal S32768x2048 .f32) (M : Vec Ideal S2x32x12288 .f32) (i : ℕ) (hi : i < 64) : Vec Ideal S512x2048 .bf16 := fun y =>
  have h0 : (y 0 : ℕ) < 512 := (y 0).isLt
  hrow X M ⟨i * 512 + y 0, by omega⟩ (y 1)

theorem hidden_eq (c : Dev nD) (t : Fin cfg0.N) : hiddenRows (iblk m c 1 t) (iblk m c 2 t) (iblk m c 0 t)
    = hblock (V m c main_arg0) (V m c main_arg1) (t.val / 8) (by have := lt512 t; omega) := by
  funext y
  obtain ⟨a, b, rfl⟩ : ∃ (a : Fin 512) (b : Fin 2048), y = ix2 a b := ⟨y 0, y 1, by idx_ext⟩
  unfold hiddenRows
  rw [blk1 m c t a, blk2 m c t a]
  exact congrFun (congrArg _ (funext fun e => blk0 m c t a e)) b

/-- After point `8 i + j` of a row block, short of its last, the scratch holds the modulated rows and the output block
the sum over the first `j + 1` tiles. -/
theorem upto (c : Dev nD) (i : ℕ) (hi : i < 64) : ∀ (j : ℕ) (hj : j < 7) (hn : 8 * i + j < cfg0.N),
    (outsAt0 m c (8 * i + j) hn).2 = hblock (V m c main_arg0) (V m c main_arg1) i hi
    ∧ ∀ y : S512x2048.Idx, (outsAt0 m c (8 * i + j) hn).1 y
        = partialSum (term (V m c main_arg2) (V m c main_arg3) (rowAt (hblock (V m c main_arg0) (V m c main_arg1) i hi) y) (y 1)) (1024 * (j + 1))
  | 0, _, hn => by
    have ht : (8 * i) % 8 = 0 := by omega
    have e : hiddenRows (iblk m c 1 ⟨8 * i, hn⟩) (iblk m c 2 ⟨8 * i, hn⟩) (iblk m c 0 ⟨8 * i, hn⟩)
        = hblock (V m c main_arg0) (V m c main_arg1) i hi := by
      rw [hidden_eq]
      congr 1
      show 8 * i / 8 = i
      omega
    refine ⟨(first_scratch m c ⟨8 * i, hn⟩ ht).trans e, fun y => ?_⟩
    refine (congrFun (first_out m c ⟨8 * i, hn⟩ ht) y).trans ?_
    rw [e, share_at]
    refine Eq.trans ?_ (partial_first _).symm
    simp only [ht]
  | j + 1, hj, hn => by
    have ht : (8 * i + (j + 1)) % 8 = j + 1 := by omega
    have hm : 1 ≤ (8 * i + (j + 1)) % 8 ∧ (8 * i + (j + 1)) % 8 ≤ 6 := by omega
    obtain ⟨ih2, ih1⟩ := upto c i hi j (by omega) (by omega)
    refine ⟨(middle_scratch m c ⟨8 * i + (j + 1), hn⟩ hm).trans ih2, fun y => ?_⟩
    refine (middle_out m c ⟨8 * i + (j + 1), hn⟩ hm y).trans ?_
    rw [partial_step _ (j + 1) (by omega), ← ih1 y, ← ih2, share_at]
    simp only [ht]
    rfl

/-- The last point of a row block leaves its rows of the result. -/
theorem last_at (c : Dev nD) (t : Fin cfg0.N) (h : t.val % 8 = 7) (a : Fin 512) (d : Fin 2048) :
    (outsAt0 m c t.val t.isLt).1 (ix2 a d)
      = arrOut (V m c main_arg0) (V m c main_arg1) (V m c main_arg2) (V m c main_arg3) (V m c main_arg4) (V m c main_arg5)
          (ix2 ⟨t.val / 8 * 512 + a, by have := lt512 t; omega⟩ d) := by
  have hl := lt512 t
  have en : t.val - 1 = 8 * (t.val / 8) + 6 := by omega
  have hp : (outsAt0 m c (t.val - 1) (Nat.lt_of_le_of_lt (Nat.sub_le _ _) t.isLt))
      = outsAt0 m c (8 * (t.val / 8) + 6) (en ▸ Nat.lt_of_le_of_lt (Nat.sub_le _ _) t.isLt) := by
    congr 1
  obtain ⟨i2, i1⟩ := upto m c (t.val / 8) (by omega) 6 (by omega) (en ▸ Nat.lt_of_le_of_lt (Nat.sub_le _ _) t.isLt)
  refine (congrFun (last_out m c t h _ _ (congrArg Prod.fst hp) ((congrArg Prod.snd hp).trans i2)) _).trans ?_
  have hsum : ∀ y : S512x2048.Idx, (outsAt0 m c (8 * (t.val / 8) + 6) (en ▸ Nat.lt_of_le_of_lt (Nat.sub_le _ _) t.isLt)).1 y
      + share (iblk m c 6 t) (iblk m c 7 t) (hblock (V m c main_arg0) (V m c main_arg1) (t.val / 8) (by omega)) y
      = ∑ k, term (V m c main_arg2) (V m c main_arg3) (rowAt (hblock (V m c main_arg0) (V m c main_arg1) (t.val / 8) (by omega)) y) (y 1) k := fun y => by
    rw [i1 y, share_at]
    refine Eq.trans ?_ ((partial_step _ 7 (by omega)).symm.trans (partial_all _))
    simp only [h]
  rw [show (fun y => _ + _) = _ from funext hsum]
  show closed _ _ _ _ _ d = _
  unfold closed
  rw [blk3 m c t a, blk4, blk5]
  exact congrArg (fun A => norm epsAlpha A d * _ + _) (funext fun e => congrArg (· + _) (blk0 m c t a e))

/-- The array is `arrOut` of the arguments. -/
theorem final (c : Dev nD) : (dats m 0 c).arrAt 8 cfg0.N
    = arrOut (V m c main_arg0) (V m c main_arg1) (V m c main_arg2) (V m c main_arg3) (V m c main_arg4) (V m c main_arg5) := by
  refine (dats m 0 c).arrAt_eq_of_covers 8 _ (by decide +kernel) fun t hf y => ?_
  have h7 : t.val % 8 = 7 := (flush0_8 t).mp hf
  blk_simp
  rw [after0_8]
  obtain ⟨a, b, rfl⟩ : ∃ (a : Fin 512) (b : Fin 2048), y = ix2 a b := ⟨y 0, y 1, by idx_ext⟩
  refine (last_at m c t h7 a b).trans (congrArg _ ?_)
  blk_ext [idx t]

end Cert.Kernel2Ideal.Gen
end
-- ==== Proof.MlpRef.lean ====
/-
The MLP reference in parts: its result as a function of its arguments, and every part read at an index.
-/
module
public import proofs.«01_k».proof.Proof.Gen.Reference2Ideal.Run
public import proofs.«01_k».proof.Proof.MlpRow

@[expose] public section
set_option maxRecDepth 16384
noncomputable section
namespace Cert.Reference2Ideal.Value
open Cert.Reference2Ideal Cert.Reference2Ideal.Gen Idealize.ShloMosaic Idealize.ShloMosaic.TcCoe Idealize.SL.Sem Idealize.ShloMosaic.StableHlo Cert.Mlp

/-- The latent's rows split into batches. -/
def split (x : FVec Ideal S32768x2048 .f32) : FVec Ideal S16x2048x2048 .f32 :=
  shapeCast S16x2048x2048 x shapeCasts_S32768x2048_S16x2048x2048
/-- The first layer's modulation of the latent's batches. -/
def modRows (M : FVec Ideal S2x32x12288 .f32) : FVec Ideal S16x1x12288 .f32 :=
  broadcastInDim S16x1x12288 ![0, 2] bcast_S16x12288_S16x1x12288_0_2 (shapeCast S16x12288 (extractStridedSlice S1x16x12288 ![0, 0, 0] M slices_S2x32x12288_S1x16x12288_0_0_0) shapeCasts_S1x16x12288_S16x12288)
/-- The shift. -/
def shift (y : FVec Ideal S16x1x12288 .f32) : FVec Ideal S16x1x2048 .f32 :=
  extractStridedSlice S16x1x2048 ![0, 0, 6144] y slices_S16x1x12288_S16x1x2048_0_0_6144
/-- The scale. -/
def scale (y : FVec Ideal S16x1x12288 .f32) : FVec Ideal S16x1x2048 .f32 :=
  extractStridedSlice S16x1x2048 ![0, 0, 8192] y slices_S16x1x12288_S16x1x2048_0_0_8192
/-- The gate. -/
def gate (y : FVec Ideal S16x1x12288 .f32) : FVec Ideal S16x1x2048 .f32 :=
  extractStridedSlice S16x1x2048 ![0, 0, 10240] y slices_S16x1x12288_S16x1x2048_0_0_10240
/-- The mean of every row. -/
def meanArr (z : FVec Ideal S16x2048x2048 .f32) : FVec Ideal S16x2048x1 .f32 :=
  Host.divf (broadcastInDim S16x2048x1 ![0, 1] bcast_S16x2048_S16x2048x1_0_1 (Host.reduceAdd z (constant S_ .f32 0x00000000#32) reducesTo_S16x2048x2048_S16x2048_d2 h_S_)) (broadcastInDim S16x2048x1 ![] bcast_S_S16x2048x1 (constant S_ .f32 0x45000000#32))
/-- Every row less its mean. -/
def centred (z : FVec Ideal S16x2048x2048 .f32) : FVec Ideal S16x2048x2048 .f32 :=
  subf z (broadcastInDim S16x2048x2048 ![0, 1, 2] bcast_S16x2048x1_S16x2048x2048_0_1_2 (meanArr z))
/-- Every row normalised. -/
def normArr (z : FVec Ideal S16x2048x2048 .f32) : FVec Ideal S16x2048x2048 .f32 :=
  mulf (centred z) (broadcastInDim S16x2048x2048 ![0, 1, 2] bcast_S16x2048x1_S16x2048x2048_0_1_2 (Host.rsqrt (addf (meanArr (mulf (centred z) (centred z))) (broadcastInDim S16x2048x1 ![] bcast_S_S16x2048x1 (constant S_ .f32 0x358637BD#32)))))
/-- Every row normalised, scaled and shifted. -/
def modArr (z : FVec Ideal S16x2048x2048 .f32) (sh sc : FVec Ideal S16x1x2048 .f32) : FVec Ideal S16x2048x2048 .f32 :=
  addf (mulf (normArr z) (broadcastInDim S16x2048x2048 ![0, 1, 2] bcast_S16x1x2048_S16x2048x2048_0_1_2 (addf (broadcastInDim S16x1x2048 ![] bcast_S_S16x1x2048 (constant S_ .f32 0x3F800000#32)) sc))) (broadcastInDim S16x2048x2048 ![0, 1, 2] bcast_S16x1x2048_S16x2048x2048_0_1_2 sh)
/-- The first layer's first weight. -/
def upW (U : FVec Ideal S2x2048x8192 .f32) : FVec Ideal S2048x8192 .f32 :=
  shapeCast S2048x8192 (extractStridedSlice S1x2048x8192 ![0, 0, 0] U slices_S2x2048x8192_S1x2048x8192_0_0_0) shapeCasts_S1x2048x8192_S2048x8192
/-- The first layer's second weight. -/
def downW (D : FVec Ideal S2x8192x2048 .f32) : FVec Ideal S8192x2048 .f32 :=
  shapeCast S8192x2048 (extractStridedSlice S1x8192x2048 ![0, 0, 0] D slices_S2x8192x2048_S1x8192x2048_0_0_0) shapeCasts_S1x8192x2048_S8192x2048
/-- The inputs of the hidden units, none below zero. -/
def reluArr (h : FVec Ideal S16x2048x2048 .f32) (u : FVec Ideal S2048x8192 .f32) : FVec Ideal S16x2048x8192 .f32 :=
  maximumf (Host.dotGeneral dot_S16x2048x2048_S2048x8192_S16x2048x8192_2_0_01_1_n_n none h u) (broadcastInDim S16x2048x8192 ![] bcast_S_S16x2048x8192 (constant S_ .f32 0x00000000#32))
/-- The hidden units' squares times the second weight. -/
def feedArr (a : FVec Ideal S16x2048x8192 .f32) (w : FVec Ideal S8192x2048 .f32) : FVec Ideal S16x2048x2048 .f32 :=
  Host.dotGeneral dot_S16x2048x8192_S8192x2048_S16x2048x2048_2_0_01_1_n_n none (mulf a a) w
/-- The residual: the scaled latent and the gated MLP. -/
def residArr (z : FVec Ideal S16x2048x2048 .f32) (g : FVec Ideal S16x1x2048 .f32) (f : FVec Ideal S16x2048x2048 .f32) : FVec Ideal S16x2048x2048 .f32 :=
  addf (mulf (broadcastInDim S16x2048x2048 ![] bcast_S_S16x2048x2048 (constant S_ .f32 0x3FB504F3#32)) z) (mulf (broadcastInDim S16x2048x2048 ![0, 1, 2] bcast_S16x1x2048_S16x2048x2048_0_1_2 g) f)
/-- The first layer's second row, in every row. -/
def lastRow (g : FVec Ideal S2x2x2048 .f32) : FVec Ideal S16x2048x2048 .f32 :=
  broadcastInDim S16x2048x2048 ![0, 1, 2] bcast_S1x1x2048_S16x2048x2048_0_1_2 (broadcastInDim S1x1x2048 ![2] bcast_S2048_S1x1x2048_2 (shapeCast S2048 (extractStridedSlice S1x1x2048 ![0, 1, 0] g slices_S2x2x2048_S1x1x2048_0_1_0) shapeCasts_S1x1x2048_S2048))
/-- The batches' rows laid one after the other. -/
def layRows (z : FVec Ideal S16x2048x2048 .f32) : FVec Ideal S32768x2048 .f32 :=
  shapeCast S32768x2048 z shapeCasts_S16x2048x2048_S32768x2048

/-- The reference's result as a function of its arguments. -/
def refOut (x : FVec Ideal S32768x2048 .f32) (M : FVec Ideal S2x32x12288 .f32) (U : FVec Ideal S2x2048x8192 .f32)
    (D : FVec Ideal S2x8192x2048 .f32) (lg lb : FVec Ideal S2x2x2048 .f32) : FVec Ideal S32768x2048 .f32 :=
  layRows (addf (mulf (normArr (residArr (split x) (gate (modRows M))
    (feedArr (reluArr (modArr (split x) (shift (modRows M)) (scale (modRows M))) (upW U)) (downW D)))) (lastRow lg)) (lastRow lb))

theorem parts_eq (m : (ℓ : Loc nD τ sig) → Buf (Elt Ideal) ℓ) (c : Dev nD) : res_main_v75 m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

/-- The reference's run leaves `refOut` of the launch's arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75)
        = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans (parts_eq m c), (h c).2⟩) (run (F := Ideal) m ρ)

/-! Every part at an index. -/

theorem split_at (x : FVec Ideal S32768x2048 .f32) (b : Fin 16) (r d : Fin 2048) :
    split x (ix3 b r d) = x (ix2 ⟨b * 2048 + r, by omega⟩ d) := by
  pointwise [split]
theorem shift_at (M : FVec Ideal S2x32x12288 .f32) (b : Fin 16) (d : Fin 2048) :
    shift (modRows M) (ix3 b 0 d) = M (ix3 0 ⟨b, by omega⟩ ⟨6144 + d, by omega⟩) := by
  pointwise [shift, modRows]
theorem scale_at (M : FVec Ideal S2x32x12288 .f32) (b : Fin 16) (d : Fin 2048) :
    scale (modRows M) (ix3 b 0 d) = M (ix3 0 ⟨b, by omega⟩ ⟨8192 + d, by omega⟩) := by
  pointwise [scale, modRows]
theorem gate_at (M : FVec Ideal S2x32x12288 .f32) (b : Fin 16) (d : Fin 2048) :
    gate (modRows M) (ix3 b 0 d) = M (ix3 0 ⟨b, by omega⟩ ⟨10240 + d, by omega⟩) := by
  pointwise [gate, modRows]
theorem meanArr_at (z : FVec Ideal S16x2048x2048 .f32) (b : Fin 16) (r : Fin 2048) :
    meanArr z (ix3 b r 0) = mean (fun d => z (ix3 b r d)) := by
  pointwise [meanArr, mean]
theorem centred_at (z : FVec Ideal S16x2048x2048 .f32) (b : Fin 16) (r d : Fin 2048) :
    (centred z (ix3 b r d) : EReal) = z (ix3 b r d) - mean (fun d => z (ix3 b r d)) := by
  rw [← meanArr_at]
  pointwise [centred]
theorem normArr_at (z : FVec Ideal S16x2048x2048 .f32) (b : Fin 16) (r d : Fin 2048) :
    normArr z (ix3 b r d) = norm (Ideal.ofBits .f32 0x358637BD#32) (fun d => z (ix3 b r d)) d := by
  have h : (normArr z (ix3 b r d) : EReal) = centred z (ix3 b r d)
      * Ideal.rsqrt (meanArr (mulf (centred z) (centred z)) (ix3 b r 0) + Ideal.ofBits .f32 0x358637BD#32) := by
    pointwise [normArr]
  rw [h, meanArr_at, centred_at]
  simp only [mulf, centred_at]
  rfl
theorem modArr_at (z : FVec Ideal S16x2048x2048 .f32) (sh sc : FVec Ideal S16x1x2048 .f32) (b : Fin 16) (r d : Fin 2048) :
    modArr z sh sc (ix3 b r d)
      = modulated (fun d => sh (ix3 b 0 d)) (fun d => sc (ix3 b 0 d)) (fun d => z (ix3 b r d)) d := by
  unfold modulated
  rw [← normArr_at]
  pointwise [modArr]
theorem upW_at (U : FVec Ideal S2x2048x8192 .f32) (e : Fin 2048) (k : Fin 8192) : upW U (ix2 e k) = U (ix3 0 e k) := by
  pointwise [upW]
theorem downW_at (D : FVec Ideal S2x8192x2048 .f32) (k : Fin 8192) (d : Fin 2048) : downW D (ix2 k d) = D (ix3 0 k d) := by
  pointwise [downW]
theorem reluArr_at (h : FVec Ideal S16x2048x2048 .f32) (u : FVec Ideal S2048x8192 .f32) (b : Fin 16) (r : Fin 2048) (k : Fin 8192) :
    (reluArr h u (ix3 b r k) : EReal) = max (∑ e : Fin 2048, (h (ix3 b r e) : EReal) * u (ix2 e k)) 0 := by
  pointwise [reluArr]
theorem feedArr_at (a : FVec Ideal S16x2048x8192 .f32) (w : FVec Ideal S8192x2048 .f32) (b : Fin 16) (r d : Fin 2048) :
    (feedArr a w (ix3 b r d) : EReal) = ∑ k : Fin 8192, ((a (ix3 b r k) : EReal) * a (ix3 b r k)) * w (ix2 k d) := by
  pointwise [feedArr]
theorem residArr_at (z f : FVec Ideal S16x2048x2048 .f32) (g : FVec Ideal S16x1x2048 .f32) (b : Fin 16) (r d : Fin 2048) :
    (residArr z g f (ix3 b r d) : EReal) = Ideal.ofBits .f32 0x3FB504F3#32 * z (ix3 b r d) + g (ix3 b 0 d) * f (ix3 b r d) := by
  pointwise [residArr]
theorem lastRow_at (g : FVec Ideal S2x2x2048 .f32) (b : Fin 16) (r d : Fin 2048) : lastRow g (ix3 b r d) = g (ix3 0 1 d) := by
  pointwise [lastRow]
theorem layRows_at (z : FVec Ideal S16x2048x2048 .f32) (b : Fin 16) (r d : Fin 2048) :
    layRows z (ix2 ⟨b * 2048 + r, by omega⟩ d) = z (ix3 b r d) := by
  pointwise [layRows]

end Cert.Reference2Ideal.Value
end
-- ==== Proof.MlpEqual.lean ====
/-
The MLP kernel's array is the reference's result. The reference scales the latent by `α` and normalises with `ε`; the
kernel divides the gate by `α` and normalises with `ε / α²`.
-/
module
public import proofs.«01_k».proof.Proof.MlpArray
public import proofs.«01_k».proof.Proof.MlpRef

@[expose] public section
set_option maxRecDepth 16384
noncomputable section
namespace Cert.Kernel2Ideal.Gen
open Idealize.ShloMosaic Idealize.ShloMosaic.TcCoe Idealize.SL.Sem Cert.Mlp Cert.Reference2Ideal.Value

/-- The residual scale `α`. -/
theorem word_alpha : Ideal.ofBits .f32 0x3FB504F3#32 = ((11863283 / 8388608 : ℝ) : EReal) := by
  simp [Ideal.ofBits, Ideal.ieee, -EReal.coe_mul]; norm_num
/-- The small constant `ε`. -/
theorem word_eps : Ideal.ofBits .f32 0x358637BD#32 = ((8796093 / 8796093022208 : ℝ) : EReal) := by
  simp [Ideal.ofBits, Ideal.ieee, -EReal.coe_mul]; norm_num
theorem invAlpha_eq : invAlpha = (((11863283 / 8388608 : ℝ)⁻¹ : ℝ) : EReal) := by
  show ((8388608 / 11863283 : ℝ) : EReal) = _
  congr 1; norm_num
theorem epsAlpha_eq : Ideal.ofBits .f32 0x358637BD#32 = (((11863283 / 8388608 : ℝ) * (11863283 / 8388608 : ℝ) : ℝ) : EReal) * epsAlpha := by
  rw [word_eps]
  show _ = _ * ((70368744 / 140737483538089 : ℝ) : EReal)
  rw [← EReal.coe_mul]
  congr 1; norm_num

/-! Row `r` of batch `b` is row `b · 2048 + r` of the latent. -/

theorem latent_split (X : Vec Ideal S32768x2048 .f32) (b : Fin 16) (r : Fin 2048) :
    latent X ⟨b * 2048 + r, by omega⟩ = fun d => split X (ix3 b r d) := funext fun d => (split_at X b r d).symm
theorem modu_batch (M : Vec Ideal S2x32x12288 .f32) (b : Fin 16) (r : Fin 2048) (o : ℕ) (ho : o + 2048 ≤ 12288) (d : Fin 2048) :
    modu M ⟨b * 2048 + r, by omega⟩ o ho d = M (ix3 0 ⟨b, by omega⟩ ⟨o + d, by omega⟩) := by
  have hb : ((b : ℕ) * 2048 + r) / 2048 = b := by omega
  unfold modu
  simp only [hb]

/-- The two results are one array. -/
theorem arr_eq_ref (X : Vec Ideal S32768x2048 .f32) (M : Vec Ideal S2x32x12288 .f32) (U : Vec Ideal S2x2048x8192 .f32)
    (D : Vec Ideal S2x8192x2048 .f32) (lg lb : Vec Ideal S2x2x2048 .f32) : arrOut X M U D lg lb = refOut X M U D lg lb := by
  funext i
  obtain ⟨b, r, d, rfl⟩ : ∃ (b : Fin 16) (r d : Fin 2048), i = ix2 ⟨b * 2048 + r, by omega⟩ d :=
    ⟨⟨(i 0).val / 2048, by have : (i 0).val < 32768 := (i 0).isLt; omega⟩, ⟨(i 0).val % 2048, by omega⟩, i 1, by
      idx_ext⟩
  have hh : hrow X M ⟨b * 2048 + r, by omega⟩ = fun e => modArr (split X) (shift (modRows M)) (scale (modRows M)) (ix3 b r e) := by
    funext e
    rw [modArr_at]
    unfold hrow
    rw [latent_split]
    congr 1
    · exact funext fun d => (modu_batch M b r 6144 (by omega) d).trans (shift_at M b d).symm
    · exact funext fun d => (modu_batch M b r 8192 (by omega) d).trans (scale_at M b d).symm
  unfold refOut
  rw [layRows_at]
  show _ = (normArr _ (ix3 b r d) : EReal) * lastRow lg (ix3 b r d) + lastRow lb (ix3 b r d)
  rw [normArr_at, lastRow_at, lastRow_at]
  refine congrArg (fun A : EReal => A * _ + _) ?_
  refine (congrFun (scaled_norm (by norm_num) epsAlpha_eq invAlpha_eq _ _ _) d).trans ?_
  refine congrFun (congrArg (norm _) (funext fun e => ?_)) d
  rw [residArr_at, word_alpha, gate_at, feedArr_at]
  refine congrArg₂ (fun A B : EReal => (11863283 / 8388608 : ℝ) * A + B) (congrFun (latent_split X b r) e)
    (congrArg₂ (fun A B : EReal => A * B) (modu_batch M b r 10240 (by omega) e) (Finset.sum_congr rfl fun k _ => ?_))
  rw [reluArr_at, downW_at]
  refine (congrArg (fun H => term U D H e k) hh).trans ?_
  unfold term unit
  simp only [upW_at]

/-- The kernel's array after all grid points is the reference's result of the same arguments. -/
theorem result_eq (m : (ℓ : Loc nD τ sig) → Buf (Elt Ideal) ℓ) (c : Dev nD) :
    ((dats m 0 c).arrAt 8 cfg0.N : Vec Ideal S32768x2048 .f32)
      = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (final m c).trans ?_
  rw [V_main_arg0, V_main_arg1, V_main_arg2, V_main_arg3, V_main_arg4, V_main_arg5]
  exact arr_eq_ref _ _ _ _ _ _
end Cert.Kernel2Ideal.Gen
end
-- ==== Proof.ProjPay.lean ====
/-
What each store of the projection kernel writes, at a row and a column: a modulated row, or its product with a tile of
the weight.
-/
module
public import proofs.«01_k».proof.Proof.Gen.Kernel3Ideal.Skeleton
public import proofs.«01_k».proof.Proof.RowBlock

@[expose] public section
set_option maxRecDepth 16384
noncomputable section
namespace Cert.Kernel3Ideal.Gen
open Idealize.ShloMosaic Idealize.ShloMosaic.TcCoe Idealize.SL.Sem Cert.Mlp

/-- One row's product with column `j` of a tile of the weight. -/
def cell {T : ℕ} (w : Vec Ideal ⟨3, ![1, 2048, T]⟩ .bf16) (h : Fin 2048 → EReal) (j : Fin T) : EReal := ∑ e, h e * w (ix3 0 e j)

/-! The modulated rows, in chunks of 128. -/

section
variable (sc sh : Vec Ideal S1x1x2048 .f32) (x : Vec Ideal S128x2048 .f32) (a : Fin 128) (d : Fin 2048)

theorem pay7_at : k0_pay7 sc sh x (ix2 a d) = modulated (vec sh) (vec sc) (fun e => x (ix2 a e)) d := by
  pointwise [k0_pay7, k0_pay5, k0_pay6]
  rfl
theorem pay10_at : k0_pay10 (k0_pay5 sc) (k0_pay6 sh) (k0_pay8 x) (k0_pay9 x) (ix2 a d)
    = modulated (vec sh) (vec sc) (fun e => x (ix2 a e)) d := by
  pointwise [k0_pay10, k0_pay5, k0_pay6, k0_pay8, k0_pay9]
  rfl
theorem pay14_at : k0_pay14 (k0_pay5 sc) (k0_pay6 sh) (k0_pay12 x) (k0_pay13 x) (ix2 a d)
    = modulated (vec sh) (vec sc) (fun e => x (ix2 a e)) d := by
  pointwise [k0_pay14, k0_pay5, k0_pay6, k0_pay12, k0_pay13]
  rfl
theorem pay15_at : k0_pay15 (k0_pay5 sc) (k0_pay6 sh) x (ix2 a d) = modulated (vec sh) (vec sc) (fun e => x (ix2 a e)) d := by
  pointwise [k0_pay15, k0_pay5, k0_pay6]
  rfl
theorem pay17_at : k0_pay17 (k0_pay5 sc) (k0_pay6 sh) x (ix2 a d) = modulated (vec sh) (vec sc) (fun e => x (ix2 a e)) d := by
  pointwise [k0_pay17, k0_pay5, k0_pay6]
  rfl
theorem pay20_at : k0_pay20 (k0_pay5 sc) (k0_pay6 sh) (k0_pay18 x) (k0_pay19 x) (ix2 a d)
    = modulated (vec sh) (vec sc) (fun e => x (ix2 a e)) d := by
  pointwise [k0_pay20, k0_pay5, k0_pay6, k0_pay18, k0_pay19]
  rfl
theorem pay1_at : k0_pay1 (k0_pay22 (k0_pay5 sc) (k0_pay6 sh) x) (ix2 a d)
    = modulated (vec sh) (vec sc) (fun e => x (ix2 a e)) d := by
  pointwise [k0_pay1, k0_pay22, k0_pay5, k0_pay6]
  rfl
theorem pay2_at : k0_pay2 (k0_pay5 sc) (k0_pay6 sh) x (ix2 a d) = modulated (vec sh) (vec sc) (fun e => x (ix2 a e)) d := by
  pointwise [k0_pay2, k0_pay5, k0_pay6]
  rfl
end

/-! The products, in chunks of 256 rows, or the whole block at once. -/

section
variable (w : Vec Ideal S1x2048x1536 .bf16) (h : Vec Ideal S256x2048 .bf16) (a : Fin 256) (j : Fin 1536)

theorem pay11_at : k0_pay11 h w (ix2 a j) = cell w (fun e => h (ix2 a e)) j := by
  pointwise [k0_pay11, cell]
theorem pay16_at : k0_pay16 h w (ix2 a j) = cell w (fun e => h (ix2 a e)) j := by
  pointwise [k0_pay16, cell]
theorem pay21_at : k0_pay21 h w (ix2 a j) = cell w (fun e => h (ix2 a e)) j := by
  pointwise [k0_pay21, cell]
theorem pay3_at : k0_pay3 h w (ix2 a j) = cell w (fun e => h (ix2 a e)) j := by
  pointwise [k0_pay3, cell]
end

theorem pay4_at (w : Vec Ideal S1x2048x1536 .bf16) (h : Vec Ideal S1024x2048 .bf16) (a : Fin 1024) (j : Fin 1536) :
    k0_pay4 h w (ix2 a j) = cell w (fun e => h (ix2 a e)) j := by
  pointwise [k0_pay4, cell]

end Cert.Kernel3Ideal.Gen
end
-- ==== Proof.ProjBlock.lean ====
/-
What one grid point of the projection kernel leaves in its output block and in the scratch buffer of modulated rows.

The first point of a block of rows fills the scratch, and multiplies every 256 rows once they are there; the other points
multiply what the scratch holds.
-/
module
public import proofs.«01_k».proof.Proof.Gen.Kernel3Ideal.Frame
public import proofs.«01_k».proof.Proof.ProjPay

@[expose] public section
set_option maxRecDepth 16384
noncomputable section
namespace Cert.Kernel3Ideal.Gen
open Idealize.ShloMosaic Idealize.ShloMosaic.TcCoe Idealize.SL.Sem Cert.Mlp Cert.Pieces

/-- The products of a block's rows with a tile of the weight. -/
def product {N T : ℕ} (w : Vec Ideal ⟨3, ![1, 2048, T]⟩ .bf16) (h : Vec Ideal ⟨2, ![N, 2048]⟩ .bf16) : Vec Ideal ⟨2, ![N, T]⟩ .bf16 := fun y =>
  cell w (fun e => h (ix2 (y 0) e)) (y 1)

variable (sh sc : Vec Ideal S1x1x2048 .f32) (x : Vec Ideal S1024x2048 .f32)

/-- The chunks stored up to the filling point's first, second, third and fourth product, latest first. -/
abbrev hidTwo : List (View.Piece (Elt Ideal) S1024x2048 .bf16) :=
  [⟨Rect.unit ![128, 0] ![128, 2048] inb_S1024x2048_S128x2048_128_0, k0_pay10 (k0_pay5 sc) (k0_pay6 sh)
      (k0_pay8 (View.ld x (Rect.unit ![128, 0] ![128, 2048] inb_S1024x2048_S128x2048_128_0)))
      (k0_pay9 (View.ld x (Rect.unit ![128, 0] ![128, 2048] inb_S1024x2048_S128x2048_128_0)))⟩,
    ⟨Rect.unit ![0, 0] ![128, 2048] inb_S1024x2048_S128x2048_0_0,
      k0_pay7 sc sh (View.ld x (Rect.unit ![0, 0] ![128, 2048] inb_S1024x2048_S128x2048_0_0))⟩]
abbrev hidFour : List (View.Piece (Elt Ideal) S1024x2048 .bf16) :=
  ⟨Rect.unit ![384, 0] ![128, 2048] inb_S1024x2048_S128x2048_384_0, k0_pay15 (k0_pay5 sc) (k0_pay6 sh)
      (View.ld x (Rect.unit ![384, 0] ![128, 2048] inb_S1024x2048_S128x2048_384_0))⟩ ::
    ⟨Rect.unit ![256, 0] ![128, 2048] inb_S1024x2048_S128x2048_256_0, k0_pay14 (k0_pay5 sc) (k0_pay6 sh)
      (k0_pay12 (View.ld x (Rect.unit ![256, 0] ![128, 2048] inb_S1024x2048_S128x2048_256_0)))
      (k0_pay13 (View.ld x (Rect.unit ![256, 0] ![128, 2048] inb_S1024x2048_S128x2048_256_0)))⟩ ::
    hidTwo sh sc x
abbrev hidSix : List (View.Piece (Elt Ideal) S1024x2048 .bf16) :=
  ⟨Rect.unit ![640, 0] ![128, 2048] inb_S1024x2048_S128x2048_640_0, k0_pay20 (k0_pay5 sc) (k0_pay6 sh)
      (k0_pay18 (View.ld x (Rect.unit ![640, 0] ![128, 2048] inb_S1024x2048_S128x2048_640_0)))
      (k0_pay19 (View.ld x (Rect.unit ![640, 0] ![128, 2048] inb_S1024x2048_S128x2048_640_0)))⟩ ::
    ⟨Rect.unit ![512, 0] ![128, 2048] inb_S1024x2048_S128x2048_512_0, k0_pay17 (k0_pay5 sc) (k0_pay6 sh)
      (View.ld x (Rect.unit ![512, 0] ![128, 2048] inb_S1024x2048_S128x2048_512_0))⟩ ::
    hidFour sh sc x
abbrev hidEight : List (View.Piece (Elt Ideal) S1024x2048 .bf16) :=
  ⟨Rect.unit ![896, 0] ![128, 2048] inb_S1024x2048_S128x2048_896_0, k0_pay2 (k0_pay5 sc) (k0_pay6 sh)
      (View.ld x (Rect.unit ![896, 0] ![128, 2048] inb_S1024x2048_S128x2048_896_0))⟩ ::
    ⟨Rect.unit ![768, 0] ![128, 2048] inb_S1024x2048_S128x2048_768_0, k0_pay1 (k0_pay22 (k0_pay5 sc) (k0_pay6 sh)
      (View.ld x (Rect.unit ![768, 0] ![128, 2048] inb_S1024x2048_S128x2048_768_0)))⟩ ::
    hidSix sh sc x

theorem hidTwo_of : View.PiecesOf (hiddenRows sh sc x) (hidTwo sh sc x) :=
  ⟨hid_piece sh sc x inb_S1024x2048_S128x2048_128_0 (fun v => k0_pay10 (k0_pay5 sc) (k0_pay6 sh) (k0_pay8 v) (k0_pay9 v)) (pay10_at sc sh),
    hid_piece sh sc x inb_S1024x2048_S128x2048_0_0 (fun v => k0_pay7 sc sh v) (pay7_at sc sh), trivial⟩
theorem hidFour_of : View.PiecesOf (hiddenRows sh sc x) (hidFour sh sc x) :=
  ⟨hid_piece sh sc x inb_S1024x2048_S128x2048_384_0 (fun v => k0_pay15 (k0_pay5 sc) (k0_pay6 sh) v) (pay15_at sc sh),
    hid_piece sh sc x inb_S1024x2048_S128x2048_256_0 (fun v => k0_pay14 (k0_pay5 sc) (k0_pay6 sh) (k0_pay12 v) (k0_pay13 v)) (pay14_at sc sh),
    hidTwo_of sh sc x⟩
theorem hidSix_of : View.PiecesOf (hiddenRows sh sc x) (hidSix sh sc x) :=
  ⟨hid_piece sh sc x inb_S1024x2048_S128x2048_640_0 (fun v => k0_pay20 (k0_pay5 sc) (k0_pay6 sh) (k0_pay18 v) (k0_pay19 v)) (pay20_at sc sh),
    hid_piece sh sc x inb_S1024x2048_S128x2048_512_0 (fun v => k0_pay17 (k0_pay5 sc) (k0_pay6 sh) v) (pay17_at sc sh), hidFour_of sh sc x⟩
theorem hidEight_of : View.PiecesOf (hiddenRows sh sc x) (hidEight sh sc x) :=
  ⟨hid_piece sh sc x inb_S1024x2048_S128x2048_896_0 (fun v => k0_pay2 (k0_pay5 sc) (k0_pay6 sh) v) (pay2_at sc sh),
    hid_piece sh sc x inb_S1024x2048_S128x2048_768_0 (fun v => k0_pay1 (k0_pay22 (k0_pay5 sc) (k0_pay6 sh) v)) (pay1_at sc sh), hidSix_of sh sc x⟩

/-- After the two chunks from row `o` on are stored, the 256 rows from there on are modulated rows. -/
theorem half_canon {N : ℕ} {G : Vec Ideal ⟨2, ![N, 2048]⟩ .bf16} {L : List (View.Piece (Elt Ideal) ⟨2, ![N, 2048]⟩ .bf16)} {o o' : ℕ} (ho : o' = o + 128)
    {h₁ h₂} {v₁ v₂ : Vec Ideal ⟨2, ![128, 2048]⟩ .bf16}
    (hL : View.PiecesOf G (⟨Rect.unit ![o', 0] ![128, 2048] h₁, v₁⟩ :: ⟨Rect.unit ![o, 0] ![128, 2048] h₂, v₂⟩ :: L)) (h) (a : Fin 256) (b : Fin 2048) :
    View.canon (⟨Rect.unit ![o', 0] ![128, 2048] h₁, v₁⟩ :: ⟨Rect.unit ![o, 0] ![128, 2048] h₂, v₂⟩ :: L)
      ((Rect.unit (s := ⟨2, ![N, 2048]⟩) ![o, 0] ![256, 2048] h).emb (ix2 a b))
      = G (ix2 ⟨o + a, by have := h 0; have := a.isLt; simp at *; omega⟩ b) := by
  rw [emb_row h a b]
  refine canon_of_piecesOf _ hL ?_
  rcases lt_or_ge (a : ℕ) 128 with ha | ha
  · exact ⟨_, List.mem_cons_of_mem _ (List.mem_cons_self ..), mem_row h₂ _ _ (by simp) (by simpa using ha)⟩
  · exact ⟨_, List.mem_cons_self .., mem_row h₁ _ _ (by simp; omega) (by simp; omega)⟩

/-- A stored chunk of products is that part of the block's products. -/
theorem product_piece {N T : ℕ} (w : Vec Ideal ⟨3, ![1, 2048, T]⟩ .bf16) (H : Vec Ideal ⟨2, ![N, 2048]⟩ .bf16) {o : ℕ} (h)
    (P : Vec Ideal S256x2048 .bf16 → FVec Ideal ⟨2, ![256, T]⟩ .bf16)
    (hP : ∀ v a j, P v (ix2 a j) = cell w (fun e => v (ix2 a e)) j)
    (v : Vec Ideal S256x2048 .bf16)
    (hv : ∀ (a : Fin 256) b, v (ix2 a b) = H (ix2 ⟨o + a, by have := h 0; have := a.isLt; simp at *; omega⟩ b)) (z : (⟨2, ![256, T]⟩ : Shape).Idx) :
    P v z = product w H ((Rect.unit (s := ⟨2, ![N, T]⟩) ![o, 0] ![256, T] h).emb z) := by
  obtain ⟨a, b, rfl⟩ : ∃ (a : Fin 256) (b : Fin T), z = ix2 a b := ⟨z 0, z 1, by idx_ext⟩
  rw [hP, emb_row h a b]
  exact congrFun (congrArg _ (funext fun e => hv a e)) b

variable (m : (ℓ : Loc nD τ sig) → Buf (Elt Ideal) ℓ)

/-- The first point of a block of rows fills the scratch with the modulated rows, -/
theorem first_scratch (c : Dev nD) (t : Fin cfg0.N) (h : t.val % 9 = 0) :
    (outsAt0 m c t.val t.isLt).2 = hiddenRows (iblk m c 1 t) (iblk m c 2 t) (iblk m c 0 t) := by
  rw [outsAt0_A m c t h (by omega)]
  funext y
  dsimp only
  frame_out
  exact canon_of_piecesOf _ (hidEight_of _ _ _) (View.cover_of_tiledL (s := S1024x2048) _ S128x2048.size (by sl_kernel_rfl) y)

/-- and leaves their products with the first tile. -/
theorem first_out (c : Dev nD) (t : Fin cfg0.N) (h : t.val % 9 = 0) :
    (outsAt0 m c t.val t.isLt).1
      = product (iblk m c 3 t) (hiddenRows (iblk m c 1 t) (iblk m c 2 t) (iblk m c 0 t)) := by
  rw [outsAt0_A m c t h (by omega)]
  funext y
  dsimp only
  frame_out
  refine canon_of_piecesOf _ ⟨?_, ?_, ?_, ?_, trivial⟩ (View.cover_of_tiledL (s := S1024x1536) _ S256x1536.size (by sl_kernel_rfl) y)
  · exact product_piece _ _ inb_S1024x1536_S256x1536_768_0 (fun v => k0_pay3 v (iblk m c 3 t)) (pay3_at _) _
      fun a b => (congrFun (View.readCov_eq_canon' ..) _).trans (half_canon rfl (hidEight_of _ _ _) _ a b)
  · exact product_piece _ _ inb_S1024x1536_S256x1536_512_0 (fun v => k0_pay21 v (iblk m c 3 t)) (pay21_at _) _
      fun a b => (congrFun (View.readCov_eq_canon' ..) _).trans (half_canon rfl (hidSix_of _ _ _) _ a b)
  · exact product_piece _ _ inb_S1024x1536_S256x1536_256_0 (fun v => k0_pay16 v (iblk m c 3 t)) (pay16_at _) _
      fun a b => (congrFun (View.readCov_eq_canon' ..) _).trans (half_canon rfl (hidFour_of _ _ _) _ a b)
  · exact product_piece _ _ inb_S1024x1536_S256x1536_0_0 (fun v => k0_pay11 v (iblk m c 3 t)) (pay11_at _) _
      fun a b => (congrFun (View.readCov_eq_canon' ..) _).trans (half_canon rfl (hidTwo_of _ _ _) _ a b)

/-- Another point keeps the scratch, -/
theorem next_scratch (c : Dev nD) (t : Fin cfg0.N) (h : 1 ≤ t.val % 9) :
    (outsAt0 m c t.val t.isLt).2 = (outsAt0 m c (t.val - 1) (Nat.lt_of_le_of_lt (Nat.sub_le _ _) t.isLt)).2 := by
  rw [outsAt0_B m c t (by omega) h]
  rfl

/-- and leaves the products of its rows with the point's tile. -/
theorem next_out (c : Dev nD) (t : Fin cfg0.N) (h : 1 ≤ t.val % 9) :
    (outsAt0 m c t.val t.isLt).1
      = product (iblk m c 3 t) (outsAt0 m c (t.val - 1) (Nat.lt_of_le_of_lt (Nat.sub_le _ _) t.isLt)).2 := by
  rw [outsAt0_B m c t (by omega) h]
  funext y
  dsimp only
  frame_out
  rw [read_unread_whole]
  obtain ⟨a, b, rfl⟩ : ∃ (a : Fin 1024) (b : Fin 1536), y = ix2 a b := ⟨y 0, y 1, by idx_ext⟩
  exact pay4_at _ _ a b

end Cert.Kernel3Ideal.Gen
end
-- ==== Proof.ProjArray.lean ====
/-
The projection kernel's whole result array: every entry is a modulated row's product with a column of the weight. The
columns start at the weight's column 1536, and the first 1536 columns of the weight come last.
-/
module
public import proofs.«01_k».proof.Proof.ProjBlock
public import proofs.«01_k».proof.Proof.MlpArray

@[expose] public section
set_option maxRecDepth 16384
noncomputable section
namespace Cert.Kernel3Ideal.Gen
open Idealize.ShloMosaic Idealize.ShloMosaic.TcCoe Idealize.SL.Sem Cert.Mlp Cert.Pieces
open Cert.Kernel2Ideal.Gen (latent modu mod_row)

/-- The modulated row that is projected. -/
def prow (X : Vec Ideal S32768x2048 .f32) (M : Vec Ideal S2x32x12288 .f32) (r : Fin 32768) : Fin 2048 → EReal :=
  modulated (modu M r 0 (by omega)) (modu M r 2048 (by omega)) (latent X r)

/-- A row's product with the column of the weight that column `j` of the result stands for. -/
def dotCol (W : Vec Ideal S2x2048x13824 .f32) (h : Fin 2048 → EReal) (j : Fin 13824) : EReal :=
  ∑ e, h e * W (ix3 0 e ⟨(1536 + j) % 13824, by omega⟩)

/-- The whole result array. -/
def projOut (X : Vec Ideal S32768x2048 .f32) (M : Vec Ideal S2x32x12288 .f32) (W : Vec Ideal S2x2048x13824 .f32) :
    Vec Ideal S32768x13824 .bf16 := fun i => dotCol W (prow X M (i 0)) (i 1)

variable (m : (ℓ : Loc nD τ sig) → Buf (Elt Ideal) ℓ)

/-- The block indices of the five windows at a grid point. -/
theorem idx : ∀ t : Fin cfg0.N, win0_0.index t = ![t.val / 9, 0] ∧ win0_1.index t = ![t.val / 18, 0, 0]
    ∧ win0_2.index t = ![t.val / 18, 0, 1] ∧ win0_3.index t = ![0, 0, (1 + t.val % 9) % 9]
    ∧ win0_4.index t = ![t.val / 9, t.val % 9] :=
  (by decide +kernel : ∀ t : Fin grid0.N, _)

theorem lt288 (t : Fin cfg0.N) : t.val < 288 := t.isLt

theorem V0 (c : Dev nD) : (V m c main_v0 : Vec Ideal S64x1x12288 .f32) = shapeCast S64x1x12288 (V m c main_arg1 : Vec Ideal S2x32x12288 .f32) shapeCasts_S2x32x12288_S64x1x12288 := rfl
theorem V1 (c : Dev nD) (i : S2x2048x13824.Idx) : (V m c main_v1 : Vec Ideal S2x2048x13824 .bf16) i = (V m c main_arg2 : Vec Ideal S2x2048x13824 .f32) i := rfl

theorem blk0 (c : Dev nD) (t : Fin cfg0.N) (a : Fin 1024) (d : Fin 2048) : (iblk m c 0 t : Vec Ideal S1024x2048 .f32) (ix2 a d)
    = latent (V m c main_arg0) ⟨t.val / 9 * 1024 + a, by have := lt288 t; omega⟩ d := by
  blk_ext [iblk, latent, idx t]
theorem blk1 (c : Dev nD) (t : Fin cfg0.N) (a : Fin 1024) : vec (iblk m c 1 t)
    = modu (V m c main_arg1) ⟨t.val / 9 * 1024 + a, by have := lt288 t; omega⟩ 0 (by omega) := by
  funext d
  have ht := lt288 t
  have he : (win0_1.blk t).view.emb (ix3 0 0 d) = (ix3 ⟨t.val / 18, by omega⟩ 0 ⟨0 + d, by omega⟩ : S64x1x12288.Idx) := by
    blk_ext [idx t]
  refine (congrArg (V m c main_v0 : Vec Ideal S64x1x12288 .f32) he).trans ((congrFun (V0 m c) _).trans ((mod_row _ (t.val / 18) (by omega) _).trans ?_))
  unfold modu
  congr 2
  exact Fin.ext (by show t.val / 18 = (t.val / 9 * 1024 + a.val) / 2048; omega)
theorem blk2 (c : Dev nD) (t : Fin cfg0.N) (a : Fin 1024) : vec (iblk m c 2 t)
    = modu (V m c main_arg1) ⟨t.val / 9 * 1024 + a, by have := lt288 t; omega⟩ 2048 (by omega) := by
  funext d
  have ht := lt288 t
  have he : (win0_2.blk t).view.emb (ix3 0 0 d) = (ix3 ⟨t.val / 18, by omega⟩ 0 ⟨2048 + d, by omega⟩ : S64x1x12288.Idx) := by
    blk_ext [idx t]
  refine (congrArg (V m c main_v0 : Vec Ideal S64x1x12288 .f32) he).trans ((congrFun (V0 m c) _).trans ((mod_row _ (t.val / 18) (by omega) _).trans ?_))
  unfold modu
  congr 2
  exact Fin.ext (by show t.val / 18 = (t.val / 9 * 1024 + a.val) / 2048; omega)
theorem blk3 (c : Dev nD) (t : Fin cfg0.N) (e : Fin 2048) (j : Fin 1536) : (iblk m c 3 t : Vec Ideal S1x2048x1536 .bf16) (ix3 0 e j)
    = (V m c main_arg2 : Vec Ideal S2x2048x13824 .f32) (ix3 0 e ⟨(1536 + (t.val % 9 * 1536 + j)) % 13824, by omega⟩) := by
  have he : (win0_3.blk t).view.emb (ix3 0 e j) = (ix3 0 e ⟨(1536 + (t.val % 9 * 1536 + j)) % 13824, by omega⟩ : S2x2048x13824.Idx) := by
    blk_ext [idx t]
  exact (congrArg (V m c main_v1 : Vec Ideal S2x2048x13824 .bf16) he).trans (V1 m c _)

/-- The modulated rows of row block `i`. -/
def hblock (X : Vec Ideal S32768x2048 .f32) (M : Vec Ideal S2x32x12288 .f32) (i : ℕ) (hi : i < 32) : Vec Ideal S1024x2048 .bf16 := fun y =>
  have h0 : (y 0 : ℕ) < 1024 := (y 0).isLt
  prow X M ⟨i * 1024 + y 0, by omega⟩ (y 1)

theorem hidden_eq (c : Dev nD) (t : Fin cfg0.N) : hiddenRows (iblk m c 1 t) (iblk m c 2 t) (iblk m c 0 t)
    = hblock (V m c main_arg0) (V m c main_arg1) (t.val / 9) (by have := lt288 t; omega) := by
  funext y
  obtain ⟨a, b, rfl⟩ : ∃ (a : Fin 1024) (b : Fin 2048), y = ix2 a b := ⟨y 0, y 1, by idx_ext⟩
  unfold hiddenRows
  rw [blk1 m c t a, blk2 m c t a]
  exact congrFun (congrArg _ (funext fun e => blk0 m c t a e)) b

/-- Every point of a row block leaves the block's modulated rows in the scratch. -/
theorem scratch_at (c : Dev nD) (i : ℕ) (hi : i < 32) : ∀ (j : ℕ) (_ : j < 9) (hn : 9 * i + j < cfg0.N),
    (outsAt0 m c (9 * i + j) hn).2 = hblock (V m c main_arg0) (V m c main_arg1) i hi
  | 0, _, hn => by
    refine (first_scratch m c ⟨9 * i, hn⟩ (by show 9 * i % 9 = 0; omega)).trans ?_
    rw [hidden_eq]
    congr 1
    show 9 * i / 9 = i
    omega
  | j + 1, hj, hn =>
    (next_scratch m c ⟨9 * i + (j + 1), hn⟩ (by show 1 ≤ (9 * i + (j + 1)) % 9; omega)).trans (scratch_at c i hi j (by omega) (by omega))

/-- Every point multiplies its row block's modulated rows. -/
theorem out_block (c : Dev nD) (t : Fin cfg0.N) : (outsAt0 m c t.val t.isLt).1
    = product (iblk m c 3 t) (hblock (V m c main_arg0) (V m c main_arg1) (t.val / 9) (by have := lt288 t; omega)) := by
  have hl := lt288 t
  rcases Nat.eq_zero_or_pos (t.val % 9) with h | h
  · rw [first_out m c t h, hidden_eq]
  · rw [next_out m c t h]
    have en : t.val - 1 = 9 * (t.val / 9) + (t.val % 9 - 1) := by omega
    have hp : (outsAt0 m c (t.val - 1) (Nat.lt_of_le_of_lt (Nat.sub_le _ _) t.isLt))
        = outsAt0 m c (9 * (t.val / 9) + (t.val % 9 - 1)) (en ▸ Nat.lt_of_le_of_lt (Nat.sub_le _ _) t.isLt) := by
      congr 1
    rw [hp, scratch_at m c (t.val / 9) (by omega) (t.val % 9 - 1) (by omega)]

/-- A point leaves its rows and columns of the result. -/
theorem out_at (c : Dev nD) (t : Fin cfg0.N) (a : Fin 1024) (j : Fin 1536) :
    (outsAt0 m c t.val t.isLt).1 (ix2 a j) = projOut (V m c main_arg0) (V m c main_arg1) (V m c main_arg2)
      (ix2 ⟨t.val / 9 * 1024 + a, by have := lt288 t; omega⟩ ⟨t.val % 9 * 1536 + j, by omega⟩) := by
  refine (congrFun (out_block m c t) _).trans ?_
  show cell _ _ j = dotCol _ _ _
  unfold cell dotCol
  exact Finset.sum_congr rfl fun e _ => congrArg₂ (fun A B : EReal => A * B) rfl (blk3 m c t e j)

/-- The array is `projOut` of the arguments. -/
theorem final (c : Dev nD) : (dats m 0 c).arrAt 4 cfg0.N
    = projOut (V m c main_arg0) (V m c main_arg1) (V m c main_arg2) := by
  refine (dats m 0 c).arrAt_eq_of_covers 4 _ (by decide +kernel) fun t _ y => ?_
  blk_simp
  rw [after0_4]
  obtain ⟨a, b, rfl⟩ : ∃ (a : Fin 1024) (b : Fin 1536), y = ix2 a b := ⟨y 0, y 1, by idx_ext⟩
  refine (out_at m c t a b).trans (congrArg _ ?_)
  blk_ext [idx t]

end Cert.Kernel3Ideal.Gen
end
-- ==== Proof.ProjRef.lean ====
/-
The projection reference in parts: its result as a function of its arguments, and every part read at an index.
-/
module
public import proofs.«01_k».proof.Proof.Gen.Reference3Ideal.Run
public import proofs.«01_k».proof.Proof.MlpRef

@[expose] public section
set_option maxRecDepth 16384
noncomputable section
namespace Cert.Reference3Ideal.Value
open Cert.Reference3Ideal Cert.Reference3Ideal.Gen Idealize.ShloMosaic Idealize.ShloMosaic.TcCoe Idealize.SL.Sem Idealize.ShloMosaic.StableHlo Cert.Mlp
open Cert.Reference2Ideal.Value (split modRows modArr)

/-- The shift. -/
def shift (y : FVec Ideal S16x1x12288 .f32) : FVec Ideal S16x1x2048 .f32 :=
  extractStridedSlice S16x1x2048 ![0, 0, 0] y slices_S16x1x12288_S16x1x2048_0_0_0
/-- The scale. -/
def scale (y : FVec Ideal S16x1x12288 .f32) : FVec Ideal S16x1x2048 .f32 :=
  extractStridedSlice S16x1x2048 ![0, 0, 2048] y slices_S16x1x12288_S16x1x2048_0_0_2048
/-- The first layer's weight. -/
def inW (W : FVec Ideal S2x2048x13824 .f32) : FVec Ideal S2048x13824 .f32 :=
  shapeCast S2048x13824 (extractStridedSlice S1x2048x13824 ![0, 0, 0] W slices_S2x2048x13824_S1x2048x13824_0_0_0) shapeCasts_S1x2048x13824_S2048x13824
/-- The rows' products with the weight, the batches laid one after the other. -/
def projArr (h : FVec Ideal S16x2048x2048 .f32) (w : FVec Ideal S2048x13824 .f32) : FVec Ideal S32768x13824 .f32 :=
  shapeCast S32768x13824 (Host.dotGeneral dot_S16x2048x2048_S2048x13824_S16x2048x13824_2_0_01_1_n_n none h w) shapeCasts_S16x2048x13824_S32768x13824
/-- The columns from 1536 on, then the first 1536. -/
def turned (p : FVec Ideal S32768x13824 .f32) : FVec Ideal S32768x13824 .f32 :=
  concatenate S32768x13824 1 [⟨S32768x12288, extractStridedSlice S32768x12288 ![0, 1536] p slices_S32768x13824_S32768x12288_0_1536⟩,
    ⟨S32768x1536, extractStridedSlice S32768x1536 ![0, 0] p slices_S32768x13824_S32768x1536_0_0⟩] concatenates_S32768x12288_S32768x1536_S32768x13824_d1

/-- The reference's result as a function of its arguments. -/
def refOut (x : FVec Ideal S32768x2048 .f32) (M : FVec Ideal S2x32x12288 .f32) (W : FVec Ideal S2x2048x13824 .f32) :
    FVec Ideal S32768x13824 .bf16 :=
  truncf .bf16 (turned (projArr (modArr (split x) (shift (modRows M)) (scale (modRows M))) (inW W))) bitsLt_bf16_f32

theorem parts_eq (m : (ℓ : Loc nD τ sig) → Buf (Elt Ideal) ℓ) (c : Dev nD) : res_main_v39 m c
    = refOut (m ((c.tc : Thread nD τ).loc main_arg0)) (m ((c.tc : Thread nD τ).loc main_arg1)) (m ((c.tc : Thread nD τ).loc main_arg2)) := rfl

/-- The reference's run leaves `refOut` of the launch's arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (parts_eq m c), (h c).2⟩) (run (F := Ideal) m ρ)

/-! Every part at an index. -/

theorem shift_at (M : FVec Ideal S2x32x12288 .f32) (b : Fin 16) (d : Fin 2048) :
    shift (modRows M) (ix3 b 0 d) = M (ix3 0 ⟨b, by omega⟩ ⟨0 + d, by omega⟩) := by
  pointwise [shift, modRows]
theorem scale_at (M : FVec Ideal S2x32x12288 .f32) (b : Fin 16) (d : Fin 2048) :
    scale (modRows M) (ix3 b 0 d) = M (ix3 0 ⟨b, by omega⟩ ⟨2048 + d, by omega⟩) := by
  pointwise [scale, modRows]
theorem inW_at (W : FVec Ideal S2x2048x13824 .f32) (e : Fin 2048) (j : Fin 13824) : inW W (ix2 e j) = W (ix3 0 e j) := by
  pointwise [inW]
theorem projArr_at (h : FVec Ideal S16x2048x2048 .f32) (w : FVec Ideal S2048x13824 .f32) (b : Fin 16) (r : Fin 2048) (j : Fin 13824) :
    (projArr h w (ix2 ⟨b * 2048 + r, by omega⟩ j) : EReal) = ∑ e : Fin 2048, (h (ix3 b r e) : EReal) * w (ix2 e j) := by
  pointwise [projArr]
theorem turned_at (p : FVec Ideal S32768x13824 .f32) (r : Fin 32768) (j : Fin 13824) :
    turned p (ix2 r j) = p (ix2 r ⟨(1536 + j) % 13824, by omega⟩) := by
  have hj := j.isLt
  have h : turned p (ix2 r j) = if h : (j : ℕ) < 12288 then p (ix2 r ⟨1536 + j, by omega⟩) else p (ix2 r ⟨j - 12288, by omega⟩) := by
    pointwise [turned]
  rw [h]
  split
  · exact congrArg (fun k => p (ix2 r k)) (Fin.ext (by show 1536 + (j : ℕ) = (1536 + j) % 13824; omega))
  · exact congrArg (fun k => p (ix2 r k)) (Fin.ext (by show (j : ℕ) - 12288 = (1536 + j) % 13824; omega))

end Cert.Reference3Ideal.Value
end
-- ==== Proof.ProjEqual.lean ====
/-
The projection kernel's array is the reference's result.
-/
module
public import proofs.«01_k».proof.Proof.ProjArray
public import proofs.«01_k».proof.Proof.ProjRef
public import proofs.«01_k».proof.Proof.MlpEqual

@[expose] public section
set_option maxRecDepth 16384
noncomputable section
namespace Cert.Kernel3Ideal.Gen
open Idealize.ShloMosaic Idealize.ShloMosaic.TcCoe Idealize.SL.Sem Cert.Mlp Cert.Reference3Ideal.Value
open Cert.Kernel2Ideal.Gen (latent_split modu_batch)
open Cert.Reference2Ideal.Value (split modRows modArr modArr_at)

/-- The two results are one array. -/
theorem arr_eq_ref (X : Vec Ideal S32768x2048 .f32) (M : Vec Ideal S2x32x12288 .f32) (W : Vec Ideal S2x2048x13824 .f32) :
    projOut X M W = refOut X M W := by
  funext i
  obtain ⟨b, r, j, rfl⟩ : ∃ (b : Fin 16) (r : Fin 2048) (j : Fin 13824), i = ix2 ⟨b * 2048 + r, by omega⟩ j :=
    ⟨⟨(i 0).val / 2048, by have : (i 0).val < 32768 := (i 0).isLt; omega⟩, ⟨(i 0).val % 2048, by omega⟩, i 1, by
      idx_ext⟩
  have hh : prow X M ⟨b * 2048 + r, by omega⟩ = fun e => modArr (split X) (shift (modRows M)) (scale (modRows M)) (ix3 b r e) := by
    funext e
    rw [modArr_at]
    unfold prow
    rw [latent_split]
    congr 1
    · exact funext fun d => (modu_batch M b r 0 (by omega) d).trans (shift_at M b d).symm
    · exact funext fun d => (modu_batch M b r 2048 (by omega) d).trans (scale_at M b d).symm
  refine (congrArg (fun H => dotCol W H j) hh).trans ?_
  refine Eq.trans ?_ ((turned_at _ _ _).trans (projArr_at _ _ _ _ _)).symm
  unfold dotCol
  simp only [inW_at]

/-- The kernel's array after all grid points is the reference's result of the same arguments. -/
theorem result_eq (m : (ℓ : Loc nD τ sig) → Buf (Elt Ideal) ℓ) (c : Dev nD) :
    ((dats m 0 c).arrAt 4 cfg0.N : Vec Ideal S32768x13824 .bf16)
      = refOut (m ((c.tc : Thread nD τ).loc main_arg0)) (m ((c.tc : Thread nD τ).loc main_arg1)) (m ((c.tc : Thread nD τ).loc main_arg2)) := by
  refine (final m c).trans ?_
  rw [V_main_arg0, V_main_arg1, V_main_arg2]
  exact arr_eq_ref _ _ _

end Cert.Kernel3Ideal.Gen
end
-- ==== Proof.OutPay.lean ====
/-
What each store of the output projection's kernel writes, at a row and a column: the closing normalisation of that row.
-/
module
public import proofs.«01_k».proof.Proof.Gen.Kernel4Ideal.Skeleton
public import proofs.«01_k».proof.Proof.MlpPay

@[expose] public section
set_option maxRecDepth 16384
noncomputable section
namespace Cert.Kernel4Ideal.Gen
open Idealize.ShloMosaic Idealize.ShloMosaic.TcCoe Idealize.SL.Sem Cert.Mlp
open Cert.Kernel2Ideal.Gen (closed)

/-- A merged row's product with column `d` of the weight. -/
def mix (w : Vec Ideal S1x2048x2048 .bf16) (h : Fin 2048 → EReal) (d : Fin 2048) : EReal := ∑ e, h e * w (ix3 0 e d)

variable (g lg lb : Vec Ideal S1x1x2048 .f32) (h : Vec Ideal S256x2048 .bf16) (w : Vec Ideal S1x2048x2048 .bf16)
  (p : FVec Ideal S256x2048 .f32) (x : Vec Ideal S128x2048 .f32) (a : Fin 128) (d : Fin 2048)

/-! The products, in chunks of 256 rows. -/

theorem pay5_at (a : Fin 256) : k0_pay5 h w (ix2 a d) = mix w (fun e => h (ix2 a e)) d := by
  pointwise [k0_pay5, mix]
theorem pay11_at (a : Fin 256) : k0_pay11 h w (ix2 a d) = mix w (fun e => h (ix2 a e)) d := by
  pointwise [k0_pay11, mix]

/-! The closing normalisation, in chunks of 128 rows. -/

theorem pay2_at : k0_pay2 g (ix2 0 d) = vec g d := by
  pointwise [k0_pay2]
  rfl

theorem pay9_at : k0_pay9 (k0_pay7 g lg h w x) (k0_pay8 lb) (ix2 a d)
    = closed (fun e => x (ix2 a e)) (fun e => k0_pay5 h w (ix2 ⟨a, by omega⟩ e)) g lg lb d := by
  unfold k0_pay7
  generalize k0_pay5 h w = p
  pointwise [k0_pay9, k0_pay8, k0_pay6, k0_pay3, k0_pay4]
  simp only [pay2_at]
  rfl
theorem pay10_at : k0_pay10 (k0_pay3 lg) (k0_pay4 lb) p (k0_pay6 g) x (ix2 a d)
    = closed (fun e => x (ix2 a e)) (fun e => p (ix2 ⟨128 + a, by omega⟩ e)) g lg lb d := by
  pointwise [k0_pay10, k0_pay3, k0_pay4, k0_pay6]
  simp only [pay2_at]
  rfl
theorem pay14_at : k0_pay14 (k0_pay3 lg) (k0_pay4 lb) x (k0_pay13 (k0_pay2 g) h w) (ix2 a d)
    = closed (fun e => x (ix2 a e)) (fun e => k0_pay11 h w (ix2 ⟨a, by omega⟩ e)) g lg lb d := by
  unfold k0_pay13
  generalize k0_pay11 h w = p
  pointwise [k0_pay14, k0_pay12, k0_pay3, k0_pay4]
  simp only [pay2_at]
  rfl
theorem pay1_at : k0_pay1 (k0_pay4 lb) (k0_pay15 (k0_pay3 lg) p (k0_pay12 (k0_pay2 g)) x) (ix2 a d)
    = closed (fun e => x (ix2 a e)) (fun e => p (ix2 ⟨128 + a, by omega⟩ e)) g lg lb d := by
  pointwise [k0_pay1, k0_pay15, k0_pay12, k0_pay3, k0_pay4]
  simp only [pay2_at]
  rfl

end Cert.Kernel4Ideal.Gen
end
-- ==== Proof.OutBlock.lean ====
/-
What one grid point of the output projection's kernel leaves in its output block: the normalised residual of its rows.
-/
module
public import proofs.«01_k».proof.Proof.Gen.Kernel4Ideal.Frame
public import proofs.«01_k».proof.Proof.OutPay
public import proofs.«01_k».proof.Proof.MlpBlock

@[expose] public section
set_option maxRecDepth 16384
noncomputable section
namespace Cert.Kernel4Ideal.Gen
open Idealize.ShloMosaic Idealize.ShloMosaic.TcCoe Idealize.SL.Sem Cert.Mlp Cert.Pieces
open Cert.Kernel2Ideal.Gen (closed result result_piece row_eq)

/-- The products of a block's rows with the weight. -/
def mixRows (w : Vec Ideal S1x2048x2048 .bf16) (h : Vec Ideal S512x2048 .bf16) : Vec Ideal S512x2048 .f32 := fun y =>
  mix w (rowAt h y) (y 1)

/-- The products of 256 rows, from row `o` on. -/
theorem mix_row (P : Vec Ideal S256x2048 .bf16 → FVec Ideal S256x2048 .f32)
    (w : Vec Ideal S1x2048x2048 .bf16) (H : Vec Ideal S512x2048 .bf16)
    (hP : ∀ h d a, P h (ix2 a d) = mix w (fun e => h (ix2 a e)) d) {o : ℕ} (h) (a : Fin 256) (b : Fin 2048) :
    P (View.ld H (Rect.unit (s := S512x2048) ![o, 0] ![256, 2048] h)) (ix2 a b)
      = mixRows w H (ix2 ⟨o + a, by have := h 0; have := a.isLt; simp at *; omega⟩ b) := by
  rw [hP]
  exact congrFun (congrArg _ (funext fun e => ld_row H h a e)) b

/-- A point's stores leave the normalised residual of its rows. -/
theorem out_eq (h : Vec Ideal S512x2048 .bf16) (w : Vec Ideal S1x2048x2048 .bf16) (x : Vec Ideal S512x2048 .f32)
    (g lg lb : Vec Ideal S1x1x2048 .f32) : out0_6 h w x g lg lb = result x (mixRows w h) g lg lb := by
  funext y
  have e0 : ∀ v : Vec Ideal S1x1x2048 .f32, View.ld v r0_0 = v := fun v => View.ld_unit_lit _ v (by decide)
  have e2 : View.ld w r0_2 = w := View.ld_unit_lit _ w (by decide)
  unfold out0_6 k0_pay16 k0_pay17 k0_pay18
  simp only [e0, e2]
  refine canon_of_piecesOf _ ⟨?_, ?_, ?_, ?_, trivial⟩ (cover0_6 _ _ _ _ y)
  · exact result_piece _ _ _ _ _ inb_S512x2048_S128x2048_384_0
      (fun v => k0_pay1 (k0_pay4 lb) (k0_pay15 (k0_pay3 lg) _ (k0_pay12 (k0_pay2 g)) v)) _ (fun v => pay1_at g lg lb _ v)
      fun a b => (mix_row _ w h (fun v => pay11_at v w) inb_S512x2048_S256x2048_256_0 _ b).trans
        (row_eq (mixRows w h) (show 256 + (128 + a.val) = 384 + a.val by omega) _ _ b)
  · exact result_piece _ _ _ _ _ inb_S512x2048_S128x2048_256_0
      (fun v => k0_pay14 (k0_pay3 lg) (k0_pay4 lb) v (k0_pay13 (k0_pay2 g) _ w)) _ (fun v => pay14_at g lg lb _ w v)
      fun a b => mix_row _ w h (fun v => pay11_at v w) inb_S512x2048_S256x2048_256_0 _ b
  · exact result_piece _ _ _ _ _ inb_S512x2048_S128x2048_128_0
      (fun v => k0_pay10 (k0_pay3 lg) (k0_pay4 lb) _ (k0_pay6 g) v) _ (fun v => pay10_at g lg lb _ v)
      fun a b => (mix_row _ w h (fun v => pay5_at v w) inb_S512x2048_S256x2048_0_0 _ b).trans
        (row_eq (mixRows w h) (show 0 + (128 + a.val) = 128 + a.val by omega) _ _ b)
  · exact result_piece _ _ _ _ _ inb_S512x2048_S128x2048_0_0
      (fun v => k0_pay9 (k0_pay7 g lg _ w v) (k0_pay8 lb)) _ (fun v => pay9_at g lg lb _ w v)
      fun a b => mix_row _ w h (fun v => pay5_at v w) inb_S512x2048_S256x2048_0_0 _ b

end Cert.Kernel4Ideal.Gen
end
-- ==== Proof.OutArray.lean ====
/-
The output projection kernel's whole result array: every entry is the row arithmetic of its row and its batch.
-/
module
public import proofs.«01_k».proof.Proof.OutBlock
public import proofs.«01_k».proof.Proof.MlpArray

@[expose] public section
set_option maxRecDepth 16384
noncomputable section
namespace Cert.Kernel4Ideal.Gen
open Idealize.ShloMosaic Idealize.ShloMosaic.TcCoe Idealize.SL.Sem Cert.Mlp Cert.Pieces
open Cert.Kernel2Ideal.Gen (closed result latent modu mod_row invAlpha epsAlpha)

/-- Row `r` of the merged branches times column `d` of the weight. -/
def mixed (A : Vec Ideal S32768x2048 .bf16) (W : Vec Ideal S2x2048x2048 .f32) (r : Fin 32768) (d : Fin 2048) : EReal :=
  ∑ e : Fin 2048, (A (ix2 r e) : EReal) * W (ix3 0 e d)

/-- The whole result array. -/
def mixOut (A : Vec Ideal S32768x2048 .bf16) (W : Vec Ideal S2x2048x2048 .f32) (X : Vec Ideal S32768x2048 .f32)
    (M : Vec Ideal S2x32x12288 .f32) (lg lb : Vec Ideal S2x2x2048 .f32) : Vec Ideal S32768x2048 .f32 := fun i =>
  norm epsAlpha (fun d => latent X (i 0) d + modu M (i 0) 4096 (by omega) d * invAlpha * mixed A W (i 0) d) (i 1)
    * lg (ix3 0 0 (i 1)) + lb (ix3 0 0 (i 1))

variable (m : (ℓ : Loc nD τ sig) → Buf (Elt Ideal) ℓ)

/-- The block indices of the seven windows at a grid point. -/
theorem idx : ∀ t : Fin cfg0.N, win0_0.index t = ![t.val, 0] ∧ win0_1.index t = ![0, 0, 0] ∧ win0_2.index t = ![t.val, 0]
    ∧ win0_3.index t = ![t.val / 4, 0, 2] ∧ win0_4.index t = ![0, 0, 0] ∧ win0_5.index t = ![0, 0, 0] ∧ win0_6.index t = ![t.val, 0] :=
  (by decide +kernel : ∀ t : Fin grid0.N, _)

theorem lt64 (t : Fin cfg0.N) : t.val < 64 := t.isLt

theorem V3 (c : Dev nD) (i : S2x2048x2048.Idx) : (V m c main_v3 : Vec Ideal S2x2048x2048 .bf16) i = (V m c main_arg1 : Vec Ideal S2x2048x2048 .f32) i := rfl
theorem V0 (c : Dev nD) : (V m c main_v0 : Vec Ideal S64x1x12288 .f32) = shapeCast S64x1x12288 (V m c main_arg3 : Vec Ideal S2x32x12288 .f32) shapeCasts_S2x32x12288_S64x1x12288 := rfl
theorem V1 (c : Dev nD) : (V m c main_v1 : Vec Ideal S4x1x2048 .f32) = shapeCast S4x1x2048 (V m c main_arg4 : Vec Ideal S2x2x2048 .f32) shapeCasts_S2x2x2048_S4x1x2048 := rfl
theorem V2 (c : Dev nD) : (V m c main_v2 : Vec Ideal S4x1x2048 .f32) = shapeCast S4x1x2048 (V m c main_arg5 : Vec Ideal S2x2x2048 .f32) shapeCasts_S2x2x2048_S4x1x2048 := rfl

/-- The scale or shift of two layers and two norms, as four rows: the first is the first layer's first. -/
theorem ln_first (v : Vec Ideal S2x2x2048 .f32) (d : Fin 2048) :
    shapeCast S4x1x2048 v shapeCasts_S2x2x2048_S4x1x2048 (ix3 0 0 d) = v (ix3 0 0 d) := by
  pointwise

theorem blk0 (c : Dev nD) (t : Fin cfg0.N) (a : Fin 512) (e : Fin 2048) : (iblk m c 0 t : Vec Ideal S512x2048 .bf16) (ix2 a e)
    = (V m c main_arg0 : Vec Ideal S32768x2048 .bf16) (ix2 ⟨t.val * 512 + a, by have := lt64 t; omega⟩ e) := by
  blk_ext [iblk, idx t]
theorem blk1 (c : Dev nD) (t : Fin cfg0.N) (e d : Fin 2048) : (iblk m c 1 t : Vec Ideal S1x2048x2048 .bf16) (ix3 0 e d)
    = (V m c main_arg1 : Vec Ideal S2x2048x2048 .f32) (ix3 0 e d) := by
  have he : (win0_1.blk t).view.emb (ix3 0 e d) = (ix3 0 e d : S2x2048x2048.Idx) := by
    blk_ext [idx t]
  exact (congrArg (V m c main_v3 : Vec Ideal S2x2048x2048 .bf16) he).trans (V3 m c _)
theorem blk2 (c : Dev nD) (t : Fin cfg0.N) (a : Fin 512) (d : Fin 2048) : (iblk m c 2 t : Vec Ideal S512x2048 .f32) (ix2 a d)
    = latent (V m c main_arg2) ⟨t.val * 512 + a, by have := lt64 t; omega⟩ d := by
  blk_ext [iblk, latent, idx t]
theorem blk3 (c : Dev nD) (t : Fin cfg0.N) (a : Fin 512) : vec (iblk m c 3 t)
    = modu (V m c main_arg3) ⟨t.val * 512 + a, by have := lt64 t; omega⟩ 4096 (by omega) := by
  funext d
  have ht := lt64 t
  have he : (win0_3.blk t).view.emb (ix3 0 0 d) = (ix3 ⟨t.val / 4, by omega⟩ 0 ⟨4096 + d, by omega⟩ : S64x1x12288.Idx) := by
    blk_ext [idx t]
  refine (congrArg (V m c main_v0 : Vec Ideal S64x1x12288 .f32) he).trans ((congrFun (V0 m c) _).trans ((mod_row _ (t.val / 4) (by omega) _).trans ?_))
  unfold modu
  congr 2
  exact Fin.ext (by show t.val / 4 = (t.val * 512 + a.val) / 2048; omega)
theorem blk4 (c : Dev nD) (t : Fin cfg0.N) (d : Fin 2048) : vec (iblk m c 4 t) d = (V m c main_arg4 : Vec Ideal S2x2x2048 .f32) (ix3 0 0 d) := by
  have he : (win0_4.blk t).view.emb (ix3 0 0 d) = (ix3 0 0 d : S4x1x2048.Idx) := by
    blk_ext [idx t]
  exact (congrArg (V m c main_v1 : Vec Ideal S4x1x2048 .f32) he).trans ((congrFun (V1 m c) _).trans (ln_first _ d))
theorem blk5 (c : Dev nD) (t : Fin cfg0.N) (d : Fin 2048) : vec (iblk m c 5 t) d = (V m c main_arg5 : Vec Ideal S2x2x2048 .f32) (ix3 0 0 d) := by
  have he : (win0_5.blk t).view.emb (ix3 0 0 d) = (ix3 0 0 d : S4x1x2048.Idx) := by
    blk_ext [idx t]
  exact (congrArg (V m c main_v2 : Vec Ideal S4x1x2048 .f32) he).trans ((congrFun (V2 m c) _).trans (ln_first _ d))

/-- A block's products are the array's. -/
theorem mix_at (c : Dev nD) (t : Fin cfg0.N) (a : Fin 512) (d : Fin 2048) :
    (mixRows (iblk m c 1 t) (iblk m c 0 t) (ix2 a d) : EReal)
      = mixed (V m c main_arg0) (V m c main_arg1) ⟨t.val * 512 + a, by have := lt64 t; omega⟩ d := by
  show mix _ _ d = _
  unfold mix mixed
  exact Finset.sum_congr rfl fun e _ => congrArg₂ (fun A B : EReal => A * B) (blk0 m c t a e) (blk1 m c t e d)

/-- A point leaves its rows of the result. -/
theorem out_at (c : Dev nD) (t : Fin cfg0.N) (a : Fin 512) (d : Fin 2048) :
    result (iblk m c 2 t) (mixRows (iblk m c 1 t) (iblk m c 0 t)) (iblk m c 3 t) (iblk m c 4 t) (iblk m c 5 t) (ix2 a d)
      = mixOut (V m c main_arg0) (V m c main_arg1) (V m c main_arg2) (V m c main_arg3) (V m c main_arg4) (V m c main_arg5)
          (ix2 ⟨t.val * 512 + a, by have := lt64 t; omega⟩ d) := by
  show closed _ _ _ _ _ d = _
  unfold closed
  rw [blk3 m c t a, blk4, blk5]
  refine congrArg (fun A => norm epsAlpha A d * _ + _) (funext fun e => ?_)
  exact congrArg₂ (fun A B : EReal => A + _ * B) (blk2 m c t a e) (mix_at m c t a e)

/-- The array is `mixOut` of the arguments. -/
theorem final (c : Dev nD) : (dats m 0 c).arrAt 6 cfg0.N
    = mixOut (V m c main_arg0) (V m c main_arg1) (V m c main_arg2) (V m c main_arg3) (V m c main_arg4) (V m c main_arg5) := by
  refine (dats m 0 c).arrAt_eq_of_covers 6 _ (by decide +kernel) fun t _ y => ?_
  blk_simp
  rw [after0_6, out_eq]
  obtain ⟨a, b, rfl⟩ : ∃ (a : Fin 512) (b : Fin 2048), y = ix2 a b := ⟨y 0, y 1, by idx_ext⟩
  refine (out_at m c t a b).trans (congrArg _ ?_)
  blk_ext [idx t]

end Cert.Kernel4Ideal.Gen
end
-- ==== Proof.OutRef.lean ====
/-
The output projection's reference in parts: its result as a function of its arguments, and every part read at an index.
-/
module
public import proofs.«01_k».proof.Proof.Gen.Reference4Ideal.Run
public import proofs.«01_k».proof.Proof.MlpRef

@[expose] public section
set_option maxRecDepth 16384
noncomputable section
namespace Cert.Reference4Ideal.Value
open Cert.Reference4Ideal Cert.Reference4Ideal.Gen Idealize.ShloMosaic Idealize.ShloMosaic.TcCoe Idealize.SL.Sem Idealize.ShloMosaic.StableHlo Cert.Mlp
open Cert.Reference2Ideal.Value (split split_at modRows normArr residArr layRows)

/-- The gate. -/
def gate (y : FVec Ideal S16x1x12288 .f32) : FVec Ideal S16x1x2048 .f32 :=
  extractStridedSlice S16x1x2048 ![0, 0, 4096] y slices_S16x1x12288_S16x1x2048_0_0_4096
/-- The first layer's weight. -/
def outW (W : FVec Ideal S2x2048x2048 .f32) : FVec Ideal S2048x2048 .f32 :=
  shapeCast S2048x2048 (extractStridedSlice S1x2048x2048 ![0, 0, 0] W slices_S2x2048x2048_S1x2048x2048_0_0_0) shapeCasts_S1x2048x2048_S2048x2048
/-- The merged branches' rows times the weight. -/
def mixArr (h : FVec Ideal S16x2048x2048 .f32) (w : FVec Ideal S2048x2048 .f32) : FVec Ideal S16x2048x2048 .f32 :=
  Host.dotGeneral dot_S16x2048x2048_S2048x2048_S16x2048x2048_2_0_01_1_n_n none h w
/-- The first layer's first row, in every row. -/
def firstRow (g : FVec Ideal S2x2x2048 .f32) : FVec Ideal S16x2048x2048 .f32 :=
  broadcastInDim S16x2048x2048 ![0, 1, 2] bcast_S1x1x2048_S16x2048x2048_0_1_2 (broadcastInDim S1x1x2048 ![2] bcast_S2048_S1x1x2048_2 (shapeCast S2048 (extractStridedSlice S1x1x2048 ![0, 0, 0] g slices_S2x2x2048_S1x1x2048_0_0_0) shapeCasts_S1x1x2048_S2048))

/-- The reference's result as a function of its arguments. -/
def refOut (A : FVec Ideal S32768x2048 .bf16) (W : FVec Ideal S2x2048x2048 .f32) (x : FVec Ideal S32768x2048 .f32)
    (M : FVec Ideal S2x32x12288 .f32) (lg lb : FVec Ideal S2x2x2048 .f32) : FVec Ideal S32768x2048 .f32 :=
  layRows (addf (mulf (normArr (residArr (split x) (gate (modRows M))
    (mixArr (split (extf .f32 A bitsLt_bf16_f32)) (outW W)))) (firstRow lg)) (firstRow lb))

theorem parts_eq (m : (ℓ : Loc nD τ sig) → Buf (Elt Ideal) ℓ) (c : Dev nD) : res_main_v48 m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

/-- The reference's run leaves `refOut` of the launch's arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48)
        = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans (parts_eq m c), (h c).2⟩) (run (F := Ideal) m ρ)

/-! Every part at an index. -/

theorem gate_at (M : FVec Ideal S2x32x12288 .f32) (b : Fin 16) (d : Fin 2048) :
    gate (modRows M) (ix3 b 0 d) = M (ix3 0 ⟨b, by omega⟩ ⟨4096 + d, by omega⟩) := by
  pointwise [gate, modRows]
theorem outW_at (W : FVec Ideal S2x2048x2048 .f32) (e d : Fin 2048) : outW W (ix2 e d) = W (ix3 0 e d) := by
  pointwise [outW]
theorem mixArr_at (A : FVec Ideal S32768x2048 .bf16) (w : FVec Ideal S2048x2048 .f32) (b : Fin 16) (r d : Fin 2048) :
    (mixArr (split (extf .f32 A bitsLt_bf16_f32)) w (ix3 b r d) : EReal)
      = ∑ e : Fin 2048, (A (ix2 ⟨b * 2048 + r, by omega⟩ e) : EReal) * w (ix2 e d) := by
  have h : (mixArr (split (extf .f32 A bitsLt_bf16_f32)) w (ix3 b r d) : EReal)
      = ∑ e : Fin 2048, (split (extf .f32 A bitsLt_bf16_f32) (ix3 b r e) : EReal) * w (ix2 e d) := by
    pointwise [mixArr]
  rw [h]
  exact Finset.sum_congr rfl fun e _ => congrArg (fun z : EReal => z * w (ix2 e d)) (split_at _ b r e)
theorem firstRow_at (g : FVec Ideal S2x2x2048 .f32) (b : Fin 16) (r d : Fin 2048) : firstRow g (ix3 b r d) = g (ix3 0 0 d) := by
  pointwise [firstRow]

end Cert.Reference4Ideal.Value
end
-- ==== Proof.OutEqual.lean ====
/-
The output projection kernel's array is the reference's result. As in the MLP, the kernel divides the gate by `α` and
normalises with `ε / α²`.
-/
module
public import proofs.«01_k».proof.Proof.OutArray
public import proofs.«01_k».proof.Proof.OutRef
public import proofs.«01_k».proof.Proof.MlpEqual

@[expose] public section
set_option maxRecDepth 16384
noncomputable section
namespace Cert.Kernel4Ideal.Gen
open Idealize.ShloMosaic Idealize.ShloMosaic.TcCoe Idealize.SL.Sem Cert.Mlp Cert.Reference4Ideal.Value
open Cert.Kernel2Ideal.Gen (latent_split modu_batch word_alpha epsAlpha_eq invAlpha_eq)
open Cert.Reference2Ideal.Value (normArr normArr_at residArr_at layRows_at)

/-- The two results are one array. -/
theorem arr_eq_ref (A : Vec Ideal S32768x2048 .bf16) (W : Vec Ideal S2x2048x2048 .f32) (X : Vec Ideal S32768x2048 .f32)
    (M : Vec Ideal S2x32x12288 .f32) (lg lb : Vec Ideal S2x2x2048 .f32) : mixOut A W X M lg lb = refOut A W X M lg lb := by
  funext i
  obtain ⟨b, r, d, rfl⟩ : ∃ (b : Fin 16) (r d : Fin 2048), i = ix2 ⟨b * 2048 + r, by omega⟩ d :=
    ⟨⟨(i 0).val / 2048, by have : (i 0).val < 32768 := (i 0).isLt; omega⟩, ⟨(i 0).val % 2048, by omega⟩, i 1, by
      idx_ext⟩
  unfold refOut
  rw [layRows_at]
  show _ = (normArr _ (ix3 b r d) : EReal) * firstRow lg (ix3 b r d) + firstRow lb (ix3 b r d)
  rw [normArr_at, firstRow_at, firstRow_at]
  refine congrArg (fun A : EReal => A * _ + _) ?_
  refine (congrFun (scaled_norm (by norm_num) epsAlpha_eq invAlpha_eq _ _ _) d).trans ?_
  refine congrFun (congrArg (norm _) (funext fun e => ?_)) d
  rw [residArr_at, word_alpha, gate_at, mixArr_at]
  refine congrArg₂ (fun A B : EReal => (11863283 / 8388608 : ℝ) * A + B) (congrFun (latent_split X b r) e)
    (congrArg₂ (fun A B : EReal => A * B) (modu_batch M b r 4096 (by omega) e) ?_)
  simp only [outW_at]
  rfl

/-- The kernel's array after all grid points is the reference's result of the same arguments. -/
theorem result_eq (m : (ℓ : Loc nD τ sig) → Buf (Elt Ideal) ℓ) (c : Dev nD) :
    ((dats m 0 c).arrAt 6 cfg0.N : Vec Ideal S32768x2048 .f32)
      = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (final m c).trans ?_
  rw [V_main_arg0, V_main_arg1, V_main_arg2, V_main_arg3, V_main_arg4, V_main_arg5]
  exact arr_eq_ref _ _ _ _ _ _

end Cert.Kernel4Ideal.Gen
end
-- ==== Proof.MergePay.lean ====
/-
What the merge kernel computes at a row and a column: the convolution branch in four chunks of 256 columns, and what each of
its eight stores writes, the three gated products of that row and column.
-/
module
public import proofs.«01_k».proof.Proof.Gen.Kernel5Ideal.Skeleton
public import Idealize.ShloMosaic.Lib.Pointwise

@[expose] public section
set_option maxRecDepth 16384
noncomputable section
namespace Cert.Kernel5Ideal.Gen
open Idealize.ShloMosaic Idealize.ShloMosaic.TcCoe Idealize.SL.Sem

/-- One entry of the convolution branch: the gate `g` times the three taps on row `a` of a column `v` and its two neighbours,
    `above` and `below` standing beyond the block's first and last row. A set `s` or `e` takes the neighbour as zero. -/
def tapped (s e : BitVec 1) (w : Fin 3 → EReal) (g above below : EReal) (v : Fin 512 → EReal) (a : Fin 512) : EReal :=
  g * (Scalar.select s 0 (w 0 * Scalar.select (IntOp.cmpi CmpIPredicate.eq (BitVec.ofNat 32 a) 0#32) above (v ⟨(a + 512 - 1) % 512, by omega⟩))
    + w 1 * v a
    + Scalar.select e 0 (w 2 * Scalar.select (IntOp.cmpi CmpIPredicate.eq (BitVec.ofNat 32 a) 511#32) below (v ⟨(a + 512 - 511) % 512, by omega⟩)))

/-- The three branches' products with 256 columns of their weights, gated and added. -/
def gated (v0 v1 v2 : Vec Ideal S512x1024 .bf16) (g0 : Vec Ideal S512x256 .bf16) (w0 : Vec Ideal S1x1x1024x256 .bf16)
    (g1 : Vec Ideal S512x256 .bf16) (w1 : Vec Ideal S1x1x1024x256 .bf16) (g2 : Vec Ideal S512x256 .bf16) (w2 : Vec Ideal S1x1x1024x256 .bf16)
    (a : Fin 512) (b : Fin 256) : EReal :=
  Ideal.logistic (g0 (ix2 a b)) * (∑ e : Fin 1024, (v0 (ix2 a e) : EReal) * w0 (ix4 0 0 e b))
    + Ideal.logistic (g1 (ix2 a b)) * (∑ e : Fin 1024, (v1 (ix2 a e) : EReal) * w1 (ix4 0 0 e b))
    + Ideal.logistic (g2 (ix2 a b)) * (∑ e : Fin 1024, (v2 (ix2 a e) : EReal) * w2 (ix4 0 0 e b))

/-- The row numbers of a block. -/
abbrev rows : IVec S512x1 32 := iota Kind.tc S512x1 32 [0] iota_S512x1_d0_w32

section
variable (s e : IVec S512x1 1) (w : Vec Ideal S1x3x1024 .f32) (B C X : Vec Ideal S512x256 .bf16) (pc px nc nx : Vec Ideal S1x256 .bf16)
  (a : Fin 512) (b : Fin 256)

/-! The convolution branch, in chunks of 256 columns. -/

theorem chunk0_at : k0_pay11 rows s e (k0_pay5 w) (k0_pay6 C X) (k0_pay7 pc px) (k0_pay8 nc nx) (k0_pay9 C X) k0_pay10 B (ix2 a b)
    = tapped (s (ix2 a 0)) (e (ix2 a 0)) (fun k => w (ix3 0 k ⟨b, by omega⟩)) (B (ix2 a b)) (pc (ix2 0 b) * px (ix2 0 b)) (nc (ix2 0 b) * nx (ix2 0 b))
        (fun r => C (ix2 r b) * X (ix2 r b)) a := by
  pointwise [k0_pay11, k0_pay5, k0_pay6, k0_pay7, k0_pay8, k0_pay9, k0_pay10, tapped]
theorem chunk1_at : k0_pay14 rows s e (k0_pay5 w) (k0_pay12 C X) (k0_pay13 pc px) nc nx B (ix2 a b)
    = tapped (s (ix2 a 0)) (e (ix2 a 0)) (fun k => w (ix3 0 k ⟨256 + b, by omega⟩)) (B (ix2 a b)) (pc (ix2 0 b) * px (ix2 0 b)) (nc (ix2 0 b) * nx (ix2 0 b))
        (fun r => C (ix2 r b) * X (ix2 r b)) a := by
  pointwise [k0_pay14, k0_pay5, k0_pay12, k0_pay13, tapped]
theorem chunk2_at : k0_pay20 (k0_pay17 rows e (k0_pay15 C) X nc nx) (k0_pay18 rows s (k0_pay5 w) (k0_pay15 C) X pc px) (k0_pay19 (k0_pay5 w)) B (ix2 a b)
    = tapped (s (ix2 a 0)) (e (ix2 a 0)) (fun k => w (ix3 0 k ⟨512 + b, by omega⟩)) (B (ix2 a b)) (pc (ix2 0 b) * px (ix2 0 b)) (nc (ix2 0 b) * nx (ix2 0 b))
        (fun r => C (ix2 r b) * X (ix2 r b)) a := by
  have h : ∀ r b, k0_pay16 (k0_pay15 C) X (ix2 r b) = (C (ix2 r b) : EReal) * X (ix2 r b) := fun r b => by
    pointwise [k0_pay16, k0_pay15]
  pointwise [k0_pay20, k0_pay17, k0_pay18, k0_pay19, k0_pay5, tapped]
  simp only [h]

/-- The four chunks side by side. -/
theorem conv_at (v0 v1 v2 : FVec Ideal S512x256 .bf16) (d : Fin 1024) :
    k0_pay26 e (k0_pay5 w) v0 v1 v2 (k0_pay21 C X) (k0_pay22 rows C X pc px) (k0_pay23 rows C X nc nx) (k0_pay24 s) k0_pay25 B (ix2 a d)
      = if h : (d : ℕ) < 256 then v0 (ix2 a ⟨d, h⟩) else if h : (d : ℕ) - 256 < 256 then v1 (ix2 a ⟨d - 256, h⟩)
        else if h : (d : ℕ) - 256 - 256 < 256 then v2 (ix2 a ⟨d - 256 - 256, h⟩)
        else tapped (s (ix2 a 0)) (e (ix2 a 0)) (fun k => w (ix3 0 k ⟨768 + (d - 256 - 256 - 256), by omega⟩)) (B (ix2 a ⟨d - 256 - 256 - 256, by omega⟩))
          (pc (ix2 0 ⟨d - 256 - 256 - 256, by omega⟩) * px (ix2 0 ⟨d - 256 - 256 - 256, by omega⟩))
          (nc (ix2 0 ⟨d - 256 - 256 - 256, by omega⟩) * nx (ix2 0 ⟨d - 256 - 256 - 256, by omega⟩))
          (fun r => C (ix2 r ⟨d - 256 - 256 - 256, by omega⟩) * X (ix2 r ⟨d - 256 - 256 - 256, by omega⟩)) a := by
  pointwise [k0_pay26, k0_pay5, k0_pay21, k0_pay22, k0_pay23, k0_pay24, k0_pay25, tapped]
end

/-! What the eight stores write. -/

section
variable (v0 v1 v2 : Vec Ideal S512x1024 .bf16) (g0 g1 g2 : Vec Ideal S512x256 .bf16) (w0 w1 w2 : Vec Ideal S1x1x1024x256 .bf16)
  (a : Fin 512) (b : Fin 256)

theorem store0_at : k0_pay29 v2 (k0_pay27 v0 v1 g0 w0 g1 w1) (k0_pay28 g2) w2 (ix2 a b) = gated v0 v1 v2 g0 w0 g1 w1 g2 w2 a b := by
  pointwise [k0_pay29, k0_pay27, k0_pay28, gated]
theorem store1_at : k0_pay30 v0 v1 v2 g0 w0 g1 w1 g2 w2 (ix2 a b) = gated v0 v1 v2 g0 w0 g1 w1 g2 w2 a b := by
  pointwise [k0_pay30, gated]
theorem store2_at : k0_pay31 v0 v1 v2 g0 w0 g1 w1 g2 w2 (ix2 a b) = gated v0 v1 v2 g0 w0 g1 w1 g2 w2 a b := by
  pointwise [k0_pay31, gated]
theorem store3_at : k0_pay33 v0 v1 v2 (k0_pay32 g0) w0 g1 w1 g2 w2 (ix2 a b) = gated v0 v1 v2 g0 w0 g1 w1 g2 w2 a b := by
  pointwise [k0_pay33, k0_pay32, gated]
theorem store4_at : k0_pay36 v1 v2 (k0_pay34 v0 g0 w0) (k0_pay35 g1) w1 g2 w2 (ix2 a b) = gated v0 v1 v2 g0 w0 g1 w1 g2 w2 a b := by
  pointwise [k0_pay36, k0_pay34, k0_pay35, gated]
theorem store5_at : k0_pay38 v2 (k0_pay37 v0 v1 g0 w0 g1 w1) g2 w2 (ix2 a b) = gated v0 v1 v2 g0 w0 g1 w1 g2 w2 a b := by
  pointwise [k0_pay38, k0_pay37, gated]
theorem store6_at : k0_pay42 (k0_pay39 v0 v1 g0 w0 g1 w1) (k0_pay40 g2) (k0_pay41 v2 w2) (ix2 a b) = gated v0 v1 v2 g0 w0 g1 w1 g2 w2 a b := by
  pointwise [k0_pay42, k0_pay39, k0_pay40, k0_pay41, gated]
theorem store7_at : k0_pay1 (k0_pay43 v0 v1 g0 w0 g1 w1) (k0_pay44 g2) (k0_pay45 v2 w2) (ix2 a b) = gated v0 v1 v2 g0 w0 g1 w1 g2 w2 a b := by
  pointwise [k0_pay1, k0_pay43, k0_pay44, k0_pay45, gated]
end

end Cert.Kernel5Ideal.Gen
end
-- ==== Proof.MergeBlock.lean ====
/-
What one grid point of the merge kernel leaves in its output block: the convolution branch of its rows, and the three branches'
gated products.
-/
module
public import proofs.«01_k».proof.Proof.Gen.Kernel5Ideal.Frame
public import proofs.«01_k».proof.Proof.MergePay
public import proofs.«01_k».proof.Proof.Pieces

@[expose] public section
set_option maxRecDepth 16384
noncomputable section
namespace Cert.Kernel5Ideal.Gen
open Idealize.ShloMosaic Idealize.ShloMosaic.TcCoe Idealize.SL.Sem Cert.Pieces

/-- A rectangle of a matrix is loaded from its offsets on. -/
theorem ld_at {s0 s1 o0 o1 n0 n1 : ℕ} {e : EltTy} (X : (⟨2, ![s0, s1]⟩ : Shape).Idx → Elt Ideal e) (h) (a : Fin n0) (b : Fin n1)
    (a' : Fin s0) (b' : Fin s1) (ha : o0 + (a : ℕ) = a') (hb : o1 + (b : ℕ) = b') :
    View.ld X (Rect.unit (s := ⟨2, ![s0, s1]⟩) ![o0, o1] ![n0, n1] h) (ix2 a b) = X (ix2 a' b') := by
  rw [ld_unit X _ _ rfl h h]
  refine congrArg X ((emb2 h a b).trans ?_)
  congr 1 <;> exact Fin.ext (by assumption)

/-- 256 columns of a block's rows. -/
abbrev cols (c : Vec Ideal S512x3072 .bf16) {o : ℕ} (h : ∀ d : Fin 2, ![0, o] d + ![512, 256] d ≤ S512x3072.size d) : Vec Ideal S512x256 .bf16 :=
  View.ld c (Rect.unit (s := S512x3072) ![0, o] ![512, 256] h)
/-- 256 columns of a neighbouring row. -/
abbrev colsRow (c : Vec Ideal S8x3072 .bf16) {r o : ℕ} (h : ∀ d : Fin 2, ![r, o] d + ![1, 256] d ≤ S8x3072.size d) : Vec Ideal S1x256 .bf16 :=
  View.ld c (Rect.unit (s := S8x3072) ![r, o] ![1, 256] h)

/-- The convolution branch the kernel keeps, chunk by chunk; `st` and `en` mark the rows at which a batch starts or ends. -/
abbrev stored (st en : IVec S512x1 1) (c : Vec Ideal S512x3072 .bf16) (p n : Vec Ideal S8x3072 .bf16) (w : Vec Ideal S1x3x1024 .f32) : FVec Ideal S512x1024 .bf16 :=
  k0_pay26 en (k0_pay5 w)
    (k0_pay11 rows st en (k0_pay5 w) (k0_pay6 (cols c inb_S512x3072_S512x256_0_1024) (cols c inb_S512x3072_S512x256_0_2048)) (k0_pay7 (colsRow p inb_S8x3072_S1x256_7_1024) (colsRow p inb_S8x3072_S1x256_7_2048)) (k0_pay8 (colsRow n inb_S8x3072_S1x256_0_1024) (colsRow n inb_S8x3072_S1x256_0_2048)) (k0_pay9 (cols c inb_S512x3072_S512x256_0_1024) (cols c inb_S512x3072_S512x256_0_2048))
      k0_pay10 (cols c inb_S512x3072_S512x256_0_0))
    (k0_pay14 rows st en (k0_pay5 w) (k0_pay12 (cols c inb_S512x3072_S512x256_0_1280) (cols c inb_S512x3072_S512x256_0_2304)) (k0_pay13 (colsRow p inb_S8x3072_S1x256_7_1280) (colsRow p inb_S8x3072_S1x256_7_2304)) (colsRow n inb_S8x3072_S1x256_0_1280) (colsRow n inb_S8x3072_S1x256_0_2304)
      (cols c inb_S512x3072_S512x256_0_256))
    (k0_pay20 (k0_pay17 rows en (k0_pay15 (cols c inb_S512x3072_S512x256_0_1536)) (cols c inb_S512x3072_S512x256_0_2560) (colsRow n inb_S8x3072_S1x256_0_1536) (colsRow n inb_S8x3072_S1x256_0_2560))
      (k0_pay18 rows st (k0_pay5 w) (k0_pay15 (cols c inb_S512x3072_S512x256_0_1536)) (cols c inb_S512x3072_S512x256_0_2560) (colsRow p inb_S8x3072_S1x256_7_1536) (colsRow p inb_S8x3072_S1x256_7_2560)) (k0_pay19 (k0_pay5 w)) (cols c inb_S512x3072_S512x256_0_512))
    (k0_pay21 (cols c inb_S512x3072_S512x256_0_1792) (cols c inb_S512x3072_S512x256_0_2816)) (k0_pay22 rows (cols c inb_S512x3072_S512x256_0_1792) (cols c inb_S512x3072_S512x256_0_2816) (colsRow p inb_S8x3072_S1x256_7_1792) (colsRow p inb_S8x3072_S1x256_7_2816))
    (k0_pay23 rows (cols c inb_S512x3072_S512x256_0_1792) (cols c inb_S512x3072_S512x256_0_2816) (colsRow n inb_S8x3072_S1x256_0_1792) (colsRow n inb_S8x3072_S1x256_0_2816)) (k0_pay24 st) k0_pay25 (cols c inb_S512x3072_S512x256_0_768)

/-- The convolution branch of a block: its rows `c`, and the eight rows before and after it. -/
def convRows (st en : IVec S512x1 1) (c : Vec Ideal S512x3072 .bf16) (p n : Vec Ideal S8x3072 .bf16) (w : Vec Ideal S1x3x1024 .f32)
    (a : Fin 512) (d : Fin 1024) : EReal :=
  tapped (st (ix2 a 0)) (en (ix2 a 0)) (fun k => w (ix3 0 k d)) (c (ix2 a ⟨d, by omega⟩))
    (p (ix2 7 ⟨1024 + d, by omega⟩) * p (ix2 7 ⟨2048 + d, by omega⟩)) (n (ix2 0 ⟨1024 + d, by omega⟩) * n (ix2 0 ⟨2048 + d, by omega⟩))
    (fun r => c (ix2 r ⟨1024 + d, by omega⟩) * c (ix2 r ⟨2048 + d, by omega⟩)) a

/-- A chunk of the branch, from its loads of 256 columns. -/
theorem chunk_eq (st en : IVec S512x1 1) (c : Vec Ideal S512x3072 .bf16) (p n : Vec Ideal S8x3072 .bf16) (w : Vec Ideal S1x3x1024 .f32)
    (o oc ox : ℕ) (h1 : oc = 1024 + o) (h2 : ox = 2048 + o) (hb hc hx hpc hpx hnc hnx) (a : Fin 512) (b : Fin 256) (d d' : Fin 1024)
    (hd : (d : ℕ) = o + b) (hd' : d' = d) :
    tapped (st (ix2 a 0)) (en (ix2 a 0)) (fun k => w (ix3 0 k d')) (cols c (o := o) hb (ix2 a b))
        (colsRow p (r := 7) (o := oc) hpc (ix2 0 b) * colsRow p (r := 7) (o := ox) hpx (ix2 0 b))
        (colsRow n (r := 0) (o := oc) hnc (ix2 0 b) * colsRow n (r := 0) (o := ox) hnx (ix2 0 b))
        (fun r => cols c (o := oc) hc (ix2 r b) * cols c (o := ox) hx (ix2 r b)) a
      = convRows st en c p n w a d := by
  subst h1 h2 hd'
  have e1 : cols c (o := o) hb (ix2 a b) = c (ix2 a ⟨d', by omega⟩) := ld_at c hb a b _ _ (by simp) hd.symm
  have e2 : ∀ r, cols c hc (ix2 r b) = c (ix2 r ⟨1024 + d', by omega⟩) := fun r => ld_at c hc r b _ _ (by simp) (by simp; omega)
  have e3 : ∀ r, cols c hx (ix2 r b) = c (ix2 r ⟨2048 + d', by omega⟩) := fun r => ld_at c hx r b _ _ (by simp) (by simp; omega)
  have e4 : colsRow p hpc (ix2 0 b) = p (ix2 7 ⟨1024 + d', by omega⟩) := ld_at p hpc 0 b _ _ (by simp) (by simp; omega)
  have e5 : colsRow p hpx (ix2 0 b) = p (ix2 7 ⟨2048 + d', by omega⟩) := ld_at p hpx 0 b _ _ (by simp) (by simp; omega)
  have e6 : colsRow n hnc (ix2 0 b) = n (ix2 0 ⟨1024 + d', by omega⟩) := ld_at n hnc 0 b _ _ (by simp) (by simp; omega)
  have e7 : colsRow n hnx (ix2 0 b) = n (ix2 0 ⟨2048 + d', by omega⟩) := ld_at n hnx 0 b _ _ (by simp) (by simp; omega)
  unfold convRows
  rw [e1, e4, e5, e6, e7]
  exact congrArg (fun f => tapped _ _ _ _ _ _ f a) (funext fun r => congrArg₂ (fun A B : EReal => A * B) (e2 r) (e3 r))

/-- What the kernel keeps is the block's convolution branch. -/
theorem stored_at (st en : IVec S512x1 1) (c : Vec Ideal S512x3072 .bf16) (p n : Vec Ideal S8x3072 .bf16) (w : Vec Ideal S1x3x1024 .f32)
    (a : Fin 512) (d : Fin 1024) : (stored st en c p n w (ix2 a d) : EReal) = convRows st en c p n w a d := by
  refine (conv_at st en w _ _ _ _ _ _ _ a _ _ _ d).trans ?_
  split
  · rename_i h
    refine (chunk0_at _ _ w _ _ _ _ _ _ _ a ⟨d, h⟩).trans (chunk_eq st en c p n w 0 1024 2048 rfl rfl _ _ _ _ _ _ _ a ⟨d, h⟩ d _ (by simp) (by simp))
  split
  · rename_i h0 h
    refine (chunk1_at _ _ w _ _ _ _ _ _ _ a ⟨d - 256, h⟩).trans
      (chunk_eq st en c p n w 256 1280 2304 rfl rfl _ _ _ _ _ _ _ a ⟨d - 256, h⟩ d _ (by simp; omega) (Fin.ext (by simp; omega)))
  split
  · rename_i h0 h1 h
    refine (chunk2_at _ _ w _ _ _ _ _ _ _ a ⟨d - 256 - 256, h⟩).trans
      (chunk_eq st en c p n w 512 1536 2560 rfl rfl _ _ _ _ _ _ _ a ⟨d - 256 - 256, h⟩ d _ (by simp; omega) (Fin.ext (by simp; omega)))
  · rename_i h0 h1 h
    exact chunk_eq st en c p n w 768 1792 2816 rfl rfl _ _ _ _ _ _ _ a ⟨d - 256 - 256 - 256, by omega⟩ d _ (by simp; omega) (Fin.ext (by simp; omega))

/-- The three branches of a block times their weights, gated and added. -/
def mergedRows (v0 v1 v2 : Vec Ideal S512x1024 .bf16) (g : Vec Ideal S512x6144 .bf16) (w : Vec Ideal S1x3x1024x2048 .bf16) : Vec Ideal S512x2048 .bf16 := fun y =>
  Ideal.logistic (g (ix2 (y 0) ⟨y 1, (y 1).isLt.trans (by decide)⟩)) * (∑ e : Fin 1024, (v0 (ix2 (y 0) e) : EReal) * w (ix4 0 0 e (y 1)))
    + Ideal.logistic (g (ix2 (y 0) ⟨2048 + y 1, Nat.add_lt_add_left (y 1).isLt 2048 |>.trans (by decide)⟩)) * (∑ e : Fin 1024, (v1 (ix2 (y 0) e) : EReal) * w (ix4 0 1 e (y 1)))
    + Ideal.logistic (g (ix2 (y 0) ⟨4096 + y 1, Nat.add_lt_add_left (y 1).isLt 4096⟩)) * (∑ e : Fin 1024, (v2 (ix2 (y 0) e) : EReal) * w (ix4 0 2 e (y 1)))

/-- 256 columns of a branch's weight are loaded from their offset on. -/
theorem ld_weight (w : Vec Ideal S1x3x1024x2048 .bf16) {k o : ℕ} (k' : Fin 3) (hk : k = k') (h) (e : Fin 1024) (b : Fin 256) (d : Fin 2048) (hd : o + (b : ℕ) = d) :
    View.ld w (Rect.unit (s := S1x3x1024x2048) ![0, k, 0, o] ![1, 1, 1024, 256] h) (ix4 0 0 e b) = w (ix4 0 k' e d) := by
  obtain ⟨d, hd'⟩ := d
  obtain ⟨k', hk'⟩ := k'
  simp only at hd hk
  subst hd hk
  rw [ld_unit w _ _ rfl h h]
  refine congrArg w ?_
  blk_ext

/-- A store of `gated` columns is those columns of `mergedRows`. -/
theorem merged_piece (v0 v1 v2 : Vec Ideal S512x1024 .bf16) (g : Vec Ideal S512x6144 .bf16) (w : Vec Ideal S1x3x1024x2048 .bf16)
    (o o1 o2 : ℕ) (h1 : o1 = 2048 + o) (h2 : o2 = 4096 + o) (hr hg0 hg1 hg2 hw0 hw1 hw2) (P : Vec Ideal S512x256 .bf16)
    (hP : ∀ a b, P (ix2 a b) = gated v0 v1 v2 (View.ld g (Rect.unit (s := S512x6144) ![0, o] ![512, 256] hg0))
      (View.ld w (Rect.unit (s := S1x3x1024x2048) ![0, 0, 0, o] ![1, 1, 1024, 256] hw0)) (View.ld g (Rect.unit (s := S512x6144) ![0, o1] ![512, 256] hg1))
      (View.ld w (Rect.unit (s := S1x3x1024x2048) ![0, 1, 0, o] ![1, 1, 1024, 256] hw1)) (View.ld g (Rect.unit (s := S512x6144) ![0, o2] ![512, 256] hg2))
      (View.ld w (Rect.unit (s := S1x3x1024x2048) ![0, 2, 0, o] ![1, 1, 1024, 256] hw2)) a b) (z : S512x256.Idx) :
    P z = mergedRows v0 v1 v2 g w ((Rect.unit (s := S512x2048) ![0, o] ![512, 256] hr).emb z) := by
  obtain ⟨a, b, rfl⟩ : ∃ (a : Fin 512) (b : Fin 256), z = ix2 a b := ⟨z 0, z 1, by idx_ext⟩
  subst h1 h2
  have ho : o + 256 ≤ 2048 := by simpa using hr 1
  rw [hP]
  refine Eq.trans ?_ (congrArg _ (emb2 hr a b)).symm
  unfold gated mergedRows
  rw [ld_at g hg0 a b ⟨a, by omega⟩ ⟨o + b, by omega⟩ (by simp) rfl, ld_at g hg1 a b ⟨a, by omega⟩ ⟨2048 + (o + b), by omega⟩ (by simp) (by simp; omega),
    ld_at g hg2 a b ⟨a, by omega⟩ ⟨4096 + (o + b), by omega⟩ (by simp) (by simp; omega)]
  have hs : ∀ (k : Fin 3) (n : ℕ) (hk : n = k) (h) (v : Vec Ideal S512x1024 .bf16),
      (∑ e : Fin 1024, (v (ix2 a e) : EReal) * View.ld w (Rect.unit (s := S1x3x1024x2048) ![0, n, 0, o] ![1, 1, 1024, 256] h) (ix4 0 0 e b))
        = ∑ e : Fin 1024, (v (ix2 a e) : EReal) * w (ix4 0 k e ⟨o + b, by omega⟩) := fun k n hk h v =>
    Finset.sum_congr rfl fun e _ => congrArg (fun z : EReal => v (ix2 a e) * z) (ld_weight w k hk h e b _ rfl)
  rw [hs 0 0 rfl, hs 1 1 rfl, hs 2 2 rfl]
  simp only [Nat.zero_add]
  rfl

variable (m : (ℓ : Loc nD τ sig) → Buf (Elt Ideal) ℓ)

/-- A point's stores leave the merged branches of its rows. -/
theorem out_eq (c : Dev nD) (t : Fin cfg0.N) : outsAt0 m c t = mergedRows (iblk m c 0 t) (iblk m c 1 t)
    (stored (k0_pay3 (grid0.coords t)) (k0_pay4 (grid0.coords t)) (X0_2 m c t) (X0_3 m c t) (X0_4 m c t) (iblk m c 5 t)) (X0_6 m c t) (iblk m c 7 t) := by
  funext y
  unfold outsAt0
  frame_out
  refine canon_of_piecesOf _ ⟨?_, ?_, ?_, ?_, ?_, ?_, ?_, ?_, trivial⟩ (View.cover_of_tiledL (s := S512x2048) _ S512x256.size (by sl_kernel_rfl) y)
  · refine fun z => merged_piece _ _ _ _ _ 1792 3840 5888 rfl rfl inb_S512x2048_S512x256_0_1792 _ _ _ _ _ _ _
      (fun a b => store7_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 1536 3584 5632 rfl rfl inb_S512x2048_S512x256_0_1536 _ _ _ _ _ _ _
      (fun a b => store6_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 1280 3328 5376 rfl rfl inb_S512x2048_S512x256_0_1280 _ _ _ _ _ _ _
      (fun a b => store5_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 1024 3072 5120 rfl rfl inb_S512x2048_S512x256_0_1024 _ _ _ _ _ _ _
      (fun a b => store4_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 768 2816 4864 rfl rfl inb_S512x2048_S512x256_0_768 _ _ _ _ _ _ _
      (fun a b => store3_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 512 2560 4608 rfl rfl inb_S512x2048_S512x256_0_512 _ _ _ _ _ _ _
      (fun a b => store2_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 256 2304 4352 rfl rfl inb_S512x2048_S512x256_0_256 _ _ _ _ _ _ _
      (fun a b => store1_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 0 2048 4096 rfl rfl inb_S512x2048_S512x256_0_0 _ _ _ _ _ _ _
      (fun a b => store0_at _ _ (stored (k0_pay3 (grid0.coords t)) (k0_pay4 (grid0.coords t)) (X0_2 m c t) (X0_3 m c t) (X0_4 m c t) (iblk m c 5 t)) _ _ _ _ _ _ a b) z

end Cert.Kernel5Ideal.Gen
end
-- ==== Proof.MergeArray.lean ====
/-
The merge kernel's whole result array: the convolution branch of every row from its two neighbours in its batch, and the three
gated products.
-/
module
public import proofs.«01_k».proof.Proof.MergeBlock

@[expose] public section
set_option maxRecDepth 16384
noncomputable section
namespace Cert.Kernel5Ideal.Gen
open Idealize.ShloMosaic Idealize.ShloMosaic.TcCoe Idealize.SL.Sem Cert.Pieces

/-- What the convolution reads of a row: the product of its two column groups. -/
def pairAt (Z : Vec Ideal S32768x13824 .bf16) (r : Fin 32768) (d : Fin 1024) : EReal :=
  Z (ix2 r ⟨4096 + d, by omega⟩) * Z (ix2 r ⟨5120 + d, by omega⟩)

/-- The convolution branch at a row: its gate times the three taps, the batch's ends taken as zero. -/
def convAt (Z : Vec Ideal S32768x13824 .bf16) (W : Vec Ideal S2x3x1024 .f32) (r : Fin 32768) (d : Fin 1024) : EReal :=
  Z (ix2 r ⟨3072 + d, by omega⟩) *
    (W (ix3 0 0 d) * (if (r : ℕ) % 2048 = 0 then 0 else pairAt Z ⟨r - 1, by omega⟩ d)
      + W (ix3 0 1 d) * pairAt Z r d
      + W (ix3 0 2 d) * (if h : (r : ℕ) % 2048 = 2047 then 0 else pairAt Z ⟨r + 1, by omega⟩ d))

/-- The whole result array. -/
def mergedOut (A0 A1 : Vec Ideal S32768x1024 .bf16) (Z : Vec Ideal S32768x13824 .bf16) (W : Vec Ideal S2x3x1024 .f32)
    (B : Vec Ideal S2x3x1024x2048 .f32) : Vec Ideal S32768x2048 .bf16 := fun i =>
  Ideal.logistic (Z (ix2 (i 0) ⟨6144 + i 1, Nat.add_lt_add_left (i 1).isLt 6144 |>.trans (by decide)⟩))
      * (∑ e : Fin 1024, (A0 (ix2 (i 0) e) : EReal) * B (ix4 0 0 e (i 1)))
    + Ideal.logistic (Z (ix2 (i 0) ⟨8192 + i 1, Nat.add_lt_add_left (i 1).isLt 8192 |>.trans (by decide)⟩))
      * (∑ e : Fin 1024, (A1 (ix2 (i 0) e) : EReal) * B (ix4 0 1 e (i 1)))
    + Ideal.logistic (Z (ix2 (i 0) ⟨10240 + i 1, Nat.add_lt_add_left (i 1).isLt 10240 |>.trans (by decide)⟩))
      * (∑ e : Fin 1024, convAt Z W (i 0) e * B (ix4 0 2 e (i 1)))

/-! The rows at which a batch starts or ends. -/

theorem position (n a : ℕ) (hn : n < 64) (ha : a < 512) :
    IntOp.andi (IntOp.addi (Scalar.muli (BitVec.ofNat 32 n) 512#32) (BitVec.ofNat 32 a)) 2047#32 = BitVec.ofNat 32 ((n * 512 + a) % 2048) := by
  apply BitVec.eq_of_toNat_eq
  show ((BitVec.ofNat 32 n * 512#32 + BitVec.ofNat 32 a) &&& 2047#32).toNat = _
  rw [BitVec.toNat_and]
  show _ &&& (2 ^ 11 - 1) = _
  rw [Nat.and_two_pow_sub_one_eq_mod]
  simp [BitVec.toNat_add, BitVec.toNat_mul]
  omega
theorem position_at (i : grid0.Coords) (a : Fin 512) : k0_pay2 i (ix2 a 0) = BitVec.ofNat 32 (((i 0 : ℕ) * 512 + a) % 2048) := by
  refine Eq.trans ?_ (position (i 0) a (i 0).isLt a.isLt)
  pointwise [k0_pay2]
theorem start_at (i : grid0.Coords) (a : Fin 512) : k0_pay3 i (ix2 a 0) = BitVec.ofBool (decide (((i 0 : ℕ) * 512 + a) % 2048 = 0)) := by
  show IntOp.cmpi .eq (k0_pay2 i (ix2 a 0)) (BitVec.ofNat 32 0) = _
  rw [position_at, WordCmp.cmpi_eq_ofNat (by omega) (by omega)]
theorem end_at (i : grid0.Coords) (a : Fin 512) : k0_pay4 i (ix2 a 0) = BitVec.ofBool (decide (((i 0 : ℕ) * 512 + a) % 2048 = 2047)) := by
  show IntOp.cmpi .eq (k0_pay2 i (ix2 a 0)) (BitVec.ofNat 32 2047) = _
  rw [position_at, WordCmp.cmpi_eq_ofNat (by omega) (by omega)]

variable (m : (ℓ : Loc nD τ sig) → Buf (Elt Ideal) ℓ)

/-- The block indices of the windows at a grid point. -/
theorem idx : ∀ t : Fin cfg0.N, win0_0.index t = ![t.val, 0] ∧ win0_1.index t = ![t.val, 0] ∧ win0_2.index t = ![t.val, 1]
    ∧ win0_3.index t = ![t.val * 64 - 1, 1] ∧ win0_4.index t = ![min ((t.val + 1) * 64) 4095, 1] ∧ win0_5.index t = ![0, 0, 0]
    ∧ win0_6.index t = ![t.val, 1] ∧ win0_7.index t = ![0, 0, 0, 0] ∧ win0_8.index t = ![t.val, 0] :=
  (by decide +kernel : ∀ t : Fin grid0.N, _)
theorem coord : ∀ t : Fin cfg0.N, (grid0.coords t 0 : ℕ) = t.val := (by decide +kernel : ∀ t : Fin grid0.N, _)

theorem lt64 (t : Fin cfg0.N) : t.val < 64 := t.isLt

theorem V0 (c : Dev nD) (i : S2x3x1024x2048.Idx) : (V m c main_v0 : Vec Ideal S2x3x1024x2048 .bf16) i = (V m c main_arg4 : Vec Ideal S2x3x1024x2048 .f32) i := rfl

theorem blk0 (c : Dev nD) (t : Fin cfg0.N) (a : Fin 512) (e : Fin 1024) : (iblk m c 0 t : Vec Ideal S512x1024 .bf16) (ix2 a e)
    = (V m c main_arg0 : Vec Ideal S32768x1024 .bf16) (ix2 ⟨t.val * 512 + a, by have := lt64 t; omega⟩ e) := by
  blk_ext [iblk, idx t]
theorem blk1 (c : Dev nD) (t : Fin cfg0.N) (a : Fin 512) (e : Fin 1024) : (iblk m c 1 t : Vec Ideal S512x1024 .bf16) (ix2 a e)
    = (V m c main_arg1 : Vec Ideal S32768x1024 .bf16) (ix2 ⟨t.val * 512 + a, by have := lt64 t; omega⟩ e) := by
  blk_ext [iblk, idx t]
theorem blk5 (c : Dev nD) (t : Fin cfg0.N) (k : Fin 3) (d : Fin 1024) : (iblk m c 5 t : Vec Ideal S1x3x1024 .f32) (ix3 0 k d)
    = (V m c main_arg3 : Vec Ideal S2x3x1024 .f32) (ix3 0 k d) := by
  blk_ext [iblk, idx t]
theorem blk7 (c : Dev nD) (t : Fin cfg0.N) (k : Fin 3) (e : Fin 1024) (d : Fin 2048) : (iblk m c 7 t : Vec Ideal S1x3x1024x2048 .bf16) (ix4 0 k e d)
    = (V m c main_arg4 : Vec Ideal S2x3x1024x2048 .f32) (ix4 0 k e d) := by
  have he : (win0_7.blk t).view.emb (ix4 0 k e d) = (ix4 0 k e d : S2x3x1024x2048.Idx) := by
    blk_ext [idx t]
  exact (congrArg (V m c main_v0 : Vec Ideal S2x3x1024x2048 .bf16) he).trans (V0 m c _)
theorem buf2 (c : Dev nD) (t : Fin cfg0.N) (a : Fin 512) (d : Fin 3072) : (X0_2 m c t : Vec Ideal S512x3072 .bf16) (ix2 a d)
    = (V m c main_arg2 : Vec Ideal S32768x13824 .bf16) (ix2 ⟨t.val * 512 + a, by have := lt64 t; omega⟩ ⟨3072 + d, by omega⟩) := by
  refine (dif_pos (moved0_2 t _)).trans ?_
  blk_ext [iblk, idx t]
theorem buf3 (c : Dev nD) (t : Fin cfg0.N) (d : Fin 3072) : (X0_3 m c t : Vec Ideal S8x3072 .bf16) (ix2 7 d)
    = (V m c main_arg2 : Vec Ideal S32768x13824 .bf16) (ix2 ⟨(t.val * 64 - 1) * 8 + 7, by have := lt64 t; omega⟩ ⟨3072 + d, by omega⟩) := by
  refine (dif_pos (moved0_3 t _)).trans ?_
  blk_ext [iblk, idx t]
theorem buf4 (c : Dev nD) (t : Fin cfg0.N) (d : Fin 3072) : (X0_4 m c t : Vec Ideal S8x3072 .bf16) (ix2 0 d)
    = (V m c main_arg2 : Vec Ideal S32768x13824 .bf16) (ix2 ⟨min ((t.val + 1) * 64) 4095 * 8, by have := lt64 t; omega⟩ ⟨3072 + d, by omega⟩) := by
  refine (dif_pos (moved0_4 t _)).trans ?_
  blk_ext [iblk, idx t]
theorem buf6 (c : Dev nD) (t : Fin cfg0.N) (a : Fin 512) (d : Fin 6144) : (X0_6 m c t : Vec Ideal S512x6144 .bf16) (ix2 a d)
    = (V m c main_arg2 : Vec Ideal S32768x13824 .bf16) (ix2 ⟨t.val * 512 + a, by have := lt64 t; omega⟩ ⟨6144 + d, by omega⟩) := by
  refine (dif_pos (moved0_6 t _)).trans ?_
  blk_ext [iblk, idx t]

theorem pair_eq (Z : Vec Ideal S32768x13824 .bf16) (r r' : Fin 32768) (x y : Fin 13824) (d : Fin 1024) (hr : (r : ℕ) = r')
    (hx : (x : ℕ) = 4096 + d) (hy : (y : ℕ) = 5120 + d) : (Z (ix2 r x) * Z (ix2 r y) : EReal) = pairAt Z r' d := by
  obtain rfl : r = r' := Fin.ext hr
  exact congrArg₂ (fun x y => (Z (ix2 r x) * Z (ix2 r y) : EReal)) (Fin.ext hx) (Fin.ext hy)

/-- A block's convolution branch is the array's. -/
theorem branch_at (c : Dev nD) (t : Fin cfg0.N) (a : Fin 512) (d : Fin 1024) :
    convRows (k0_pay3 (grid0.coords t)) (k0_pay4 (grid0.coords t)) (X0_2 m c t) (X0_3 m c t) (X0_4 m c t) (iblk m c 5 t) a d
      = convAt (V m c main_arg2) (V m c main_arg3) ⟨t.val * 512 + a, by have := lt64 t; omega⟩ d := by
  have ht := lt64 t
  have hc : ∀ k : ℕ, k < 512 → IntOp.cmpi .eq (BitVec.ofNat 32 a) (BitVec.ofNat 32 k) = BitVec.ofBool (decide ((a : ℕ) = k)) := fun k hk =>
    WordCmp.cmpi_eq_ofNat (by omega) (by omega)
  unfold convRows tapped convAt
  rw [start_at, end_at, coord, hc 0 (by decide), hc 511 (by decide)]
  simp only [WordCmp.select_decide, buf2, buf3, buf4, blk5]
  refine congrArg₂ (fun A B : EReal => A * B) rfl (congrArg₂ (fun A B : EReal => A + B) (congrArg₂ (fun A B : EReal => A + B) ?_ ?_) ?_)
  · by_cases h : (t.val * 512 + (a : ℕ)) % 2048 = 0
    · rw [if_pos h, if_pos h, mul_zero]
    · rw [if_neg h, if_neg h]
      refine congrArg (fun A : EReal => _ * A) ?_
      split <;> exact pair_eq _ _ _ _ _ _ (by simp only; omega) (by simp only; omega) (by simp only; omega)
  · exact congrArg (fun A : EReal => _ * A) (pair_eq _ _ _ _ _ _ rfl (by simp only; omega) (by simp only; omega))
  · by_cases h : (t.val * 512 + (a : ℕ)) % 2048 = 2047
    · rw [if_pos h, dif_pos h, mul_zero]
    · rw [if_neg h, dif_neg h]
      refine congrArg (fun A : EReal => _ * A) ?_
      split <;> exact pair_eq _ _ _ _ _ _ (by simp only; omega) (by simp only; omega) (by simp only; omega)

/-- A point leaves its rows of the result. -/
theorem out_at (c : Dev nD) (t : Fin cfg0.N) (a : Fin 512) (d : Fin 2048) :
    mergedRows (iblk m c 0 t) (iblk m c 1 t) (stored (k0_pay3 (grid0.coords t)) (k0_pay4 (grid0.coords t)) (X0_2 m c t) (X0_3 m c t) (X0_4 m c t) (iblk m c 5 t)) (X0_6 m c t) (iblk m c 7 t)
        (ix2 a d)
      = mergedOut (V m c main_arg0) (V m c main_arg1) (V m c main_arg2) (V m c main_arg3) (V m c main_arg4)
          (ix2 ⟨t.val * 512 + a, by have := lt64 t; omega⟩ d) := by
  have g : ∀ (x : Fin 6144) (y : Fin 13824), (y : ℕ) = 6144 + x → (X0_6 m c t : Vec Ideal S512x6144 .bf16) (ix2 a x)
      = (V m c main_arg2 : Vec Ideal S32768x13824 .bf16) (ix2 ⟨t.val * 512 + a, by have := lt64 t; omega⟩ y) := fun x y h =>
    (buf6 m c t a x).trans (congrArg (fun y => (V m c main_arg2 : Vec Ideal S32768x13824 .bf16) (ix2 _ y)) (Fin.ext h.symm))
  refine congrArg₂ (fun A B : EReal => A + B) (congrArg₂ (fun A B : EReal => A + B) ?_ ?_) ?_
  · exact congrArg₂ (fun A B : EReal => Ideal.logistic A * B) (g _ _ rfl)
      (Finset.sum_congr rfl fun e _ => congrArg₂ (fun A B : EReal => A * B) (blk0 m c t a e) (blk7 m c t 0 e d))
  · exact congrArg₂ (fun A B : EReal => Ideal.logistic A * B) (g _ _ (by show 8192 + d.val = 6144 + (2048 + d.val); omega))
      (Finset.sum_congr rfl fun e _ => congrArg₂ (fun A B : EReal => A * B) (blk1 m c t a e) (blk7 m c t 1 e d))
  · exact congrArg₂ (fun A B : EReal => Ideal.logistic A * B) (g _ _ (by show 10240 + d.val = 6144 + (4096 + d.val); omega))
      (Finset.sum_congr rfl fun e _ => congrArg₂ (fun A B : EReal => A * B) ((stored_at _ _ _ _ _ _ a e).trans (branch_at m c t a e)) (blk7 m c t 2 e d))

/-- The array is `mergedOut` of the arguments. -/
theorem final (c : Dev nD) : (dats m 0 c).arrAt 8 cfg0.N
    = mergedOut (V m c main_arg0) (V m c main_arg1) (V m c main_arg2) (V m c main_arg3) (V m c main_arg4) := by
  refine (dats m 0 c).arrAt_eq_of_covers 8 _ (by decide +kernel) fun t _ y => ?_
  blk_simp
  rw [after0_8, out_eq]
  obtain ⟨a, b, rfl⟩ : ∃ (a : Fin 512) (b : Fin 2048), y = ix2 a b := ⟨y 0, y 1, by idx_ext⟩
  refine (out_at m c t a b).trans (congrArg _ ?_)
  blk_ext [idx t]

end Cert.Kernel5Ideal.Gen
end
-- ==== Proof.MergeRef.lean ====
/-
The merge's reference in parts: its result as a function of its arguments, and every part read at an index.
-/
module
public import proofs.«01_k».proof.Proof.Gen.Reference5Ideal.Run
public import proofs.«01_k».proof.Proof.MlpRef

@[expose] public section
set_option maxRecDepth 16384
noncomputable section
namespace Cert.Reference5Ideal.Value
open Cert.Reference5Ideal Cert.Reference5Ideal.Gen Idealize.ShloMosaic Idealize.ShloMosaic.TcCoe Idealize.SL.Sem Idealize.ShloMosaic.StableHlo
open Cert.Reference2Ideal.Value (layRows)

/-- The projection in the reference's column order, by batch. -/
def unrolled (Z : FVec Ideal S32768x13824 .bf16) : FVec Ideal S16x2048x13824 .f32 :=
  shapeCast S16x2048x13824 (concatenate S32768x13824 1
    [⟨S32768x1536, extractStridedSlice S32768x1536 ![0, 12288] (extf .f32 Z bitsLt_bf16_f32) slices_S32768x13824_S32768x1536_0_12288⟩,
     ⟨S32768x12288, extractStridedSlice S32768x12288 ![0, 0] (extf .f32 Z bitsLt_bf16_f32) slices_S32768x13824_S32768x12288_0_0⟩]
    concatenates_S32768x1536_S32768x12288_S32768x13824_d1) shapeCasts_S32768x13824_S16x2048x13824
/-- An attention's heads, by batch. -/
def heads (A : FVec Ideal S32768x1024 .bf16) : FVec Ideal S16x2048x1024 .f32 :=
  shapeCast S16x2048x1024 (extf .f32 A bitsLt_bf16_f32) shapeCasts_S32768x1024_S16x2048x1024
/-- What the convolution reads, with a zero row at either end of every batch. -/
def padded (z : FVec Ideal S16x2048x13824 .f32) : FVec Ideal S16x2050x1024 .f32 :=
  pad S16x2050x1024 ![0, 1, 0] ![0, 1, 0] ![0, 0, 0]
    (mulf (extractStridedSlice S16x2048x1024 ![0, 0, 5632] z slices_S16x2048x13824_S16x2048x1024_0_0_5632)
      (extractStridedSlice S16x2048x1024 ![0, 0, 6656] z slices_S16x2048x13824_S16x2048x1024_0_0_6656))
    (sitofp .f32 (constantI S_ 32 0#32)) pads_S16x2048x1024_S16x2050x1024_000_110_000 h_S_
/-- The first layer's taps. -/
def taps (W : FVec Ideal S2x3x1024 .f32) : FVec Ideal S3x1024 .f32 :=
  shapeCast S3x1024 (extractStridedSlice S1x3x1024 ![0, 0, 0] W slices_S2x3x1024_S1x3x1024_0_0_0) shapeCasts_S1x3x1024_S3x1024
/-- A tap, in every row. -/
def tapRow (w : FVec Ideal S1x1024 .f32) : FVec Ideal S16x2048x1024 .f32 :=
  broadcastInDim S16x2048x1024 ![0, 1, 2] bcast_S1x1x1024_S16x2048x1024_0_1_2 (broadcastInDim S1x1x1024 ![2] bcast_S1024_S1x1x1024_2 (shapeCast S1024 w shapeCasts_S1x1024_S1024))
/-- The convolution branch. -/
def branch (z : FVec Ideal S16x2048x13824 .f32) (u : FVec Ideal S16x2050x1024 .f32) (w : FVec Ideal S3x1024 .f32) : FVec Ideal S16x2048x1024 .f32 :=
  mulf (extractStridedSlice S16x2048x1024 ![0, 0, 4608] z slices_S16x2048x13824_S16x2048x1024_0_0_4608)
    (addf (addf (mulf (tapRow (extractStridedSlice S1x1024 ![0, 0] w slices_S3x1024_S1x1024_0_0)) (extractStridedSlice S16x2048x1024 ![0, 0, 0] u slices_S16x2050x1024_S16x2048x1024_0_0_0))
      (mulf (tapRow (extractStridedSlice S1x1024 ![1, 0] w slices_S3x1024_S1x1024_1_0)) (extractStridedSlice S16x2048x1024 ![0, 1, 0] u slices_S16x2050x1024_S16x2048x1024_0_1_0)))
      (mulf (tapRow (extractStridedSlice S1x1024 ![2, 0] w slices_S3x1024_S1x1024_2_0)) (extractStridedSlice S16x2048x1024 ![0, 2, 0] u slices_S16x2050x1024_S16x2048x1024_0_2_0)))
/-- The gates. -/
def gates (z : FVec Ideal S16x2048x13824 .f32) : FVec Ideal S16x2048x6144 .f32 :=
  Host.divf (broadcastInDim S16x2048x6144 ![] bcast_S_S16x2048x6144 (constant S_ .f32 0x3F800000#32))
    (addf (broadcastInDim S16x2048x6144 ![] bcast_S_S16x2048x6144 (constant S_ .f32 0x3F800000#32))
      (Host.exp (Host.negf (extractStridedSlice S16x2048x6144 ![0, 0, 7680] z slices_S16x2048x13824_S16x2048x6144_0_0_7680))))
/-- The first layer's weights. -/
def weights (B : FVec Ideal S2x3x1024x2048 .f32) : FVec Ideal S3x1024x2048 .f32 :=
  shapeCast S3x1024x2048 (extractStridedSlice S1x3x1024x2048 ![0, 0, 0, 0] B slices_S2x3x1024x2048_S1x3x1024x2048_0_0_0_0) shapeCasts_S1x3x1024x2048_S3x1024x2048
/-- A branch's rows times its weight. -/
def times (a : FVec Ideal S16x2048x1024 .f32) (b : FVec Ideal S1x1024x2048 .f32) : FVec Ideal S16x2048x2048 .f32 :=
  Host.dotGeneral dot_S16x2048x1024_S1024x2048_S16x2048x2048_2_0_01_1_n_n none a (shapeCast S1024x2048 b shapeCasts_S1x1024x2048_S1024x2048)
/-- The three gated products. -/
def sumArr (g : FVec Ideal S16x2048x6144 .f32) (a0 a1 a2 : FVec Ideal S16x2048x1024 .f32) (b : FVec Ideal S3x1024x2048 .f32) : FVec Ideal S16x2048x2048 .f32 :=
  addf (addf
    (mulf (extractStridedSlice S16x2048x2048 ![0, 0, 0] g slices_S16x2048x6144_S16x2048x2048_0_0_0) (times a0 (extractStridedSlice S1x1024x2048 ![0, 0, 0] b slices_S3x1024x2048_S1x1024x2048_0_0_0)))
    (mulf (extractStridedSlice S16x2048x2048 ![0, 0, 2048] g slices_S16x2048x6144_S16x2048x2048_0_0_2048) (times a1 (extractStridedSlice S1x1024x2048 ![1, 0, 0] b slices_S3x1024x2048_S1x1024x2048_1_0_0))))
    (mulf (extractStridedSlice S16x2048x2048 ![0, 0, 4096] g slices_S16x2048x6144_S16x2048x2048_0_0_4096) (times a2 (extractStridedSlice S1x1024x2048 ![2, 0, 0] b slices_S3x1024x2048_S1x1024x2048_2_0_0)))

/-- The reference's result as a function of its arguments. -/
def refOut (A0 A1 : FVec Ideal S32768x1024 .bf16) (Z : FVec Ideal S32768x13824 .bf16) (W : FVec Ideal S2x3x1024 .f32)
    (B : FVec Ideal S2x3x1024x2048 .f32) : FVec Ideal S32768x2048 .bf16 :=
  truncf .bf16 (layRows (sumArr (gates (unrolled Z)) (heads A0) (heads A1) (branch (unrolled Z) (padded (unrolled Z)) (taps W)) (weights B))) bitsLt_bf16_f32

theorem parts_eq (m : (ℓ : Loc nD τ sig) → Buf (Elt Ideal) ℓ) (c : Dev nD) : res_main_v62 m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-- The reference's run leaves `refOut` of the launch's arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62)
        = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (parts_eq m c), (h c).2⟩) (run (F := Ideal) m ρ)

/-! Every part at an index. -/

/-- The columns after the first 1536 are the projection's from its first on. -/
theorem unrolled_at (Z : FVec Ideal S32768x13824 .bf16) (b : Fin 16) (r : Fin 2048) (d : Fin 13824) (h : 1536 ≤ (d : ℕ)) :
    (unrolled Z (ix3 b r d) : EReal) = Z (ix2 ⟨b * 2048 + r, by omega⟩ ⟨d - 1536, by omega⟩) := by
  have e : (unrolled Z (ix3 b r d) : EReal) = if hd : (d : ℕ) < 1536 then Z (ix2 ⟨b * 2048 + r, by omega⟩ ⟨12288 + d, by omega⟩)
      else Z (ix2 ⟨b * 2048 + r, by omega⟩ ⟨d - 1536, by omega⟩) := by
    pointwise [unrolled]
  rw [e, dif_neg (by omega)]
theorem heads_at (A : FVec Ideal S32768x1024 .bf16) (b : Fin 16) (r : Fin 2048) (e : Fin 1024) :
    (heads A (ix3 b r e) : EReal) = A (ix2 ⟨b * 2048 + r, by omega⟩ e) := by
  pointwise [heads]
theorem padded_at (z : FVec Ideal S16x2048x13824 .f32) (b : Fin 16) (r : Fin 2050) (d : Fin 1024) :
    (padded z (ix3 b r d) : EReal) = if h : 1 ≤ (r : ℕ) ∧ (r : ℕ) - 1 < 2048 then
      z (ix3 b ⟨r - 1, h.2⟩ ⟨5632 + d, by omega⟩) * z (ix3 b ⟨r - 1, h.2⟩ ⟨6656 + d, by omega⟩) else 0 := by
  have e : (padded z (ix3 b r d) : EReal) = if h : 1 ≤ (r : ℕ) ∧ (r : ℕ) - 1 < 2048 then
      z (ix3 b ⟨r - 1, h.2⟩ ⟨5632 + d, by omega⟩) * z (ix3 b ⟨r - 1, h.2⟩ ⟨6656 + d, by omega⟩) else (FloatOps.sitofp FTy.f32 0#32 : Ideal .f32) := by
    pointwise [padded]
  have e0 : (FloatOps.sitofp FTy.f32 0#32 : Ideal .f32) = (0 : EReal) := by
    show (((0#32).toInt : ℝ) : EReal) = 0
    simp
  rw [e, e0]
theorem taps_at (W : FVec Ideal S2x3x1024 .f32) (k : Fin 3) (d : Fin 1024) : taps W (ix2 k d) = W (ix3 0 k d) := by
  pointwise [taps]
theorem tapRow_at (w : FVec Ideal S1x1024 .f32) (b : Fin 16) (r : Fin 2048) (d : Fin 1024) : tapRow w (ix3 b r d) = w (ix2 0 d) := by
  pointwise [tapRow]
theorem branch_at (z : FVec Ideal S16x2048x13824 .f32) (u : FVec Ideal S16x2050x1024 .f32) (w : FVec Ideal S3x1024 .f32) (b : Fin 16) (r : Fin 2048)
    (d : Fin 1024) : (branch z u w (ix3 b r d) : EReal) = z (ix3 b r ⟨4608 + d, by omega⟩) *
      (w (ix2 0 d) * u (ix3 b ⟨r, by omega⟩ d) + w (ix2 1 d) * u (ix3 b ⟨1 + r, by omega⟩ d) + w (ix2 2 d) * u (ix3 b ⟨2 + r, by omega⟩ d)) := by
  pointwise [branch, tapRow]
theorem gates_at (z : FVec Ideal S16x2048x13824 .f32) (b : Fin 16) (r : Fin 2048) (d : Fin 6144) :
    gates z (ix3 b r d) = Ideal.logistic (z (ix3 b r ⟨7680 + d, by omega⟩)) := by
  have h : (gates z (ix3 b r d) : EReal) = Ideal.div 1 (1 + Ideal.exp (-(z (ix3 b r ⟨7680 + d, by omega⟩)))) := by
    pointwise [gates]
  exact h
theorem weights_at (B : FVec Ideal S2x3x1024x2048 .f32) (k : Fin 3) (e : Fin 1024) (d : Fin 2048) : weights B (ix3 k e d) = B (ix4 0 k e d) := by
  pointwise [weights]
theorem sumArr_at (g : FVec Ideal S16x2048x6144 .f32) (a0 a1 a2 : FVec Ideal S16x2048x1024 .f32) (w : FVec Ideal S3x1024x2048 .f32)
    (b : Fin 16) (r d : Fin 2048) : (sumArr g a0 a1 a2 w (ix3 b r d) : EReal)
      = g (ix3 b r ⟨d, by omega⟩) * (∑ e : Fin 1024, (a0 (ix3 b r e) : EReal) * w (ix3 0 e d))
        + g (ix3 b r ⟨2048 + d, by omega⟩) * (∑ e : Fin 1024, (a1 (ix3 b r e) : EReal) * w (ix3 1 e d))
        + g (ix3 b r ⟨4096 + d, by omega⟩) * (∑ e : Fin 1024, (a2 (ix3 b r e) : EReal) * w (ix3 2 e d)) := by
  pointwise [sumArr, times]

end Cert.Reference5Ideal.Value
end
-- ==== Proof.MergeEqual.lean ====
/-
The merge kernel's array is the reference's result: row `r` of a batch reads its neighbours in the batch, and a column of the
reference's projection is the kernel's 1536 columns before it.
-/
module
public import proofs.«01_k».proof.Proof.MergeArray
public import proofs.«01_k».proof.Proof.MergeRef

@[expose] public section
set_option maxRecDepth 16384
noncomputable section
namespace Cert.Kernel5Ideal.Gen
open Idealize.ShloMosaic Idealize.ShloMosaic.TcCoe Idealize.SL.Sem Cert.Reference5Ideal.Value
open Cert.Reference2Ideal.Value (layRows layRows_at)

/-- What the reference's convolution reads of row `r` of a batch, counted from the zero row before its first. -/
theorem padded_row (Z : Vec Ideal S32768x13824 .bf16) (b : Fin 16) (r : Fin 2050) (d : Fin 1024) :
    (padded (unrolled Z) (ix3 b r d) : EReal) = if h : 1 ≤ (r : ℕ) ∧ (r : ℕ) - 1 < 2048 then pairAt Z ⟨b * 2048 + (r - 1), by omega⟩ d else 0 := by
  rw [padded_at]
  split
  · rw [unrolled_at _ _ _ _ (by simp only; omega), unrolled_at _ _ _ _ (by simp only; omega)]
    exact pair_eq _ _ _ _ _ _ rfl (by simp only; omega) (by simp only; omega)
  · rfl

/-- The two convolution branches are one. -/
theorem branch_eq (Z : Vec Ideal S32768x13824 .bf16) (W : Vec Ideal S2x3x1024 .f32) (b : Fin 16) (r : Fin 2048) (d : Fin 1024) :
    (branch (unrolled Z) (padded (unrolled Z)) (taps W) (ix3 b r d) : EReal) = convAt Z W ⟨b * 2048 + r, by omega⟩ d := by
  rw [Cert.Reference5Ideal.Value.branch_at, unrolled_at _ _ _ _ (by simp only; omega)]
  simp only [padded_row, taps_at]
  unfold convAt
  refine congrArg₂ (fun A B : EReal => A * B) (congrArg (fun x => (Z (ix2 _ x) : EReal)) (Fin.ext (by simp only; omega)))
    (congrArg₂ (fun A B : EReal => A + B) (congrArg₂ (fun A B : EReal => A + B) (congrArg (fun A : EReal => _ * A) ?_) (congrArg (fun A : EReal => _ * A) ?_))
      (congrArg (fun A : EReal => _ * A) ?_))
  · by_cases h : (r : ℕ) = 0
    · rw [dif_neg (by omega), if_pos (by simp only; omega)]
    · rw [dif_pos (by omega), if_neg (by simp only; omega)]
      exact congrArg (fun r => pairAt Z r d) (Fin.ext (by simp only; omega))
  · rw [dif_pos (by omega)]
    exact congrArg (fun r => pairAt Z r d) (Fin.ext (by simp only; omega))
  · by_cases h : (r : ℕ) = 2047
    · rw [dif_neg (by omega), dif_pos (by simp only; omega)]
    · rw [dif_pos (by omega), dif_neg (by simp only; omega)]
      exact congrArg (fun r => pairAt Z r d) (Fin.ext (by simp only; omega))

/-- The two results are one array. -/
theorem arr_eq_ref (A0 A1 : Vec Ideal S32768x1024 .bf16) (Z : Vec Ideal S32768x13824 .bf16) (W : Vec Ideal S2x3x1024 .f32)
    (B : Vec Ideal S2x3x1024x2048 .f32) : mergedOut A0 A1 Z W B = refOut A0 A1 Z W B := by
  funext i
  obtain ⟨b, r, d, rfl⟩ : ∃ (b : Fin 16) (r d : Fin 2048), i = ix2 ⟨b * 2048 + r, by omega⟩ d :=
    ⟨⟨(i 0).val / 2048, by have : (i 0).val < 32768 := (i 0).isLt; omega⟩, ⟨(i 0).val % 2048, by omega⟩, i 1, by
      idx_ext⟩
  refine Eq.trans ?_ (layRows_at (sumArr (gates (unrolled Z)) (heads A0) (heads A1) (branch (unrolled Z) (padded (unrolled Z)) (taps W)) (weights B)) b r d).symm
  rw [sumArr_at, gates_at, gates_at, gates_at]
  simp only [heads_at, weights_at, branch_eq]
  rw [unrolled_at _ _ _ _ (by simp only; omega), unrolled_at _ _ _ _ (by simp only; omega), unrolled_at _ _ _ _ (by simp only; omega)]
  have g : ∀ (x y : Fin 13824), (x : ℕ) = y → (Z (ix2 ⟨b * 2048 + r, by omega⟩ x) : EReal) = Z (ix2 ⟨b * 2048 + r, by omega⟩ y) := fun x y h =>
    congrArg (fun x => (Z (ix2 _ x) : EReal)) (Fin.ext h)
  refine congrArg₂ (fun A B : EReal => A + B) (congrArg₂ (fun A B : EReal => A + B) ?_ ?_) ?_
  · exact congrArg (fun A : EReal => Ideal.logistic A * _) (g _ _ (by show 6144 + d.val = 7680 + d.val - 1536; omega))
  · exact congrArg (fun A : EReal => Ideal.logistic A * _) (g _ _ (by show 8192 + d.val = 7680 + (2048 + d.val) - 1536; omega))
  · exact congrArg (fun A : EReal => Ideal.logistic A * _) (g _ _ (by show 10240 + d.val = 7680 + (4096 + d.val) - 1536; omega))

/-- The kernel's array after all grid points is the reference's result of the same arguments. -/
theorem result_eq (m : (ℓ : Loc nD τ sig) → Buf (Elt Ideal) ℓ) (c : Dev nD) :
    ((dats m 0 c).arrAt 8 cfg0.N : Vec Ideal S32768x2048 .bf16)
      = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (final m c).trans ?_
  rw [V_main_arg0, V_main_arg1, V_main_arg2, V_main_arg3, V_main_arg4]
  exact arr_eq_ref _ _ _ _ _

end Cert.Kernel5Ideal.Gen
end
-- ==== Proof.CtxMlpBlock.lean ====
/-
What one grid point of the context's MLP kernel leaves in its output block and in the scratch buffer of modulated rows.

The blocks have the shapes of the latent's MLP kernel, and the two kernels' bodies are one, so what a stored chunk is comes
from there.
-/
module
public import proofs.«01_k».proof.Proof.Gen.Kernel6Ideal.Frame
public import proofs.«01_k».proof.Proof.MlpBlock

@[expose] public section
set_option maxRecDepth 16384
noncomputable section
namespace Cert.Kernel6Ideal.Gen
open Idealize.ShloMosaic Idealize.ShloMosaic.TcCoe Idealize.SL.Sem Cert.Mlp Cert.Pieces
open Cert.Kernel2Ideal.Gen (tile closed share result hidTwo hidFour hidFour_of two_canon four_canon share_piece sum_row row_eq result_piece
  pay1_at pay2_at pay3_at pay10_at pay17_at pay20_at pay21_at pay22_at pay24_at)

variable (m : (ℓ : Loc nD τ sig) → Buf (Elt Ideal) ℓ)

/-- The first point of a block of rows fills the scratch with the modulated rows, -/
theorem first_scratch (c : Dev nD) (t : Fin cfg0.N) (h : t.val % 8 = 0) :
    (outsAt0 m c t.val t.isLt).2 = hiddenRows (iblk m c 1 t) (iblk m c 2 t) (iblk m c 0 t) := by
  rw [outsAt0_A m c t h (by omega) (by omega)]
  funext y
  dsimp only
  frame_out
  exact canon_of_piecesOf _ (hidFour_of _ _ _) (View.cover_of_tiledL (s := S512x2048) _ S128x2048.size (by sl_kernel_rfl) y)

/-- and leaves the first tile's share. -/
theorem first_out (c : Dev nD) (t : Fin cfg0.N) (h : t.val % 8 = 0) :
    (outsAt0 m c t.val t.isLt).1
      = share (iblk m c 6 t) (iblk m c 7 t) (hiddenRows (iblk m c 1 t) (iblk m c 2 t) (iblk m c 0 t)) := by
  rw [outsAt0_A m c t h (by omega) (by omega)]
  funext y
  dsimp only
  frame_out
  refine canon_of_piecesOf _ ⟨?_, ?_, trivial⟩ (View.cover_of_tiledL (s := S512x2048) _ S256x2048.size (by sl_kernel_rfl) y)
  · exact share_piece _ _ _ inb_S512x2048_S256x2048_256_0 (fun v => k0_pay1 v (iblk m c 6 t) (iblk m c 7 t)) (fun v => pay1_at v _ _) _
      fun a b => ((congrFun (View.readCov_eq_canon' ..) _).trans (four_canon _ _ _ _ a b)).trans (congrArg _ (emb_row inb_S512x2048_S256x2048_256_0 a b).symm)
  · exact share_piece _ _ _ inb_S512x2048_S256x2048_0_0 (fun v => k0_pay10 v (iblk m c 6 t) (iblk m c 7 t)) (fun v => pay10_at v _ _) _
      fun a b => ((congrFun (View.readCov_eq_canon' ..) _).trans (two_canon _ _ _ _ a b)).trans (congrArg _ (emb_row inb_S512x2048_S256x2048_0_0 a b).symm)

/-- A middle point keeps the scratch, -/
theorem middle_scratch (c : Dev nD) (t : Fin cfg0.N) (h : 1 ≤ t.val % 8 ∧ t.val % 8 ≤ 6) :
    (outsAt0 m c t.val t.isLt).2 = (outsAt0 m c (t.val - 1) (Nat.lt_of_le_of_lt (Nat.sub_le _ _) t.isLt)).2 := by
  rw [outsAt0_B m c t (by omega) h (by omega)]
  rfl

/-- and adds its tile's share. -/
theorem middle_out (c : Dev nD) (t : Fin cfg0.N) (h : 1 ≤ t.val % 8 ∧ t.val % 8 ≤ 6) (y : S512x2048.Idx) :
    (outsAt0 m c t.val t.isLt).1 y = (outsAt0 m c (t.val - 1) (Nat.lt_of_le_of_lt (Nat.sub_le _ _) t.isLt)).1 y
      + share (iblk m c 6 t) (iblk m c 7 t) (outsAt0 m c (t.val - 1) (Nat.lt_of_le_of_lt (Nat.sub_le _ _) t.isLt)).2 y := by
  rw [outsAt0_B m c t (by omega) h (by omega)]
  dsimp only
  frame_out
  rw [read_unread_whole]
  obtain ⟨a, b, rfl⟩ : ∃ (a : Fin 512) (b : Fin 2048), y = ix2 a b := ⟨y 0, y 1, by idx_ext⟩
  exact pay2_at _ _ _ _ a b

/-- The last point adds its tile's share and leaves the normalised residual. -/
theorem last_out (c : Dev nD) (t : Fin cfg0.N) (h : t.val % 8 = 7) (f : Vec Ideal S512x2048 .f32) (H : Vec Ideal S512x2048 .bf16)
    (hf : (outsAt0 m c (t.val - 1) (Nat.lt_of_le_of_lt (Nat.sub_le _ _) t.isLt)).1 = f)
    (hH : (outsAt0 m c (t.val - 1) (Nat.lt_of_le_of_lt (Nat.sub_le _ _) t.isLt)).2 = H) :
    (outsAt0 m c t.val t.isLt).1 = result (iblk m c 0 t) (fun y => f y + share (iblk m c 6 t) (iblk m c 7 t) H y)
      (iblk m c 3 t) (iblk m c 4 t) (iblk m c 5 t) := by
  rw [outsAt0_C m c t (by omega) (by omega) h]
  funext y
  dsimp only
  frame_out
  rw [read_unread_whole, hf, hH]
  refine canon_of_piecesOf _ ⟨?_, ?_, ?_, ?_, trivial⟩ (View.cover_of_tiledL (s := S512x2048) _ S128x2048.size (by sl_kernel_rfl) y)
  · exact result_piece _ _ _ _ _ inb_S512x2048_S128x2048_384_0
      (fun v => k0_pay3 (k0_pay15 (iblk m c 4 t)) (k0_pay16 (iblk m c 5 t)) _ (k0_pay23 (k0_pay14 (iblk m c 3 t))) v) _
      (fun v => pay3_at _ _ _ _ v)
      fun a b => (sum_row _ _ _ f H (fun o h => pay22_at o h (iblk m c 6 t) (iblk m c 7 t)) inb_S512x2048_S256x2048_256_0 _ b).trans
        (row_eq (fun y => f y + share (iblk m c 6 t) (iblk m c 7 t) H y)
          (show 256 + (128 + a.val) = 384 + a.val by omega) _ _ b)
  · exact result_piece _ _ _ _ _ inb_S512x2048_S128x2048_256_0
      (fun v => k0_pay24 (k0_pay14 (iblk m c 3 t)) (k0_pay15 (iblk m c 4 t)) (k0_pay16 (iblk m c 5 t)) _ _ (iblk m c 6 t) (iblk m c 7 t) v) _
      (fun v => pay24_at _ _ _ _ _ _ _ v)
      fun a b => sum_row _ _ _ f H (fun o h => pay22_at o h (iblk m c 6 t) (iblk m c 7 t)) inb_S512x2048_S256x2048_256_0 _ b
  · exact result_piece _ _ _ _ _ inb_S512x2048_S128x2048_128_0
      (fun v => k0_pay21 (k0_pay15 (iblk m c 4 t)) (k0_pay16 (iblk m c 5 t)) _ (k0_pay18 (iblk m c 3 t)) v) _
      (fun v => pay21_at _ _ _ _ v)
      fun a b => (sum_row _ _ _ f H (fun o h => pay17_at o h (iblk m c 6 t) (iblk m c 7 t)) inb_S512x2048_S256x2048_0_0 _ b).trans
        (row_eq (fun y => f y + share (iblk m c 6 t) (iblk m c 7 t) H y)
          (show 0 + (128 + a.val) = 128 + a.val by omega) _ _ b)
  · exact result_piece _ _ _ _ _ inb_S512x2048_S128x2048_0_0
      (fun v => k0_pay20 (k0_pay15 (iblk m c 4 t)) (k0_pay16 (iblk m c 5 t)) (k0_pay19 (iblk m c 3 t) _ _ (iblk m c 6 t) (iblk m c 7 t) v)) _
      (fun v => pay20_at _ _ _ _ _ _ _ v)
      fun a b => sum_row _ _ _ f H (fun o h => pay17_at o h (iblk m c 6 t) (iblk m c 7 t)) inb_S512x2048_S256x2048_0_0 _ b

end Cert.Kernel6Ideal.Gen
end
-- ==== Proof.CtxMlpArray.lean ====
/-
The context's MLP kernel's whole result array: every entry is the row arithmetic of its row. All rows share the seventeenth
modulation row.
-/
module
public import proofs.«01_k».proof.Proof.CtxMlpBlock
public import proofs.«01_k».proof.Proof.MlpArray

@[expose] public section
set_option maxRecDepth 16384
noncomputable section
namespace Cert.Kernel6Ideal.Gen
open Idealize.ShloMosaic Idealize.ShloMosaic.TcCoe Idealize.SL.Sem Cert.Mlp Cert.Pieces
open Cert.Kernel2Ideal.Gen (tile closed share result epsAlpha invAlpha term mod_row ln_row)

/-! One row in terms of the arguments: the context `X`, the modulation `M`, the two weights `U` and `D`. -/

/-- Row `r` of the context. -/
def context (X : Vec Ideal S4096x2048 .f32) (r : Fin 4096) (d : Fin 2048) : EReal := X (ix2 r d)
/-- The context's modulation row that starts at column `o`. -/
def ctxModu (M : Vec Ideal S2x32x12288 .f32) (o : ℕ) (ho : o + 2048 ≤ 12288) (d : Fin 2048) : EReal := M (ix3 0 16 ⟨o + d, by omega⟩)
/-- The modulated row. -/
def hrow (X : Vec Ideal S4096x2048 .f32) (M : Vec Ideal S2x32x12288 .f32) (r : Fin 4096) : Fin 2048 → EReal :=
  modulated (ctxModu M 6144 (by omega)) (ctxModu M 8192 (by omega)) (context X r)

/-- The whole result array. -/
def arrOut (X : Vec Ideal S4096x2048 .f32) (M : Vec Ideal S2x32x12288 .f32) (U : Vec Ideal S2x2048x8192 .f32)
    (D : Vec Ideal S2x8192x2048 .f32) (lg lb : Vec Ideal S2x2x2048 .f32) : Vec Ideal S4096x2048 .f32 := fun i =>
  norm epsAlpha (fun d => context X (i 0) d + ctxModu M 10240 (by omega) d * invAlpha * ∑ k, term U D (hrow X M (i 0)) d k) (i 1)
    * lg (ix3 0 1 (i 1)) + lb (ix3 0 1 (i 1))

variable (m : (ℓ : Loc nD τ sig) → Buf (Elt Ideal) ℓ)

/-- The block indices of the nine windows at a grid point. -/
theorem idx : ∀ t : Fin cfg0.N, win0_0.index t = ![t.val / 8, 0] ∧ win0_1.index t = ![16, 0, 3]
    ∧ win0_2.index t = ![16, 0, 4] ∧ win0_3.index t = ![16, 0, 5] ∧ win0_4.index t = ![1, 0, 0]
    ∧ win0_5.index t = ![1, 0, 0] ∧ win0_6.index t = ![0, 0, t.val % 8] ∧ win0_7.index t = ![0, t.val % 8, 0]
    ∧ win0_8.index t = ![t.val / 8, 0] :=
  (by decide +kernel : ∀ t : Fin grid0.N, _)

theorem lt64 (t : Fin cfg0.N) : t.val < 64 := t.isLt

theorem V0 (c : Dev nD) : (V m c main_v0 : Vec Ideal S64x1x12288 .f32) = shapeCast S64x1x12288 (V m c main_arg1 : Vec Ideal S2x32x12288 .f32) shapeCasts_S2x32x12288_S64x1x12288 := rfl
theorem V1 (c : Dev nD) (i : S2x2048x8192.Idx) : (V m c main_v1 : Vec Ideal S2x2048x8192 .bf16) i = (V m c main_arg2 : Vec Ideal S2x2048x8192 .f32) i := rfl
theorem V2 (c : Dev nD) (i : S2x8192x2048.Idx) : (V m c main_v2 : Vec Ideal S2x8192x2048 .bf16) i = (V m c main_arg3 : Vec Ideal S2x8192x2048 .f32) i := rfl
theorem V3 (c : Dev nD) : (V m c main_v3 : Vec Ideal S4x1x2048 .f32) = shapeCast S4x1x2048 (V m c main_arg4 : Vec Ideal S2x2x2048 .f32) shapeCasts_S2x2x2048_S4x1x2048 := rfl
theorem V4 (c : Dev nD) : (V m c main_v4 : Vec Ideal S4x1x2048 .f32) = shapeCast S4x1x2048 (V m c main_arg5 : Vec Ideal S2x2x2048 .f32) shapeCasts_S2x2x2048_S4x1x2048 := rfl

theorem blk0 (c : Dev nD) (t : Fin cfg0.N) (a : Fin 512) (d : Fin 2048) : (iblk m c 0 t : Vec Ideal S512x2048 .f32) (ix2 a d)
    = context (V m c main_arg0) ⟨t.val / 8 * 512 + a, by have := lt64 t; omega⟩ d := by
  blk_ext [iblk, context, idx t]
theorem blk1 (c : Dev nD) (t : Fin cfg0.N) : vec (iblk m c 1 t) = ctxModu (V m c main_arg1) 6144 (by omega) := by
  funext d
  have he : (win0_1.blk t).view.emb (ix3 0 0 d) = (ix3 16 0 ⟨6144 + d, by omega⟩ : S64x1x12288.Idx) := by
    blk_ext [idx t]
  exact (congrArg (V m c main_v0 : Vec Ideal S64x1x12288 .f32) he).trans ((congrFun (V0 m c) _).trans (mod_row _ 16 (by omega) _))
theorem blk2 (c : Dev nD) (t : Fin cfg0.N) : vec (iblk m c 2 t) = ctxModu (V m c main_arg1) 8192 (by omega) := by
  funext d
  have he : (win0_2.blk t).view.emb (ix3 0 0 d) = (ix3 16 0 ⟨8192 + d, by omega⟩ : S64x1x12288.Idx) := by
    blk_ext [idx t]
  exact (congrArg (V m c main_v0 : Vec Ideal S64x1x12288 .f32) he).trans ((congrFun (V0 m c) _).trans (mod_row _ 16 (by omega) _))
theorem blk3 (c : Dev nD) (t : Fin cfg0.N) : vec (iblk m c 3 t) = ctxModu (V m c main_arg1) 10240 (by omega) := by
  funext d
  have he : (win0_3.blk t).view.emb (ix3 0 0 d) = (ix3 16 0 ⟨10240 + d, by omega⟩ : S64x1x12288.Idx) := by
    blk_ext [idx t]
  exact (congrArg (V m c main_v0 : Vec Ideal S64x1x12288 .f32) he).trans ((congrFun (V0 m c) _).trans (mod_row _ 16 (by omega) _))
theorem blk4 (c : Dev nD) (t : Fin cfg0.N) (d : Fin 2048) : vec (iblk m c 4 t) d = (V m c main_arg4 : Vec Ideal S2x2x2048 .f32) (ix3 0 1 d) := by
  have he : (win0_4.blk t).view.emb (ix3 0 0 d) = (ix3 1 0 d : S4x1x2048.Idx) := by
    blk_ext [idx t]
  exact (congrArg (V m c main_v3 : Vec Ideal S4x1x2048 .f32) he).trans ((congrFun (V3 m c) _).trans (ln_row _ d))
theorem blk5 (c : Dev nD) (t : Fin cfg0.N) (d : Fin 2048) : vec (iblk m c 5 t) d = (V m c main_arg5 : Vec Ideal S2x2x2048 .f32) (ix3 0 1 d) := by
  have he : (win0_5.blk t).view.emb (ix3 0 0 d) = (ix3 1 0 d : S4x1x2048.Idx) := by
    blk_ext [idx t]
  exact (congrArg (V m c main_v4 : Vec Ideal S4x1x2048 .f32) he).trans ((congrFun (V4 m c) _).trans (ln_row _ d))
theorem blk6 (c : Dev nD) (t : Fin cfg0.N) (e : Fin 2048) (k : Fin 1024) : (iblk m c 6 t : Vec Ideal S1x2048x1024 .bf16) (ix3 0 e k)
    = (V m c main_arg2 : Vec Ideal S2x2048x8192 .f32) (ix3 0 e ⟨1024 * (t.val % 8) + k, by omega⟩) := by
  have he : (win0_6.blk t).view.emb (ix3 0 e k) = (ix3 0 e ⟨1024 * (t.val % 8) + k, by omega⟩ : S2x2048x8192.Idx) := by
    blk_ext [idx t]
  exact (congrArg (V m c main_v1 : Vec Ideal S2x2048x8192 .bf16) he).trans (V1 m c _)
theorem blk7 (c : Dev nD) (t : Fin cfg0.N) (k : Fin 1024) (d : Fin 2048) : (iblk m c 7 t : Vec Ideal S1x1024x2048 .bf16) (ix3 0 k d)
    = (V m c main_arg3 : Vec Ideal S2x8192x2048 .f32) (ix3 0 ⟨1024 * (t.val % 8) + k, by omega⟩ d) := by
  have he : (win0_7.blk t).view.emb (ix3 0 k d) = (ix3 0 ⟨1024 * (t.val % 8) + k, by omega⟩ d : S2x8192x2048.Idx) := by
    blk_ext [idx t]
  exact (congrArg (V m c main_v2 : Vec Ideal S2x8192x2048 .bf16) he).trans (V2 m c _)

/-- A tile's share of a row is the tile's part of the sum over the hidden units. -/
theorem share_at (c : Dev nD) (t : Fin cfg0.N) (H : Vec Ideal S512x2048 .bf16) (y : S512x2048.Idx) :
    share (iblk m c 6 t) (iblk m c 7 t) H y
      = ∑ k : Fin 1024, term (V m c main_arg2) (V m c main_arg3) (rowAt H y) (y 1) ⟨1024 * (t.val % 8) + k, by omega⟩ := by
  unfold share tile
  refine Finset.sum_congr rfl fun k _ => ?_
  exact congrArg₂ (fun A B => unit (rowAt H y) A * B) (funext fun e => blk6 m c t e k) (blk7 m c t k (y 1))

/-- The modulated rows of row block `i`. -/
def hblock (X : Vec Ideal S4096x2048 .f32) (M : Vec Ideal S2x32x12288 .f32) (i : ℕ) (hi : i < 8) : Vec Ideal S512x2048 .bf16 := fun y =>
  have h0 : (y 0 : ℕ) < 512 := (y 0).isLt
  hrow X M ⟨i * 512 + y 0, by omega⟩ (y 1)

theorem hidden_eq (c : Dev nD) (t : Fin cfg0.N) : hiddenRows (iblk m c 1 t) (iblk m c 2 t) (iblk m c 0 t)
    = hblock (V m c main_arg0) (V m c main_arg1) (t.val / 8) (by have := lt64 t; omega) := by
  funext y
  obtain ⟨a, b, rfl⟩ : ∃ (a : Fin 512) (b : Fin 2048), y = ix2 a b := ⟨y 0, y 1, by idx_ext⟩
  unfold hiddenRows
  rw [blk1 m c t, blk2 m c t]
  exact congrFun (congrArg _ (funext fun e => blk0 m c t a e)) b

/-- After point `8 i + j` of a row block, short of its last, the scratch holds the modulated rows and the output block
the sum over the first `j + 1` tiles. -/
theorem upto (c : Dev nD) (i : ℕ) (hi : i < 8) : ∀ (j : ℕ) (hj : j < 7) (hn : 8 * i + j < cfg0.N),
    (outsAt0 m c (8 * i + j) hn).2 = hblock (V m c main_arg0) (V m c main_arg1) i hi
    ∧ ∀ y : S512x2048.Idx, (outsAt0 m c (8 * i + j) hn).1 y
        = partialSum (term (V m c main_arg2) (V m c main_arg3) (rowAt (hblock (V m c main_arg0) (V m c main_arg1) i hi) y) (y 1)) (1024 * (j + 1))
  | 0, _, hn => by
    have ht : (8 * i) % 8 = 0 := by omega
    have e : hiddenRows (iblk m c 1 ⟨8 * i, hn⟩) (iblk m c 2 ⟨8 * i, hn⟩) (iblk m c 0 ⟨8 * i, hn⟩)
        = hblock (V m c main_arg0) (V m c main_arg1) i hi := by
      rw [hidden_eq]
      congr 1
      show 8 * i / 8 = i
      omega
    refine ⟨(first_scratch m c ⟨8 * i, hn⟩ ht).trans e, fun y => ?_⟩
    refine (congrFun (first_out m c ⟨8 * i, hn⟩ ht) y).trans ?_
    rw [e, share_at]
    refine Eq.trans ?_ (partial_first _).symm
    simp only [ht]
  | j + 1, hj, hn => by
    have ht : (8 * i + (j + 1)) % 8 = j + 1 := by omega
    have hm : 1 ≤ (8 * i + (j + 1)) % 8 ∧ (8 * i + (j + 1)) % 8 ≤ 6 := by omega
    obtain ⟨ih2, ih1⟩ := upto c i hi j (by omega) (by omega)
    refine ⟨(middle_scratch m c ⟨8 * i + (j + 1), hn⟩ hm).trans ih2, fun y => ?_⟩
    refine (middle_out m c ⟨8 * i + (j + 1), hn⟩ hm y).trans ?_
    rw [partial_step _ (j + 1) (by omega), ← ih1 y, ← ih2, share_at]
    simp only [ht]
    rfl

/-- The last point of a row block leaves its rows of the result. -/
theorem last_at (c : Dev nD) (t : Fin cfg0.N) (h : t.val % 8 = 7) (a : Fin 512) (d : Fin 2048) :
    (outsAt0 m c t.val t.isLt).1 (ix2 a d)
      = arrOut (V m c main_arg0) (V m c main_arg1) (V m c main_arg2) (V m c main_arg3) (V m c main_arg4) (V m c main_arg5)
          (ix2 ⟨t.val / 8 * 512 + a, by have := lt64 t; omega⟩ d) := by
  have hl := lt64 t
  have en : t.val - 1 = 8 * (t.val / 8) + 6 := by omega
  have hp : (outsAt0 m c (t.val - 1) (Nat.lt_of_le_of_lt (Nat.sub_le _ _) t.isLt))
      = outsAt0 m c (8 * (t.val / 8) + 6) (en ▸ Nat.lt_of_le_of_lt (Nat.sub_le _ _) t.isLt) := by
    congr 1
  obtain ⟨i2, i1⟩ := upto m c (t.val / 8) (by omega) 6 (by omega) (en ▸ Nat.lt_of_le_of_lt (Nat.sub_le _ _) t.isLt)
  refine (congrFun (last_out m c t h _ _ (congrArg Prod.fst hp) ((congrArg Prod.snd hp).trans i2)) _).trans ?_
  have hsum : ∀ y : S512x2048.Idx, (outsAt0 m c (8 * (t.val / 8) + 6) (en ▸ Nat.lt_of_le_of_lt (Nat.sub_le _ _) t.isLt)).1 y
      + share (iblk m c 6 t) (iblk m c 7 t) (hblock (V m c main_arg0) (V m c main_arg1) (t.val / 8) (by omega)) y
      = ∑ k, term (V m c main_arg2) (V m c main_arg3) (rowAt (hblock (V m c main_arg0) (V m c main_arg1) (t.val / 8) (by omega)) y) (y 1) k := fun y => by
    rw [i1 y, share_at]
    refine Eq.trans ?_ ((partial_step _ 7 (by omega)).symm.trans (partial_all _))
    simp only [h]
  rw [show (fun y => _ + _) = _ from funext hsum]
  show closed _ _ _ _ _ d = _
  unfold closed
  rw [blk3 m c t, blk4, blk5]
  exact congrArg (fun A => norm epsAlpha A d * _ + _) (funext fun e => congrArg (· + _) (blk0 m c t a e))

/-- The array is `arrOut` of the arguments. -/
theorem final (c : Dev nD) : (dats m 0 c).arrAt 8 cfg0.N
    = arrOut (V m c main_arg0) (V m c main_arg1) (V m c main_arg2) (V m c main_arg3) (V m c main_arg4) (V m c main_arg5) := by
  refine (dats m 0 c).arrAt_eq_of_covers 8 _ (by decide +kernel) fun t hf y => ?_
  have h7 : t.val % 8 = 7 := (flush0_8 t).mp hf
  blk_simp
  rw [after0_8]
  obtain ⟨a, b, rfl⟩ : ∃ (a : Fin 512) (b : Fin 2048), y = ix2 a b := ⟨y 0, y 1, by idx_ext⟩
  refine (last_at m c t h7 a b).trans (congrArg _ ?_)
  blk_ext [idx t]

end Cert.Kernel6Ideal.Gen
end
-- ==== Proof.CtxMlpRef.lean ====
/-
The reference of the context's MLP in parts: its result as a function of its arguments, and every part read at an index.
-/
module
public import proofs.«01_k».proof.Proof.Gen.Reference6Ideal.Run
public import proofs.«01_k».proof.Proof.MlpRef

@[expose] public section
set_option maxRecDepth 16384
noncomputable section
namespace Cert.Reference6Ideal.Value
open Cert.Reference6Ideal Cert.Reference6Ideal.Gen Idealize.ShloMosaic Idealize.ShloMosaic.TcCoe Idealize.SL.Sem Idealize.ShloMosaic.StableHlo Cert.Mlp
open Cert.Reference2Ideal.Value (upW downW upW_at downW_at)

/-- The context's rows split into batches. -/
def split (x : FVec Ideal S4096x2048 .f32) : FVec Ideal S16x256x2048 .f32 :=
  shapeCast S16x256x2048 x shapeCasts_S4096x2048_S16x256x2048
/-- The first layer's modulation of the context. -/
def modRow (M : FVec Ideal S2x32x12288 .f32) : FVec Ideal S12288 .f32 :=
  shapeCast S12288 (extractStridedSlice S1x1x12288 ![0, 16, 0] M slices_S2x32x12288_S1x1x12288_0_16_0) shapeCasts_S1x1x12288_S12288
/-- The shift. -/
def shift (y : FVec Ideal S12288 .f32) : FVec Ideal S2048 .f32 := extractStridedSlice S2048 ![6144] y slices_S12288_S2048_6144
/-- The scale. -/
def scale (y : FVec Ideal S12288 .f32) : FVec Ideal S2048 .f32 := extractStridedSlice S2048 ![8192] y slices_S12288_S2048_8192
/-- The gate. -/
def gate (y : FVec Ideal S12288 .f32) : FVec Ideal S2048 .f32 := extractStridedSlice S2048 ![10240] y slices_S12288_S2048_10240
/-- A vector in every row. -/
def every (v : FVec Ideal S2048 .f32) : FVec Ideal S16x256x2048 .f32 :=
  broadcastInDim S16x256x2048 ![0, 1, 2] bcast_S1x1x2048_S16x256x2048_0_1_2 (broadcastInDim S1x1x2048 ![2] bcast_S2048_S1x1x2048_2 v)
/-- The mean of every row. -/
def meanArr (z : FVec Ideal S16x256x2048 .f32) : FVec Ideal S16x256x1 .f32 :=
  Host.divf (broadcastInDim S16x256x1 ![0, 1] bcast_S16x256_S16x256x1_0_1 (Host.reduceAdd z (constant S_ .f32 0x00000000#32) reducesTo_S16x256x2048_S16x256_d2 h_S_)) (broadcastInDim S16x256x1 ![] bcast_S_S16x256x1 (constant S_ .f32 0x45000000#32))
/-- Every row less its mean. -/
def centred (z : FVec Ideal S16x256x2048 .f32) : FVec Ideal S16x256x2048 .f32 :=
  subf z (broadcastInDim S16x256x2048 ![0, 1, 2] bcast_S16x256x1_S16x256x2048_0_1_2 (meanArr z))
/-- Every row normalised. -/
def normArr (z : FVec Ideal S16x256x2048 .f32) : FVec Ideal S16x256x2048 .f32 :=
  mulf (centred z) (broadcastInDim S16x256x2048 ![0, 1, 2] bcast_S16x256x1_S16x256x2048_0_1_2 (Host.rsqrt (addf (meanArr (mulf (centred z) (centred z))) (broadcastInDim S16x256x1 ![] bcast_S_S16x256x1 (constant S_ .f32 0x358637BD#32)))))
/-- Every row normalised, scaled and shifted. -/
def modArr (z : FVec Ideal S16x256x2048 .f32) (sh sc : FVec Ideal S2048 .f32) : FVec Ideal S16x256x2048 .f32 :=
  addf (mulf (normArr z) (every (addf (broadcastInDim S2048 ![] bcast_S_S2048 (constant S_ .f32 0x3F800000#32)) sc))) (every sh)
/-- The inputs of the hidden units, none below zero. -/
def reluArr (h : FVec Ideal S16x256x2048 .f32) (u : FVec Ideal S2048x8192 .f32) : FVec Ideal S16x256x8192 .f32 :=
  maximumf (Host.dotGeneral dot_S16x256x2048_S2048x8192_S16x256x8192_2_0_01_1_n_n none h u) (broadcastInDim S16x256x8192 ![] bcast_S_S16x256x8192 (constant S_ .f32 0x00000000#32))
/-- The hidden units' squares times the second weight. -/
def feedArr (a : FVec Ideal S16x256x8192 .f32) (w : FVec Ideal S8192x2048 .f32) : FVec Ideal S16x256x2048 .f32 :=
  Host.dotGeneral dot_S16x256x8192_S8192x2048_S16x256x2048_2_0_01_1_n_n none (mulf a a) w
/-- The residual: the scaled context and the gated MLP. -/
def residArr (z : FVec Ideal S16x256x2048 .f32) (g : FVec Ideal S2048 .f32) (f : FVec Ideal S16x256x2048 .f32) : FVec Ideal S16x256x2048 .f32 :=
  addf (mulf (broadcastInDim S16x256x2048 ![] bcast_S_S16x256x2048 (constant S_ .f32 0x3FB504F3#32)) z) (mulf (every g) f)
/-- The first layer's second row. -/
def lastRow (g : FVec Ideal S2x2x2048 .f32) : FVec Ideal S2048 .f32 :=
  shapeCast S2048 (extractStridedSlice S1x1x2048 ![0, 1, 0] g slices_S2x2x2048_S1x1x2048_0_1_0) shapeCasts_S1x1x2048_S2048
/-- The batches' rows laid one after the other. -/
def layRows (z : FVec Ideal S16x256x2048 .f32) : FVec Ideal S4096x2048 .f32 :=
  shapeCast S4096x2048 z shapeCasts_S16x256x2048_S4096x2048

/-- The reference's result as a function of its arguments. -/
def refOut (x : FVec Ideal S4096x2048 .f32) (M : FVec Ideal S2x32x12288 .f32) (U : FVec Ideal S2x2048x8192 .f32)
    (D : FVec Ideal S2x8192x2048 .f32) (lg lb : FVec Ideal S2x2x2048 .f32) : FVec Ideal S4096x2048 .f32 :=
  layRows (addf (mulf (normArr (residArr (split x) (gate (modRow M))
    (feedArr (reluArr (modArr (split x) (shift (modRow M)) (scale (modRow M))) (upW U)) (downW D)))) (every (lastRow lg))) (every (lastRow lb)))

theorem parts_eq (m : (ℓ : Loc nD τ sig) → Buf (Elt Ideal) ℓ) (c : Dev nD) : res_main_v77 m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

/-- The reference's run leaves `refOut` of the launch's arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v77)
        = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans (parts_eq m c), (h c).2⟩) (run (F := Ideal) m ρ)

/-! Every part at an index. -/

theorem split_at (x : FVec Ideal S4096x2048 .f32) (b : Fin 16) (r : Fin 256) (d : Fin 2048) :
    split x (ix3 b r d) = x (ix2 ⟨b * 256 + r, by omega⟩ d) := by
  pointwise [split]
theorem shift_at (M : FVec Ideal S2x32x12288 .f32) (d : Fin 2048) :
    shift (modRow M) (ix1 d) = M (ix3 0 16 ⟨6144 + d, by omega⟩) := by
  pointwise [shift, modRow]
theorem scale_at (M : FVec Ideal S2x32x12288 .f32) (d : Fin 2048) :
    scale (modRow M) (ix1 d) = M (ix3 0 16 ⟨8192 + d, by omega⟩) := by
  pointwise [scale, modRow]
theorem gate_at (M : FVec Ideal S2x32x12288 .f32) (d : Fin 2048) :
    gate (modRow M) (ix1 d) = M (ix3 0 16 ⟨10240 + d, by omega⟩) := by
  pointwise [gate, modRow]
theorem every_at (v : FVec Ideal S2048 .f32) (b : Fin 16) (r : Fin 256) (d : Fin 2048) : every v (ix3 b r d) = v (ix1 d) := by
  pointwise [every]
theorem meanArr_at (z : FVec Ideal S16x256x2048 .f32) (b : Fin 16) (r : Fin 256) :
    meanArr z (ix3 b r 0) = mean (fun d => z (ix3 b r d)) := by
  pointwise [meanArr, mean]
theorem centred_at (z : FVec Ideal S16x256x2048 .f32) (b : Fin 16) (r : Fin 256) (d : Fin 2048) :
    (centred z (ix3 b r d) : EReal) = z (ix3 b r d) - mean (fun d => z (ix3 b r d)) := by
  rw [← meanArr_at]
  pointwise [centred]
theorem normArr_at (z : FVec Ideal S16x256x2048 .f32) (b : Fin 16) (r : Fin 256) (d : Fin 2048) :
    normArr z (ix3 b r d) = norm (Ideal.ofBits .f32 0x358637BD#32) (fun d => z (ix3 b r d)) d := by
  have h : (normArr z (ix3 b r d) : EReal) = centred z (ix3 b r d)
      * Ideal.rsqrt (meanArr (mulf (centred z) (centred z)) (ix3 b r 0) + Ideal.ofBits .f32 0x358637BD#32) := by
    pointwise [normArr]
  rw [h, meanArr_at, centred_at]
  simp only [mulf, centred_at]
  rfl
theorem modArr_at (z : FVec Ideal S16x256x2048 .f32) (sh sc : FVec Ideal S2048 .f32) (b : Fin 16) (r : Fin 256) (d : Fin 2048) :
    modArr z sh sc (ix3 b r d)
      = modulated (fun d => sh (ix1 d)) (fun d => sc (ix1 d)) (fun d => z (ix3 b r d)) d := by
  unfold modulated
  rw [← normArr_at]
  pointwise [modArr, every]
theorem reluArr_at (h : FVec Ideal S16x256x2048 .f32) (u : FVec Ideal S2048x8192 .f32) (b : Fin 16) (r : Fin 256) (k : Fin 8192) :
    (reluArr h u (ix3 b r k) : EReal) = max (∑ e : Fin 2048, (h (ix3 b r e) : EReal) * u (ix2 e k)) 0 := by
  pointwise [reluArr]
theorem feedArr_at (a : FVec Ideal S16x256x8192 .f32) (w : FVec Ideal S8192x2048 .f32) (b : Fin 16) (r : Fin 256) (d : Fin 2048) :
    (feedArr a w (ix3 b r d) : EReal) = ∑ k : Fin 8192, ((a (ix3 b r k) : EReal) * a (ix3 b r k)) * w (ix2 k d) := by
  pointwise [feedArr]
theorem residArr_at (z f : FVec Ideal S16x256x2048 .f32) (g : FVec Ideal S2048 .f32) (b : Fin 16) (r : Fin 256) (d : Fin 2048) :
    (residArr z g f (ix3 b r d) : EReal) = Ideal.ofBits .f32 0x3FB504F3#32 * z (ix3 b r d) + g (ix1 d) * f (ix3 b r d) := by
  pointwise [residArr, every]
theorem lastRow_at (g : FVec Ideal S2x2x2048 .f32) (d : Fin 2048) : lastRow g (ix1 d) = g (ix3 0 1 d) := by
  pointwise [lastRow]
theorem layRows_at (z : FVec Ideal S16x256x2048 .f32) (b : Fin 16) (r : Fin 256) (d : Fin 2048) :
    layRows z (ix2 ⟨b * 256 + r, by omega⟩ d) = z (ix3 b r d) := by
  pointwise [layRows]

end Cert.Reference6Ideal.Value
end
-- ==== Proof.CtxMlpEqual.lean ====
/-
The context's MLP kernel's array is the reference's result.
-/
module
public import proofs.«01_k».proof.Proof.CtxMlpArray
public import proofs.«01_k».proof.Proof.CtxMlpRef
public import proofs.«01_k».proof.Proof.MlpEqual

@[expose] public section
set_option maxRecDepth 16384
noncomputable section
namespace Cert.Kernel6Ideal.Gen
open Idealize.ShloMosaic Idealize.ShloMosaic.TcCoe Idealize.SL.Sem Cert.Mlp Cert.Reference6Ideal.Value
open Cert.Kernel2Ideal.Gen (word_alpha epsAlpha_eq invAlpha_eq term)
open Cert.Reference2Ideal.Value (upW_at downW_at)

/-! Row `r` of batch `b` is row `b · 2048 + r` of the context. -/

theorem context_split (X : Vec Ideal S4096x2048 .f32) (b : Fin 16) (r : Fin 256) :
    context X ⟨b * 256 + r, by omega⟩ = fun d => split X (ix3 b r d) := funext fun d => (split_at X b r d).symm

/-- The two results are one array. -/
theorem arr_eq_ref (X : Vec Ideal S4096x2048 .f32) (M : Vec Ideal S2x32x12288 .f32) (U : Vec Ideal S2x2048x8192 .f32)
    (D : Vec Ideal S2x8192x2048 .f32) (lg lb : Vec Ideal S2x2x2048 .f32) : arrOut X M U D lg lb = refOut X M U D lg lb := by
  funext i
  obtain ⟨b, r, d, rfl⟩ : ∃ (b : Fin 16) (r : Fin 256) (d : Fin 2048), i = ix2 ⟨b * 256 + r, by omega⟩ d :=
    ⟨⟨(i 0).val / 256, by have : (i 0).val < 4096 := (i 0).isLt; omega⟩, ⟨(i 0).val % 256, by omega⟩, i 1, by
      idx_ext⟩
  have hh : hrow X M ⟨b * 256 + r, by omega⟩ = fun e => modArr (split X) (shift (modRow M)) (scale (modRow M)) (ix3 b r e) := by
    funext e
    rw [modArr_at]
    unfold hrow
    rw [context_split]
    congr 1
    · exact funext fun d => (shift_at M d).symm
    · exact funext fun d => (scale_at M d).symm
  unfold refOut
  rw [layRows_at]
  show _ = (normArr _ (ix3 b r d) : EReal) * every (lastRow lg) (ix3 b r d) + every (lastRow lb) (ix3 b r d)
  rw [normArr_at, every_at, every_at, lastRow_at, lastRow_at]
  refine congrArg (fun A : EReal => A * _ + _) ?_
  refine (congrFun (scaled_norm (by norm_num) epsAlpha_eq invAlpha_eq _ _ _) d).trans ?_
  refine congrFun (congrArg (norm _) (funext fun e => ?_)) d
  rw [residArr_at, word_alpha, gate_at, feedArr_at]
  refine congrArg₂ (fun A B : EReal => (11863283 / 8388608 : ℝ) * A + B) (congrFun (context_split X b r) e)
    (congrArg₂ (fun A B : EReal => A * B) rfl (Finset.sum_congr rfl fun k _ => ?_))
  rw [reluArr_at, downW_at]
  refine (congrArg (fun H => term U D H e k) hh).trans ?_
  unfold term unit
  simp only [upW_at]

/-- The kernel's array after all grid points is the reference's result of the same arguments. -/
theorem result_eq (m : (ℓ : Loc nD τ sig) → Buf (Elt Ideal) ℓ) (c : Dev nD) :
    ((dats m 0 c).arrAt 8 cfg0.N : Vec Ideal S4096x2048 .f32)
      = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (final m c).trans ?_
  rw [V_main_arg0, V_main_arg1, V_main_arg2, V_main_arg3, V_main_arg4, V_main_arg5]
  exact arr_eq_ref _ _ _ _ _ _
end Cert.Kernel6Ideal.Gen
end
-- ==== Proof.CtxProjBlock.lean ====
/-
What one grid point of the context's projection kernel leaves in its output block and in the scratch buffer of modulated
rows: what each store writes, at a row and a column, and then the blocks.

The first point of a block of rows fills the scratch, and multiplies every 256 rows once they are there; the other points
multiply what the scratch holds.
-/
module
public import proofs.«01_k».proof.Proof.Gen.Kernel7Ideal.Frame
public import proofs.«01_k».proof.Proof.ProjBlock

@[expose] public section
set_option maxRecDepth 16384
noncomputable section
namespace Cert.Kernel7Ideal.Gen
open Idealize.ShloMosaic Idealize.ShloMosaic.TcCoe Idealize.SL.Sem Cert.Mlp Cert.Pieces
open Cert.Kernel3Ideal.Gen (cell product half_canon product_piece)

/-! The modulated rows, in chunks of 128. -/

section
variable (sc sh : Vec Ideal S1x1x2048 .f32) (x : Vec Ideal S128x2048 .f32) (a : Fin 128) (d : Fin 2048)

theorem pay4_at : k0_pay4 sc sh x (ix2 a d) = modulated (vec sh) (vec sc) (fun e => x (ix2 a e)) d := by
  pointwise [k0_pay4, k0_pay2, k0_pay3]
  rfl
theorem pay7_at : k0_pay7 (k0_pay2 sc) (k0_pay3 sh) (k0_pay5 x) (k0_pay6 x) (ix2 a d)
    = modulated (vec sh) (vec sc) (fun e => x (ix2 a e)) d := by
  pointwise [k0_pay7, k0_pay2, k0_pay3, k0_pay5, k0_pay6]
  rfl
theorem pay11_at : k0_pay11 (k0_pay2 sc) (k0_pay3 sh) (k0_pay9 x) (k0_pay10 x) (ix2 a d)
    = modulated (vec sh) (vec sc) (fun e => x (ix2 a e)) d := by
  pointwise [k0_pay11, k0_pay2, k0_pay3, k0_pay9, k0_pay10]
  rfl
theorem pay12_at : k0_pay12 (k0_pay2 sc) (k0_pay3 sh) x (ix2 a d) = modulated (vec sh) (vec sc) (fun e => x (ix2 a e)) d := by
  pointwise [k0_pay12, k0_pay2, k0_pay3]
  rfl
end

/-! The products, in chunks of 256 rows, or the whole block at once. -/

section
variable (w : Vec Ideal S1x2048x1536 .bf16) (h : Vec Ideal S256x2048 .bf16) (a : Fin 256) (j : Fin 1536)

theorem pay8_at : k0_pay8 h w (ix2 a j) = cell w (fun e => h (ix2 a e)) j := by
  pointwise [k0_pay8, cell]
theorem pay13_at : k0_pay13 h w (ix2 a j) = cell w (fun e => h (ix2 a e)) j := by
  pointwise [k0_pay13, cell]
end

theorem pay1_at (w : Vec Ideal S1x2048x1536 .bf16) (h : Vec Ideal S512x2048 .bf16) (a : Fin 512) (j : Fin 1536) :
    k0_pay1 h w (ix2 a j) = cell w (fun e => h (ix2 a e)) j := by
  pointwise [k0_pay1, cell]

section
variable (sh sc : Vec Ideal S1x1x2048 .f32) (x : Vec Ideal S512x2048 .f32)

/-- The chunks stored up to the filling point's first and second product, latest first. -/
abbrev hidTwo : List (View.Piece (Elt Ideal) S512x2048 .bf16) :=
  [⟨Rect.unit ![128, 0] ![128, 2048] inb_S512x2048_S128x2048_128_0, k0_pay7 (k0_pay2 sc) (k0_pay3 sh)
      (k0_pay5 (View.ld x (Rect.unit ![128, 0] ![128, 2048] inb_S512x2048_S128x2048_128_0)))
      (k0_pay6 (View.ld x (Rect.unit ![128, 0] ![128, 2048] inb_S512x2048_S128x2048_128_0)))⟩,
    ⟨Rect.unit ![0, 0] ![128, 2048] inb_S512x2048_S128x2048_0_0,
      k0_pay4 sc sh (View.ld x (Rect.unit ![0, 0] ![128, 2048] inb_S512x2048_S128x2048_0_0))⟩]
abbrev hidFour : List (View.Piece (Elt Ideal) S512x2048 .bf16) :=
  ⟨Rect.unit ![384, 0] ![128, 2048] inb_S512x2048_S128x2048_384_0, k0_pay12 (k0_pay2 sc) (k0_pay3 sh)
      (View.ld x (Rect.unit ![384, 0] ![128, 2048] inb_S512x2048_S128x2048_384_0))⟩ ::
    ⟨Rect.unit ![256, 0] ![128, 2048] inb_S512x2048_S128x2048_256_0, k0_pay11 (k0_pay2 sc) (k0_pay3 sh)
      (k0_pay9 (View.ld x (Rect.unit ![256, 0] ![128, 2048] inb_S512x2048_S128x2048_256_0)))
      (k0_pay10 (View.ld x (Rect.unit ![256, 0] ![128, 2048] inb_S512x2048_S128x2048_256_0)))⟩ ::
    hidTwo sh sc x

theorem hidTwo_of : View.PiecesOf (hiddenRows sh sc x) (hidTwo sh sc x) :=
  ⟨hid_piece sh sc x inb_S512x2048_S128x2048_128_0 (fun v => k0_pay7 (k0_pay2 sc) (k0_pay3 sh) (k0_pay5 v) (k0_pay6 v)) (pay7_at sc sh),
    hid_piece sh sc x inb_S512x2048_S128x2048_0_0 (fun v => k0_pay4 sc sh v) (pay4_at sc sh), trivial⟩
theorem hidFour_of : View.PiecesOf (hiddenRows sh sc x) (hidFour sh sc x) :=
  ⟨hid_piece sh sc x inb_S512x2048_S128x2048_384_0 (fun v => k0_pay12 (k0_pay2 sc) (k0_pay3 sh) v) (pay12_at sc sh),
    hid_piece sh sc x inb_S512x2048_S128x2048_256_0 (fun v => k0_pay11 (k0_pay2 sc) (k0_pay3 sh) (k0_pay9 v) (k0_pay10 v)) (pay11_at sc sh),
    hidTwo_of sh sc x⟩
end

variable (m : (ℓ : Loc nD τ sig) → Buf (Elt Ideal) ℓ)

/-- The first point of a block of rows fills the scratch with the modulated rows, -/
theorem first_scratch (c : Dev nD) (t : Fin cfg0.N) (h : t.val % 9 = 0) :
    (outsAt0 m c t.val t.isLt).2 = hiddenRows (iblk m c 1 t) (iblk m c 2 t) (iblk m c 0 t) := by
  rw [outsAt0_A m c t h (by omega)]
  funext y
  dsimp only
  frame_out
  exact canon_of_piecesOf _ (hidFour_of _ _ _) (View.cover_of_tiledL (s := S512x2048) _ S128x2048.size (by sl_kernel_rfl) y)

/-- and leaves their products with the first tile. -/
theorem first_out (c : Dev nD) (t : Fin cfg0.N) (h : t.val % 9 = 0) :
    (outsAt0 m c t.val t.isLt).1
      = product (iblk m c 3 t) (hiddenRows (iblk m c 1 t) (iblk m c 2 t) (iblk m c 0 t)) := by
  rw [outsAt0_A m c t h (by omega)]
  funext y
  dsimp only
  frame_out
  refine canon_of_piecesOf _ ⟨?_, ?_, trivial⟩ (View.cover_of_tiledL (s := S512x1536) _ S256x1536.size (by sl_kernel_rfl) y)
  · exact product_piece _ _ inb_S512x1536_S256x1536_256_0 (fun v => k0_pay13 v (iblk m c 3 t)) (pay13_at _) _
      fun a b => (congrFun (View.readCov_eq_canon' ..) _).trans (half_canon rfl (hidFour_of _ _ _) _ a b)
  · exact product_piece _ _ inb_S512x1536_S256x1536_0_0 (fun v => k0_pay8 v (iblk m c 3 t)) (pay8_at _) _
      fun a b => (congrFun (View.readCov_eq_canon' ..) _).trans (half_canon rfl (hidTwo_of _ _ _) _ a b)

/-- Another point keeps the scratch, -/
theorem next_scratch (c : Dev nD) (t : Fin cfg0.N) (h : 1 ≤ t.val % 9) :
    (outsAt0 m c t.val t.isLt).2 = (outsAt0 m c (t.val - 1) (Nat.lt_of_le_of_lt (Nat.sub_le _ _) t.isLt)).2 := by
  rw [outsAt0_B m c t (by omega) h]
  rfl

/-- and leaves the products of its rows with the point's tile. -/
theorem next_out (c : Dev nD) (t : Fin cfg0.N) (h : 1 ≤ t.val % 9) :
    (outsAt0 m c t.val t.isLt).1
      = product (iblk m c 3 t) (outsAt0 m c (t.val - 1) (Nat.lt_of_le_of_lt (Nat.sub_le _ _) t.isLt)).2 := by
  rw [outsAt0_B m c t (by omega) h]
  funext y
  dsimp only
  frame_out
  rw [read_unread_whole]
  obtain ⟨a, b, rfl⟩ : ∃ (a : Fin 512) (b : Fin 1536), y = ix2 a b := ⟨y 0, y 1, by idx_ext⟩
  exact pay1_at _ _ a b

end Cert.Kernel7Ideal.Gen
end
-- ==== Proof.CtxProjArray.lean ====
/-
The context's projection kernel's whole result array: every entry is a modulated row's product with a column of the weight.
All rows share the seventeenth modulation row.
-/
module
public import proofs.«01_k».proof.Proof.CtxProjBlock
public import proofs.«01_k».proof.Proof.ProjArray
public import proofs.«01_k».proof.Proof.CtxMlpArray

@[expose] public section
set_option maxRecDepth 16384
noncomputable section
namespace Cert.Kernel7Ideal.Gen
open Idealize.ShloMosaic Idealize.ShloMosaic.TcCoe Idealize.SL.Sem Cert.Mlp Cert.Pieces
open Cert.Kernel2Ideal.Gen (mod_row)
open Cert.Kernel3Ideal.Gen (cell product dotCol)
open Cert.Kernel6Ideal.Gen (context ctxModu)

/-- The modulated row that is projected. -/
def prow (X : Vec Ideal S4096x2048 .f32) (M : Vec Ideal S2x32x12288 .f32) (r : Fin 4096) : Fin 2048 → EReal :=
  modulated (ctxModu M 0 (by omega)) (ctxModu M 2048 (by omega)) (context X r)

/-- The whole result array. -/
def projOut (X : Vec Ideal S4096x2048 .f32) (M : Vec Ideal S2x32x12288 .f32) (W : Vec Ideal S2x2048x13824 .f32) :
    Vec Ideal S4096x13824 .bf16 := fun i => dotCol W (prow X M (i 0)) (i 1)

variable (m : (ℓ : Loc nD τ sig) → Buf (Elt Ideal) ℓ)

/-- The block indices of the five windows at a grid point. -/
theorem idx : ∀ t : Fin cfg0.N, win0_0.index t = ![t.val / 9, 0] ∧ win0_1.index t = ![16, 0, 0]
    ∧ win0_2.index t = ![16, 0, 1] ∧ win0_3.index t = ![0, 0, (1 + t.val % 9) % 9]
    ∧ win0_4.index t = ![t.val / 9, t.val % 9] :=
  (by decide +kernel : ∀ t : Fin grid0.N, _)

theorem lt72 (t : Fin cfg0.N) : t.val < 72 := t.isLt

theorem V0 (c : Dev nD) : (V m c main_v0 : Vec Ideal S64x1x12288 .f32) = shapeCast S64x1x12288 (V m c main_arg1 : Vec Ideal S2x32x12288 .f32) shapeCasts_S2x32x12288_S64x1x12288 := rfl
theorem V1 (c : Dev nD) (i : S2x2048x13824.Idx) : (V m c main_v1 : Vec Ideal S2x2048x13824 .bf16) i = (V m c main_arg2 : Vec Ideal S2x2048x13824 .f32) i := rfl

theorem blk0 (c : Dev nD) (t : Fin cfg0.N) (a : Fin 512) (d : Fin 2048) : (iblk m c 0 t : Vec Ideal S512x2048 .f32) (ix2 a d)
    = context (V m c main_arg0) ⟨t.val / 9 * 512 + a, by have := lt72 t; omega⟩ d := by
  blk_ext [iblk, context, idx t]
theorem blk1 (c : Dev nD) (t : Fin cfg0.N) : vec (iblk m c 1 t) = ctxModu (V m c main_arg1) 0 (by omega) := by
  funext d
  have he : (win0_1.blk t).view.emb (ix3 0 0 d) = (ix3 16 0 ⟨0 + d, by omega⟩ : S64x1x12288.Idx) := by
    blk_ext [idx t]
  exact (congrArg (V m c main_v0 : Vec Ideal S64x1x12288 .f32) he).trans ((congrFun (V0 m c) _).trans (mod_row _ 16 (by omega) _))
theorem blk2 (c : Dev nD) (t : Fin cfg0.N) : vec (iblk m c 2 t) = ctxModu (V m c main_arg1) 2048 (by omega) := by
  funext d
  have he : (win0_2.blk t).view.emb (ix3 0 0 d) = (ix3 16 0 ⟨2048 + d, by omega⟩ : S64x1x12288.Idx) := by
    blk_ext [idx t]
  exact (congrArg (V m c main_v0 : Vec Ideal S64x1x12288 .f32) he).trans ((congrFun (V0 m c) _).trans (mod_row _ 16 (by omega) _))
theorem blk3 (c : Dev nD) (t : Fin cfg0.N) (e : Fin 2048) (j : Fin 1536) : (iblk m c 3 t : Vec Ideal S1x2048x1536 .bf16) (ix3 0 e j)
    = (V m c main_arg2 : Vec Ideal S2x2048x13824 .f32) (ix3 0 e ⟨(1536 + (t.val % 9 * 1536 + j)) % 13824, by omega⟩) := by
  have he : (win0_3.blk t).view.emb (ix3 0 e j) = (ix3 0 e ⟨(1536 + (t.val % 9 * 1536 + j)) % 13824, by omega⟩ : S2x2048x13824.Idx) := by
    blk_ext [idx t]
  exact (congrArg (V m c main_v1 : Vec Ideal S2x2048x13824 .bf16) he).trans (V1 m c _)

/-- The modulated rows of row block `i`. -/
def hblock (X : Vec Ideal S4096x2048 .f32) (M : Vec Ideal S2x32x12288 .f32) (i : ℕ) (hi : i < 8) : Vec Ideal S512x2048 .bf16 := fun y =>
  have h0 : (y 0 : ℕ) < 512 := (y 0).isLt
  prow X M ⟨i * 512 + y 0, by omega⟩ (y 1)

theorem hidden_eq (c : Dev nD) (t : Fin cfg0.N) : hiddenRows (iblk m c 1 t) (iblk m c 2 t) (iblk m c 0 t)
    = hblock (V m c main_arg0) (V m c main_arg1) (t.val / 9) (by have := lt72 t; omega) := by
  funext y
  obtain ⟨a, b, rfl⟩ : ∃ (a : Fin 512) (b : Fin 2048), y = ix2 a b := ⟨y 0, y 1, by idx_ext⟩
  unfold hiddenRows
  rw [blk1 m c t, blk2 m c t]
  exact congrFun (congrArg _ (funext fun e => blk0 m c t a e)) b

/-- Every point of a row block leaves the block's modulated rows in the scratch. -/
theorem scratch_at (c : Dev nD) (i : ℕ) (hi : i < 8) : ∀ (j : ℕ) (_ : j < 9) (hn : 9 * i + j < cfg0.N),
    (outsAt0 m c (9 * i + j) hn).2 = hblock (V m c main_arg0) (V m c main_arg1) i hi
  | 0, _, hn => by
    refine (first_scratch m c ⟨9 * i, hn⟩ (by show 9 * i % 9 = 0; omega)).trans ?_
    rw [hidden_eq]
    congr 1
    show 9 * i / 9 = i
    omega
  | j + 1, hj, hn =>
    (next_scratch m c ⟨9 * i + (j + 1), hn⟩ (by show 1 ≤ (9 * i + (j + 1)) % 9; omega)).trans (scratch_at c i hi j (by omega) (by omega))

/-- Every point multiplies its row block's modulated rows. -/
theorem out_block (c : Dev nD) (t : Fin cfg0.N) : (outsAt0 m c t.val t.isLt).1
    = product (iblk m c 3 t) (hblock (V m c main_arg0) (V m c main_arg1) (t.val / 9) (by have := lt72 t; omega)) := by
  have hl := lt72 t
  rcases Nat.eq_zero_or_pos (t.val % 9) with h | h
  · rw [first_out m c t h, hidden_eq]
  · rw [next_out m c t h]
    have en : t.val - 1 = 9 * (t.val / 9) + (t.val % 9 - 1) := by omega
    have hp : (outsAt0 m c (t.val - 1) (Nat.lt_of_le_of_lt (Nat.sub_le _ _) t.isLt))
        = outsAt0 m c (9 * (t.val / 9) + (t.val % 9 - 1)) (en ▸ Nat.lt_of_le_of_lt (Nat.sub_le _ _) t.isLt) := by
      congr 1
    rw [hp, scratch_at m c (t.val / 9) (by omega) (t.val % 9 - 1) (by omega)]

/-- A point leaves its rows and columns of the result. -/
theorem out_at (c : Dev nD) (t : Fin cfg0.N) (a : Fin 512) (j : Fin 1536) :
    (outsAt0 m c t.val t.isLt).1 (ix2 a j) = projOut (V m c main_arg0) (V m c main_arg1) (V m c main_arg2)
      (ix2 ⟨t.val / 9 * 512 + a, by have := lt72 t; omega⟩ ⟨t.val % 9 * 1536 + j, by omega⟩) := by
  refine (congrFun (out_block m c t) _).trans ?_
  show cell _ _ j = dotCol _ _ _
  unfold cell dotCol
  exact Finset.sum_congr rfl fun e _ => congrArg₂ (fun A B : EReal => A * B) rfl (blk3 m c t e j)

/-- The array is `projOut` of the arguments. -/
theorem final (c : Dev nD) : (dats m 0 c).arrAt 4 cfg0.N
    = projOut (V m c main_arg0) (V m c main_arg1) (V m c main_arg2) := by
  refine (dats m 0 c).arrAt_eq_of_covers 4 _ (by decide +kernel) fun t _ y => ?_
  blk_simp
  rw [after0_4]
  obtain ⟨a, b, rfl⟩ : ∃ (a : Fin 512) (b : Fin 1536), y = ix2 a b := ⟨y 0, y 1, by idx_ext⟩
  refine (out_at m c t a b).trans (congrArg _ ?_)
  blk_ext [idx t]

end Cert.Kernel7Ideal.Gen
end
-- ==== Proof.CtxProjRef.lean ====
/-
The reference of the context's projection in parts: its result as a function of its arguments, and every part read at an index.
-/
module
public import proofs.«01_k».proof.Proof.Gen.Reference7Ideal.Run
public import proofs.«01_k».proof.Proof.CtxMlpRef
public import proofs.«01_k».proof.Proof.ProjRef

@[expose] public section
set_option maxRecDepth 16384
noncomputable section
namespace Cert.Reference7Ideal.Value
open Cert.Reference7Ideal Cert.Reference7Ideal.Gen Idealize.ShloMosaic Idealize.ShloMosaic.TcCoe Idealize.SL.Sem Idealize.ShloMosaic.StableHlo Cert.Mlp
open Cert.Reference6Ideal.Value (split modRow modArr)
open Cert.Reference3Ideal.Value (inW)

/-- The shift. -/
def shift (y : FVec Ideal S12288 .f32) : FVec Ideal S2048 .f32 :=
  extractStridedSlice S2048 ![0] y slices_S12288_S2048_0
/-- The scale. -/
def scale (y : FVec Ideal S12288 .f32) : FVec Ideal S2048 .f32 :=
  extractStridedSlice S2048 ![2048] y slices_S12288_S2048_2048
/-- The rows' products with the weight, the batches laid one after the other. -/
def projArr (h : FVec Ideal S16x256x2048 .f32) (w : FVec Ideal S2048x13824 .f32) : FVec Ideal S4096x13824 .f32 :=
  shapeCast S4096x13824 (Host.dotGeneral dot_S16x256x2048_S2048x13824_S16x256x13824_2_0_01_1_n_n none h w) shapeCasts_S16x256x13824_S4096x13824
/-- The columns from 1536 on, then the first 1536. -/
def turned (p : FVec Ideal S4096x13824 .f32) : FVec Ideal S4096x13824 .f32 :=
  concatenate S4096x13824 1 [⟨S4096x12288, extractStridedSlice S4096x12288 ![0, 1536] p slices_S4096x13824_S4096x12288_0_1536⟩,
    ⟨S4096x1536, extractStridedSlice S4096x1536 ![0, 0] p slices_S4096x13824_S4096x1536_0_0⟩] concatenates_S4096x12288_S4096x1536_S4096x13824_d1

/-- The reference's result as a function of its arguments. -/
def refOut (x : FVec Ideal S4096x2048 .f32) (M : FVec Ideal S2x32x12288 .f32) (W : FVec Ideal S2x2048x13824 .f32) :
    FVec Ideal S4096x13824 .bf16 :=
  truncf .bf16 (turned (projArr (modArr (split x) (shift (modRow M)) (scale (modRow M))) (inW W))) bitsLt_bf16_f32

theorem parts_eq (m : (ℓ : Loc nD τ sig) → Buf (Elt Ideal) ℓ) (c : Dev nD) : res_main_v40 m c
    = refOut (m ((c.tc : Thread nD τ).loc main_arg0)) (m ((c.tc : Thread nD τ).loc main_arg1)) (m ((c.tc : Thread nD τ).loc main_arg2)) := rfl

/-- The reference's run leaves `refOut` of the launch's arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (parts_eq m c), (h c).2⟩) (run (F := Ideal) m ρ)

/-! Every part at an index. -/

theorem shift_at (M : FVec Ideal S2x32x12288 .f32) (d : Fin 2048) :
    shift (modRow M) (ix1 d) = M (ix3 0 16 ⟨0 + d, by omega⟩) := by
  pointwise [shift, modRow]
theorem scale_at (M : FVec Ideal S2x32x12288 .f32) (d : Fin 2048) :
    scale (modRow M) (ix1 d) = M (ix3 0 16 ⟨2048 + d, by omega⟩) := by
  pointwise [scale, modRow]
theorem projArr_at (h : FVec Ideal S16x256x2048 .f32) (w : FVec Ideal S2048x13824 .f32) (b : Fin 16) (r : Fin 256) (j : Fin 13824) :
    (projArr h w (ix2 ⟨b * 256 + r, by omega⟩ j) : EReal) = ∑ e : Fin 2048, (h (ix3 b r e) : EReal) * w (ix2 e j) := by
  pointwise [projArr]
theorem turned_at (p : FVec Ideal S4096x13824 .f32) (r : Fin 4096) (j : Fin 13824) :
    turned p (ix2 r j) = p (ix2 r ⟨(1536 + j) % 13824, by omega⟩) := by
  have hj := j.isLt
  have h : turned p (ix2 r j) = if h : (j : ℕ) < 12288 then p (ix2 r ⟨1536 + j, by omega⟩) else p (ix2 r ⟨j - 12288, by omega⟩) := by
    pointwise [turned]
  rw [h]
  split
  · exact congrArg (fun k => p (ix2 r k)) (Fin.ext (by show 1536 + (j : ℕ) = (1536 + j) % 13824; omega))
  · exact congrArg (fun k => p (ix2 r k)) (Fin.ext (by show (j : ℕ) - 12288 = (1536 + j) % 13824; omega))

end Cert.Reference7Ideal.Value
end
-- ==== Proof.CtxProjEqual.lean ====
/-
The context's projection kernel's array is the reference's result.
-/
module
public import proofs.«01_k».proof.Proof.CtxProjArray
public import proofs.«01_k».proof.Proof.CtxProjRef
public import proofs.«01_k».proof.Proof.CtxMlpEqual

@[expose] public section
set_option maxRecDepth 16384
noncomputable section
namespace Cert.Kernel7Ideal.Gen
open Idealize.ShloMosaic Idealize.ShloMosaic.TcCoe Idealize.SL.Sem Cert.Mlp Cert.Reference7Ideal.Value
open Cert.Kernel6Ideal.Gen (context_split)
open Cert.Kernel3Ideal.Gen (dotCol)
open Cert.Reference3Ideal.Value (inW_at)
open Cert.Reference6Ideal.Value (split modRow modArr modArr_at)

/-- The two results are one array. -/
theorem arr_eq_ref (X : Vec Ideal S4096x2048 .f32) (M : Vec Ideal S2x32x12288 .f32) (W : Vec Ideal S2x2048x13824 .f32) :
    projOut X M W = refOut X M W := by
  funext i
  obtain ⟨b, r, j, rfl⟩ : ∃ (b : Fin 16) (r : Fin 256) (j : Fin 13824), i = ix2 ⟨b * 256 + r, by omega⟩ j :=
    ⟨⟨(i 0).val / 256, by have : (i 0).val < 4096 := (i 0).isLt; omega⟩, ⟨(i 0).val % 256, by omega⟩, i 1, by
      idx_ext⟩
  have hh : prow X M ⟨b * 256 + r, by omega⟩ = fun e => modArr (split X) (shift (modRow M)) (scale (modRow M)) (ix3 b r e) := by
    funext e
    rw [modArr_at]
    unfold prow
    rw [context_split]
    congr 1
    · exact funext fun d => (shift_at M d).symm
    · exact funext fun d => (scale_at M d).symm
  refine (congrArg (fun H => dotCol W H j) hh).trans ?_
  refine Eq.trans ?_ ((turned_at _ _ _).trans (projArr_at _ _ _ _ _)).symm
  unfold dotCol
  simp only [inW_at]

/-- The kernel's array after all grid points is the reference's result of the same arguments. -/
theorem result_eq (m : (ℓ : Loc nD τ sig) → Buf (Elt Ideal) ℓ) (c : Dev nD) :
    ((dats m 0 c).arrAt 4 cfg0.N : Vec Ideal S4096x13824 .bf16)
      = refOut (m ((c.tc : Thread nD τ).loc main_arg0)) (m ((c.tc : Thread nD τ).loc main_arg1)) (m ((c.tc : Thread nD τ).loc main_arg2)) := by
  refine (final m c).trans ?_
  rw [V_main_arg0, V_main_arg1, V_main_arg2]
  exact arr_eq_ref _ _ _

end Cert.Kernel7Ideal.Gen
end
-- ==== Proof.CtxOutBlock.lean ====
/-
What one grid point of the context's output projection's kernel leaves in its output block: the normalised residual of its
rows. The blocks have the shapes of the latent's output projection, and the two kernels' bodies are one.
-/
module
public import proofs.«01_k».proof.Proof.Gen.Kernel8Ideal.Frame
public import proofs.«01_k».proof.Proof.OutBlock

@[expose] public section
set_option maxRecDepth 16384
noncomputable section
namespace Cert.Kernel8Ideal.Gen
open Idealize.ShloMosaic Idealize.ShloMosaic.TcCoe Idealize.SL.Sem
open Cert.Kernel2Ideal.Gen (result)
open Cert.Kernel4Ideal.Gen (mixRows)

/-- A point's stores leave the normalised residual of its rows. -/
theorem out_eq (h : Vec Ideal S512x2048 .bf16) (w : Vec Ideal S1x2048x2048 .bf16) (x : Vec Ideal S512x2048 .f32)
    (g lg lb : Vec Ideal S1x1x2048 .f32) : out0_6 h w x g lg lb = result x (mixRows w h) g lg lb :=
  Cert.Kernel4Ideal.Gen.out_eq h w x g lg lb

end Cert.Kernel8Ideal.Gen
end
-- ==== Proof.CtxOutArray.lean ====
/-
The context's output projection kernel's whole result array: every entry is the row arithmetic of its row. All rows share the
seventeenth modulation row.
-/
module
public import proofs.«01_k».proof.Proof.CtxOutBlock
public import proofs.«01_k».proof.Proof.OutArray
public import proofs.«01_k».proof.Proof.CtxMlpArray

@[expose] public section
set_option maxRecDepth 16384
noncomputable section
namespace Cert.Kernel8Ideal.Gen
open Idealize.ShloMosaic Idealize.ShloMosaic.TcCoe Idealize.SL.Sem Cert.Mlp Cert.Pieces
open Cert.Kernel2Ideal.Gen (closed result mod_row invAlpha epsAlpha)
open Cert.Kernel4Ideal.Gen (mix mixRows ln_first)
open Cert.Kernel6Ideal.Gen (context ctxModu)

/-- Row `r` of the merged branches times column `d` of the weight. -/
def mixed (A : Vec Ideal S4096x2048 .bf16) (W : Vec Ideal S2x2048x2048 .f32) (r : Fin 4096) (d : Fin 2048) : EReal :=
  ∑ e : Fin 2048, (A (ix2 r e) : EReal) * W (ix3 0 e d)

/-- The whole result array. -/
def mixOut (A : Vec Ideal S4096x2048 .bf16) (W : Vec Ideal S2x2048x2048 .f32) (X : Vec Ideal S4096x2048 .f32)
    (M : Vec Ideal S2x32x12288 .f32) (lg lb : Vec Ideal S2x2x2048 .f32) : Vec Ideal S4096x2048 .f32 := fun i =>
  norm epsAlpha (fun d => context X (i 0) d + ctxModu M 4096 (by omega) d * invAlpha * mixed A W (i 0) d) (i 1)
    * lg (ix3 0 0 (i 1)) + lb (ix3 0 0 (i 1))

variable (m : (ℓ : Loc nD τ sig) → Buf (Elt Ideal) ℓ)

/-- The block indices of the seven windows at a grid point. -/
theorem idx : ∀ t : Fin cfg0.N, win0_0.index t = ![t.val, 0] ∧ win0_1.index t = ![0, 0, 0] ∧ win0_2.index t = ![t.val, 0]
    ∧ win0_3.index t = ![16, 0, 2] ∧ win0_4.index t = ![0, 0, 0] ∧ win0_5.index t = ![0, 0, 0] ∧ win0_6.index t = ![t.val, 0] :=
  (by decide +kernel : ∀ t : Fin grid0.N, _)

theorem lt8 (t : Fin cfg0.N) : t.val < 8 := t.isLt

theorem V3 (c : Dev nD) (i : S2x2048x2048.Idx) : (V m c main_v3 : Vec Ideal S2x2048x2048 .bf16) i = (V m c main_arg1 : Vec Ideal S2x2048x2048 .f32) i := rfl
theorem V0 (c : Dev nD) : (V m c main_v0 : Vec Ideal S64x1x12288 .f32) = shapeCast S64x1x12288 (V m c main_arg3 : Vec Ideal S2x32x12288 .f32) shapeCasts_S2x32x12288_S64x1x12288 := rfl
theorem V1 (c : Dev nD) : (V m c main_v1 : Vec Ideal S4x1x2048 .f32) = shapeCast S4x1x2048 (V m c main_arg4 : Vec Ideal S2x2x2048 .f32) shapeCasts_S2x2x2048_S4x1x2048 := rfl
theorem V2 (c : Dev nD) : (V m c main_v2 : Vec Ideal S4x1x2048 .f32) = shapeCast S4x1x2048 (V m c main_arg5 : Vec Ideal S2x2x2048 .f32) shapeCasts_S2x2x2048_S4x1x2048 := rfl

theorem blk0 (c : Dev nD) (t : Fin cfg0.N) (a : Fin 512) (e : Fin 2048) : (iblk m c 0 t : Vec Ideal S512x2048 .bf16) (ix2 a e)
    = (V m c main_arg0 : Vec Ideal S4096x2048 .bf16) (ix2 ⟨t.val * 512 + a, by have := lt8 t; omega⟩ e) := by
  blk_ext [iblk, idx t]
theorem blk1 (c : Dev nD) (t : Fin cfg0.N) (e d : Fin 2048) : (iblk m c 1 t : Vec Ideal S1x2048x2048 .bf16) (ix3 0 e d)
    = (V m c main_arg1 : Vec Ideal S2x2048x2048 .f32) (ix3 0 e d) := by
  have he : (win0_1.blk t).view.emb (ix3 0 e d) = (ix3 0 e d : S2x2048x2048.Idx) := by
    blk_ext [idx t]
  exact (congrArg (V m c main_v3 : Vec Ideal S2x2048x2048 .bf16) he).trans (V3 m c _)
theorem blk2 (c : Dev nD) (t : Fin cfg0.N) (a : Fin 512) (d : Fin 2048) : (iblk m c 2 t : Vec Ideal S512x2048 .f32) (ix2 a d)
    = context (V m c main_arg2) ⟨t.val * 512 + a, by have := lt8 t; omega⟩ d := by
  blk_ext [iblk, context, idx t]
theorem blk3 (c : Dev nD) (t : Fin cfg0.N) : vec (iblk m c 3 t) = ctxModu (V m c main_arg3) 4096 (by omega) := by
  funext d
  have he : (win0_3.blk t).view.emb (ix3 0 0 d) = (ix3 16 0 ⟨4096 + d, by omega⟩ : S64x1x12288.Idx) := by
    blk_ext [idx t]
  exact (congrArg (V m c main_v0 : Vec Ideal S64x1x12288 .f32) he).trans ((congrFun (V0 m c) _).trans (mod_row _ 16 (by omega) _))
theorem blk4 (c : Dev nD) (t : Fin cfg0.N) (d : Fin 2048) : vec (iblk m c 4 t) d = (V m c main_arg4 : Vec Ideal S2x2x2048 .f32) (ix3 0 0 d) := by
  have he : (win0_4.blk t).view.emb (ix3 0 0 d) = (ix3 0 0 d : S4x1x2048.Idx) := by
    blk_ext [idx t]
  exact (congrArg (V m c main_v1 : Vec Ideal S4x1x2048 .f32) he).trans ((congrFun (V1 m c) _).trans (ln_first _ d))
theorem blk5 (c : Dev nD) (t : Fin cfg0.N) (d : Fin 2048) : vec (iblk m c 5 t) d = (V m c main_arg5 : Vec Ideal S2x2x2048 .f32) (ix3 0 0 d) := by
  have he : (win0_5.blk t).view.emb (ix3 0 0 d) = (ix3 0 0 d : S4x1x2048.Idx) := by
    blk_ext [idx t]
  exact (congrArg (V m c main_v2 : Vec Ideal S4x1x2048 .f32) he).trans ((congrFun (V2 m c) _).trans (ln_first _ d))

/-- A block's products are the array's. -/
theorem mix_at (c : Dev nD) (t : Fin cfg0.N) (a : Fin 512) (d : Fin 2048) :
    (mixRows (iblk m c 1 t) (iblk m c 0 t) (ix2 a d) : EReal)
      = mixed (V m c main_arg0) (V m c main_arg1) ⟨t.val * 512 + a, by have := lt8 t; omega⟩ d := by
  show mix _ _ d = _
  unfold mix mixed
  exact Finset.sum_congr rfl fun e _ => congrArg₂ (fun A B : EReal => A * B) (blk0 m c t a e) (blk1 m c t e d)

/-- A point leaves its rows of the result. -/
theorem out_at (c : Dev nD) (t : Fin cfg0.N) (a : Fin 512) (d : Fin 2048) :
    result (iblk m c 2 t) (mixRows (iblk m c 1 t) (iblk m c 0 t)) (iblk m c 3 t) (iblk m c 4 t) (iblk m c 5 t) (ix2 a d)
      = mixOut (V m c main_arg0) (V m c main_arg1) (V m c main_arg2) (V m c main_arg3) (V m c main_arg4) (V m c main_arg5)
          (ix2 ⟨t.val * 512 + a, by have := lt8 t; omega⟩ d) := by
  show closed _ _ _ _ _ d = _
  unfold closed
  rw [blk3, blk4, blk5]
  refine congrArg (fun A => norm epsAlpha A d * _ + _) (funext fun e => ?_)
  exact congrArg₂ (fun A B : EReal => A + _ * B) (blk2 m c t a e) (mix_at m c t a e)

/-- The array is `mixOut` of the arguments. -/
theorem final (c : Dev nD) : (dats m 0 c).arrAt 6 cfg0.N
    = mixOut (V m c main_arg0) (V m c main_arg1) (V m c main_arg2) (V m c main_arg3) (V m c main_arg4) (V m c main_arg5) := by
  refine (dats m 0 c).arrAt_eq_of_covers 6 _ (by decide +kernel) fun t _ y => ?_
  blk_simp
  rw [after0_6, out_eq]
  obtain ⟨a, b, rfl⟩ : ∃ (a : Fin 512) (b : Fin 2048), y = ix2 a b := ⟨y 0, y 1, by idx_ext⟩
  refine (out_at m c t a b).trans (congrArg _ ?_)
  blk_ext [idx t]

end Cert.Kernel8Ideal.Gen
end
-- ==== Proof.CtxOutRef.lean ====
/-
The reference of the context's output projection in parts: its result as a function of its arguments, and every part read at an index.
-/
module
public import proofs.«01_k».proof.Proof.Gen.Reference8Ideal.Run
public import proofs.«01_k».proof.Proof.CtxMlpRef
public import proofs.«01_k».proof.Proof.OutRef

@[expose] public section
set_option maxRecDepth 16384
noncomputable section
namespace Cert.Reference8Ideal.Value
open Cert.Reference8Ideal Cert.Reference8Ideal.Gen Idealize.ShloMosaic Idealize.ShloMosaic.TcCoe Idealize.SL.Sem Idealize.ShloMosaic.StableHlo Cert.Mlp
open Cert.Reference6Ideal.Value (split split_at modRow every normArr residArr layRows)
open Cert.Reference4Ideal.Value (outW)

/-- The gate. -/
def gate (y : FVec Ideal S12288 .f32) : FVec Ideal S2048 .f32 := extractStridedSlice S2048 ![4096] y slices_S12288_S2048_4096
/-- The merged branches' rows times the weight. -/
def mixArr (h : FVec Ideal S16x256x2048 .f32) (w : FVec Ideal S2048x2048 .f32) : FVec Ideal S16x256x2048 .f32 :=
  Host.dotGeneral dot_S16x256x2048_S2048x2048_S16x256x2048_2_0_01_1_n_n none h w
/-- The first layer's first row. -/
def firstRow (g : FVec Ideal S2x2x2048 .f32) : FVec Ideal S2048 .f32 :=
  shapeCast S2048 (extractStridedSlice S1x1x2048 ![0, 0, 0] g slices_S2x2x2048_S1x1x2048_0_0_0) shapeCasts_S1x1x2048_S2048

/-- The reference's result as a function of its arguments. -/
def refOut (A : FVec Ideal S4096x2048 .bf16) (W : FVec Ideal S2x2048x2048 .f32) (x : FVec Ideal S4096x2048 .f32)
    (M : FVec Ideal S2x32x12288 .f32) (lg lb : FVec Ideal S2x2x2048 .f32) : FVec Ideal S4096x2048 .f32 :=
  layRows (addf (mulf (normArr (residArr (split x) (gate (modRow M))
    (mixArr (split (extf .f32 A bitsLt_bf16_f32)) (outW W)))) (every (firstRow lg))) (every (firstRow lb)))

theorem parts_eq (m : (ℓ : Loc nD τ sig) → Buf (Elt Ideal) ℓ) (c : Dev nD) : res_main_v48 m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

/-- The reference's run leaves `refOut` of the launch's arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48)
        = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans (parts_eq m c), (h c).2⟩) (run (F := Ideal) m ρ)

/-! Every part at an index. -/

theorem gate_at (M : FVec Ideal S2x32x12288 .f32) (d : Fin 2048) :
    gate (modRow M) (ix1 d) = M (ix3 0 16 ⟨4096 + d, by omega⟩) := by
  pointwise [gate, modRow]
theorem mixArr_at (A : FVec Ideal S4096x2048 .bf16) (w : FVec Ideal S2048x2048 .f32) (b : Fin 16) (r : Fin 256) (d : Fin 2048) :
    (mixArr (split (extf .f32 A bitsLt_bf16_f32)) w (ix3 b r d) : EReal)
      = ∑ e : Fin 2048, (A (ix2 ⟨b * 256 + r, by omega⟩ e) : EReal) * w (ix2 e d) := by
  have h : (mixArr (split (extf .f32 A bitsLt_bf16_f32)) w (ix3 b r d) : EReal)
      = ∑ e : Fin 2048, (split (extf .f32 A bitsLt_bf16_f32) (ix3 b r e) : EReal) * w (ix2 e d) := by
    pointwise [mixArr]
  rw [h]
  exact Finset.sum_congr rfl fun e _ => congrArg (fun z : EReal => z * w (ix2 e d)) (split_at _ b r e)
theorem firstRow_at (g : FVec Ideal S2x2x2048 .f32) (d : Fin 2048) : firstRow g (ix1 d) = g (ix3 0 0 d) := by
  pointwise [firstRow]

end Cert.Reference8Ideal.Value
end
-- ==== Proof.CtxOutEqual.lean ====
/-
The context's output projection kernel's array is the reference's result.
-/
module
public import proofs.«01_k».proof.Proof.CtxOutArray
public import proofs.«01_k».proof.Proof.CtxOutRef
public import proofs.«01_k».proof.Proof.CtxMlpEqual

@[expose] public section
set_option maxRecDepth 16384
noncomputable section
namespace Cert.Kernel8Ideal.Gen
open Idealize.ShloMosaic Idealize.ShloMosaic.TcCoe Idealize.SL.Sem Cert.Mlp Cert.Reference8Ideal.Value
open Cert.Kernel2Ideal.Gen (word_alpha epsAlpha_eq invAlpha_eq)
open Cert.Kernel6Ideal.Gen (context_split)
open Cert.Reference4Ideal.Value (outW_at)
open Cert.Reference6Ideal.Value (every every_at normArr normArr_at residArr_at layRows_at)

/-- The two results are one array. -/
theorem arr_eq_ref (A : Vec Ideal S4096x2048 .bf16) (W : Vec Ideal S2x2048x2048 .f32) (X : Vec Ideal S4096x2048 .f32)
    (M : Vec Ideal S2x32x12288 .f32) (lg lb : Vec Ideal S2x2x2048 .f32) : mixOut A W X M lg lb = refOut A W X M lg lb := by
  funext i
  obtain ⟨b, r, d, rfl⟩ : ∃ (b : Fin 16) (r : Fin 256) (d : Fin 2048), i = ix2 ⟨b * 256 + r, by omega⟩ d :=
    ⟨⟨(i 0).val / 256, by have : (i 0).val < 4096 := (i 0).isLt; omega⟩, ⟨(i 0).val % 256, by omega⟩, i 1, by
      idx_ext⟩
  unfold refOut
  rw [layRows_at]
  show _ = (normArr _ (ix3 b r d) : EReal) * every (firstRow lg) (ix3 b r d) + every (firstRow lb) (ix3 b r d)
  rw [normArr_at, every_at, every_at, firstRow_at, firstRow_at]
  refine congrArg (fun A : EReal => A * _ + _) ?_
  refine (congrFun (scaled_norm (by norm_num) epsAlpha_eq invAlpha_eq _ _ _) d).trans ?_
  refine congrFun (congrArg (norm _) (funext fun e => ?_)) d
  rw [residArr_at, word_alpha, gate_at, mixArr_at]
  refine congrArg₂ (fun A B : EReal => (11863283 / 8388608 : ℝ) * A + B) (congrFun (context_split X b r) e)
    (congrArg₂ (fun A B : EReal => A * B) rfl ?_)
  simp only [outW_at]
  rfl

/-- The kernel's array after all grid points is the reference's result of the same arguments. -/
theorem result_eq (m : (ℓ : Loc nD τ sig) → Buf (Elt Ideal) ℓ) (c : Dev nD) :
    ((dats m 0 c).arrAt 6 cfg0.N : Vec Ideal S4096x2048 .f32)
      = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (final m c).trans ?_
  rw [V_main_arg0, V_main_arg1, V_main_arg2, V_main_arg3, V_main_arg4, V_main_arg5]
  exact arr_eq_ref _ _ _ _ _ _

end Cert.Kernel8Ideal.Gen
end
-- ==== Proof.CtxMergeBlock.lean ====
/-
What one grid point of the context's merge kernel leaves in its output block: the convolution branch of its rows, and the three
branches' gated products. The blocks have the shapes of the latent's merge, and the two kernels' bodies differ in the length of a
batch alone.
-/
module
public import proofs.«01_k».proof.Proof.Gen.Kernel9Ideal.Frame
public import proofs.«01_k».proof.Proof.MergeBlock

@[expose] public section
set_option maxRecDepth 16384
noncomputable section
namespace Cert.Kernel9Ideal.Gen
open Idealize.ShloMosaic Idealize.ShloMosaic.TcCoe Idealize.SL.Sem Cert.Pieces
open Cert.Kernel5Ideal.Gen (stored mergedRows merged_piece store0_at store1_at store2_at store3_at store4_at store5_at store6_at store7_at)

variable (m : (ℓ : Loc nD τ sig) → Buf (Elt Ideal) ℓ)

/-- A point's stores leave the merged branches of its rows. -/
theorem out_eq (c : Dev nD) (t : Fin cfg0.N) : outsAt0 m c t = mergedRows (iblk m c 0 t) (iblk m c 1 t)
    (stored (k0_pay3 (grid0.coords t)) (k0_pay4 (grid0.coords t)) (X0_2 m c t) (X0_3 m c t) (X0_4 m c t) (iblk m c 5 t)) (X0_6 m c t) (iblk m c 7 t) := by
  funext y
  unfold outsAt0
  frame_out
  refine canon_of_piecesOf _ ⟨?_, ?_, ?_, ?_, ?_, ?_, ?_, ?_, trivial⟩ (View.cover_of_tiledL (s := S512x2048) _ S512x256.size (by sl_kernel_rfl) y)
  · refine fun z => merged_piece _ _ _ _ _ 1792 3840 5888 rfl rfl inb_S512x2048_S512x256_0_1792 _ _ _ _ _ _ _
      (fun a b => store7_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 1536 3584 5632 rfl rfl inb_S512x2048_S512x256_0_1536 _ _ _ _ _ _ _
      (fun a b => store6_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 1280 3328 5376 rfl rfl inb_S512x2048_S512x256_0_1280 _ _ _ _ _ _ _
      (fun a b => store5_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 1024 3072 5120 rfl rfl inb_S512x2048_S512x256_0_1024 _ _ _ _ _ _ _
      (fun a b => store4_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 768 2816 4864 rfl rfl inb_S512x2048_S512x256_0_768 _ _ _ _ _ _ _
      (fun a b => store3_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 512 2560 4608 rfl rfl inb_S512x2048_S512x256_0_512 _ _ _ _ _ _ _
      (fun a b => store2_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 256 2304 4352 rfl rfl inb_S512x2048_S512x256_0_256 _ _ _ _ _ _ _
      (fun a b => store1_at _ _ (stored (k0_pay3 (grid0.coords t)) (k0_pay4 (grid0.coords t)) (X0_2 m c t) (X0_3 m c t) (X0_4 m c t) (iblk m c 5 t)) _ _ _ _ _ _ a b) z
  · refine fun z => merged_piece _ _ _ _ _ 0 2048 4096 rfl rfl inb_S512x2048_S512x256_0_0 _ _ _ _ _ _ _
      (fun a b => store0_at _ _ (stored (k0_pay3 (grid0.coords t)) (k0_pay4 (grid0.coords t)) (X0_2 m c t) (X0_3 m c t) (X0_4 m c t) (iblk m c 5 t)) _ _ _ _ _ _ a b) z

end Cert.Kernel9Ideal.Gen
end
-- ==== Proof.CtxMergeArray.lean ====
/-
The context's merge kernel's whole result array: the convolution branch of every row from its two neighbours in its batch, and the three
gated products.
-/
module
public import proofs.«01_k».proof.Proof.CtxMergeBlock
public import proofs.«01_k».proof.Proof.MergeArray

@[expose] public section
set_option maxRecDepth 16384
noncomputable section
namespace Cert.Kernel9Ideal.Gen
open Idealize.ShloMosaic Idealize.ShloMosaic.TcCoe Idealize.SL.Sem Cert.Pieces
open Cert.Kernel5Ideal.Gen (tapped convRows stored stored_at mergedRows)

/-- What the convolution reads of a row: the product of its two column groups. -/
def pairAt (Z : Vec Ideal S4096x13824 .bf16) (r : Fin 4096) (d : Fin 1024) : EReal :=
  Z (ix2 r ⟨4096 + d, by omega⟩) * Z (ix2 r ⟨5120 + d, by omega⟩)

/-- The convolution branch at a row: its gate times the three taps, the batch's ends taken as zero. -/
def convAt (Z : Vec Ideal S4096x13824 .bf16) (W : Vec Ideal S2x3x1024 .f32) (r : Fin 4096) (d : Fin 1024) : EReal :=
  Z (ix2 r ⟨3072 + d, by omega⟩) *
    (W (ix3 0 0 d) * (if (r : ℕ) % 256 = 0 then 0 else pairAt Z ⟨r - 1, by omega⟩ d)
      + W (ix3 0 1 d) * pairAt Z r d
      + W (ix3 0 2 d) * (if h : (r : ℕ) % 256 = 255 then 0 else pairAt Z ⟨r + 1, by omega⟩ d))

/-- The whole result array. -/
def mergedOut (A0 A1 : Vec Ideal S4096x1024 .bf16) (Z : Vec Ideal S4096x13824 .bf16) (W : Vec Ideal S2x3x1024 .f32)
    (B : Vec Ideal S2x3x1024x2048 .f32) : Vec Ideal S4096x2048 .bf16 := fun i =>
  Ideal.logistic (Z (ix2 (i 0) ⟨6144 + i 1, Nat.add_lt_add_left (i 1).isLt 6144 |>.trans (by decide)⟩))
      * (∑ e : Fin 1024, (A0 (ix2 (i 0) e) : EReal) * B (ix4 0 0 e (i 1)))
    + Ideal.logistic (Z (ix2 (i 0) ⟨8192 + i 1, Nat.add_lt_add_left (i 1).isLt 8192 |>.trans (by decide)⟩))
      * (∑ e : Fin 1024, (A1 (ix2 (i 0) e) : EReal) * B (ix4 0 1 e (i 1)))
    + Ideal.logistic (Z (ix2 (i 0) ⟨10240 + i 1, Nat.add_lt_add_left (i 1).isLt 10240 |>.trans (by decide)⟩))
      * (∑ e : Fin 1024, convAt Z W (i 0) e * B (ix4 0 2 e (i 1)))

/-! The rows at which a batch starts or ends. -/

theorem position (n a : ℕ) (hn : n < 8) (ha : a < 512) :
    IntOp.andi (IntOp.addi (Scalar.muli (BitVec.ofNat 32 n) 512#32) (BitVec.ofNat 32 a)) 255#32 = BitVec.ofNat 32 ((n * 512 + a) % 256) := by
  apply BitVec.eq_of_toNat_eq
  show ((BitVec.ofNat 32 n * 512#32 + BitVec.ofNat 32 a) &&& 255#32).toNat = _
  rw [BitVec.toNat_and]
  show _ &&& (2 ^ 8 - 1) = _
  rw [Nat.and_two_pow_sub_one_eq_mod]
  simp [BitVec.toNat_add, BitVec.toNat_mul]
  omega
theorem position_at (i : grid0.Coords) (a : Fin 512) : k0_pay2 i (ix2 a 0) = BitVec.ofNat 32 (((i 0 : ℕ) * 512 + a) % 256) := by
  refine Eq.trans ?_ (position (i 0) a (i 0).isLt a.isLt)
  pointwise [k0_pay2]
theorem start_at (i : grid0.Coords) (a : Fin 512) : k0_pay3 i (ix2 a 0) = BitVec.ofBool (decide (((i 0 : ℕ) * 512 + a) % 256 = 0)) := by
  show IntOp.cmpi .eq (k0_pay2 i (ix2 a 0)) (BitVec.ofNat 32 0) = _
  rw [position_at, WordCmp.cmpi_eq_ofNat (by omega) (by omega)]
theorem end_at (i : grid0.Coords) (a : Fin 512) : k0_pay4 i (ix2 a 0) = BitVec.ofBool (decide (((i 0 : ℕ) * 512 + a) % 256 = 255)) := by
  show IntOp.cmpi .eq (k0_pay2 i (ix2 a 0)) (BitVec.ofNat 32 255) = _
  rw [position_at, WordCmp.cmpi_eq_ofNat (by omega) (by omega)]

variable (m : (ℓ : Loc nD τ sig) → Buf (Elt Ideal) ℓ)

/-- The block indices of the windows at a grid point. -/
theorem idx : ∀ t : Fin cfg0.N, win0_0.index t = ![t.val, 0] ∧ win0_1.index t = ![t.val, 0] ∧ win0_2.index t = ![t.val, 1]
    ∧ win0_3.index t = ![t.val * 64 - 1, 1] ∧ win0_4.index t = ![min ((t.val + 1) * 64) 511, 1] ∧ win0_5.index t = ![0, 0, 0]
    ∧ win0_6.index t = ![t.val, 1] ∧ win0_7.index t = ![0, 0, 0, 0] ∧ win0_8.index t = ![t.val, 0] :=
  (by decide +kernel : ∀ t : Fin grid0.N, _)
theorem coord : ∀ t : Fin cfg0.N, (grid0.coords t 0 : ℕ) = t.val := (by decide +kernel : ∀ t : Fin grid0.N, _)

theorem lt8 (t : Fin cfg0.N) : t.val < 8 := t.isLt

theorem V0 (c : Dev nD) (i : S2x3x1024x2048.Idx) : (V m c main_v0 : Vec Ideal S2x3x1024x2048 .bf16) i = (V m c main_arg4 : Vec Ideal S2x3x1024x2048 .f32) i := rfl

theorem blk0 (c : Dev nD) (t : Fin cfg0.N) (a : Fin 512) (e : Fin 1024) : (iblk m c 0 t : Vec Ideal S512x1024 .bf16) (ix2 a e)
    = (V m c main_arg0 : Vec Ideal S4096x1024 .bf16) (ix2 ⟨t.val * 512 + a, by have := lt8 t; omega⟩ e) := by
  blk_ext [iblk, idx t]
theorem blk1 (c : Dev nD) (t : Fin cfg0.N) (a : Fin 512) (e : Fin 1024) : (iblk m c 1 t : Vec Ideal S512x1024 .bf16) (ix2 a e)
    = (V m c main_arg1 : Vec Ideal S4096x1024 .bf16) (ix2 ⟨t.val * 512 + a, by have := lt8 t; omega⟩ e) := by
  blk_ext [iblk, idx t]
theorem blk5 (c : Dev nD) (t : Fin cfg0.N) (k : Fin 3) (d : Fin 1024) : (iblk m c 5 t : Vec Ideal S1x3x1024 .f32) (ix3 0 k d)
    = (V m c main_arg3 : Vec Ideal S2x3x1024 .f32) (ix3 0 k d) := by
  blk_ext [iblk, idx t]
theorem blk7 (c : Dev nD) (t : Fin cfg0.N) (k : Fin 3) (e : Fin 1024) (d : Fin 2048) : (iblk m c 7 t : Vec Ideal S1x3x1024x2048 .bf16) (ix4 0 k e d)
    = (V m c main_arg4 : Vec Ideal S2x3x1024x2048 .f32) (ix4 0 k e d) := by
  have he : (win0_7.blk t).view.emb (ix4 0 k e d) = (ix4 0 k e d : S2x3x1024x2048.Idx) := by
    blk_ext [idx t]
  exact (congrArg (V m c main_v0 : Vec Ideal S2x3x1024x2048 .bf16) he).trans (V0 m c _)
theorem buf2 (c : Dev nD) (t : Fin cfg0.N) (a : Fin 512) (d : Fin 3072) : (X0_2 m c t : Vec Ideal S512x3072 .bf16) (ix2 a d)
    = (V m c main_arg2 : Vec Ideal S4096x13824 .bf16) (ix2 ⟨t.val * 512 + a, by have := lt8 t; omega⟩ ⟨3072 + d, by omega⟩) := by
  refine (dif_pos (moved0_2 t _)).trans ?_
  blk_ext [iblk, idx t]
theorem buf3 (c : Dev nD) (t : Fin cfg0.N) (d : Fin 3072) : (X0_3 m c t : Vec Ideal S8x3072 .bf16) (ix2 7 d)
    = (V m c main_arg2 : Vec Ideal S4096x13824 .bf16) (ix2 ⟨(t.val * 64 - 1) * 8 + 7, by have := lt8 t; omega⟩ ⟨3072 + d, by omega⟩) := by
  refine (dif_pos (moved0_3 t _)).trans ?_
  blk_ext [iblk, idx t]
theorem buf4 (c : Dev nD) (t : Fin cfg0.N) (d : Fin 3072) : (X0_4 m c t : Vec Ideal S8x3072 .bf16) (ix2 0 d)
    = (V m c main_arg2 : Vec Ideal S4096x13824 .bf16) (ix2 ⟨min ((t.val + 1) * 64) 511 * 8, by have := lt8 t; omega⟩ ⟨3072 + d, by omega⟩) := by
  refine (dif_pos (moved0_4 t _)).trans ?_
  blk_ext [iblk, idx t]
theorem buf6 (c : Dev nD) (t : Fin cfg0.N) (a : Fin 512) (d : Fin 6144) : (X0_6 m c t : Vec Ideal S512x6144 .bf16) (ix2 a d)
    = (V m c main_arg2 : Vec Ideal S4096x13824 .bf16) (ix2 ⟨t.val * 512 + a, by have := lt8 t; omega⟩ ⟨6144 + d, by omega⟩) := by
  refine (dif_pos (moved0_6 t _)).trans ?_
  blk_ext [iblk, idx t]

theorem pair_eq (Z : Vec Ideal S4096x13824 .bf16) (r r' : Fin 4096) (x y : Fin 13824) (d : Fin 1024) (hr : (r : ℕ) = r')
    (hx : (x : ℕ) = 4096 + d) (hy : (y : ℕ) = 5120 + d) : (Z (ix2 r x) * Z (ix2 r y) : EReal) = pairAt Z r' d := by
  obtain rfl : r = r' := Fin.ext hr
  exact congrArg₂ (fun x y => (Z (ix2 r x) * Z (ix2 r y) : EReal)) (Fin.ext hx) (Fin.ext hy)

/-- A block's convolution branch is the array's. -/
theorem branch_at (c : Dev nD) (t : Fin cfg0.N) (a : Fin 512) (d : Fin 1024) :
    convRows (k0_pay3 (grid0.coords t)) (k0_pay4 (grid0.coords t)) (X0_2 m c t) (X0_3 m c t) (X0_4 m c t) (iblk m c 5 t) a d
      = convAt (V m c main_arg2) (V m c main_arg3) ⟨t.val * 512 + a, by have := lt8 t; omega⟩ d := by
  have ht := lt8 t
  have hc : ∀ k : ℕ, k < 512 → IntOp.cmpi .eq (BitVec.ofNat 32 a) (BitVec.ofNat 32 k) = BitVec.ofBool (decide ((a : ℕ) = k)) := fun k hk =>
    WordCmp.cmpi_eq_ofNat (by omega) (by omega)
  unfold convRows tapped convAt
  rw [start_at, end_at, coord, hc 0 (by decide), hc 511 (by decide)]
  simp only [WordCmp.select_decide, buf2, buf3, buf4, blk5]
  refine congrArg₂ (fun A B : EReal => A * B) rfl (congrArg₂ (fun A B : EReal => A + B) (congrArg₂ (fun A B : EReal => A + B) ?_ ?_) ?_)
  · by_cases h : (t.val * 512 + (a : ℕ)) % 256 = 0
    · rw [if_pos h, if_pos h, mul_zero]
    · rw [if_neg h, if_neg h]
      refine congrArg (fun A : EReal => _ * A) ?_
      split <;> exact pair_eq _ _ _ _ _ _ (by simp only; omega) (by simp only; omega) (by simp only; omega)
  · exact congrArg (fun A : EReal => _ * A) (pair_eq _ _ _ _ _ _ rfl (by simp only; omega) (by simp only; omega))
  · by_cases h : (t.val * 512 + (a : ℕ)) % 256 = 255
    · rw [if_pos h, dif_pos h, mul_zero]
    · rw [if_neg h, dif_neg h]
      refine congrArg (fun A : EReal => _ * A) ?_
      split <;> exact pair_eq _ _ _ _ _ _ (by simp only; omega) (by simp only; omega) (by simp only; omega)

/-- A point leaves its rows of the result. -/
theorem out_at (c : Dev nD) (t : Fin cfg0.N) (a : Fin 512) (d : Fin 2048) :
    mergedRows (iblk m c 0 t) (iblk m c 1 t) (stored (k0_pay3 (grid0.coords t)) (k0_pay4 (grid0.coords t)) (X0_2 m c t) (X0_3 m c t) (X0_4 m c t) (iblk m c 5 t)) (X0_6 m c t) (iblk m c 7 t)
        (ix2 a d)
      = mergedOut (V m c main_arg0) (V m c main_arg1) (V m c main_arg2) (V m c main_arg3) (V m c main_arg4)
          (ix2 ⟨t.val * 512 + a, by have := lt8 t; omega⟩ d) := by
  have g : ∀ (x : Fin 6144) (y : Fin 13824), (y : ℕ) = 6144 + x → (X0_6 m c t : Vec Ideal S512x6144 .bf16) (ix2 a x)
      = (V m c main_arg2 : Vec Ideal S4096x13824 .bf16) (ix2 ⟨t.val * 512 + a, by have := lt8 t; omega⟩ y) := fun x y h =>
    (buf6 m c t a x).trans (congrArg (fun y => (V m c main_arg2 : Vec Ideal S4096x13824 .bf16) (ix2 _ y)) (Fin.ext h.symm))
  refine congrArg₂ (fun A B : EReal => A + B) (congrArg₂ (fun A B : EReal => A + B) ?_ ?_) ?_
  · exact congrArg₂ (fun A B : EReal => Ideal.logistic A * B) (g _ _ rfl)
      (Finset.sum_congr rfl fun e _ => congrArg₂ (fun A B : EReal => A * B) (blk0 m c t a e) (blk7 m c t 0 e d))
  · exact congrArg₂ (fun A B : EReal => Ideal.logistic A * B) (g _ _ (by show 8192 + d.val = 6144 + (2048 + d.val); omega))
      (Finset.sum_congr rfl fun e _ => congrArg₂ (fun A B : EReal => A * B) (blk1 m c t a e) (blk7 m c t 1 e d))
  · exact congrArg₂ (fun A B : EReal => Ideal.logistic A * B) (g _ _ (by show 10240 + d.val = 6144 + (4096 + d.val); omega))
      (Finset.sum_congr rfl fun e _ => congrArg₂ (fun A B : EReal => A * B) ((stored_at _ _ _ _ _ _ a e).trans (branch_at m c t a e)) (blk7 m c t 2 e d))

/-- The array is `mergedOut` of the arguments. -/
theorem final (c : Dev nD) : (dats m 0 c).arrAt 8 cfg0.N
    = mergedOut (V m c main_arg0) (V m c main_arg1) (V m c main_arg2) (V m c main_arg3) (V m c main_arg4) := by
  refine (dats m 0 c).arrAt_eq_of_covers 8 _ (by decide +kernel) fun t _ y => ?_
  blk_simp
  rw [after0_8, out_eq]
  obtain ⟨a, b, rfl⟩ : ∃ (a : Fin 512) (b : Fin 2048), y = ix2 a b := ⟨y 0, y 1, by idx_ext⟩
  refine (out_at m c t a b).trans (congrArg _ ?_)
  blk_ext [idx t]

end Cert.Kernel9Ideal.Gen
end
-- ==== Proof.CtxMergeRef.lean ====
/-
The reference of the context's merge in parts: its result as a function of its arguments, and every part read at an index.
-/
module
public import proofs.«01_k».proof.Proof.Gen.Reference9Ideal.Run
public import proofs.«01_k».proof.Proof.CtxMlpRef
public import proofs.«01_k».proof.Proof.MergeRef

@[expose] public section
set_option maxRecDepth 16384
noncomputable section
namespace Cert.Reference9Ideal.Value
open Cert.Reference9Ideal Cert.Reference9Ideal.Gen Idealize.ShloMosaic Idealize.ShloMosaic.TcCoe Idealize.SL.Sem Idealize.ShloMosaic.StableHlo
open Cert.Reference6Ideal.Value (layRows)
open Cert.Reference5Ideal.Value (taps weights)

/-- The projection in the reference's column order, by batch. -/
def unrolled (Z : FVec Ideal S4096x13824 .bf16) : FVec Ideal S16x256x13824 .f32 :=
  shapeCast S16x256x13824 (concatenate S4096x13824 1
    [⟨S4096x1536, extractStridedSlice S4096x1536 ![0, 12288] (extf .f32 Z bitsLt_bf16_f32) slices_S4096x13824_S4096x1536_0_12288⟩,
     ⟨S4096x12288, extractStridedSlice S4096x12288 ![0, 0] (extf .f32 Z bitsLt_bf16_f32) slices_S4096x13824_S4096x12288_0_0⟩]
    concatenates_S4096x1536_S4096x12288_S4096x13824_d1) shapeCasts_S4096x13824_S16x256x13824
/-- An attention's heads, by batch. -/
def heads (A : FVec Ideal S4096x1024 .bf16) : FVec Ideal S16x256x1024 .f32 :=
  shapeCast S16x256x1024 (extf .f32 A bitsLt_bf16_f32) shapeCasts_S4096x1024_S16x256x1024
/-- What the convolution reads, with a zero row at either end of every batch. -/
def padded (z : FVec Ideal S16x256x13824 .f32) : FVec Ideal S16x258x1024 .f32 :=
  pad S16x258x1024 ![0, 1, 0] ![0, 1, 0] ![0, 0, 0]
    (mulf (extractStridedSlice S16x256x1024 ![0, 0, 5632] z slices_S16x256x13824_S16x256x1024_0_0_5632)
      (extractStridedSlice S16x256x1024 ![0, 0, 6656] z slices_S16x256x13824_S16x256x1024_0_0_6656))
    (sitofp .f32 (constantI S_ 32 0#32)) pads_S16x256x1024_S16x258x1024_000_110_000 h_S_
/-- A tap, in every row. -/
def tapRow (w : FVec Ideal S1x1024 .f32) : FVec Ideal S16x256x1024 .f32 :=
  broadcastInDim S16x256x1024 ![0, 1, 2] bcast_S1x1x1024_S16x256x1024_0_1_2 (broadcastInDim S1x1x1024 ![2] bcast_S1024_S1x1x1024_2 (shapeCast S1024 w shapeCasts_S1x1024_S1024))
/-- The convolution branch. -/
def branch (z : FVec Ideal S16x256x13824 .f32) (u : FVec Ideal S16x258x1024 .f32) (w : FVec Ideal S3x1024 .f32) : FVec Ideal S16x256x1024 .f32 :=
  mulf (extractStridedSlice S16x256x1024 ![0, 0, 4608] z slices_S16x256x13824_S16x256x1024_0_0_4608)
    (addf (addf (mulf (tapRow (extractStridedSlice S1x1024 ![0, 0] w slices_S3x1024_S1x1024_0_0)) (extractStridedSlice S16x256x1024 ![0, 0, 0] u slices_S16x258x1024_S16x256x1024_0_0_0))
      (mulf (tapRow (extractStridedSlice S1x1024 ![1, 0] w slices_S3x1024_S1x1024_1_0)) (extractStridedSlice S16x256x1024 ![0, 1, 0] u slices_S16x258x1024_S16x256x1024_0_1_0)))
      (mulf (tapRow (extractStridedSlice S1x1024 ![2, 0] w slices_S3x1024_S1x1024_2_0)) (extractStridedSlice S16x256x1024 ![0, 2, 0] u slices_S16x258x1024_S16x256x1024_0_2_0)))
/-- The gates. -/
def gates (z : FVec Ideal S16x256x13824 .f32) : FVec Ideal S16x256x6144 .f32 :=
  Host.divf (broadcastInDim S16x256x6144 ![] bcast_S_S16x256x6144 (constant S_ .f32 0x3F800000#32))
    (addf (broadcastInDim S16x256x6144 ![] bcast_S_S16x256x6144 (constant S_ .f32 0x3F800000#32))
      (Host.exp (Host.negf (extractStridedSlice S16x256x6144 ![0, 0, 7680] z slices_S16x256x13824_S16x256x6144_0_0_7680))))
/-- A branch's rows times its weight. -/
def times (a : FVec Ideal S16x256x1024 .f32) (b : FVec Ideal S1x1024x2048 .f32) : FVec Ideal S16x256x2048 .f32 :=
  Host.dotGeneral dot_S16x256x1024_S1024x2048_S16x256x2048_2_0_01_1_n_n none a (shapeCast S1024x2048 b shapeCasts_S1x1024x2048_S1024x2048)
/-- The three gated products. -/
def sumArr (g : FVec Ideal S16x256x6144 .f32) (a0 a1 a2 : FVec Ideal S16x256x1024 .f32) (b : FVec Ideal S3x1024x2048 .f32) : FVec Ideal S16x256x2048 .f32 :=
  addf (addf
    (mulf (extractStridedSlice S16x256x2048 ![0, 0, 0] g slices_S16x256x6144_S16x256x2048_0_0_0) (times a0 (extractStridedSlice S1x1024x2048 ![0, 0, 0] b slices_S3x1024x2048_S1x1024x2048_0_0_0)))
    (mulf (extractStridedSlice S16x256x2048 ![0, 0, 2048] g slices_S16x256x6144_S16x256x2048_0_0_2048) (times a1 (extractStridedSlice S1x1024x2048 ![1, 0, 0] b slices_S3x1024x2048_S1x1024x2048_1_0_0))))
    (mulf (extractStridedSlice S16x256x2048 ![0, 0, 4096] g slices_S16x256x6144_S16x256x2048_0_0_4096) (times a2 (extractStridedSlice S1x1024x2048 ![2, 0, 0] b slices_S3x1024x2048_S1x1024x2048_2_0_0)))

/-- The reference's result as a function of its arguments. -/
def refOut (A0 A1 : FVec Ideal S4096x1024 .bf16) (Z : FVec Ideal S4096x13824 .bf16) (W : FVec Ideal S2x3x1024 .f32)
    (B : FVec Ideal S2x3x1024x2048 .f32) : FVec Ideal S4096x2048 .bf16 :=
  truncf .bf16 (layRows (sumArr (gates (unrolled Z)) (heads A0) (heads A1) (branch (unrolled Z) (padded (unrolled Z)) (taps W)) (weights B))) bitsLt_bf16_f32

theorem parts_eq (m : (ℓ : Loc nD τ sig) → Buf (Elt Ideal) ℓ) (c : Dev nD) : res_main_v62 m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-- The reference's run leaves `refOut` of the launch's arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62)
        = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (parts_eq m c), (h c).2⟩) (run (F := Ideal) m ρ)

/-! Every part at an index. -/

/-- The columns after the first 1536 are the projection's from its first on. -/
theorem unrolled_at (Z : FVec Ideal S4096x13824 .bf16) (b : Fin 16) (r : Fin 256) (d : Fin 13824) (h : 1536 ≤ (d : ℕ)) :
    (unrolled Z (ix3 b r d) : EReal) = Z (ix2 ⟨b * 256 + r, by omega⟩ ⟨d - 1536, by omega⟩) := by
  have e : (unrolled Z (ix3 b r d) : EReal) = if hd : (d : ℕ) < 1536 then Z (ix2 ⟨b * 256 + r, by omega⟩ ⟨12288 + d, by omega⟩)
      else Z (ix2 ⟨b * 256 + r, by omega⟩ ⟨d - 1536, by omega⟩) := by
    pointwise [unrolled]
  rw [e, dif_neg (by omega)]
theorem heads_at (A : FVec Ideal S4096x1024 .bf16) (b : Fin 16) (r : Fin 256) (e : Fin 1024) :
    (heads A (ix3 b r e) : EReal) = A (ix2 ⟨b * 256 + r, by omega⟩ e) := by
  pointwise [heads]
theorem padded_at (z : FVec Ideal S16x256x13824 .f32) (b : Fin 16) (r : Fin 258) (d : Fin 1024) :
    (padded z (ix3 b r d) : EReal) = if h : 1 ≤ (r : ℕ) ∧ (r : ℕ) - 1 < 256 then
      z (ix3 b ⟨r - 1, h.2⟩ ⟨5632 + d, by omega⟩) * z (ix3 b ⟨r - 1, h.2⟩ ⟨6656 + d, by omega⟩) else 0 := by
  have e : (padded z (ix3 b r d) : EReal) = if h : 1 ≤ (r : ℕ) ∧ (r : ℕ) - 1 < 256 then
      z (ix3 b ⟨r - 1, h.2⟩ ⟨5632 + d, by omega⟩) * z (ix3 b ⟨r - 1, h.2⟩ ⟨6656 + d, by omega⟩) else (FloatOps.sitofp FTy.f32 0#32 : Ideal .f32) := by
    pointwise [padded]
  have e0 : (FloatOps.sitofp FTy.f32 0#32 : Ideal .f32) = (0 : EReal) := by
    show (((0#32).toInt : ℝ) : EReal) = 0
    simp
  rw [e, e0]
theorem tapRow_at (w : FVec Ideal S1x1024 .f32) (b : Fin 16) (r : Fin 256) (d : Fin 1024) : tapRow w (ix3 b r d) = w (ix2 0 d) := by
  pointwise [tapRow]
theorem branch_at (z : FVec Ideal S16x256x13824 .f32) (u : FVec Ideal S16x258x1024 .f32) (w : FVec Ideal S3x1024 .f32) (b : Fin 16) (r : Fin 256)
    (d : Fin 1024) : (branch z u w (ix3 b r d) : EReal) = z (ix3 b r ⟨4608 + d, by omega⟩) *
      (w (ix2 0 d) * u (ix3 b ⟨r, by omega⟩ d) + w (ix2 1 d) * u (ix3 b ⟨1 + r, by omega⟩ d) + w (ix2 2 d) * u (ix3 b ⟨2 + r, by omega⟩ d)) := by
  pointwise [branch, tapRow]
theorem gates_at (z : FVec Ideal S16x256x13824 .f32) (b : Fin 16) (r : Fin 256) (d : Fin 6144) :
    gates z (ix3 b r d) = Ideal.logistic (z (ix3 b r ⟨7680 + d, by omega⟩)) := by
  have h : (gates z (ix3 b r d) : EReal) = Ideal.div 1 (1 + Ideal.exp (-(z (ix3 b r ⟨7680 + d, by omega⟩)))) := by
    pointwise [gates]
  exact h
theorem sumArr_at (g : FVec Ideal S16x256x6144 .f32) (a0 a1 a2 : FVec Ideal S16x256x1024 .f32) (w : FVec Ideal S3x1024x2048 .f32)
    (b : Fin 16) (r : Fin 256) (d : Fin 2048) : (sumArr g a0 a1 a2 w (ix3 b r d) : EReal)
      = g (ix3 b r ⟨d, by omega⟩) * (∑ e : Fin 1024, (a0 (ix3 b r e) : EReal) * w (ix3 0 e d))
        + g (ix3 b r ⟨2048 + d, by omega⟩) * (∑ e : Fin 1024, (a1 (ix3 b r e) : EReal) * w (ix3 1 e d))
        + g (ix3 b r ⟨4096 + d, by omega⟩) * (∑ e : Fin 1024, (a2 (ix3 b r e) : EReal) * w (ix3 2 e d)) := by
  pointwise [sumArr, times]

end Cert.Reference9Ideal.Value
end
-- ==== Proof.CtxMergeEqual.lean ====
/-
The context's merge kernel's array is the reference's result.
-/
module
public import proofs.«01_k».proof.Proof.CtxMergeArray
public import proofs.«01_k».proof.Proof.CtxMergeRef

@[expose] public section
set_option maxRecDepth 16384
noncomputable section
namespace Cert.Kernel9Ideal.Gen
open Idealize.ShloMosaic Idealize.ShloMosaic.TcCoe Idealize.SL.Sem Cert.Reference9Ideal.Value
open Cert.Reference5Ideal.Value (taps taps_at weights weights_at)
open Cert.Reference6Ideal.Value (layRows layRows_at)

/-- What the reference's convolution reads of row `r` of a batch, counted from the zero row before its first. -/
theorem padded_row (Z : Vec Ideal S4096x13824 .bf16) (b : Fin 16) (r : Fin 258) (d : Fin 1024) :
    (padded (unrolled Z) (ix3 b r d) : EReal) = if h : 1 ≤ (r : ℕ) ∧ (r : ℕ) - 1 < 256 then pairAt Z ⟨b * 256 + (r - 1), by omega⟩ d else 0 := by
  rw [padded_at]
  split
  · rw [unrolled_at _ _ _ _ (by simp only; omega), unrolled_at _ _ _ _ (by simp only; omega)]
    exact pair_eq _ _ _ _ _ _ rfl (by simp only; omega) (by simp only; omega)
  · rfl

/-- The two convolution branches are one. -/
theorem branch_eq (Z : Vec Ideal S4096x13824 .bf16) (W : Vec Ideal S2x3x1024 .f32) (b : Fin 16) (r : Fin 256) (d : Fin 1024) :
    (branch (unrolled Z) (padded (unrolled Z)) (taps W) (ix3 b r d) : EReal) = convAt Z W ⟨b * 256 + r, by omega⟩ d := by
  rw [Cert.Reference9Ideal.Value.branch_at, unrolled_at _ _ _ _ (by simp only; omega)]
  simp only [padded_row, taps_at]
  unfold convAt
  refine congrArg₂ (fun A B : EReal => A * B) (congrArg (fun x => (Z (ix2 _ x) : EReal)) (Fin.ext (by simp only; omega)))
    (congrArg₂ (fun A B : EReal => A + B) (congrArg₂ (fun A B : EReal => A + B) (congrArg (fun A : EReal => _ * A) ?_) (congrArg (fun A : EReal => _ * A) ?_))
      (congrArg (fun A : EReal => _ * A) ?_))
  · by_cases h : (r : ℕ) = 0
    · rw [dif_neg (by omega), if_pos (by simp only; omega)]
    · rw [dif_pos (by omega), if_neg (by simp only; omega)]
      exact congrArg (fun r => pairAt Z r d) (Fin.ext (by simp only; omega))
  · rw [dif_pos (by omega)]
    exact congrArg (fun r => pairAt Z r d) (Fin.ext (by simp only; omega))
  · by_cases h : (r : ℕ) = 255
    · rw [dif_neg (by omega), dif_pos (by simp only; omega)]
    · rw [dif_pos (by omega), dif_neg (by simp only; omega)]
      exact congrArg (fun r => pairAt Z r d) (Fin.ext (by simp only; omega))

/-- The two results are one array. -/
theorem arr_eq_ref (A0 A1 : Vec Ideal S4096x1024 .bf16) (Z : Vec Ideal S4096x13824 .bf16) (W : Vec Ideal S2x3x1024 .f32)
    (B : Vec Ideal S2x3x1024x2048 .f32) : mergedOut A0 A1 Z W B = refOut A0 A1 Z W B := by
  funext i
  obtain ⟨b, r, d, rfl⟩ : ∃ (b : Fin 16) (r : Fin 256) (d : Fin 2048), i = ix2 ⟨b * 256 + r, by omega⟩ d :=
    ⟨⟨(i 0).val / 256, by have : (i 0).val < 4096 := (i 0).isLt; omega⟩, ⟨(i 0).val % 256, by omega⟩, i 1, by
      idx_ext⟩
  refine Eq.trans ?_ (layRows_at (sumArr (gates (unrolled Z)) (heads A0) (heads A1) (branch (unrolled Z) (padded (unrolled Z)) (taps W)) (weights B)) b r d).symm
  rw [sumArr_at, gates_at, gates_at, gates_at]
  simp only [heads_at, weights_at, branch_eq]
  rw [unrolled_at _ _ _ _ (by simp only; omega), unrolled_at _ _ _ _ (by simp only; omega), unrolled_at _ _ _ _ (by simp only; omega)]
  have g : ∀ (x y : Fin 13824), (x : ℕ) = y → (Z (ix2 ⟨b * 256 + r, by omega⟩ x) : EReal) = Z (ix2 ⟨b * 256 + r, by omega⟩ y) := fun x y h =>
    congrArg (fun x => (Z (ix2 _ x) : EReal)) (Fin.ext h)
  refine congrArg₂ (fun A B : EReal => A + B) (congrArg₂ (fun A B : EReal => A + B) ?_ ?_) ?_
  · exact congrArg (fun A : EReal => Ideal.logistic A * _) (g _ _ (by show 6144 + d.val = 7680 + d.val - 1536; omega))
  · exact congrArg (fun A : EReal => Ideal.logistic A * _) (g _ _ (by show 8192 + d.val = 7680 + (2048 + d.val) - 1536; omega))
  · exact congrArg (fun A : EReal => Ideal.logistic A * _) (g _ _ (by show 10240 + d.val = 7680 + (4096 + d.val) - 1536; omega))

/-- The kernel's array after all grid points is the reference's result of the same arguments. -/
theorem result_eq (m : (ℓ : Loc nD τ sig) → Buf (Elt Ideal) ℓ) (c : Dev nD) :
    ((dats m 0 c).arrAt 8 cfg0.N : Vec Ideal S4096x2048 .bf16)
      = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (final m c).trans ?_
  rw [V_main_arg0, V_main_arg1, V_main_arg2, V_main_arg3, V_main_arg4]
  exact arr_eq_ref _ _ _ _ _

end Cert.Kernel9Ideal.Gen
end
-- ==== Proof.CtxKvBlock.lean ====
/-
What one grid point of the context's projection to keys and values leaves in its output block and in the scratch buffer of
modulated rows. The scratch is filled as in the context's combined projection; the tiles of the weight have 512 columns.
-/
module
public import proofs.«01_k».proof.Proof.Gen.Kernel10Ideal.Frame
public import proofs.«01_k».proof.Proof.CtxProjBlock

@[expose] public section
set_option maxRecDepth 16384
noncomputable section
namespace Cert.Kernel10Ideal.Gen
open Idealize.ShloMosaic Idealize.ShloMosaic.TcCoe Idealize.SL.Sem Cert.Mlp Cert.Pieces
open Cert.Kernel3Ideal.Gen (cell product half_canon product_piece)
open Cert.Kernel7Ideal.Gen (hidTwo_of hidFour_of)

/-! The products, in chunks of 256 rows, or the whole block at once. -/

section
variable (w : Vec Ideal S1x2048x512 .bf16) (h : Vec Ideal S256x2048 .bf16) (a : Fin 256) (j : Fin 512)

theorem pay8_at : k0_pay8 h w (ix2 a j) = cell w (fun e => h (ix2 a e)) j := by
  pointwise [k0_pay8, cell]
theorem pay13_at : k0_pay13 h w (ix2 a j) = cell w (fun e => h (ix2 a e)) j := by
  pointwise [k0_pay13, cell]
end

theorem pay1_at (w : Vec Ideal S1x2048x512 .bf16) (h : Vec Ideal S512x2048 .bf16) (a : Fin 512) (j : Fin 512) :
    k0_pay1 h w (ix2 a j) = cell w (fun e => h (ix2 a e)) j := by
  pointwise [k0_pay1, cell]

variable (m : (ℓ : Loc nD τ sig) → Buf (Elt Ideal) ℓ)

/-- The first point of a block of rows fills the scratch with the modulated rows, -/
theorem first_scratch (c : Dev nD) (t : Fin cfg0.N) (h : t.val % 5 = 0) :
    (outsAt0 m c t.val t.isLt).2 = hiddenRows (iblk m c 1 t) (iblk m c 2 t) (iblk m c 0 t) := by
  rw [outsAt0_A m c t h (by omega)]
  funext y
  dsimp only
  frame_out
  exact canon_of_piecesOf _ (hidFour_of _ _ _) (View.cover_of_tiledL (s := S512x2048) _ S128x2048.size (by sl_kernel_rfl) y)

/-- and leaves their products with the first tile. -/
theorem first_out (c : Dev nD) (t : Fin cfg0.N) (h : t.val % 5 = 0) :
    (outsAt0 m c t.val t.isLt).1
      = product (iblk m c 3 t) (hiddenRows (iblk m c 1 t) (iblk m c 2 t) (iblk m c 0 t)) := by
  rw [outsAt0_A m c t h (by omega)]
  funext y
  dsimp only
  frame_out
  refine canon_of_piecesOf _ ⟨?_, ?_, trivial⟩ (View.cover_of_tiledL (s := S512x512) _ S256x512.size (by sl_kernel_rfl) y)
  · exact product_piece _ _ inb_S512x512_S256x512_256_0 (fun v => k0_pay13 v (iblk m c 3 t)) (pay13_at _) _
      fun a b => (congrFun (View.readCov_eq_canon' ..) _).trans (half_canon rfl (hidFour_of _ _ _) _ a b)
  · exact product_piece _ _ inb_S512x512_S256x512_0_0 (fun v => k0_pay8 v (iblk m c 3 t)) (pay8_at _) _
      fun a b => (congrFun (View.readCov_eq_canon' ..) _).trans (half_canon rfl (hidTwo_of _ _ _) _ a b)

/-- Another point keeps the scratch, -/
theorem next_scratch (c : Dev nD) (t : Fin cfg0.N) (h : 1 ≤ t.val % 5) :
    (outsAt0 m c t.val t.isLt).2 = (outsAt0 m c (t.val - 1) (Nat.lt_of_le_of_lt (Nat.sub_le _ _) t.isLt)).2 := by
  rw [outsAt0_B m c t (by omega) h]
  rfl

/-- and leaves the products of its rows with the point's tile. -/
theorem next_out (c : Dev nD) (t : Fin cfg0.N) (h : 1 ≤ t.val % 5) :
    (outsAt0 m c t.val t.isLt).1
      = product (iblk m c 3 t) (outsAt0 m c (t.val - 1) (Nat.lt_of_le_of_lt (Nat.sub_le _ _) t.isLt)).2 := by
  rw [outsAt0_B m c t (by omega) h]
  funext y
  dsimp only
  frame_out
  rw [read_unread_whole]
  obtain ⟨a, b, rfl⟩ : ∃ (a : Fin 512) (b : Fin 512), y = ix2 a b := ⟨y 0, y 1, by idx_ext⟩
  exact pay1_at _ _ a b

end Cert.Kernel10Ideal.Gen
end
-- ==== Proof.CtxKvArray.lean ====
/-
The whole result array of the context's projection to keys and values, in the last layer: every entry is a modulated row's
product with a column of the weight, from its column 2048 on. All rows share the layer's seventeenth modulation row.
-/
module
public import proofs.«01_k».proof.Proof.CtxKvBlock
public import proofs.«01_k».proof.Proof.CtxMlpArray

@[expose] public section
set_option maxRecDepth 16384
noncomputable section
namespace Cert.Kernel10Ideal.Gen
open Idealize.ShloMosaic Idealize.ShloMosaic.TcCoe Idealize.SL.Sem Cert.Mlp Cert.Pieces
open Cert.Kernel3Ideal.Gen (cell product)
open Cert.Kernel6Ideal.Gen (context)

/-- The modulation of two layers and 32 rows, as 64 rows: row 48 is the second layer's seventeenth. -/
theorem mod_last (v : Vec Ideal S2x32x12288 .f32) (e : Fin 12288) :
    shapeCast S64x1x12288 v shapeCasts_S2x32x12288_S64x1x12288 (ix3 48 0 e) = v (ix3 1 16 e) := by
  pointwise

/-- The context's modulation row of the last layer that starts at column `o`. -/
def lastModu (M : Vec Ideal S2x32x12288 .f32) (o : ℕ) (ho : o + 2048 ≤ 12288) (d : Fin 2048) : EReal := M (ix3 1 16 ⟨o + d, by omega⟩)

/-- The modulated row that is projected. -/
def prow (X : Vec Ideal S4096x2048 .f32) (M : Vec Ideal S2x32x12288 .f32) (r : Fin 4096) : Fin 2048 → EReal :=
  modulated (lastModu M 0 (by omega)) (lastModu M 2048 (by omega)) (context X r)

/-- A row's product with the column of the weight that column `j` of the result stands for. -/
def kvCol (W : Vec Ideal S2x2048x13824 .f32) (h : Fin 2048 → EReal) (j : Fin 2560) : EReal :=
  ∑ e, h e * W (ix3 1 e ⟨2048 + j, by omega⟩)

/-- The whole result array. -/
def kvOut (X : Vec Ideal S4096x2048 .f32) (M : Vec Ideal S2x32x12288 .f32) (W : Vec Ideal S2x2048x13824 .f32) :
    Vec Ideal S4096x2560 .bf16 := fun i => kvCol W (prow X M (i 0)) (i 1)

variable (m : (ℓ : Loc nD τ sig) → Buf (Elt Ideal) ℓ)

/-- The block indices of the five windows at a grid point. -/
theorem idx : ∀ t : Fin cfg0.N, win0_0.index t = ![t.val / 5, 0] ∧ win0_1.index t = ![48, 0, 0]
    ∧ win0_2.index t = ![48, 0, 1] ∧ win0_3.index t = ![1, 0, 4 + t.val % 5]
    ∧ win0_4.index t = ![t.val / 5, t.val % 5] :=
  (by decide +kernel : ∀ t : Fin grid0.N, _)

theorem lt40 (t : Fin cfg0.N) : t.val < 40 := t.isLt

theorem V0 (c : Dev nD) : (V m c main_v0 : Vec Ideal S64x1x12288 .f32) = shapeCast S64x1x12288 (V m c main_arg1 : Vec Ideal S2x32x12288 .f32) shapeCasts_S2x32x12288_S64x1x12288 := rfl
theorem V1 (c : Dev nD) (i : S2x2048x13824.Idx) : (V m c main_v1 : Vec Ideal S2x2048x13824 .bf16) i = (V m c main_arg2 : Vec Ideal S2x2048x13824 .f32) i := rfl

theorem blk0 (c : Dev nD) (t : Fin cfg0.N) (a : Fin 512) (d : Fin 2048) : (iblk m c 0 t : Vec Ideal S512x2048 .f32) (ix2 a d)
    = context (V m c main_arg0) ⟨t.val / 5 * 512 + a, by have := lt40 t; omega⟩ d := by
  blk_ext [iblk, context, idx t]
theorem blk1 (c : Dev nD) (t : Fin cfg0.N) : vec (iblk m c 1 t) = lastModu (V m c main_arg1) 0 (by omega) := by
  funext d
  have he : (win0_1.blk t).view.emb (ix3 0 0 d) = (ix3 48 0 ⟨0 + d, by omega⟩ : S64x1x12288.Idx) := by
    blk_ext [idx t]
  exact (congrArg (V m c main_v0 : Vec Ideal S64x1x12288 .f32) he).trans ((congrFun (V0 m c) _).trans (mod_last _ _))
theorem blk2 (c : Dev nD) (t : Fin cfg0.N) : vec (iblk m c 2 t) = lastModu (V m c main_arg1) 2048 (by omega) := by
  funext d
  have he : (win0_2.blk t).view.emb (ix3 0 0 d) = (ix3 48 0 ⟨2048 + d, by omega⟩ : S64x1x12288.Idx) := by
    blk_ext [idx t]
  exact (congrArg (V m c main_v0 : Vec Ideal S64x1x12288 .f32) he).trans ((congrFun (V0 m c) _).trans (mod_last _ _))
theorem blk3 (c : Dev nD) (t : Fin cfg0.N) (e : Fin 2048) (j : Fin 512) : (iblk m c 3 t : Vec Ideal S1x2048x512 .bf16) (ix3 0 e j)
    = (V m c main_arg2 : Vec Ideal S2x2048x13824 .f32) (ix3 1 e ⟨2048 + (t.val % 5 * 512 + j), by omega⟩) := by
  have he : (win0_3.blk t).view.emb (ix3 0 e j) = (ix3 1 e ⟨2048 + (t.val % 5 * 512 + j), by omega⟩ : S2x2048x13824.Idx) := by
    blk_ext [idx t]
  exact (congrArg (V m c main_v1 : Vec Ideal S2x2048x13824 .bf16) he).trans (V1 m c _)

/-- The modulated rows of row block `i`. -/
def hblock (X : Vec Ideal S4096x2048 .f32) (M : Vec Ideal S2x32x12288 .f32) (i : ℕ) (hi : i < 8) : Vec Ideal S512x2048 .bf16 := fun y =>
  have h0 : (y 0 : ℕ) < 512 := (y 0).isLt
  prow X M ⟨i * 512 + y 0, by omega⟩ (y 1)

theorem hidden_eq (c : Dev nD) (t : Fin cfg0.N) : hiddenRows (iblk m c 1 t) (iblk m c 2 t) (iblk m c 0 t)
    = hblock (V m c main_arg0) (V m c main_arg1) (t.val / 5) (by have := lt40 t; omega) := by
  funext y
  obtain ⟨a, b, rfl⟩ : ∃ (a : Fin 512) (b : Fin 2048), y = ix2 a b := ⟨y 0, y 1, by idx_ext⟩
  unfold hiddenRows
  rw [blk1 m c t, blk2 m c t]
  exact congrFun (congrArg _ (funext fun e => blk0 m c t a e)) b

/-- Every point of a row block leaves the block's modulated rows in the scratch. -/
theorem scratch_at (c : Dev nD) (i : ℕ) (hi : i < 8) : ∀ (j : ℕ) (_ : j < 5) (hn : 5 * i + j < cfg0.N),
    (outsAt0 m c (5 * i + j) hn).2 = hblock (V m c main_arg0) (V m c main_arg1) i hi
  | 0, _, hn => by
    refine (first_scratch m c ⟨5 * i, hn⟩ (by show 5 * i % 5 = 0; omega)).trans ?_
    rw [hidden_eq]
    congr 1
    show 5 * i / 5 = i
    omega
  | j + 1, hj, hn =>
    (next_scratch m c ⟨5 * i + (j + 1), hn⟩ (by show 1 ≤ (5 * i + (j + 1)) % 5; omega)).trans (scratch_at c i hi j (by omega) (by omega))

/-- Every point multiplies its row block's modulated rows. -/
theorem out_block (c : Dev nD) (t : Fin cfg0.N) : (outsAt0 m c t.val t.isLt).1
    = product (iblk m c 3 t) (hblock (V m c main_arg0) (V m c main_arg1) (t.val / 5) (by have := lt40 t; omega)) := by
  have hl := lt40 t
  rcases Nat.eq_zero_or_pos (t.val % 5) with h | h
  · rw [first_out m c t h, hidden_eq]
  · rw [next_out m c t h]
    have en : t.val - 1 = 5 * (t.val / 5) + (t.val % 5 - 1) := by omega
    have hp : (outsAt0 m c (t.val - 1) (Nat.lt_of_le_of_lt (Nat.sub_le _ _) t.isLt))
        = outsAt0 m c (5 * (t.val / 5) + (t.val % 5 - 1)) (en ▸ Nat.lt_of_le_of_lt (Nat.sub_le _ _) t.isLt) := by
      congr 1
    rw [hp, scratch_at m c (t.val / 5) (by omega) (t.val % 5 - 1) (by omega)]

/-- A point leaves its rows and columns of the result. -/
theorem out_at (c : Dev nD) (t : Fin cfg0.N) (a : Fin 512) (j : Fin 512) :
    (outsAt0 m c t.val t.isLt).1 (ix2 a j) = kvOut (V m c main_arg0) (V m c main_arg1) (V m c main_arg2)
      (ix2 ⟨t.val / 5 * 512 + a, by have := lt40 t; omega⟩ ⟨t.val % 5 * 512 + j, by omega⟩) := by
  refine (congrFun (out_block m c t) _).trans ?_
  show cell _ _ j = kvCol _ _ _
  unfold cell kvCol
  exact Finset.sum_congr rfl fun e _ => congrArg₂ (fun A B : EReal => A * B) rfl (blk3 m c t e j)

/-- The array is `kvOut` of the arguments. -/
theorem final (c : Dev nD) : (dats m 0 c).arrAt 4 cfg0.N
    = kvOut (V m c main_arg0) (V m c main_arg1) (V m c main_arg2) := by
  refine (dats m 0 c).arrAt_eq_of_covers 4 _ (by decide +kernel) fun t _ y => ?_
  blk_simp
  rw [after0_4]
  obtain ⟨a, b, rfl⟩ : ∃ (a : Fin 512) (b : Fin 512), y = ix2 a b := ⟨y 0, y 1, by idx_ext⟩
  refine (out_at m c t a b).trans (congrArg _ ?_)
  blk_ext [idx t]

end Cert.Kernel10Ideal.Gen
end
-- ==== Proof.CtxKvRef.lean ====
/-
The reference of the context's projection to keys and values in parts: its result as a function of its arguments, and every part read at an index.
-/
module
public import proofs.«01_k».proof.Proof.Gen.Reference10Ideal.Run
public import proofs.«01_k».proof.Proof.CtxMlpRef
public import proofs.«01_k».proof.Proof.CtxProjRef

@[expose] public section
set_option maxRecDepth 16384
noncomputable section
namespace Cert.Reference10Ideal.Value
open Cert.Reference10Ideal Cert.Reference10Ideal.Gen Idealize.ShloMosaic Idealize.ShloMosaic.TcCoe Idealize.SL.Sem Idealize.ShloMosaic.StableHlo Cert.Mlp
open Cert.Reference6Ideal.Value (split modArr)
open Cert.Reference7Ideal.Value (shift scale)

/-- The last layer's modulation of the context. -/
def lastMod (M : FVec Ideal S2x32x12288 .f32) : FVec Ideal S12288 .f32 :=
  shapeCast S12288 (extractStridedSlice S1x1x12288 ![1, 16, 0] M slices_S2x32x12288_S1x1x12288_1_16_0) shapeCasts_S1x1x12288_S12288
/-- The last layer's weight, its columns of keys and values. -/
def kvW (W : FVec Ideal S2x2048x13824 .f32) : FVec Ideal S2048x2560 .f32 :=
  extractStridedSlice S2048x2560 ![0, 2048] (shapeCast S2048x13824 (extractStridedSlice S1x2048x13824 ![1, 0, 0] W slices_S2x2048x13824_S1x2048x13824_1_0_0) shapeCasts_S1x2048x13824_S2048x13824) slices_S2048x13824_S2048x2560_0_2048
/-- The rows' products with the weight, the batches laid one after the other. -/
def projArr (h : FVec Ideal S16x256x2048 .f32) (w : FVec Ideal S2048x2560 .f32) : FVec Ideal S4096x2560 .f32 :=
  shapeCast S4096x2560 (Host.dotGeneral dot_S16x256x2048_S2048x2560_S16x256x2560_2_0_01_1_n_n none h w) shapeCasts_S16x256x2560_S4096x2560

/-- The reference's result as a function of its arguments. -/
def refOut (x : FVec Ideal S4096x2048 .f32) (M : FVec Ideal S2x32x12288 .f32) (W : FVec Ideal S2x2048x13824 .f32) :
    FVec Ideal S4096x2560 .bf16 :=
  truncf .bf16 (projArr (modArr (split x) (shift (lastMod M)) (scale (lastMod M))) (kvW W)) bitsLt_bf16_f32

/-- The reference's run leaves `refOut` of the launch's arguments. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1, (h c).2⟩) (run (F := Ideal) m ρ)

/-! Every part at an index. -/

theorem shift_at (M : FVec Ideal S2x32x12288 .f32) (d : Fin 2048) :
    shift (lastMod M) (ix1 d) = M (ix3 1 16 ⟨0 + d, by omega⟩) := by
  pointwise [shift, lastMod]
theorem scale_at (M : FVec Ideal S2x32x12288 .f32) (d : Fin 2048) :
    scale (lastMod M) (ix1 d) = M (ix3 1 16 ⟨2048 + d, by omega⟩) := by
  pointwise [scale, lastMod]
theorem projArr_at (h : FVec Ideal S16x256x2048 .f32) (w : FVec Ideal S2048x2560 .f32) (b : Fin 16) (r : Fin 256) (j : Fin 2560) :
    (projArr h w (ix2 ⟨b * 256 + r, by omega⟩ j) : EReal) = ∑ e : Fin 2048, (h (ix3 b r e) : EReal) * w (ix2 e j) := by
  pointwise [projArr]
theorem kvW_at (W : FVec Ideal S2x2048x13824 .f32) (e : Fin 2048) (j : Fin 2560) : kvW W (ix2 e j) = W (ix3 1 e ⟨2048 + j, by omega⟩) := by
  pointwise [kvW]

end Cert.Reference10Ideal.Value
end
-- ==== Proof.CtxKvEqual.lean ====
/-
The array of the context's projection to keys and values is the reference's result.
-/
module
public import proofs.«01_k».proof.Proof.CtxKvArray
public import proofs.«01_k».proof.Proof.CtxKvRef
public import proofs.«01_k».proof.Proof.CtxMlpEqual

@[expose] public section
set_option maxRecDepth 16384
noncomputable section
namespace Cert.Kernel10Ideal.Gen
open Idealize.ShloMosaic Idealize.ShloMosaic.TcCoe Idealize.SL.Sem Cert.Mlp Cert.Reference10Ideal.Value
open Cert.Reference7Ideal.Value (shift scale)
open Cert.Kernel6Ideal.Gen (context_split)
open Cert.Reference6Ideal.Value (split modArr modArr_at)

/-- The two results are one array. -/
theorem arr_eq_ref (X : Vec Ideal S4096x2048 .f32) (M : Vec Ideal S2x32x12288 .f32) (W : Vec Ideal S2x2048x13824 .f32) :
    kvOut X M W = refOut X M W := by
  funext i
  obtain ⟨b, r, j, rfl⟩ : ∃ (b : Fin 16) (r : Fin 256) (j : Fin 2560), i = ix2 ⟨b * 256 + r, by omega⟩ j :=
    ⟨⟨(i 0).val / 256, by have : (i 0).val < 4096 := (i 0).isLt; omega⟩, ⟨(i 0).val % 256, by omega⟩, i 1, by
      idx_ext⟩
  have hh : prow X M ⟨b * 256 + r, by omega⟩ = fun e => modArr (split X) (shift (lastMod M)) (scale (lastMod M)) (ix3 b r e) := by
    funext e
    rw [modArr_at]
    unfold prow
    rw [context_split]
    congr 1
    · exact funext fun d => (shift_at M d).symm
    · exact funext fun d => (scale_at M d).symm
  refine (congrArg (fun H => kvCol W H j) hh).trans ?_
  refine Eq.trans ?_ (projArr_at _ _ _ _ _).symm
  unfold kvCol
  simp only [kvW_at]

/-- The kernel's array after all grid points is the reference's result of the same arguments. -/
theorem result_eq (m : (ℓ : Loc nD τ sig) → Buf (Elt Ideal) ℓ) (c : Dev nD) :
    ((dats m 0 c).arrAt 4 cfg0.N : Vec Ideal S4096x2560 .bf16)
      = refOut (m ((c.tc : Thread nD τ).loc main_arg0)) (m ((c.tc : Thread nD τ).loc main_arg1)) (m ((c.tc : Thread nD τ).loc main_arg2)) := by
  refine (final m c).trans ?_
  rw [V_main_arg0, V_main_arg1, V_main_arg2]
  exact arr_eq_ref _ _ _

end Cert.Kernel10Ideal.Gen
end
-- ==== Proof.lean ====
/-
The proof of `Cert.Claim`, for the attention, the MLP, the projection, the output projection and the merge of the latent, and the
MLP, the two projections, the output projection and the merge of the context: the kernel programs and the references run and leave their arguments unchanged with every semaphore at zero, the idealization replaces the named constants
by their values, and on the extended reals kernel and reference end with the same result — the attention's when the gains are
finite, the others' always.
-/
module

public import proofs.«01_k».proof.Proof.Final
public import proofs.«01_k».proof.Proof.MlpEqual
public import proofs.«01_k».proof.Proof.ProjEqual
public import proofs.«01_k».proof.Proof.OutEqual
public import proofs.«01_k».proof.Proof.MergeEqual
public import proofs.«01_k».proof.Proof.CtxMlpEqual
public import proofs.«01_k».proof.Proof.CtxProjEqual
public import proofs.«01_k».proof.Proof.CtxOutEqual
public import proofs.«01_k».proof.Proof.CtxMergeEqual
public import proofs.«01_k».proof.Proof.CtxKvEqual
public import proofs.«01_k».proof.Proof.Gen.Kernel
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import Idealize.ShloMosaic.Lib.Quiescent

@[expose] public section

noncomputable section

namespace Cert.Proof

open Idealize.ShloMosaic Idealize.ShloMosaic.TcCoe Idealize.SL.Sem

/-- The attention's reference runs, its arguments are unchanged and every semaphore ends at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run_refOut m ρ)

/-- The MLP's reference runs, its arguments are unchanged and every semaphore ends at zero. -/
theorem reference2_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono
    (fun r h => ⟨fun c => (h c).2, Idealize.ShloMosaic.sem_eq_zero_of_no_sems (by decide) r.2⟩)
    (Cert.Reference2Ideal.Value.run_refOut m ρ)

/-- The projection's reference runs, its arguments are unchanged and every semaphore ends at zero. -/
theorem reference3_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run_refOut m ρ)

/-- The output projection's reference runs, its arguments are unchanged and every semaphore ends at zero. -/
theorem reference4_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run Cert.Reference4Ideal.defs _ _).mono
    (fun r h => ⟨fun c => (h c).2, Idealize.ShloMosaic.sem_eq_zero_of_no_sems (by decide) r.2⟩)
    (Cert.Reference4Ideal.Value.run_refOut m ρ)

/-- The merge's reference runs, its arguments are unchanged and every semaphore ends at zero. -/
theorem reference5_frame (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0) :=
  (θ_run Cert.Reference5Ideal.defs _ _).mono
    (fun r h => ⟨fun c => (h c).2, Idealize.ShloMosaic.sem_eq_zero_of_no_sems (by decide) r.2⟩)
    (Cert.Reference5Ideal.Value.run_refOut m ρ)

/-- The context's MLP's reference runs, its arguments are unchanged and every semaphore ends at zero. -/
theorem reference6_frame (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0) :=
  (θ_run Cert.Reference6Ideal.defs _ _).mono
    (fun r h => ⟨fun c => (h c).2, Idealize.ShloMosaic.sem_eq_zero_of_no_sems (by decide) r.2⟩)
    (Cert.Reference6Ideal.Value.run_refOut m ρ)

/-- The context's projection's reference runs, its arguments are unchanged and every semaphore ends at zero. -/
theorem reference7_frame (m : (ℓ : Loc Cert.Reference7Ideal.nD Cert.Reference7Ideal.τ Cert.Reference7Ideal.sig) → Buf (Elt Ideal) ℓ)
    (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono
    (fun r h => ⟨fun c => (h c).2, Idealize.ShloMosaic.sem_eq_zero_of_no_sems (by decide) r.2⟩)
    (Cert.Reference7Ideal.Value.run_refOut m ρ)

/-- The reference of the context's output projection runs, its arguments are unchanged and every semaphore ends at zero. -/
theorem reference8_frame (m : (ℓ : Loc Cert.Reference8Ideal.nD Cert.Reference8Ideal.τ Cert.Reference8Ideal.sig) → Buf (Elt Ideal) ℓ)
    (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0) :=
  (θ_run Cert.Reference8Ideal.defs _ _).mono
    (fun r h => ⟨fun c => (h c).2, Idealize.ShloMosaic.sem_eq_zero_of_no_sems (by decide) r.2⟩)
    (Cert.Reference8Ideal.Value.run_refOut m ρ)

/-- The reference of the context's merge runs, its arguments are unchanged and every semaphore ends at zero. -/
theorem reference9_frame (m : (ℓ : Loc Cert.Reference9Ideal.nD Cert.Reference9Ideal.τ Cert.Reference9Ideal.sig) → Buf (Elt Ideal) ℓ)
    (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0) :=
  (θ_run Cert.Reference9Ideal.defs _ _).mono
    (fun r h => ⟨fun c => (h c).2, Idealize.ShloMosaic.sem_eq_zero_of_no_sems (by decide) r.2⟩)
    (Cert.Reference9Ideal.Value.run_refOut m ρ)

/-- The reference of the context's projection to keys and values runs, its arguments are unchanged and every semaphore ends at zero. -/
theorem reference10_frame (m : (ℓ : Loc Cert.Reference10Ideal.nD Cert.Reference10Ideal.τ Cert.Reference10Ideal.sig) → Buf (Elt Ideal) ℓ)
    (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0) :=
  (θ_run Cert.Reference10Ideal.defs _ _).mono
    (fun r h => ⟨fun c => (h c).2, Idealize.ShloMosaic.sem_eq_zero_of_no_sems (by decide) r.2⟩)
    (Cert.Reference10Ideal.Value.run_refOut m ρ)

/-- The attention's kernel and reference end with the same result. -/
theorem same_result [hF : Cert.Pre_gains_finite.Facts] : algebraic_KernelIdeal_ReferenceIdeal_pre_gains_finite := by
  intro m ρ m' ρ' hm hagree
  refine ⟨_, Cert.KernelIdeal.Value.run_blocks m ρ, ?_⟩
  refine (θ_run Cert.ReferenceIdeal.defs _ _).mono (fun _ h c => ⟨(h c).1.trans ?_, (h c).2⟩) (Cert.ReferenceIdeal.Value.run_refOut m' ρ')
  have e := Cert.KernelIdeal.Gen.result_eq m hm (StableHlo.launchContents m' c) c
  obtain ⟨e0, e1, e2, e3⟩ := hagree c
  rw [e0, e1, e2, e3]
  exact e.symm

/-- The MLP's kernel and reference end with the same result. -/
theorem same_result2 : algebraic_Kernel2Ideal_Reference2Ideal := by
  intro m ρ m' ρ' _ hagree
  refine ⟨_, Cert.Kernel2Ideal.Value.run_blocks m ρ, ?_⟩
  refine (θ_run Cert.Reference2Ideal.defs _ _).mono (fun _ h c => ⟨(h c).1.trans ?_, (h c).2⟩) (Cert.Reference2Ideal.Value.run_refOut m' ρ')
  obtain ⟨e0, e1, e2, e3, e4, e5⟩ := hagree c
  rw [e0, e1, e2, e3, e4, e5]
  exact (Cert.Kernel2Ideal.Gen.result_eq m c).symm

/-- The projection's kernel and reference end with the same result. -/
theorem same_result3 : algebraic_Kernel3Ideal_Reference3Ideal := by
  intro m ρ m' ρ' _ hagree
  refine ⟨_, Cert.Kernel3Ideal.Value.run_blocks m ρ, ?_⟩
  refine (θ_run Cert.Reference3Ideal.defs _ _).mono (fun _ h c => ⟨(h c).1.trans ?_, (h c).2⟩) (Cert.Reference3Ideal.Value.run_refOut m' ρ')
  obtain ⟨e0, e1, e2⟩ := hagree c
  rw [e0, e1, e2]
  exact (Cert.Kernel3Ideal.Gen.result_eq m c).symm

/-- The output projection's kernel and reference end with the same result. -/
theorem same_result4 : algebraic_Kernel4Ideal_Reference4Ideal := by
  intro m ρ m' ρ' _ hagree
  refine ⟨_, Cert.Kernel4Ideal.Value.run_blocks m ρ, ?_⟩
  refine (θ_run Cert.Reference4Ideal.defs _ _).mono (fun _ h c => ⟨(h c).1.trans ?_, (h c).2⟩) (Cert.Reference4Ideal.Value.run_refOut m' ρ')
  obtain ⟨e0, e1, e2, e3, e4, e5⟩ := hagree c
  rw [e0, e1, e2, e3, e4, e5]
  exact (Cert.Kernel4Ideal.Gen.result_eq m c).symm

/-- The merge's kernel and reference end with the same result. -/
theorem same_result5 : algebraic_Kernel5Ideal_Reference5Ideal := by
  intro m ρ m' ρ' _ hagree
  refine ⟨_, Cert.Kernel5Ideal.Value.run_blocks m ρ, ?_⟩
  refine (θ_run Cert.Reference5Ideal.defs _ _).mono (fun _ h c => ⟨(h c).1.trans ?_, (h c).2⟩) (Cert.Reference5Ideal.Value.run_refOut m' ρ')
  obtain ⟨e0, e1, e2, e3, e4⟩ := hagree c
  rw [e0, e1, e2, e3, e4]
  exact (Cert.Kernel5Ideal.Gen.result_eq m c).symm

/-- The context's MLP's kernel and reference end with the same result. -/
theorem same_result6 : algebraic_Kernel6Ideal_Reference6Ideal := by
  intro m ρ m' ρ' _ hagree
  refine ⟨_, Cert.Kernel6Ideal.Value.run_blocks m ρ, ?_⟩
  refine (θ_run Cert.Reference6Ideal.defs _ _).mono (fun _ h c => ⟨(h c).1.trans ?_, (h c).2⟩) (Cert.Reference6Ideal.Value.run_refOut m' ρ')
  obtain ⟨e0, e1, e2, e3, e4, e5⟩ := hagree c
  rw [e0, e1, e2, e3, e4, e5]
  exact (Cert.Kernel6Ideal.Gen.result_eq m c).symm

/-- The context's projection's kernel and reference end with the same result. -/
theorem same_result7 : algebraic_Kernel7Ideal_Reference7Ideal := by
  intro m ρ m' ρ' _ hagree
  refine ⟨_, Cert.Kernel7Ideal.Value.run_blocks m ρ, ?_⟩
  refine (θ_run Cert.Reference7Ideal.defs _ _).mono (fun _ h c => ⟨(h c).1.trans ?_, (h c).2⟩) (Cert.Reference7Ideal.Value.run_refOut m' ρ')
  obtain ⟨e0, e1, e2⟩ := hagree c
  rw [e0, e1, e2]
  exact (Cert.Kernel7Ideal.Gen.result_eq m c).symm

/-- The kernel and the reference of the context's output projection end with the same result. -/
theorem same_result8 : algebraic_Kernel8Ideal_Reference8Ideal := by
  intro m ρ m' ρ' _ hagree
  refine ⟨_, Cert.Kernel8Ideal.Value.run_blocks m ρ, ?_⟩
  refine (θ_run Cert.Reference8Ideal.defs _ _).mono (fun _ h c => ⟨(h c).1.trans ?_, (h c).2⟩) (Cert.Reference8Ideal.Value.run_refOut m' ρ')
  obtain ⟨e0, e1, e2, e3, e4, e5⟩ := hagree c
  rw [e0, e1, e2, e3, e4, e5]
  exact (Cert.Kernel8Ideal.Gen.result_eq m c).symm

/-- The kernel and the reference of the context's merge end with the same result. -/
theorem same_result9 : algebraic_Kernel9Ideal_Reference9Ideal := by
  intro m ρ m' ρ' _ hagree
  refine ⟨_, Cert.Kernel9Ideal.Value.run_blocks m ρ, ?_⟩
  refine (θ_run Cert.Reference9Ideal.defs _ _).mono (fun _ h c => ⟨(h c).1.trans ?_, (h c).2⟩) (Cert.Reference9Ideal.Value.run_refOut m' ρ')
  obtain ⟨e0, e1, e2, e3, e4⟩ := hagree c
  rw [e0, e1, e2, e3, e4]
  exact (Cert.Kernel9Ideal.Gen.result_eq m c).symm

/-- The kernel and the reference of the context's projection to keys and values end with the same result. -/
theorem same_result10 : algebraic_Kernel10Ideal_Reference10Ideal := by
  intro m ρ m' ρ' _ hagree
  refine ⟨_, Cert.Kernel10Ideal.Value.run_blocks m ρ, ?_⟩
  refine (θ_run Cert.Reference10Ideal.defs _ _).mono (fun _ h c => ⟨(h c).1.trans ?_, (h c).2⟩) (Cert.Reference10Ideal.Value.run_refOut m' ρ')
  obtain ⟨e0, e1, e2⟩ := hagree c
  rw [e0, e1, e2]
  exact (Cert.Kernel10Ideal.Gen.result_eq m c).symm

theorem claim : Cert.Claim :=
  haveI := Cert.Attn.precondition_facts
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Attn.precondition_facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    fun m ρ _ => Cert.Kernel2.Gen.frame m ρ,
    fun m ρ _ => Cert.Kernel2Ideal.Gen.frame m ρ,
    fun m ρ _ => reference2_frame m ρ,
    fun m ρ _ => Cert.Kernel3.Gen.frame m ρ,
    fun m ρ _ => Cert.Kernel3Ideal.Gen.frame m ρ,
    fun m ρ _ => reference3_frame m ρ,
    fun m ρ _ => Cert.Kernel4.Gen.frame m ρ,
    fun m ρ _ => Cert.Kernel4Ideal.Gen.frame m ρ,
    fun m ρ _ => reference4_frame m ρ,
    fun m ρ _ => Cert.Kernel5.Gen.frame m ρ,
    fun m ρ _ => Cert.Kernel5Ideal.Gen.frame m ρ,
    fun m ρ _ => reference5_frame m ρ,
    fun m ρ _ => Cert.Kernel6.Gen.frame m ρ,
    fun m ρ _ => Cert.Kernel6Ideal.Gen.frame m ρ,
    fun m ρ _ => reference6_frame m ρ,
    fun m ρ _ => Cert.Kernel7.Gen.frame m ρ,
    fun m ρ _ => Cert.Kernel7Ideal.Gen.frame m ρ,
    fun m ρ _ => reference7_frame m ρ,
    fun m ρ _ => Cert.Kernel8.Gen.frame m ρ,
    fun m ρ _ => Cert.Kernel8Ideal.Gen.frame m ρ,
    fun m ρ _ => reference8_frame m ρ,
    fun m ρ _ => Cert.Kernel9.Gen.frame m ρ,
    fun m ρ _ => Cert.Kernel9Ideal.Gen.frame m ρ,
    fun m ρ _ => reference9_frame m ρ,
    fun m ρ _ => Cert.Kernel10.Gen.frame m ρ,
    fun m ρ _ => Cert.Kernel10Ideal.Gen.frame m ρ,
    fun m ρ _ => reference10_frame m ρ,
    IdealRules.named_const.statement Cert.KernelIdeal.κ "score_scale" .f32 0x3E0293EE#32 _ rfl,
    same_result,
    ⟨IdealRules.named_const.statement Cert.Kernel2Ideal.κ "inv_alpha" .f32 0x3F3504F3#32 _ rfl,
      IdealRules.named_const.statement Cert.Kernel2Ideal.κ "eps_alpha" .f32 0x350637BD#32 _ rfl⟩,
    same_result2,
    trivial,
    same_result3,
    ⟨IdealRules.named_const.statement Cert.Kernel4Ideal.κ "inv_alpha" .f32 0x3F3504F3#32 _ rfl,
      IdealRules.named_const.statement Cert.Kernel4Ideal.κ "eps_alpha" .f32 0x350637BD#32 _ rfl⟩,
    same_result4,
    trivial,
    same_result5,
    ⟨IdealRules.named_const.statement Cert.Kernel6Ideal.κ "inv_alpha" .f32 0x3F3504F3#32 _ rfl,
      IdealRules.named_const.statement Cert.Kernel6Ideal.κ "eps_alpha" .f32 0x350637BD#32 _ rfl⟩,
    same_result6,
    trivial,
    same_result7,
    ⟨IdealRules.named_const.statement Cert.Kernel8Ideal.κ "inv_alpha" .f32 0x3F3504F3#32 _ rfl,
      IdealRules.named_const.statement Cert.Kernel8Ideal.κ "eps_alpha" .f32 0x350637BD#32 _ rfl⟩,
    same_result8,
    trivial,
    same_result9,
    trivial,
    same_result10⟩

end Cert.Proof

end
